-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_ResidBwd (m : (ℓ : Loc Cert.ResidBwd.nD Cert.ResidBwd.τ Cert.ResidBwd.sig) → Buf (Elt Bits) ℓ) : Prop :=
  True

def Pre_ResidBwdIdeal (m : (ℓ : Loc Cert.ResidBwdIdeal.nD Cert.ResidBwdIdeal.τ Cert.ResidBwdIdeal.sig) → Buf (Elt Ideal) ℓ) : Prop :=
  True

def Pre_ResidBwdRefIdeal (m : (ℓ : Loc Cert.ResidBwdRefIdeal.nD Cert.ResidBwdRefIdeal.τ Cert.ResidBwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_MlstmFwd (m : (ℓ : Loc Cert.MlstmFwd.nD Cert.MlstmFwd.τ Cert.MlstmFwd.sig) → Buf (Elt Bits) ℓ) : Prop :=
  True

def Pre_MlstmFwdIdeal (m : (ℓ : Loc Cert.MlstmFwdIdeal.nD Cert.MlstmFwdIdeal.τ Cert.MlstmFwdIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2))
      ∧ r.2.sem = fun _ => 0)

def quiescent_ResidBwd [hResidBwd : Cert.ResidBwd.Facts] : Prop :=
  ∀ (m : (ℓ : Loc Cert.ResidBwd.nD Cert.ResidBwd.τ Cert.ResidBwd.sig) → Buf (Elt Bits) ℓ) (g : Dev Cert.ResidBwd.nD → PrngReg), Pre_ResidBwd m →
    θ_run (Cert.ResidBwd.defs (F := Bits)) (onTc (τ := Cert.ResidBwd.τ) (Cert.ResidBwd.main (F := Bits))) ⟨m, fun _ => 0, g⟩ (fun r => (∀ c : Dev Cert.ResidBwd.nD,
      r.2.mem ((c.tc : Thread Cert.ResidBwd.nD Cert.ResidBwd.τ).loc Cert.ResidBwd.main_arg0) = m ((c.tc : Thread Cert.ResidBwd.nD Cert.ResidBwd.τ).loc Cert.ResidBwd.main_arg0)
      ∧ r.2.mem ((c.tc : Thread Cert.ResidBwd.nD Cert.ResidBwd.τ).loc Cert.ResidBwd.main_arg1) = m ((c.tc : Thread Cert.ResidBwd.nD Cert.ResidBwd.τ).loc Cert.ResidBwd.main_arg1)
      ∧ r.2.mem ((c.tc : Thread Cert.ResidBwd.nD Cert.ResidBwd.τ).loc Cert.ResidBwd.main_arg2) = m ((c.tc : Thread Cert.ResidBwd.nD Cert.ResidBwd.τ).loc Cert.ResidBwd.main_arg2)
      ∧ r.2.mem ((c.tc : Thread Cert.ResidBwd.nD Cert.ResidBwd.τ).loc Cert.ResidBwd.main_arg3) = m ((c.tc : Thread Cert.ResidBwd.nD Cert.ResidBwd.τ).loc Cert.ResidBwd.main_arg3)
      ∧ r.2.mem ((c.tc : Thread Cert.ResidBwd.nD Cert.ResidBwd.τ).loc Cert.ResidBwd.main_arg4) = m ((c.tc : Thread Cert.ResidBwd.nD Cert.ResidBwd.τ).loc Cert.ResidBwd.main_arg4)
      ∧ r.2.mem ((c.tc : Thread Cert.ResidBwd.nD Cert.ResidBwd.τ).loc Cert.ResidBwd.main_arg5) = m ((c.tc : Thread Cert.ResidBwd.nD Cert.ResidBwd.τ).loc Cert.ResidBwd.main_arg5)
      ∧ r.2.mem ((c.tc : Thread Cert.ResidBwd.nD Cert.ResidBwd.τ).loc Cert.ResidBwd.main_arg6) = m ((c.tc : Thread Cert.ResidBwd.nD Cert.ResidBwd.τ).loc Cert.ResidBwd.main_arg6)
      ∧ r.2.mem ((c.tc : Thread Cert.ResidBwd.nD Cert.ResidBwd.τ).loc Cert.ResidBwd.main_arg7) = m ((c.tc : Thread Cert.ResidBwd.nD Cert.ResidBwd.τ).loc Cert.ResidBwd.main_arg7))
      ∧ r.2.sem = fun _ => 0)

def quiescent_ResidBwdIdeal [hResidBwdIdeal : Cert.ResidBwdIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg), Pre_ResidBwdIdeal m →
    θ_run (Cert.ResidBwdIdeal.defs (F := Ideal)) (onTc (τ := Cert.ResidBwdIdeal.τ) (Cert.ResidBwdIdeal.main (F := Ideal))) ⟨m, fun _ => 0, g⟩ (fun r => (∀ c : Dev Cert.ResidBwdIdeal.nD,
      r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
      ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
      ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
      ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3)
      ∧ r.2.mem ((c.tc : Thread Cert.ResidBwdIdeal.nD Cert.ResidBwdIdeal.τ).loc Cert.ResidBwdIdeal.main_arg4) = m ((c.tc : Thread Cert.ResidBwdIdeal.nD Cert.ResidBwdIdeal.τ).loc Cert.ResidBwdIdeal.main_arg4)
      ∧ r.2.mem ((c.tc : Thread Cert.ResidBwdIdeal.nD Cert.ResidBwdIdeal.τ).loc Cert.ResidBwdIdeal.main_arg5) = m ((c.tc : Thread Cert.ResidBwdIdeal.nD Cert.ResidBwdIdeal.τ).loc Cert.ResidBwdIdeal.main_arg5)
      ∧ r.2.mem ((c.tc : Thread Cert.ResidBwdIdeal.nD Cert.ResidBwdIdeal.τ).loc Cert.ResidBwdIdeal.main_arg6) = m ((c.tc : Thread Cert.ResidBwdIdeal.nD Cert.ResidBwdIdeal.τ).loc Cert.ResidBwdIdeal.main_arg6)
      ∧ r.2.mem ((c.tc : Thread Cert.ResidBwdIdeal.nD Cert.ResidBwdIdeal.τ).loc Cert.ResidBwdIdeal.main_arg7) = m ((c.tc : Thread Cert.ResidBwdIdeal.nD Cert.ResidBwdIdeal.τ).loc Cert.ResidBwdIdeal.main_arg7))
      ∧ r.2.sem = fun _ => 0)

def quiescent_ResidBwdRefIdeal [hResidBwdRefIdeal : Cert.ResidBwdRefIdeal.Facts] : Prop :=
  ∀ (m : (ℓ : Loc Cert.ResidBwdRefIdeal.nD Cert.ResidBwdRefIdeal.τ Cert.ResidBwdRefIdeal.sig) → Buf (Elt Ideal) ℓ) (g : Dev Cert.ResidBwdRefIdeal.nD → PrngReg), Pre_ResidBwdRefIdeal m →
    θ_run (Cert.ResidBwdRefIdeal.defs (F := Ideal)) (onTc (τ := Cert.ResidBwdRefIdeal.τ) (Cert.ResidBwdRefIdeal.main (F := Ideal))) ⟨m, fun _ => 0, g⟩ (fun r => (∀ c : Dev Cert.ResidBwdRefIdeal.nD,
      r.2.mem ((c.tc : Thread Cert.ResidBwdRefIdeal.nD Cert.ResidBwdRefIdeal.τ).loc Cert.ResidBwdRefIdeal.main_arg0) = m ((c.tc : Thread Cert.ResidBwdRefIdeal.nD Cert.ResidBwdRefIdeal.τ).loc Cert.ResidBwdRefIdeal.main_arg0)
      ∧ r.2.mem ((c.tc : Thread Cert.ResidBwdRefIdeal.nD Cert.ResidBwdRefIdeal.τ).loc Cert.ResidBwdRefIdeal.main_arg1) = m ((c.tc : Thread Cert.ResidBwdRefIdeal.nD Cert.ResidBwdRefIdeal.τ).loc Cert.ResidBwdRefIdeal.main_arg1)
      ∧ r.2.mem ((c.tc : Thread Cert.ResidBwdRefIdeal.nD Cert.ResidBwdRefIdeal.τ).loc Cert.ResidBwdRefIdeal.main_arg2) = m ((c.tc : Thread Cert.ResidBwdRefIdeal.nD Cert.ResidBwdRefIdeal.τ).loc Cert.ResidBwdRefIdeal.main_arg2)
      ∧ r.2.mem ((c.tc : Thread Cert.ResidBwdRefIdeal.nD Cert.ResidBwdRefIdeal.τ).loc Cert.ResidBwdRefIdeal.main_arg3) = m ((c.tc : Thread Cert.ResidBwdRefIdeal.nD Cert.ResidBwdRefIdeal.τ).loc Cert.ResidBwdRefIdeal.main_arg3)
      ∧ r.2.mem ((c.tc : Thread Cert.ResidBwdRefIdeal.nD Cert.ResidBwdRefIdeal.τ).loc Cert.ResidBwdRefIdeal.main_arg4) = m ((c.tc : Thread Cert.ResidBwdRefIdeal.nD Cert.ResidBwdRefIdeal.τ).loc Cert.ResidBwdRefIdeal.main_arg4)
      ∧ r.2.mem ((c.tc : Thread Cert.ResidBwdRefIdeal.nD Cert.ResidBwdRefIdeal.τ).loc Cert.ResidBwdRefIdeal.main_arg5) = m ((c.tc : Thread Cert.ResidBwdRefIdeal.nD Cert.ResidBwdRefIdeal.τ).loc Cert.ResidBwdRefIdeal.main_arg5)
      ∧ r.2.mem ((c.tc : Thread Cert.ResidBwdRefIdeal.nD Cert.ResidBwdRefIdeal.τ).loc Cert.ResidBwdRefIdeal.main_arg6) = m ((c.tc : Thread Cert.ResidBwdRefIdeal.nD Cert.ResidBwdRefIdeal.τ).loc Cert.ResidBwdRefIdeal.main_arg6)
      ∧ r.2.mem ((c.tc : Thread Cert.ResidBwdRefIdeal.nD Cert.ResidBwdRefIdeal.τ).loc Cert.ResidBwdRefIdeal.main_arg7) = m ((c.tc : Thread Cert.ResidBwdRefIdeal.nD Cert.ResidBwdRefIdeal.τ).loc Cert.ResidBwdRefIdeal.main_arg7))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3)
      ∧ r.2.mem ((c.tc : Thread Cert.ResidFwd.nD Cert.ResidFwd.τ).loc Cert.ResidFwd.main_arg4) = m ((c.tc : Thread Cert.ResidFwd.nD Cert.ResidFwd.τ).loc Cert.ResidFwd.main_arg4)
      ∧ r.2.mem ((c.tc : Thread Cert.ResidFwd.nD Cert.ResidFwd.τ).loc Cert.ResidFwd.main_arg5) = m ((c.tc : Thread Cert.ResidFwd.nD Cert.ResidFwd.τ).loc Cert.ResidFwd.main_arg5))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
      ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
      ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3)
      ∧ r.2.mem ((c.tc : Thread Cert.ResidFwdRefIdeal.nD Cert.ResidFwdRefIdeal.τ).loc Cert.ResidFwdRefIdeal.main_arg4) = m ((c.tc : Thread Cert.ResidFwdRefIdeal.nD Cert.ResidFwdRefIdeal.τ).loc Cert.ResidFwdRefIdeal.main_arg4)
      ∧ r.2.mem ((c.tc : Thread Cert.ResidFwdRefIdeal.nD Cert.ResidFwdRefIdeal.τ).loc Cert.ResidFwdRefIdeal.main_arg5) = m ((c.tc : Thread Cert.ResidFwdRefIdeal.nD Cert.ResidFwdRefIdeal.τ).loc Cert.ResidFwdRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6)
      ∧ r.2.mem ((c.tc : Thread Cert.PrepFwd.nD Cert.PrepFwd.τ).loc Cert.PrepFwd.main_arg7) = m ((c.tc : Thread Cert.PrepFwd.nD Cert.PrepFwd.τ).loc Cert.PrepFwd.main_arg7)
      ∧ r.2.mem ((c.tc : Thread Cert.PrepFwd.nD Cert.PrepFwd.τ).loc Cert.PrepFwd.main_arg8) = m ((c.tc : Thread Cert.PrepFwd.nD Cert.PrepFwd.τ).loc Cert.PrepFwd.main_arg8)
      ∧ r.2.mem ((c.tc : Thread Cert.PrepFwd.nD Cert.PrepFwd.τ).loc Cert.PrepFwd.main_arg9) = m ((c.tc : Thread Cert.PrepFwd.nD Cert.PrepFwd.τ).loc Cert.PrepFwd.main_arg9))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
      ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
      ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
      ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6)
      ∧ r.2.mem ((c.tc : Thread Cert.PrepFwdRefIdeal.nD Cert.PrepFwdRefIdeal.τ).loc Cert.PrepFwdRefIdeal.main_arg7) = m ((c.tc : Thread Cert.PrepFwdRefIdeal.nD Cert.PrepFwdRefIdeal.τ).loc Cert.PrepFwdRefIdeal.main_arg7)
      ∧ r.2.mem ((c.tc : Thread Cert.PrepFwdRefIdeal.nD Cert.PrepFwdRefIdeal.τ).loc Cert.PrepFwdRefIdeal.main_arg8) = m ((c.tc : Thread Cert.PrepFwdRefIdeal.nD Cert.PrepFwdRefIdeal.τ).loc Cert.PrepFwdRefIdeal.main_arg8)
      ∧ r.2.mem ((c.tc : Thread Cert.PrepFwdRefIdeal.nD Cert.PrepFwdRefIdeal.τ).loc Cert.PrepFwdRefIdeal.main_arg9) = m ((c.tc : Thread Cert.PrepFwdRefIdeal.nD Cert.PrepFwdRefIdeal.τ).loc Cert.PrepFwdRefIdeal.main_arg9))
      ∧ r.2.sem = fun _ => 0)

def quiescent_MlstmFwd [hMlstmFwd : Cert.MlstmFwd.Facts] : Prop :=
  ∀ (m : (ℓ : Loc Cert.MlstmFwd.nD Cert.MlstmFwd.τ Cert.MlstmFwd.sig) → Buf (Elt Bits) ℓ) (g : Dev Cert.MlstmFwd.nD → PrngReg), Pre_MlstmFwd m →
    θ_run (Cert.MlstmFwd.defs (F := Bits)) (onTc (τ := Cert.MlstmFwd.τ) (Cert.MlstmFwd.main (F := Bits))) ⟨m, fun _ => 0, g⟩ (fun r => (∀ c : Dev Cert.MlstmFwd.nD,
      r.2.mem ((c.tc : Thread Cert.MlstmFwd.nD Cert.MlstmFwd.τ).loc Cert.MlstmFwd.main_arg0) = m ((c.tc : Thread Cert.MlstmFwd.nD Cert.MlstmFwd.τ).loc Cert.MlstmFwd.main_arg0)
      ∧ r.2.mem ((c.tc : Thread Cert.MlstmFwd.nD Cert.MlstmFwd.τ).loc Cert.MlstmFwd.main_arg1) = m ((c.tc : Thread Cert.MlstmFwd.nD Cert.MlstmFwd.τ).loc Cert.MlstmFwd.main_arg1)
      ∧ r.2.mem ((c.tc : Thread Cert.MlstmFwd.nD Cert.MlstmFwd.τ).loc Cert.MlstmFwd.main_arg2) = m ((c.tc : Thread Cert.MlstmFwd.nD Cert.MlstmFwd.τ).loc Cert.MlstmFwd.main_arg2)
      ∧ r.2.mem ((c.tc : Thread Cert.MlstmFwd.nD Cert.MlstmFwd.τ).loc Cert.MlstmFwd.main_arg3) = m ((c.tc : Thread Cert.MlstmFwd.nD Cert.MlstmFwd.τ).loc Cert.MlstmFwd.main_arg3))
      ∧ r.2.sem = fun _ => 0)

def quiescent_MlstmFwdIdeal [hMlstmFwdIdeal : Cert.MlstmFwdIdeal.Facts] : Prop :=
  ∀ (m : (ℓ : Loc Cert.MlstmFwdIdeal.nD Cert.MlstmFwdIdeal.τ Cert.MlstmFwdIdeal.sig) → Buf (Elt Ideal) ℓ) (g : Dev Cert.MlstmFwdIdeal.nD → PrngReg), Pre_MlstmFwdIdeal m →
    θ_run (Cert.MlstmFwdIdeal.defs (F := Ideal)) (onTc (τ := Cert.MlstmFwdIdeal.τ) (Cert.MlstmFwdIdeal.main (F := Ideal))) ⟨m, fun _ => 0, g⟩ (fun r => (∀ c : Dev Cert.MlstmFwdIdeal.nD,
      r.2.mem ((c.tc : Thread Cert.MlstmFwdIdeal.nD Cert.MlstmFwdIdeal.τ).loc Cert.MlstmFwdIdeal.main_arg0) = m ((c.tc : Thread Cert.MlstmFwdIdeal.nD Cert.MlstmFwdIdeal.τ).loc Cert.MlstmFwdIdeal.main_arg0)
      ∧ r.2.mem ((c.tc : Thread Cert.MlstmFwdIdeal.nD Cert.MlstmFwdIdeal.τ).loc Cert.MlstmFwdIdeal.main_arg1) = m ((c.tc : Thread Cert.MlstmFwdIdeal.nD Cert.MlstmFwdIdeal.τ).loc Cert.MlstmFwdIdeal.main_arg1)
      ∧ r.2.mem ((c.tc : Thread Cert.MlstmFwdIdeal.nD Cert.MlstmFwdIdeal.τ).loc Cert.MlstmFwdIdeal.main_arg2) = m ((c.tc : Thread Cert.MlstmFwdIdeal.nD Cert.MlstmFwdIdeal.τ).loc Cert.MlstmFwdIdeal.main_arg2)
      ∧ r.2.mem ((c.tc : Thread Cert.MlstmFwdIdeal.nD Cert.MlstmFwdIdeal.τ).loc Cert.MlstmFwdIdeal.main_arg3) = m ((c.tc : Thread Cert.MlstmFwdIdeal.nD Cert.MlstmFwdIdeal.τ).loc Cert.MlstmFwdIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v23) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_v24) = v2 c
          ∧ r.2.mem ((c.tc : Thread Cert.LossRefIdeal.nD Cert.LossRefIdeal.τ).loc Cert.LossRefIdeal.main_v22) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_AttnBwd_AttnBwdIdeal : Prop :=
  IdealRules.named_const.Statement Cert.AttnBwdIdeal.κ "ln2" .f32 0x3F317218#32 ((Real.log 2 : ℝ) : EReal)

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v42)) (v1 : (c : Dev Cert.AttnBwdIdeal.nD) → Buf (Elt Ideal) ((c.tc : Thread Cert.AttnBwdIdeal.nD Cert.AttnBwdIdeal.τ).loc Cert.AttnBwdIdeal.main_v44)) (v2 : (c : Dev Cert.AttnBwdIdeal.nD) → Buf (Elt Ideal) ((c.tc : Thread Cert.AttnBwdIdeal.nD Cert.AttnBwdIdeal.τ).loc Cert.AttnBwdIdeal.main_v45)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v42) = v0 c
          ∧ r.2.mem ((c.tc : Thread Cert.AttnBwdIdeal.nD Cert.AttnBwdIdeal.τ).loc Cert.AttnBwdIdeal.main_v44) = v1 c
          ∧ r.2.mem ((c.tc : Thread Cert.AttnBwdIdeal.nD Cert.AttnBwdIdeal.τ).loc Cert.AttnBwdIdeal.main_v45) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v56) = v0 c
          ∧ r.2.mem ((c.tc : Thread Cert.AttnBwdRefIdeal.nD Cert.AttnBwdRefIdeal.τ).loc Cert.AttnBwdRefIdeal.main_v54) = v1 c
          ∧ r.2.mem ((c.tc : Thread Cert.AttnBwdRefIdeal.nD Cert.AttnBwdRefIdeal.τ).loc Cert.AttnBwdRefIdeal.main_v38) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_AttnFwd_AttnFwdIdeal : Prop :=
  IdealRules.named_const.Statement Cert.AttnFwdIdeal.κ "rln2" .f32 0x3FB8AA3B#32 (((Real.log 2)⁻¹ : ℝ) : EReal)

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v15) = v0 c
          ∧ r.2.mem ((c.tc : Thread Cert.AttnFwdRefIdeal.nD Cert.AttnFwdRefIdeal.τ).loc Cert.AttnFwdRefIdeal.main_v20) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v3)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v3) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v12) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v3) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2))

def preserves_ResidBwd_ResidBwdIdeal : Prop :=
  True

def algebraic_ResidBwdIdeal_ResidBwdRefIdeal [hResidBwdIdeal : Cert.ResidBwdIdeal.Facts] [hResidBwdRefIdeal : Cert.ResidBwdRefIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg)
    (m' : (ℓ : Loc Cert.ResidBwdRefIdeal.nD Cert.ResidBwdRefIdeal.τ Cert.ResidBwdRefIdeal.sig) → Buf (Elt Ideal) ℓ) (g' : Dev Cert.ResidBwdRefIdeal.nD → PrngReg), Pre_ResidBwdIdeal m →
    (∀ c : Dev Cert.ResidBwdIdeal.nD,
      m' ((c.tc : Thread Cert.ResidBwdRefIdeal.nD Cert.ResidBwdRefIdeal.τ).loc Cert.ResidBwdRefIdeal.main_arg0) = m ((c.tc : Thread Cert.ResidBwdIdeal.nD Cert.ResidBwdIdeal.τ).loc Cert.ResidBwdIdeal.main_arg0)
      ∧ m' ((c.tc : Thread Cert.ResidBwdRefIdeal.nD Cert.ResidBwdRefIdeal.τ).loc Cert.ResidBwdRefIdeal.main_arg1) = m ((c.tc : Thread Cert.ResidBwdIdeal.nD Cert.ResidBwdIdeal.τ).loc Cert.ResidBwdIdeal.main_arg1)
      ∧ m' ((c.tc : Thread Cert.ResidBwdRefIdeal.nD Cert.ResidBwdRefIdeal.τ).loc Cert.ResidBwdRefIdeal.main_arg2) = m ((c.tc : Thread Cert.ResidBwdIdeal.nD Cert.ResidBwdIdeal.τ).loc Cert.ResidBwdIdeal.main_arg2)
      ∧ m' ((c.tc : Thread Cert.ResidBwdRefIdeal.nD Cert.ResidBwdRefIdeal.τ).loc Cert.ResidBwdRefIdeal.main_arg3) = m ((c.tc : Thread Cert.ResidBwdIdeal.nD Cert.ResidBwdIdeal.τ).loc Cert.ResidBwdIdeal.main_arg3)
      ∧ m' ((c.tc : Thread Cert.ResidBwdRefIdeal.nD Cert.ResidBwdRefIdeal.τ).loc Cert.ResidBwdRefIdeal.main_arg4) = m ((c.tc : Thread Cert.ResidBwdIdeal.nD Cert.ResidBwdIdeal.τ).loc Cert.ResidBwdIdeal.main_arg4)
      ∧ m' ((c.tc : Thread Cert.ResidBwdRefIdeal.nD Cert.ResidBwdRefIdeal.τ).loc Cert.ResidBwdRefIdeal.main_arg5) = m ((c.tc : Thread Cert.ResidBwdIdeal.nD Cert.ResidBwdIdeal.τ).loc Cert.ResidBwdIdeal.main_arg5)
      ∧ m' ((c.tc : Thread Cert.ResidBwdRefIdeal.nD Cert.ResidBwdRefIdeal.τ).loc Cert.ResidBwdRefIdeal.main_arg6) = m ((c.tc : Thread Cert.ResidBwdIdeal.nD Cert.ResidBwdIdeal.τ).loc Cert.ResidBwdIdeal.main_arg6)
      ∧ m' ((c.tc : Thread Cert.ResidBwdRefIdeal.nD Cert.ResidBwdRefIdeal.τ).loc Cert.ResidBwdRefIdeal.main_arg7) = m ((c.tc : Thread Cert.ResidBwdIdeal.nD Cert.ResidBwdIdeal.τ).loc Cert.ResidBwdIdeal.main_arg7)) →
    ∃ (v0 : (c : Dev Cert.ResidBwdIdeal.nD) → Buf (Elt Ideal) ((c.tc : Thread Cert.ResidBwdIdeal.nD Cert.ResidBwdIdeal.τ).loc Cert.ResidBwdIdeal.main_v0_0)) (v1 : (c : Dev Cert.ResidBwdIdeal.nD) → Buf (Elt Ideal) ((c.tc : Thread Cert.ResidBwdIdeal.nD Cert.ResidBwdIdeal.τ).loc Cert.ResidBwdIdeal.main_v0_1)) (v2 : (c : Dev Cert.ResidBwdIdeal.nD) → Buf (Elt Ideal) ((c.tc : Thread Cert.ResidBwdIdeal.nD Cert.ResidBwdIdeal.τ).loc Cert.ResidBwdIdeal.main_v0_2)) (v3 : (c : Dev Cert.ResidBwdIdeal.nD) → Buf (Elt Ideal) ((c.tc : Thread Cert.ResidBwdIdeal.nD Cert.ResidBwdIdeal.τ).loc Cert.ResidBwdIdeal.main_v0_3)) (v4 : (c : Dev Cert.ResidBwdIdeal.nD) → Buf (Elt Ideal) ((c.tc : Thread Cert.ResidBwdIdeal.nD Cert.ResidBwdIdeal.τ).loc Cert.ResidBwdIdeal.main_v0_4)) (v5 : (c : Dev Cert.ResidBwdIdeal.nD) → Buf (Elt Ideal) ((c.tc : Thread Cert.ResidBwdIdeal.nD Cert.ResidBwdIdeal.τ).loc Cert.ResidBwdIdeal.main_v0_5)),
      θ_run (Cert.ResidBwdIdeal.defs (F := Ideal)) (onTc (τ := Cert.ResidBwdIdeal.τ) (Cert.ResidBwdIdeal.main (F := Ideal))) ⟨m, fun _ => 0, g⟩ (fun r => ∀ c : Dev Cert.ResidBwdIdeal.nD,
          r.2.mem ((c.tc : Thread Cert.ResidBwdIdeal.nD Cert.ResidBwdIdeal.τ).loc Cert.ResidBwdIdeal.main_v0_0) = v0 c
          ∧ r.2.mem ((c.tc : Thread Cert.ResidBwdIdeal.nD Cert.ResidBwdIdeal.τ).loc Cert.ResidBwdIdeal.main_v0_1) = v1 c
          ∧ r.2.mem ((c.tc : Thread Cert.ResidBwdIdeal.nD Cert.ResidBwdIdeal.τ).loc Cert.ResidBwdIdeal.main_v0_2) = v2 c
          ∧ r.2.mem ((c.tc : Thread Cert.ResidBwdIdeal.nD Cert.ResidBwdIdeal.τ).loc Cert.ResidBwdIdeal.main_v0_3) = v3 c
          ∧ r.2.mem ((c.tc : Thread Cert.ResidBwdIdeal.nD Cert.ResidBwdIdeal.τ).loc Cert.ResidBwdIdeal.main_v0_4) = v4 c
          ∧ r.2.mem ((c.tc : Thread Cert.ResidBwdIdeal.nD Cert.ResidBwdIdeal.τ).loc Cert.ResidBwdIdeal.main_v0_5) = v5 c
          ∧ r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
          ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
          ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
          ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3)
          ∧ r.2.mem ((c.tc : Thread Cert.ResidBwdIdeal.nD Cert.ResidBwdIdeal.τ).loc Cert.ResidBwdIdeal.main_arg4) = m ((c.tc : Thread Cert.ResidBwdIdeal.nD Cert.ResidBwdIdeal.τ).loc Cert.ResidBwdIdeal.main_arg4)
          ∧ r.2.mem ((c.tc : Thread Cert.ResidBwdIdeal.nD Cert.ResidBwdIdeal.τ).loc Cert.ResidBwdIdeal.main_arg5) = m ((c.tc : Thread Cert.ResidBwdIdeal.nD Cert.ResidBwdIdeal.τ).loc Cert.ResidBwdIdeal.main_arg5)
          ∧ r.2.mem ((c.tc : Thread Cert.ResidBwdIdeal.nD Cert.ResidBwdIdeal.τ).loc Cert.ResidBwdIdeal.main_arg6) = m ((c.tc : Thread Cert.ResidBwdIdeal.nD Cert.ResidBwdIdeal.τ).loc Cert.ResidBwdIdeal.main_arg6)
          ∧ r.2.mem ((c.tc : Thread Cert.ResidBwdIdeal.nD Cert.ResidBwdIdeal.τ).loc Cert.ResidBwdIdeal.main_arg7) = m ((c.tc : Thread Cert.ResidBwdIdeal.nD Cert.ResidBwdIdeal.τ).loc Cert.ResidBwdIdeal.main_arg7))
      ∧ θ_run (Cert.ResidBwdRefIdeal.defs (F := Ideal)) (onTc (τ := Cert.ResidBwdRefIdeal.τ) (Cert.ResidBwdRefIdeal.main (F := Ideal))) ⟨m', fun _ => 0, g'⟩ (fun r => ∀ c : Dev Cert.ResidBwdRefIdeal.nD,
          r.2.mem ((c.tc : Thread Cert.ResidBwdRefIdeal.nD Cert.ResidBwdRefIdeal.τ).loc Cert.ResidBwdRefIdeal.main_v51) = v0 c
          ∧ r.2.mem ((c.tc : Thread Cert.ResidBwdRefIdeal.nD Cert.ResidBwdRefIdeal.τ).loc Cert.ResidBwdRefIdeal.main_v58) = v1 c
          ∧ r.2.mem ((c.tc : Thread Cert.ResidBwdRefIdeal.nD Cert.ResidBwdRefIdeal.τ).loc Cert.ResidBwdRefIdeal.main_v57) = v2 c
          ∧ r.2.mem ((c.tc : Thread Cert.ResidBwdRefIdeal.nD Cert.ResidBwdRefIdeal.τ).loc Cert.ResidBwdRefIdeal.main_v34) = v3 c
          ∧ r.2.mem ((c.tc : Thread Cert.ResidBwdRefIdeal.nD Cert.ResidBwdRefIdeal.τ).loc Cert.ResidBwdRefIdeal.main_v26) = v4 c
          ∧ r.2.mem ((c.tc : Thread Cert.ResidBwdRefIdeal.nD Cert.ResidBwdRefIdeal.τ).loc Cert.ResidBwdRefIdeal.main_v29) = v5 c
          ∧ r.2.mem ((c.tc : Thread Cert.ResidBwdRefIdeal.nD Cert.ResidBwdRefIdeal.τ).loc Cert.ResidBwdRefIdeal.main_arg0) = m' ((c.tc : Thread Cert.ResidBwdRefIdeal.nD Cert.ResidBwdRefIdeal.τ).loc Cert.ResidBwdRefIdeal.main_arg0)
          ∧ r.2.mem ((c.tc : Thread Cert.ResidBwdRefIdeal.nD Cert.ResidBwdRefIdeal.τ).loc Cert.ResidBwdRefIdeal.main_arg1) = m' ((c.tc : Thread Cert.ResidBwdRefIdeal.nD Cert.ResidBwdRefIdeal.τ).loc Cert.ResidBwdRefIdeal.main_arg1)
          ∧ r.2.mem ((c.tc : Thread Cert.ResidBwdRefIdeal.nD Cert.ResidBwdRefIdeal.τ).loc Cert.ResidBwdRefIdeal.main_arg2) = m' ((c.tc : Thread Cert.ResidBwdRefIdeal.nD Cert.ResidBwdRefIdeal.τ).loc Cert.ResidBwdRefIdeal.main_arg2)
          ∧ r.2.mem ((c.tc : Thread Cert.ResidBwdRefIdeal.nD Cert.ResidBwdRefIdeal.τ).loc Cert.ResidBwdRefIdeal.main_arg3) = m' ((c.tc : Thread Cert.ResidBwdRefIdeal.nD Cert.ResidBwdRefIdeal.τ).loc Cert.ResidBwdRefIdeal.main_arg3)
          ∧ r.2.mem ((c.tc : Thread Cert.ResidBwdRefIdeal.nD Cert.ResidBwdRefIdeal.τ).loc Cert.ResidBwdRefIdeal.main_arg4) = m' ((c.tc : Thread Cert.ResidBwdRefIdeal.nD Cert.ResidBwdRefIdeal.τ).loc Cert.ResidBwdRefIdeal.main_arg4)
          ∧ r.2.mem ((c.tc : Thread Cert.ResidBwdRefIdeal.nD Cert.ResidBwdRefIdeal.τ).loc Cert.ResidBwdRefIdeal.main_arg5) = m' ((c.tc : Thread Cert.ResidBwdRefIdeal.nD Cert.ResidBwdRefIdeal.τ).loc Cert.ResidBwdRefIdeal.main_arg5)
          ∧ r.2.mem ((c.tc : Thread Cert.ResidBwdRefIdeal.nD Cert.ResidBwdRefIdeal.τ).loc Cert.ResidBwdRefIdeal.main_arg6) = m' ((c.tc : Thread Cert.ResidBwdRefIdeal.nD Cert.ResidBwdRefIdeal.τ).loc Cert.ResidBwdRefIdeal.main_arg6)
          ∧ r.2.mem ((c.tc : Thread Cert.ResidBwdRefIdeal.nD Cert.ResidBwdRefIdeal.τ).loc Cert.ResidBwdRefIdeal.main_arg7) = m' ((c.tc : Thread Cert.ResidBwdRefIdeal.nD Cert.ResidBwdRefIdeal.τ).loc Cert.ResidBwdRefIdeal.main_arg7))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)) (v3 : (c : Dev Cert.MixBwdIdeal.nD) → Buf (Elt Ideal) ((c.tc : Thread Cert.MixBwdIdeal.nD Cert.MixBwdIdeal.τ).loc Cert.MixBwdIdeal.main_v0_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_v0_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v48) = v0 c
          ∧ r.2.mem ((c.tc : Thread Cert.MixBwdRefIdeal.nD Cert.MixBwdRefIdeal.τ).loc Cert.MixBwdRefIdeal.main_v31) = v1 c
          ∧ r.2.mem ((c.tc : Thread Cert.MixBwdRefIdeal.nD Cert.MixBwdRefIdeal.τ).loc Cert.MixBwdRefIdeal.main_v23) = v2 c
          ∧ r.2.mem ((c.tc : Thread Cert.MixBwdRefIdeal.nD Cert.MixBwdRefIdeal.τ).loc Cert.MixBwdRefIdeal.main_v26) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)) →
    ∃ (v0 : (c : Dev Cert.PostBwdIdeal.nD) → Buf (Elt Ideal) ((c.tc : Thread Cert.PostBwdIdeal.nD Cert.PostBwdIdeal.τ).loc Cert.PostBwdIdeal.main_v1_0)) (v1 : (c : Dev Cert.PostBwdIdeal.nD) → Buf (Elt Ideal) ((c.tc : Thread Cert.PostBwdIdeal.nD Cert.PostBwdIdeal.τ).loc Cert.PostBwdIdeal.main_v1_1)) (v2 : (c : Dev Cert.PostBwdIdeal.nD) → Buf (Elt Ideal) ((c.tc : Thread Cert.PostBwdIdeal.nD Cert.PostBwdIdeal.τ).loc Cert.PostBwdIdeal.main_v1_2)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v1_0) = v0 c
          ∧ r.2.mem ((c.tc : Thread Cert.PostBwdIdeal.nD Cert.PostBwdIdeal.τ).loc Cert.PostBwdIdeal.main_v1_1) = v1 c
          ∧ r.2.mem ((c.tc : Thread Cert.PostBwdIdeal.nD Cert.PostBwdIdeal.τ).loc Cert.PostBwdIdeal.main_v1_2) = v2 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v61) = v0 c
          ∧ r.2.mem ((c.tc : Thread Cert.PostBwdRefIdeal.nD Cert.PostBwdRefIdeal.τ).loc Cert.PostBwdRefIdeal.main_v40) = v1 c
          ∧ r.2.mem ((c.tc : Thread Cert.PostBwdRefIdeal.nD Cert.PostBwdRefIdeal.τ).loc Cert.PostBwdRefIdeal.main_v62) = v2 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v2)) (v2 : (c : Dev Cert.ConvBwdIdeal.nD) → Buf (Elt Ideal) ((c.tc : Thread Cert.ConvBwdIdeal.nD Cert.ConvBwdIdeal.τ).loc Cert.ConvBwdIdeal.main_v1_2)) (v3 : (c : Dev Cert.ConvBwdIdeal.nD) → Buf (Elt Ideal) ((c.tc : Thread Cert.ConvBwdIdeal.nD Cert.ConvBwdIdeal.τ).loc Cert.ConvBwdIdeal.main_v1_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v2) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_v1_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v89) = v0 c
          ∧ r.2.mem ((c.tc : Thread Cert.ConvBwdRefIdeal.nD Cert.ConvBwdRefIdeal.τ).loc Cert.ConvBwdRefIdeal.main_v85) = v1 c
          ∧ r.2.mem ((c.tc : Thread Cert.ConvBwdRefIdeal.nD Cert.ConvBwdRefIdeal.τ).loc Cert.ConvBwdRefIdeal.main_v78) = v2 c
          ∧ r.2.mem ((c.tc : Thread Cert.ConvBwdRefIdeal.nD Cert.ConvBwdRefIdeal.τ).loc Cert.ConvBwdRefIdeal.main_v91) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)
      ∧ m' ((c.tc : Thread Cert.ResidFwdRefIdeal.nD Cert.ResidFwdRefIdeal.τ).loc Cert.ResidFwdRefIdeal.main_arg4) = m ((c.tc : Thread Cert.ResidFwdIdeal.nD Cert.ResidFwdIdeal.τ).loc Cert.ResidFwdIdeal.main_arg4)
      ∧ m' ((c.tc : Thread Cert.ResidFwdRefIdeal.nD Cert.ResidFwdRefIdeal.τ).loc Cert.ResidFwdRefIdeal.main_arg5) = m ((c.tc : Thread Cert.ResidFwdIdeal.nD Cert.ResidFwdIdeal.τ).loc Cert.ResidFwdIdeal.main_arg5)) →
    ∃ (v0 : (c : Dev Cert.ResidFwdIdeal.nD) → Buf (Elt Ideal) ((c.tc : Thread Cert.ResidFwdIdeal.nD Cert.ResidFwdIdeal.τ).loc Cert.ResidFwdIdeal.main_v0_0)) (v1 : (c : Dev Cert.ResidFwdIdeal.nD) → Buf (Elt Ideal) ((c.tc : Thread Cert.ResidFwdIdeal.nD Cert.ResidFwdIdeal.τ).loc Cert.ResidFwdIdeal.main_v0_1)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v0_0) = v0 c
          ∧ r.2.mem ((c.tc : Thread Cert.ResidFwdIdeal.nD Cert.ResidFwdIdeal.τ).loc Cert.ResidFwdIdeal.main_v0_1) = v1 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3)
          ∧ r.2.mem ((c.tc : Thread Cert.ResidFwdIdeal.nD Cert.ResidFwdIdeal.τ).loc Cert.ResidFwdIdeal.main_arg4) = m ((c.tc : Thread Cert.ResidFwdIdeal.nD Cert.ResidFwdIdeal.τ).loc Cert.ResidFwdIdeal.main_arg4)
          ∧ r.2.mem ((c.tc : Thread Cert.ResidFwdIdeal.nD Cert.ResidFwdIdeal.τ).loc Cert.ResidFwdIdeal.main_arg5) = m ((c.tc : Thread Cert.ResidFwdIdeal.nD Cert.ResidFwdIdeal.τ).loc Cert.ResidFwdIdeal.main_arg5))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v2) = v0 c
          ∧ r.2.mem ((c.tc : Thread Cert.ResidFwdRefIdeal.nD Cert.ResidFwdRefIdeal.τ).loc Cert.ResidFwdRefIdeal.main_v21) = v1 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3)
          ∧ r.2.mem ((c.tc : Thread Cert.ResidFwdRefIdeal.nD Cert.ResidFwdRefIdeal.τ).loc Cert.ResidFwdRefIdeal.main_arg4) = m' ((c.tc : Thread Cert.ResidFwdRefIdeal.nD Cert.ResidFwdRefIdeal.τ).loc Cert.ResidFwdRefIdeal.main_arg4)
          ∧ r.2.mem ((c.tc : Thread Cert.ResidFwdRefIdeal.nD Cert.ResidFwdRefIdeal.τ).loc Cert.ResidFwdRefIdeal.main_arg5) = m' ((c.tc : Thread Cert.ResidFwdRefIdeal.nD Cert.ResidFwdRefIdeal.τ).loc Cert.ResidFwdRefIdeal.main_arg5))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v18) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)) →
    ∃ (v0 : (c : Dev Cert.PostFwdIdeal.nD) → Buf (Elt Ideal) ((c.tc : Thread Cert.PostFwdIdeal.nD Cert.PostFwdIdeal.τ).loc Cert.PostFwdIdeal.main_v1)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v1) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v29) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v2) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v6)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v6) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v1) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v8) = v0 c
          ∧ r.2.mem ((c.tc : Thread Cert.AdamRefIdeal.nD Cert.AdamRefIdeal.τ).loc Cert.AdamRefIdeal.main_v32) = v1 c
          ∧ r.2.mem ((c.tc : Thread Cert.AdamRefIdeal.nD Cert.AdamRefIdeal.τ).loc Cert.AdamRefIdeal.main_v13) = v2 c
          ∧ r.2.mem ((c.tc : Thread Cert.AdamRefIdeal.nD Cert.AdamRefIdeal.τ).loc Cert.AdamRefIdeal.main_v19) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v27) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1))

def preserves_PrepFwd_PrepFwdIdeal : Prop :=
  IdealRules.named_const.Statement Cert.PrepFwdIdeal.κ "r192" .f32 0x3BAAAAAB#32 ((192⁻¹ : ℝ) : EReal)
  ∧ IdealRules.named_const.Statement Cert.PrepFwdIdeal.κ "qs" .f32 0x3DD53B95#32 (((Real.sqrt 192)⁻¹ * (Real.log 2)⁻¹ : ℝ) : EReal)

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)
      ∧ m' ((c.tc : Thread Cert.PrepFwdRefIdeal.nD Cert.PrepFwdRefIdeal.τ).loc Cert.PrepFwdRefIdeal.main_arg7) = m ((c.tc : Thread Cert.PrepFwdIdeal.nD Cert.PrepFwdIdeal.τ).loc Cert.PrepFwdIdeal.main_arg7)
      ∧ m' ((c.tc : Thread Cert.PrepFwdRefIdeal.nD Cert.PrepFwdRefIdeal.τ).loc Cert.PrepFwdRefIdeal.main_arg8) = m ((c.tc : Thread Cert.PrepFwdIdeal.nD Cert.PrepFwdIdeal.τ).loc Cert.PrepFwdIdeal.main_arg8)
      ∧ m' ((c.tc : Thread Cert.PrepFwdRefIdeal.nD Cert.PrepFwdRefIdeal.τ).loc Cert.PrepFwdRefIdeal.main_arg9) = m ((c.tc : Thread Cert.PrepFwdIdeal.nD Cert.PrepFwdIdeal.τ).loc Cert.PrepFwdIdeal.main_arg9)) →
    ∃ (v0 : (c : Dev Cert.PrepFwdIdeal.nD) → Buf (Elt Ideal) ((c.tc : Thread Cert.PrepFwdIdeal.nD Cert.PrepFwdIdeal.τ).loc Cert.PrepFwdIdeal.main_v24_0)) (v1 : (c : Dev Cert.PrepFwdIdeal.nD) → Buf (Elt Ideal) ((c.tc : Thread Cert.PrepFwdIdeal.nD Cert.PrepFwdIdeal.τ).loc Cert.PrepFwdIdeal.main_v24_1)) (v2 : (c : Dev Cert.PrepFwdIdeal.nD) → Buf (Elt Ideal) ((c.tc : Thread Cert.PrepFwdIdeal.nD Cert.PrepFwdIdeal.τ).loc Cert.PrepFwdIdeal.main_v24_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v24_0) = v0 c
          ∧ r.2.mem ((c.tc : Thread Cert.PrepFwdIdeal.nD Cert.PrepFwdIdeal.τ).loc Cert.PrepFwdIdeal.main_v24_1) = v1 c
          ∧ r.2.mem ((c.tc : Thread Cert.PrepFwdIdeal.nD Cert.PrepFwdIdeal.τ).loc Cert.PrepFwdIdeal.main_v24_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
          ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
          ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
          ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v133) = v0 c
          ∧ r.2.mem ((c.tc : Thread Cert.PrepFwdRefIdeal.nD Cert.PrepFwdRefIdeal.τ).loc Cert.PrepFwdRefIdeal.main_v134) = v1 c
          ∧ r.2.mem ((c.tc : Thread Cert.PrepFwdRefIdeal.nD Cert.PrepFwdRefIdeal.τ).loc Cert.PrepFwdRefIdeal.main_v136) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6)
          ∧ r.2.mem ((c.tc : Thread Cert.PrepFwdRefIdeal.nD Cert.PrepFwdRefIdeal.τ).loc Cert.PrepFwdRefIdeal.main_arg7) = m' ((c.tc : Thread Cert.PrepFwdRefIdeal.nD Cert.PrepFwdRefIdeal.τ).loc Cert.PrepFwdRefIdeal.main_arg7)
          ∧ r.2.mem ((c.tc : Thread Cert.PrepFwdRefIdeal.nD Cert.PrepFwdRefIdeal.τ).loc Cert.PrepFwdRefIdeal.main_arg8) = m' ((c.tc : Thread Cert.PrepFwdRefIdeal.nD Cert.PrepFwdRefIdeal.τ).loc Cert.PrepFwdRefIdeal.main_arg8)
          ∧ r.2.mem ((c.tc : Thread Cert.PrepFwdRefIdeal.nD Cert.PrepFwdRefIdeal.τ).loc Cert.PrepFwdRefIdeal.main_arg9) = m' ((c.tc : Thread Cert.PrepFwdRefIdeal.nD Cert.PrepFwdRefIdeal.τ).loc Cert.PrepFwdRefIdeal.main_arg9))

def preserves_MlstmFwd_MlstmFwdIdeal : Prop :=
  True

def Claim : Prop :=
  ∃ (hLoss : Cert.Loss.Facts) (hLossIdeal : Cert.LossIdeal.Facts) (hLossRefIdeal : Cert.LossRefIdeal.Facts) (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hDu : Cert.Du.Facts) (hDuIdeal : Cert.DuIdeal.Facts) (hDuRefIdeal : Cert.DuRefIdeal.Facts) (hDw : Cert.Dw.Facts) (hDwIdeal : Cert.DwIdeal.Facts) (hDwRefIdeal : Cert.DwRefIdeal.Facts) (hAdaBwd : Cert.AdaBwd.Facts) (hAdaBwdIdeal : Cert.AdaBwdIdeal.Facts) (hAdaBwdRefIdeal : Cert.AdaBwdRefIdeal.Facts) (hResidBwd : Cert.ResidBwd.Facts) (hResidBwdIdeal : Cert.ResidBwdIdeal.Facts) (hResidBwdRefIdeal : Cert.ResidBwdRefIdeal.Facts) (hMixBwd : Cert.MixBwd.Facts) (hMixBwdIdeal : Cert.MixBwdIdeal.Facts) (hMixBwdRefIdeal : Cert.MixBwdRefIdeal.Facts) (hPostBwd : Cert.PostBwd.Facts) (hPostBwdIdeal : Cert.PostBwdIdeal.Facts) (hPostBwdRefIdeal : Cert.PostBwdRefIdeal.Facts) (hConvBwd : Cert.ConvBwd.Facts) (hConvBwdIdeal : Cert.ConvBwdIdeal.Facts) (hConvBwdRefIdeal : Cert.ConvBwdRefIdeal.Facts) (hResidFwd : Cert.ResidFwd.Facts) (hResidFwdIdeal : Cert.ResidFwdIdeal.Facts) (hResidFwdRefIdeal : Cert.ResidFwdRefIdeal.Facts) (hMixFwd : Cert.MixFwd.Facts) (hMixFwdIdeal : Cert.MixFwdIdeal.Facts) (hMixFwdRefIdeal : Cert.MixFwdRefIdeal.Facts) (hPostFwd : Cert.PostFwd.Facts) (hPostFwdIdeal : Cert.PostFwdIdeal.Facts) (hPostFwdRefIdeal : Cert.PostFwdRefIdeal.Facts) (hAdaFwd : Cert.AdaFwd.Facts) (hAdaFwdIdeal : Cert.AdaFwdIdeal.Facts) (hAdaFwdRefIdeal : Cert.AdaFwdRefIdeal.Facts) (hConvFwd : Cert.ConvFwd.Facts) (hConvFwdIdeal : Cert.ConvFwdIdeal.Facts) (hConvFwdRefIdeal : Cert.ConvFwdRefIdeal.Facts) (hFf2 : Cert.Ff2.Facts) (hFf2Ideal : Cert.Ff2Ideal.Facts) (hFf2RefIdeal : Cert.Ff2RefIdeal.Facts) (hDh2 : Cert.Dh2.Facts) (hDh2Ideal : Cert.Dh2Ideal.Facts) (hDh2RefIdeal : Cert.Dh2RefIdeal.Facts) (hAdam : Cert.Adam.Facts) (hAdamIdeal : Cert.AdamIdeal.Facts) (hAdamRefIdeal : Cert.AdamRefIdeal.Facts) (hChipSum : Cert.ChipSum.Facts) (hChipSumIdeal : Cert.ChipSumIdeal.Facts) (hChipSumRefIdeal : Cert.ChipSumRefIdeal.Facts) (hPrepFwd : Cert.PrepFwd.Facts) (hPrepFwdIdeal : Cert.PrepFwdIdeal.Facts) (hPrepFwdRefIdeal : Cert.PrepFwdRefIdeal.Facts) (hMlstmFwd : Cert.MlstmFwd.Facts) (hMlstmFwdIdeal : Cert.MlstmFwdIdeal.Facts) (hPre_attn_finite : Cert.Pre_attn_finite.Facts) (hPre_fwd_finite : Cert.Pre_fwd_finite.Facts),
    quiescent_Loss (hLoss := hLoss)
    ∧ quiescent_LossIdeal (hLossIdeal := hLossIdeal)
    ∧ quiescent_LossRefIdeal (hLossRefIdeal := hLossRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_Du (hDu := hDu)
    ∧ quiescent_DuIdeal (hDuIdeal := hDuIdeal)
    ∧ quiescent_DuRefIdeal (hDuRefIdeal := hDuRefIdeal)
    ∧ quiescent_Dw (hDw := hDw)
    ∧ quiescent_DwIdeal (hDwIdeal := hDwIdeal)
    ∧ quiescent_DwRefIdeal (hDwRefIdeal := hDwRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_ResidBwd (hResidBwd := hResidBwd)
    ∧ quiescent_ResidBwdIdeal (hResidBwdIdeal := hResidBwdIdeal)
    ∧ quiescent_ResidBwdRefIdeal (hResidBwdRefIdeal := hResidBwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Adam (hAdam := hAdam)
    ∧ quiescent_AdamIdeal (hAdamIdeal := hAdamIdeal)
    ∧ quiescent_AdamRefIdeal (hAdamRefIdeal := hAdamRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_MlstmFwd (hMlstmFwd := hMlstmFwd)
    ∧ quiescent_MlstmFwdIdeal (hMlstmFwdIdeal := hMlstmFwdIdeal)
    ∧ preserves_Loss_LossIdeal
    ∧ algebraic_LossIdeal_LossRefIdeal (hLossIdeal := hLossIdeal) (hLossRefIdeal := hLossRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_Du_DuIdeal
    ∧ algebraic_DuIdeal_DuRefIdeal (hDuIdeal := hDuIdeal) (hDuRefIdeal := hDuRefIdeal)
    ∧ preserves_Dw_DwIdeal
    ∧ algebraic_DwIdeal_DwRefIdeal (hDwIdeal := hDwIdeal) (hDwRefIdeal := hDwRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_ResidBwd_ResidBwdIdeal
    ∧ algebraic_ResidBwdIdeal_ResidBwdRefIdeal (hResidBwdIdeal := hResidBwdIdeal) (hResidBwdRefIdeal := hResidBwdRefIdeal)
    ∧ preserves_MixBwd_MixBwdIdeal
    ∧ algebraic_MixBwdIdeal_MixBwdRefIdeal (hMixBwdIdeal := hMixBwdIdeal) (hMixBwdRefIdeal := hMixBwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Ff2_Ff2Ideal
    ∧ algebraic_Ff2Ideal_Ff2RefIdeal (hFf2Ideal := hFf2Ideal) (hFf2RefIdeal := hFf2RefIdeal)
    ∧ preserves_Dh2_Dh2Ideal
    ∧ algebraic_Dh2Ideal_Dh2RefIdeal (hDh2Ideal := hDh2Ideal) (hDh2RefIdeal := hDh2RefIdeal)
    ∧ preserves_Adam_AdamIdeal
    ∧ algebraic_AdamIdeal_AdamRefIdeal (hAdamIdeal := hAdamIdeal) (hAdamRefIdeal := hAdamRefIdeal)
    ∧ preserves_ChipSum_ChipSumIdeal
    ∧ algebraic_ChipSumIdeal_ChipSumRefIdeal (hChipSumIdeal := hChipSumIdeal) (hChipSumRefIdeal := hChipSumRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_MlstmFwd_MlstmFwdIdeal
-- ==== Pre_attn_finite.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8192x8x192 .f32) (main_arg2 : FVec F S8192x8x128 .f32) (main_arg3 : FVec F S8192x1024 .f32) : IVec S8192x8x192 1 × IVec S8192x8x192 1 × IVec S8192x8x128 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_fwd_finite.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)

variable [Facts]

def fn {F : FTy → Type} [FloatOps F] (main_arg0 : FVec F S8192x8x192 .f32) (main_arg1 : FVec F S8192x8x192 .f32) (main_arg2 : FVec F S8192x8x128 .f32) : IVec S8192x8x192 1 × IVec S8192x8x192 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  (main_v2, main_v5)
-- ==== Loss.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x1, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x1, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S2048 : Shape := ⟨1, ![2048]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S1x1, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AttnBwd.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩
abbrev S8192x8x256 : Shape := ⟨3, ![8192, 8, 256]⟩
abbrev S8192x2048 : Shape := ⟨2, ![8192, 2048]⟩
abbrev S8x8192x8192 : Shape := ⟨3, ![8, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x1x8192 : Shape := ⟨3, ![8, 1, 8192]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1x1x1024 : Shape := ⟨3, ![1, 1, 1024]⟩
abbrev S8x128 : Shape := ⟨2, ![8, 128]⟩
abbrev S8x1024 : Shape := ⟨2, ![8, 1024]⟩
abbrev S1x1024 : Shape := ⟨2, ![1, 1024]⟩
abbrev S512x256 : Shape := ⟨2, ![512, 256]⟩
abbrev S512x1024 : Shape := ⟨2, ![512, 1024]⟩
abbrev S512x128 : Shape := ⟨2, ![512, 128]⟩

abbrev nBuf : Space → Nat
  | .hbm => 64
  | .vmem => 18
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S_, .i32⟩
  | .hbm, ⟨5, _⟩ => ⟨S_, .f32⟩
  | .hbm, ⟨6, _⟩ => ⟨S8192x8x256, .f32⟩
  | .hbm, ⟨7, _⟩ => ⟨S_, .f32⟩
  | .hbm, ⟨8, _⟩ => ⟨S8192x8x256, .f32⟩
  | .hbm, ⟨9, _⟩ => ⟨S8192x8x256, .f32⟩
  | .hbm, ⟨10, _⟩ => ⟨S_, .f32⟩
  | .hbm, ⟨11, _⟩ => ⟨S_, .f32⟩
  | .hbm, ⟨12, _⟩ => ⟨S8192x8x256, .f32⟩
  | .hbm, ⟨13, _⟩ => ⟨S8192x8x256, .f32⟩
  | .hbm, ⟨14, _⟩ => ⟨S8192x2048, .f32⟩
  | .hbm, ⟨15, _⟩ => ⟨S8192x2048, .bf16⟩
  | .hbm, ⟨16, _⟩ => ⟨S_, .i32⟩
  | .hbm, ⟨17, _⟩ => ⟨S_, .f32⟩
  | .hbm, ⟨18, _⟩ => ⟨S8192x8x256, .f32⟩
  | .hbm, ⟨19, _⟩ => ⟨S8192x2048, .f32⟩
  | .hbm, ⟨20, _⟩ => ⟨S8192x2048, .bf16⟩
  | .hbm, ⟨21, _⟩ => ⟨S8192x1024, .f32⟩
  | .hbm, ⟨22, _⟩ => ⟨S8192x1024, .bf16⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8192x1024, .f32⟩
  | .hbm, ⟨41, _⟩ => ⟨S8192x1024, .bf16⟩
  | .hbm, ⟨42, _⟩ => ⟨S8x8192x1, .f32⟩
  | .hbm, ⟨43, _⟩ => ⟨S8x8192x1, .f32⟩
  | .hbm, ⟨44, _⟩ => ⟨S_, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8x1x8192, .f32⟩
  | .hbm, ⟨49, _⟩ => ⟨S8192x2048, .f32⟩
  | .hbm, ⟨50, _⟩ => ⟨S8192x2048, .f32⟩
  | .hbm, ⟨51, _⟩ => ⟨S8192x1024, .f32⟩
  | .hbm, ⟨52, _⟩ => ⟨S8192x8x256, .f32⟩
  | .hbm, ⟨53, _⟩ => ⟨S8192x8x192, .f32⟩
  | .hbm, ⟨54, _⟩ => ⟨S_, .f32⟩
  | .hbm, ⟨55, _⟩ => ⟨S8192x8x192, .f32⟩
  | .hbm, ⟨56, _⟩ => ⟨S8192x8x192, .f32⟩
  | .hbm, ⟨57, _⟩ => ⟨S_, .f32⟩
  | .hbm, ⟨58, _⟩ => ⟨S_, .f32⟩
  | .hbm, ⟨59, _⟩ => ⟨S8192x8x192, .f32⟩
  | .hbm, ⟨60, _⟩ => ⟨S8192x8x192, .f32⟩
  | .hbm, ⟨61, _⟩ => ⟨S8192x8x256, .f32⟩
  | .hbm, ⟨62, _⟩ => ⟨S8192x8x192, .f32⟩
  | .hbm, ⟨63, _⟩ => ⟨S8192x8x128, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1024x128, .f32⟩
  | .local _ .vmem, ⟨11, _⟩ => ⟨S1024x128, .f32⟩
  | .local _ .vmem, ⟨12, _⟩ => ⟨S1024x256, .f32⟩
  | .local _ .vmem, ⟨13, _⟩ => ⟨S1024x256, .f32⟩
  | .local _ .vmem, ⟨14, _⟩ => ⟨S8192x256, .f32⟩
  | .local _ .vmem, ⟨15, _⟩ => ⟨S8192x256, .f32⟩
  | .local _ .vmem, ⟨16, _⟩ => ⟨S8192x128, .f32⟩
  | .local _ .vmem, ⟨17, _⟩ => ⟨S8192x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 1], ![false, false, false]⟩

def k0_mult1 (i : grid0.Coords) : BitVec 32 :=
  let arg2 : BitVec 32 := BitVec.ofNat 32 (i 2).val
  let c8192_i32 : BitVec 32 := 8192#32
  let v29 : BitVec 32 := Scalar.muli arg2 c8192_i32
  let c0_i32_18 : BitVec 32 := 0#32
  let v30 : BitVec 32 := Scalar.addi v29 c0_i32_18
  v30
def k0_off1 (i : grid0.Coords) (c0_i32_18 : BitVec 32) : Fin 2 → Nat :=
  let arg2 : BitVec 32 := BitVec.ofNat 32 (i 2).val
  let c8192_i32 : BitVec 32 := 8192#32
  let v29 : BitVec 32 := Scalar.muli arg2 c8192_i32
  let v30 : BitVec 32 := Scalar.addi v29 c0_i32_18
  let v31 : BitVec 32 := v30
  let v43 : Index := Scalar.indexCast v31
  let c0_23 : Index := 0#32
  ![v43.toNat, 0]
def k0_off2 (i : grid0.Coords) (c0_i32_18 : BitVec 32) : Fin 2 → Nat :=
  let arg2 : BitVec 32 := BitVec.ofNat 32 (i 2).val
  let c8192_i32 : BitVec 32 := 8192#32
  let v29 : BitVec 32 := Scalar.muli arg2 c8192_i32
  let v30 : BitVec 32 := Scalar.addi v29 c0_i32_18
  let v31 : BitVec 32 := v30
  let v51 : Index := Scalar.indexCast v31
  let c0_26 : Index := 0#32
  ![v51.toNat, 0]
def k0_mult2 (i : grid0.Coords) : BitVec 32 :=
  let arg2 : BitVec 32 := BitVec.ofNat 32 (i 2).val
  let c8192_i32_31 : BitVec 32 := 8192#32
  let v62 : BitVec 32 := Scalar.muli arg2 c8192_i32_31
  let c512_i32 : BitVec 32 := 512#32
  let v63 : BitVec 32 := Scalar.addi v62 c512_i32
  v63
def k0_mult3 (i : grid0.Coords) : BitVec 32 :=
  let arg2 : BitVec 32 := BitVec.ofNat 32 (i 2).val
  let c8192_i32_44 : BitVec 32 := 8192#32
  let v95 : BitVec 32 := Scalar.muli arg2 c8192_i32_44
  let c1024_i32 : BitVec 32 := 1024#32
  let v96 : BitVec 32 := Scalar.addi v95 c1024_i32
  v96
def k0_mult4 (i : grid0.Coords) : BitVec 32 :=
  let arg2 : BitVec 32 := BitVec.ofNat 32 (i 2).val
  let c8192_i32_57 : BitVec 32 := 8192#32
  let v128 : BitVec 32 := Scalar.muli arg2 c8192_i32_57
  let c1536_i32 : BitVec 32 := 1536#32
  let v129 : BitVec 32 := Scalar.addi v128 c1536_i32
  v129
def k0_mult5 (i : grid0.Coords) : BitVec 32 :=
  let arg2 : BitVec 32 := BitVec.ofNat 32 (i 2).val
  let c8192_i32_70 : BitVec 32 := 8192#32
  let v161 : BitVec 32 := Scalar.muli arg2 c8192_i32_70
  let c2048_i32 : BitVec 32 := 2048#32
  let v162 : BitVec 32 := Scalar.addi v161 c2048_i32
  v162
def k0_mult6 (i : grid0.Coords) : BitVec 32 :=
  let arg2 : BitVec 32 := BitVec.ofNat 32 (i 2).val
  let c8192_i32_83 : BitVec 32 := 8192#32
  let v194 : BitVec 32 := Scalar.muli arg2 c8192_i32_83
  let c2560_i32 : BitVec 32 := 2560#32
  let v195 : BitVec 32 := Scalar.addi v194 c2560_i32
  v195
def k0_mult7 (i : grid0.Coords) : BitVec 32 :=
  let arg2 : BitVec 32 := BitVec.ofNat 32 (i 2).val
  let c8192_i32_96 : BitVec 32 := 8192#32
  let v227 : BitVec 32 := Scalar.muli arg2 c8192_i32_96
  let c3072_i32 : BitVec 32 := 3072#32
  let v228 : BitVec 32 := Scalar.addi v227 c3072_i32
  v228
def k0_mult8 (i : grid0.Coords) : BitVec 32 :=
  let arg2 : BitVec 32 := BitVec.ofNat 32 (i 2).val
  let c8192_i32_109 : BitVec 32 := 8192#32
  let v260 : BitVec 32 := Scalar.muli arg2 c8192_i32_109
  let c3584_i32 : BitVec 32 := 3584#32
  let v261 : BitVec 32 := Scalar.addi v260 c3584_i32
  v261
def k0_mult9 (i : grid0.Coords) : BitVec 32 :=
  let arg2 : BitVec 32 := BitVec.ofNat 32 (i 2).val
  let c8192_i32_122 : BitVec 32 := 8192#32
  let v293 : BitVec 32 := Scalar.muli arg2 c8192_i32_122
  let c4096_i32 : BitVec 32 := 4096#32
  let v294 : BitVec 32 := Scalar.addi v293 c4096_i32
  v294
def k0_mult10 (i : grid0.Coords) : BitVec 32 :=
  let arg2 : BitVec 32 := BitVec.ofNat 32 (i 2).val
  let c8192_i32_135 : BitVec 32 := 8192#32
  let v326 : BitVec 32 := Scalar.muli arg2 c8192_i32_135
  let c4608_i32 : BitVec 32 := 4608#32
  let v327 : BitVec 32 := Scalar.addi v326 c4608_i32
  v327
def k0_mult11 (i : grid0.Coords) : BitVec 32 :=
  let arg2 : BitVec 32 := BitVec.ofNat 32 (i 2).val
  let c8192_i32_148 : BitVec 32 := 8192#32
  let v359 : BitVec 32 := Scalar.muli arg2 c8192_i32_148
  let c5120_i32 : BitVec 32 := 5120#32
  let v360 : BitVec 32 := Scalar.addi v359 c5120_i32
  v360
def k0_mult12 (i : grid0.Coords) : BitVec 32 :=
  let arg2 : BitVec 32 := BitVec.ofNat 32 (i 2).val
  let c8192_i32_161 : BitVec 32 := 8192#32
  let v392 : BitVec 32 := Scalar.muli arg2 c8192_i32_161
  let c5632_i32 : BitVec 32 := 5632#32
  let v393 : BitVec 32 := Scalar.addi v392 c5632_i32
  v393
def k0_mult13 (i : grid0.Coords) : BitVec 32 :=
  let arg2 : BitVec 32 := BitVec.ofNat 32 (i 2).val
  let c8192_i32_174 : BitVec 32 := 8192#32
  let v425 : BitVec 32 := Scalar.muli arg2 c8192_i32_174
  let c6144_i32 : BitVec 32 := 6144#32
  let v426 : BitVec 32 := Scalar.addi v425 c6144_i32
  v426
def k0_mult14 (i : grid0.Coords) : BitVec 32 :=
  let arg2 : BitVec 32 := BitVec.ofNat 32 (i 2).val
  let c8192_i32_187 : BitVec 32 := 8192#32
  let v458 : BitVec 32 := Scalar.muli arg2 c8192_i32_187
  let c6656_i32 : BitVec 32 := 6656#32
  let v459 : BitVec 32 := Scalar.addi v458 c6656_i32
  v459
def k0_mult15 (i : grid0.Coords) : BitVec 32 :=
  let arg2 : BitVec 32 := BitVec.ofNat 32 (i 2).val
  let c8192_i32_200 : BitVec 32 := 8192#32
  let v491 : BitVec 32 := Scalar.muli arg2 c8192_i32_200
  let c7168_i32 : BitVec 32 := 7168#32
  let v492 : BitVec 32 := Scalar.addi v491 c7168_i32
  v492
def k0_mult16 (i : grid0.Coords) : BitVec 32 :=
  let arg2 : BitVec 32 := BitVec.ofNat 32 (i 2).val
  let c8192_i32_213 : BitVec 32 := 8192#32
  let v524 : BitVec 32 := Scalar.muli arg2 c8192_i32_213
  let c7680_i32 : BitVec 32 := 7680#32
  let v525 : BitVec 32 := Scalar.addi v524 c7680_i32
  v525
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== AttnBwdIdeal.lean ====
variable {F : FTy → Type} [FloatOps F] [Named F]
def κ : String → Option EReal := fun
  | "ln2" => some ((Real.log 2 : ℝ) : EReal)
  | _ => none
-- ==== AttnBwdRefIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩

abbrev nBuf : Space → Nat
  | .hbm => 75
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x128x8192, .f32⟩
  | .hbm, ⟨47, _⟩ => ⟨S8192x8x128, .f32⟩
  | .hbm, ⟨48, _⟩ => ⟨S8192x1024, .f32⟩
  | .hbm, ⟨49, _⟩ => ⟨S8192x8x128, .f32⟩
  | .hbm, ⟨50, _⟩ => ⟨S8x128x8192, .f32⟩
  | .hbm, ⟨51, _⟩ => ⟨S8x8192x8192, .f32⟩
  | .hbm, ⟨52, _⟩ => ⟨S8x128x8192, .f32⟩
  | .hbm, ⟨53, _⟩ => ⟨S8192x8x128, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192x8192, .f32⟩
  | .hbm, ⟨70, _⟩ => ⟨S8x8192x8192, .f32⟩
  | .hbm, ⟨71, _⟩ => ⟨S8x8192x192, .f32⟩
  | .hbm, ⟨72, _⟩ => ⟨S8192x8x192, .f32⟩
  | .hbm, ⟨73, _⟩ => ⟨S8x8192x192, .f32⟩
  | .hbm, ⟨74, _⟩ => ⟨S8192x8x192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== AttnFwd.lean ====
abbrev S8192x8x192 : Shape := ⟨3, ![8192, 8, 192]⟩
abbrev S8192x8x128 : Shape := ⟨3, ![8192, 8, 128]⟩
abbrev S_ : Shape := ⟨0, ![]⟩
abbrev S8192x8x256 : Shape := ⟨3, ![8192, 8, 256]⟩
abbrev S8192x2048 : Shape := ⟨2, ![8192, 2048]⟩
abbrev S8192x1024 : Shape := ⟨2, ![8192, 1024]⟩
abbrev S8x8192x1 : Shape := ⟨3, ![8, 8192, 1]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S1x512x1 : Shape := ⟨3, ![1, 512, 1]⟩
abbrev S512x1 : Shape := ⟨2, ![512, 1]⟩
abbrev S1024x256 : Shape := ⟨2, ![1024, 256]⟩
abbrev S512x1024 : Shape := ⟨2, ![512, 1024]⟩
abbrev S512 : Shape := ⟨1, ![512]⟩
abbrev S1024x128 : Shape := ⟨2, ![1024, 128]⟩

abbrev nBuf : Space → Nat
  | .hbm => 24
  | .vmem => 13
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .i32⟩
  | .hbm, ⟨4, _⟩ => ⟨S_, .f32⟩
  | .hbm, ⟨5, _⟩ => ⟨S8192x8x256, .f32⟩
  | .hbm, ⟨6, _⟩ => ⟨S_, .f32⟩
  | .hbm, ⟨7, _⟩ => ⟨S8192x8x256, .f32⟩
  | .hbm, ⟨8, _⟩ => ⟨S8192x8x256, .f32⟩
  | .hbm, ⟨9, _⟩ => ⟨S_, .f32⟩
  | .hbm, ⟨10, _⟩ => ⟨S_, .f32⟩
  | .hbm, ⟨11, _⟩ => ⟨S8192x8x256, .f32⟩
  | .hbm, ⟨12, _⟩ => ⟨S8192x8x256, .f32⟩
  | .hbm, ⟨13, _⟩ => ⟨S8192x2048, .f32⟩
  | .hbm, ⟨14, _⟩ => ⟨S8192x2048, .bf16⟩
  | .hbm, ⟨15, _⟩ => ⟨S_, .i32⟩
  | .hbm, ⟨16, _⟩ => ⟨S_, .f32⟩
  | .hbm, ⟨17, _⟩ => ⟨S8192x8x256, .f32⟩
  | .hbm, ⟨18, _⟩ => ⟨S8192x2048, .f32⟩
  | .hbm, ⟨19, _⟩ => ⟨S8192x2048, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8x8192x1, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_56 : BitVec 32 := 0#32
  let v130 : BitVec 1 := Scalar.cmpi .eq arg2 c0_i32_56
  let v131 : BitVec 32 := Scalar.extui v130
  let c0_i32_57 : BitVec 32 := 0#32
  let v132 : BitVec 1 := Scalar.cmpi .ne v131 c0_i32_57
  v132

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnFwdIdeal.lean ====
variable {F : FTy → Type} [FloatOps F] [Named F]
def κ : String → Option EReal := fun
  | "rln2" => some (((Real.log 2)⁻¹ : ℝ) : EReal)
  | _ => none
-- ==== AttnFwdRefIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x128x8192, .f32⟩
  | .hbm, ⟨19, _⟩ => ⟨S8192x8x128, .f32⟩
  | .hbm, ⟨20, _⟩ => ⟨S8192x1024, .f32⟩
  | .hbm, ⟨21, _⟩ => ⟨S8192x1024, .bf16⟩
  | .hbm, ⟨22, _⟩ => ⟨S8x8192x1, .f32⟩
  | .hbm, ⟨23, _⟩ => ⟨S8x8192x1, .f32⟩
  | .hbm, ⟨24, _⟩ => ⟨S_, .f32⟩
  | .hbm, ⟨25, _⟩ => ⟨S_, .f32⟩
  | .hbm, ⟨26, _⟩ => ⟨S8x8192x1, .f32⟩
  | .hbm, ⟨27, _⟩ => ⟨S8x8192x1, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Du.lean ====
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S8192x2048, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dw.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== AdaBwd.lean ====
abbrev S8x2048 : Shape := ⟨2, ![8, 2048]⟩
abbrev S2048x1536 : Shape := ⟨2, ![2048, 1536]⟩
abbrev S8x1536 : Shape := ⟨2, ![8, 1536]⟩
abbrev S8x512 : Shape := ⟨2, ![8, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x1536, .f32⟩
  | .hbm, ⟨3, _⟩ => ⟨S2048x1536, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S8x2048 : Shape := ⟨2, ![8, 2048]⟩
abbrev S2048x1536 : Shape := ⟨2, ![2048, 1536]⟩
abbrev S8x1536 : Shape := ⟨2, ![8, 1536]⟩
abbrev S_ : Shape := ⟨0, ![]⟩
abbrev S1536x2048 : Shape := ⟨2, ![1536, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S1536x2048, .f32⟩
  | .hbm, ⟨14, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== ResidBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ResidBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== MixBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== PostBwd.lean ====
abbrev S2x8192x1024 : Shape := ⟨3, ![2, 8192, 1024]⟩
abbrev S8192x5120 : Shape := ⟨2, ![8192, 5120]⟩
abbrev S4x256 : Shape := ⟨2, ![4, 256]⟩
abbrev S8192x2048 : Shape := ⟨2, ![8192, 2048]⟩
abbrev S1x1024 : Shape := ⟨2, ![1, 1024]⟩
abbrev S8192x1024 : Shape := ⟨2, ![8192, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x768 : Shape := ⟨2, ![1, 768]⟩
abbrev S256x768 : Shape := ⟨2, ![256, 768]⟩
abbrev S1x512 : Shape := ⟨2, ![1, 512]⟩
abbrev S256x512 : Shape := ⟨2, ![256, 512]⟩

abbrev nBuf : Space → Nat
  | .hbm => 8
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S4x256, .f32⟩
  | .hbm, ⟨3, _⟩ => ⟨S8192x2048, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostBwdRefIdeal.lean ====
abbrev S2x8192x1024 : Shape := ⟨3, ![2, 8192, 1024]⟩
abbrev S8192x5120 : Shape := ⟨2, ![8192, 5120]⟩
abbrev S4x256 : Shape := ⟨2, ![4, 256]⟩
abbrev S8192x2048 : Shape := ⟨2, ![8192, 2048]⟩
abbrev S1x8192x1024 : Shape := ⟨3, ![1, 8192, 1024]⟩
abbrev S8192x1024 : Shape := ⟨2, ![8192, 1024]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S4x256, .f32⟩
  | .hbm, ⟨3, _⟩ => ⟨S8192x2048, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S1x8192x1024, .f32⟩
  | .hbm, ⟨8, _⟩ => ⟨S8192x1024, .f32⟩
  | .hbm, ⟨9, _⟩ => ⟨S8192x1024, .f32⟩
  | .hbm, ⟨10, _⟩ => ⟨S8192x4x256, .f32⟩
  | .hbm, ⟨11, _⟩ => ⟨S8192x4x256, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x256, .f32⟩
  | .hbm, ⟨27, _⟩ => ⟨S8192x4x256, .f32⟩
  | .hbm, ⟨28, _⟩ => ⟨S1x4x256, .f32⟩
  | .hbm, ⟨29, _⟩ => ⟨S8192x4x256, .f32⟩
  | .hbm, ⟨30, _⟩ => ⟨S8192x4x256, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x4x256, .f32⟩
  | .hbm, ⟨44, _⟩ => ⟨S8192x4x256, .f32⟩
  | .hbm, ⟨45, _⟩ => ⟨S8192x1024, .f32⟩
  | .hbm, ⟨46, _⟩ => ⟨S8192x1024, .f32⟩
  | .hbm, ⟨47, _⟩ => ⟨S8192x4x256, .f32⟩
  | .hbm, ⟨48, _⟩ => ⟨S8192x4x256, .f32⟩
  | .hbm, ⟨49, _⟩ => ⟨S8192x4x256, .f32⟩
  | .hbm, ⟨50, _⟩ => ⟨S8192x1024, .f32⟩
  | .hbm, ⟨51, _⟩ => ⟨S8192x1024, .f32⟩
  | .hbm, ⟨52, _⟩ => ⟨S8192x4x256, .f32⟩
  | .hbm, ⟨53, _⟩ => ⟨S_, .f32⟩
  | .hbm, ⟨54, _⟩ => ⟨S4x256, .f32⟩
  | .hbm, ⟨55, _⟩ => ⟨S1x4x256, .f32⟩
  | .hbm, ⟨56, _⟩ => ⟨S8192x4x256, .f32⟩
  | .hbm, ⟨57, _⟩ => ⟨S8192x4x256, .f32⟩
  | .hbm, ⟨58, _⟩ => ⟨S_, .f32⟩
  | .hbm, ⟨59, _⟩ => ⟨S4x256, .f32⟩
  | .hbm, ⟨60, _⟩ => ⟨S8192x4x256, .f32⟩
  | .hbm, ⟨61, _⟩ => ⟨S_, .f32⟩
  | .hbm, ⟨62, _⟩ => ⟨S8192x4, .f32⟩
  | .hbm, ⟨63, _⟩ => ⟨S8192x4x1, .f32⟩
  | .hbm, ⟨64, _⟩ => ⟨S8192x4x256, .f32⟩
  | .hbm, ⟨65, _⟩ => ⟨S8192x4x256, .f32⟩
  | .hbm, ⟨66, _⟩ => ⟨S8192x4x1, .f32⟩
  | .hbm, ⟨67, _⟩ => ⟨S_, .f32⟩
  | .hbm, ⟨68, _⟩ => ⟨S8192x4x1, .f32⟩
  | .hbm, ⟨69, _⟩ => ⟨S8192x4x1, .f32⟩
  | .hbm, ⟨70, _⟩ => ⟨S_, .f32⟩
  | .hbm, ⟨71, _⟩ => ⟨S8192x4, .f32⟩
  | .hbm, ⟨72, _⟩ => ⟨S8192x4x256, .f32⟩
  | .hbm, ⟨73, _⟩ => ⟨S8192x4x256, .f32⟩
  | .hbm, ⟨74, _⟩ => ⟨S8192x4x256, .f32⟩
  | .hbm, ⟨75, _⟩ => ⟨S8192x4x256, .f32⟩
  | .hbm, ⟨76, _⟩ => ⟨S8192x4x256, .f32⟩
  | .hbm, ⟨77, _⟩ => ⟨S8192x1024, .f32⟩
  | .hbm, ⟨78, _⟩ => ⟨S1x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== ConvBwd.lean ====
abbrev S2x8192x1024 : Shape := ⟨3, ![2, 8192, 1024]⟩
abbrev S8192x5120 : Shape := ⟨2, ![8192, 5120]⟩
abbrev S5x2048 : Shape := ⟨2, ![5, 2048]⟩
abbrev S1x2048 : Shape := ⟨2, ![1, 2048]⟩
abbrev S_ : Shape := ⟨0, ![]⟩
abbrev S8x2048 : Shape := ⟨2, ![8, 2048]⟩
abbrev S8192x2048 : Shape := ⟨2, ![8192, 2048]⟩
abbrev S8192x1024 : Shape := ⟨2, ![8192, 1024]⟩
abbrev S1x8x1024 : Shape := ⟨3, ![1, 8, 1024]⟩
abbrev S1x256x1024 : Shape := ⟨3, ![1, 256, 1024]⟩
abbrev S256x2048 : Shape := ⟨2, ![256, 2048]⟩
abbrev S256x1024 : Shape := ⟨2, ![256, 1024]⟩
abbrev S8x1024 : Shape := ⟨2, ![8, 1024]⟩
abbrev S248x2048 : Shape := ⟨2, ![248, 2048]⟩
abbrev S2048 : Shape := ⟨1, ![2048]⟩

abbrev nBuf : Space → Nat
  | .hbm => 14
  | .vmem => 41
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S8192x5120, .f32⟩
  | .hbm, ⟨4, _⟩ => ⟨S5x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S8x2048, .f32⟩
  | .hbm, ⟨9, _⟩ => ⟨S8192x2048, .f32⟩
  | .hbm, ⟨10, _⟩ => ⟨S8x2048, .f32⟩
  | .hbm, ⟨11, _⟩ => ⟨S1x2048, .f32⟩
  | .hbm, ⟨12, _⟩ => ⟨S8192x1024, .bf16⟩
  | .hbm, ⟨13, _⟩ => ⟨S5x2048, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S8x2048, .f32⟩
  | .local _ .vmem, ⟨29, _⟩ => ⟨S8x2048, .f32⟩
  | .local _ .vmem, ⟨30, _⟩ => ⟨S256x2048, .f32⟩
  | .local _ .vmem, ⟨31, _⟩ => ⟨S256x2048, .f32⟩
  | .local _ .vmem, ⟨32, _⟩ => ⟨S8x2048, .f32⟩
  | .local _ .vmem, ⟨33, _⟩ => ⟨S8x2048, .f32⟩
  | .local _ .vmem, ⟨34, _⟩ => ⟨S8x2048, .f32⟩
  | .local _ .vmem, ⟨35, _⟩ => ⟨S256x2048, .f32⟩
  | .local _ .vmem, ⟨36, _⟩ => ⟨S256x2048, .f32⟩
  | .local _ .vmem, ⟨37, _⟩ => ⟨S8x2048, .f32⟩
  | .local _ .vmem, ⟨38, _⟩ => ⟨S1x2048, .f32⟩
  | .local _ .vmem, ⟨39, _⟩ => ⟨S256x1024, .bf16⟩
  | .local _ .vmem, ⟨40, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem18_1 : DmaSem sig := 36
abbrev cc0_sem19_0 : DmaSem sig := 37
abbrev cc0_sem20_0 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  let c0_i32_1 : BitVec 32 := 0#32
  ![c1_i32_0.toNat, v2.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  let c0_i32_1 : BitVec 32 := 0#32
  ![c1_i32_0.toNat, v2.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_14 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ConvBwdRefIdeal.lean ====
abbrev S2x8192x1024 : Shape := ⟨3, ![2, 8192, 1024]⟩
abbrev S8192x5120 : Shape := ⟨2, ![8192, 5120]⟩
abbrev S5x2048 : Shape := ⟨2, ![5, 2048]⟩
abbrev S1x2048 : Shape := ⟨2, ![1, 2048]⟩
abbrev S8192x2048 : Shape := ⟨2, ![8192, 2048]⟩
abbrev S8192x1024 : Shape := ⟨2, ![8192, 1024]⟩
abbrev S_ : Shape := ⟨0, ![]⟩
abbrev S2x2048 : Shape := ⟨2, ![2, 2048]⟩
abbrev S8196x2048 : Shape := ⟨2, ![8196, 2048]⟩
abbrev S2048 : Shape := ⟨1, ![2048]⟩

abbrev nBuf : Space → Nat
  | .hbm => 122
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S8192x5120, .f32⟩
  | .hbm, ⟨4, _⟩ => ⟨S5x2048, .f32⟩
  | .hbm, ⟨5, _⟩ => ⟨S1x2048, .f32⟩
  | .hbm, ⟨6, _⟩ => ⟨S8192x2048, .f32⟩
  | .hbm, ⟨7, _⟩ => ⟨S8192x1024, .f32⟩
  | .hbm, ⟨8, _⟩ => ⟨S_, .f32⟩
  | .hbm, ⟨9, _⟩ => ⟨S2x2048, .f32⟩
  | .hbm, ⟨10, _⟩ => ⟨S8196x2048, .f32⟩
  | .hbm, ⟨11, _⟩ => ⟨S_, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1024, .f32⟩
  | .hbm, ⟨42, _⟩ => ⟨S8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S_, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S5x2048, .f32⟩
  | .hbm, ⟨65, _⟩ => ⟨S_, .f32⟩
  | .hbm, ⟨66, _⟩ => ⟨S8196x2048, .f32⟩
  | .hbm, ⟨67, _⟩ => ⟨S8192x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S5x2048, .f32⟩
  | .hbm, ⟨75, _⟩ => ⟨S5x2048, .f32⟩
  | .hbm, ⟨76, _⟩ => ⟨S_, .f32⟩
  | .hbm, ⟨77, _⟩ => ⟨S8196x2048, .f32⟩
  | .hbm, ⟨78, _⟩ => ⟨S8196x2048, .f32⟩
  | .hbm, ⟨79, _⟩ => ⟨S8192x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S5x2048, .f32⟩
  | .hbm, ⟨87, _⟩ => ⟨S5x2048, .f32⟩
  | .hbm, ⟨88, _⟩ => ⟨S_, .f32⟩
  | .hbm, ⟨89, _⟩ => ⟨S8196x2048, .f32⟩
  | .hbm, ⟨90, _⟩ => ⟨S8196x2048, .f32⟩
  | .hbm, ⟨91, _⟩ => ⟨S8192x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S5x2048, .f32⟩
  | .hbm, ⟨99, _⟩ => ⟨S5x2048, .f32⟩
  | .hbm, ⟨100, _⟩ => ⟨S_, .f32⟩
  | .hbm, ⟨101, _⟩ => ⟨S8196x2048, .f32⟩
  | .hbm, ⟨102, _⟩ => ⟨S8196x2048, .f32⟩
  | .hbm, ⟨103, _⟩ => ⟨S_, .f32⟩
  | .hbm, ⟨104, _⟩ => ⟨S2048, .f32⟩
  | .hbm, ⟨105, _⟩ => ⟨S1x2048, .f32⟩
  | .hbm, ⟨106, _⟩ => ⟨S8192x2048, .f32⟩
  | .hbm, ⟨107, _⟩ => ⟨S_, .f32⟩
  | .hbm, ⟨108, _⟩ => ⟨S2048, .f32⟩
  | .hbm, ⟨109, _⟩ => ⟨S1x2048, .f32⟩
  | .hbm, ⟨110, _⟩ => ⟨S8192x2048, .f32⟩
  | .hbm, ⟨111, _⟩ => ⟨S8192x2048, .f32⟩
  | .hbm, ⟨112, _⟩ => ⟨S_, .f32⟩
  | .hbm, ⟨113, _⟩ => ⟨S5x2048, .f32⟩
  | .hbm, ⟨114, _⟩ => ⟨S5x2048, .f32⟩
  | .hbm, ⟨115, _⟩ => ⟨S_, .f32⟩
  | .hbm, ⟨116, _⟩ => ⟨S8196x2048, .f32⟩
  | .hbm, ⟨117, _⟩ => ⟨S8196x2048, .f32⟩
  | .hbm, ⟨118, _⟩ => ⟨S2x2048, .f32⟩
  | .hbm, ⟨119, _⟩ => ⟨S8192x2048, .f32⟩
  | .hbm, ⟨120, _⟩ => ⟨S2x2048, .f32⟩
  | .hbm, ⟨121, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_cst_18 : Ref sig .tc := ⟨.hbm, 100, rfl⟩
abbrev main_v75 : Ref sig .tc := ⟨.hbm, 101, rfl⟩
abbrev main_v76 : Ref sig .tc := ⟨.hbm, 102, rfl⟩
abbrev main_cst_19 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_21 : Ref sig .tc := ⟨.hbm, 112, rfl⟩
abbrev main_v84 : Ref sig .tc := ⟨.hbm, 113, rfl⟩
abbrev main_v85 : Ref sig .tc := ⟨.hbm, 114, rfl⟩
abbrev main_cst_22 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== ResidFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MixFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PostFwd.lean ====
abbrev S2x8192x1024 : Shape := ⟨3, ![2, 8192, 1024]⟩
abbrev S8192x5120 : Shape := ⟨2, ![8192, 5120]⟩
abbrev S4x256 : Shape := ⟨2, ![4, 256]⟩
abbrev S1x1024 : Shape := ⟨2, ![1, 1024]⟩
abbrev S8192x1024 : Shape := ⟨2, ![8192, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S4x256, .f32⟩
  | .hbm, ⟨3, _⟩ => ⟨S1x1024, .f32⟩
  | .hbm, ⟨4, _⟩ => ⟨S8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostFwdRefIdeal.lean ====
abbrev S2x8192x1024 : Shape := ⟨3, ![2, 8192, 1024]⟩
abbrev S8192x5120 : Shape := ⟨2, ![8192, 5120]⟩
abbrev S4x256 : Shape := ⟨2, ![4, 256]⟩
abbrev S1x8192x1024 : Shape := ⟨3, ![1, 8192, 1024]⟩
abbrev S8192x1024 : Shape := ⟨2, ![8192, 1024]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x5120, .f32⟩
  | .hbm, ⟨2, _⟩ => ⟨S4x256, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S8192x4x256, .f32⟩
  | .hbm, ⟨9, _⟩ => ⟨S8192x4x256, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x256, .f32⟩
  | .hbm, ⟨21, _⟩ => ⟨S8192x4x256, .f32⟩
  | .hbm, ⟨22, _⟩ => ⟨S1x4x256, .f32⟩
  | .hbm, ⟨23, _⟩ => ⟨S8192x4x256, .f32⟩
  | .hbm, ⟨24, _⟩ => ⟨S8192x4x256, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x4x256, .f32⟩
  | .hbm, ⟨35, _⟩ => ⟨S8192x4x256, .f32⟩
  | .hbm, ⟨36, _⟩ => ⟨S8192x1024, .f32⟩
  | .hbm, ⟨37, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== AdaFwd.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== ConvFwd.lean ====
abbrev S8192x5120 : Shape := ⟨2, ![8192, 5120]⟩
abbrev S5x2048 : Shape := ⟨2, ![5, 2048]⟩
abbrev S1x2048 : Shape := ⟨2, ![1, 2048]⟩
abbrev S_ : Shape := ⟨0, ![]⟩
abbrev S8x2048 : Shape := ⟨2, ![8, 2048]⟩
abbrev S8192x2048 : Shape := ⟨2, ![8192, 2048]⟩
abbrev S256x2048 : Shape := ⟨2, ![256, 2048]⟩
abbrev S248x2048 : Shape := ⟨2, ![248, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x5120, .f32⟩
  | .hbm, ⟨1, _⟩ => ⟨S5x2048, .f32⟩
  | .hbm, ⟨2, _⟩ => ⟨S1x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8192x2048, .f32⟩
  | .local _ .vmem, ⟨0, _⟩ => ⟨S8x2048, .f32⟩
  | .local _ .vmem, ⟨1, _⟩ => ⟨S8x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S8192x5120 : Shape := ⟨2, ![8192, 5120]⟩
abbrev S5x2048 : Shape := ⟨2, ![5, 2048]⟩
abbrev S1x2048 : Shape := ⟨2, ![1, 2048]⟩
abbrev S_ : Shape := ⟨0, ![]⟩
abbrev S2x2048 : Shape := ⟨2, ![2, 2048]⟩
abbrev S8192x2048 : Shape := ⟨2, ![8192, 2048]⟩
abbrev S8196x2048 : Shape := ⟨2, ![8196, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S5x2048, .f32⟩
  | .hbm, ⟨2, _⟩ => ⟨S1x2048, .f32⟩
  | .hbm, ⟨3, _⟩ => ⟨S_, .f32⟩
  | .hbm, ⟨4, _⟩ => ⟨S2x2048, .f32⟩
  | .hbm, ⟨5, _⟩ => ⟨S8192x2048, .f32⟩
  | .hbm, ⟨6, _⟩ => ⟨S8196x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Dh2.lean ====
abbrev S8192x2048 : Shape := ⟨2, ![8192, 2048]⟩
abbrev S2048x8192 : Shape := ⟨2, ![2048, 8192]⟩
abbrev S8192x8192 : Shape := ⟨2, ![8192, 8192]⟩
abbrev S2048x8x1024 : Shape := ⟨3, ![2048, 8, 1024]⟩
abbrev S8x2048x1024 : Shape := ⟨3, ![8, 2048, 1024]⟩
abbrev S8x1024x2048 : Shape := ⟨3, ![8, 1024, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8x1024x2048, .bf16⟩
  | .hbm, ⟨7, _⟩ => ⟨S8192x2048, .bf16⟩
  | .hbm, ⟨8, _⟩ => ⟨S8192x8192, .bf16⟩
  | .hbm, ⟨9, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Adam.lean ====
abbrev S1024x2048 : Shape := ⟨2, ![1024, 2048]⟩
abbrev S256x2048 : Shape := ⟨2, ![256, 2048]⟩

abbrev nBuf : Space → Nat
  | .hbm => 12
  | .vmem => 24
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdamRefIdeal.lean ====
abbrev S1024x2048 : Shape := ⟨2, ![1024, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== ChipSum.lean ====
abbrev S8x1024x2048 : Shape := ⟨3, ![8, 1024, 2048]⟩
abbrev S4x1024x2048 : Shape := ⟨3, ![4, 1024, 2048]⟩
abbrev S3 : Shape := ⟨1, ![3]⟩
abbrev S3x1024x2048 : Shape := ⟨3, ![3, 1024, 2048]⟩
abbrev S1x512x2048 : Shape := ⟨3, ![1, 512, 2048]⟩
abbrev S1 : Shape := ⟨1, ![1]⟩
abbrev S512x2048 : Shape := ⟨2, ![512, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x1024x2048, .bf16⟩
  | .hbm, ⟨1, _⟩ => ⟨S4x1024x2048, .bf16⟩
  | .hbm, ⟨2, _⟩ => ⟨S3x1024x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .smem, ⟨0, _⟩ => ⟨S3, .i32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipSumRefIdeal.lean ====
abbrev S8x1024x2048 : Shape := ⟨3, ![8, 1024, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S3x1024x2048 : Shape := ⟨3, ![3, 1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S4x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S1024x2048, .f32⟩
  | .hbm, ⟨9, _⟩ => ⟨S1024x2048, .bf16⟩
  | .hbm, ⟨10, _⟩ => ⟨S1x1024x2048, .bf16⟩
  | .hbm, ⟨11, _⟩ => ⟨S1024x2048, .bf16⟩
  | .hbm, ⟨12, _⟩ => ⟨S1024x2048, .f32⟩
  | .hbm, ⟨13, _⟩ => ⟨S1x1024x2048, .bf16⟩
  | .hbm, ⟨14, _⟩ => ⟨S1024x2048, .bf16⟩
  | .hbm, ⟨15, _⟩ => ⟨S1024x2048, .f32⟩
  | .hbm, ⟨16, _⟩ => ⟨S1024x2048, .f32⟩
  | .hbm, ⟨17, _⟩ => ⟨S1024x2048, .bf16⟩
  | .hbm, ⟨18, _⟩ => ⟨S1x1024x2048, .bf16⟩
  | .hbm, ⟨19, _⟩ => ⟨S1024x2048, .bf16⟩
  | .hbm, ⟨20, _⟩ => ⟨S1024x2048, .f32⟩
  | .hbm, ⟨21, _⟩ => ⟨S1x1024x2048, .bf16⟩
  | .hbm, ⟨22, _⟩ => ⟨S1024x2048, .bf16⟩
  | .hbm, ⟨23, _⟩ => ⟨S1024x2048, .f32⟩
  | .hbm, ⟨24, _⟩ => ⟨S1024x2048, .f32⟩
  | .hbm, ⟨25, _⟩ => ⟨S1024x2048, .bf16⟩
  | .hbm, ⟨26, _⟩ => ⟨S1x1024x2048, .bf16⟩
  | .hbm, ⟨27, _⟩ => ⟨S1x1024x2048, .bf16⟩
  | .hbm, ⟨28, _⟩ => ⟨S1x1024x2048, .bf16⟩
  | .hbm, ⟨29, _⟩ => ⟨S3x1024x2048, .bf16⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩

abbrev nD : Nat := 1
abbrev τ : Topo := Topo.v7x

variable {F : FTy → Type} [FloatOps F]
-- ==== PrepFwd.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S1x512 : Shape := ⟨2, ![1, 512]⟩
abbrev S1x256 : Shape := ⟨2, ![1, 256]⟩
abbrev S1x192 : Shape := ⟨2, ![1, 192]⟩
abbrev S512x1536 : Shape := ⟨2, ![512, 1536]⟩
abbrev S256x2048 : Shape := ⟨2, ![256, 2048]⟩
abbrev S_ : Shape := ⟨0, ![]⟩
abbrev S8192x128 : Shape := ⟨2, ![8192, 128]⟩
abbrev S8192x896 : Shape := ⟨2, ![8192, 896]⟩
abbrev S8192x5120 : Shape := ⟨2, ![8192, 5120]⟩
abbrev S8192x1 : Shape := ⟨2, ![8192, 1]⟩
abbrev S32 : Shape := ⟨1, ![32]⟩
abbrev S64 : Shape := ⟨1, ![64]⟩
abbrev S1x64 : Shape := ⟨2, ![1, 64]⟩
abbrev S1x128 : Shape := ⟨2, ![1, 128]⟩
abbrev S512x8x192 : Shape := ⟨3, ![512, 8, 192]⟩
abbrev S512x8x256 : Shape := ⟨3, ![512, 8, 256]⟩
abbrev S512x2048 : Shape := ⟨2, ![512, 2048]⟩
abbrev S256x8x2x128 : Shape := ⟨4, ![256, 8, 2, 128]⟩
abbrev S256x2x8x128 : Shape := ⟨4, ![256, 2, 8, 128]⟩
abbrev S8192x2048 : Shape := ⟨2, ![8192, 2048]⟩
abbrev S8192x1024 : Shape := ⟨2, ![8192, 1024]⟩
abbrev S256x512 : Shape := ⟨2, ![256, 512]⟩
abbrev S256x256 : Shape := ⟨2, ![256, 256]⟩
abbrev S256x128 : Shape := ⟨2, ![256, 128]⟩
abbrev S256x1 : Shape := ⟨2, ![256, 1]⟩
abbrev S256x1024 : Shape := ⟨2, ![256, 1024]⟩
abbrev S128x128 : Shape := ⟨2, ![128, 128]⟩
abbrev S256 : Shape := ⟨1, ![256]⟩

abbrev nBuf : Space → Nat
  | .hbm => 51
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x64, .f32⟩
  | .hbm, ⟨3, _⟩ => ⟨S8192, .i32⟩
  | .hbm, ⟨4, _⟩ => ⟨S1x512, .f32⟩
  | .hbm, ⟨5, _⟩ => ⟨S1x256, .f32⟩
  | .hbm, ⟨6, _⟩ => ⟨S1x192, .f32⟩
  | .hbm, ⟨7, _⟩ => ⟨S1x192, .f32⟩
  | .hbm, ⟨8, _⟩ => ⟨S512x1536, .f32⟩
  | .hbm, ⟨9, _⟩ => ⟨S256x2048, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x896, .f32⟩
  | .hbm, ⟨14, _⟩ => ⟨S_, .i32⟩
  | .hbm, ⟨15, _⟩ => ⟨S_, .f32⟩
  | .hbm, ⟨16, _⟩ => ⟨S8192x5120, .f32⟩
  | .hbm, ⟨17, _⟩ => ⟨S8192, .f32⟩
  | .hbm, ⟨18, _⟩ => ⟨S8192x1, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S64, .f32⟩
  | .hbm, ⟨28, _⟩ => ⟨S1x64, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S512x1536, .bf16⟩
  | .hbm, ⟨33, _⟩ => ⟨S512x8x192, .bf16⟩
  | .hbm, ⟨34, _⟩ => ⟨S_, .i32⟩
  | .hbm, ⟨35, _⟩ => ⟨S_, .bf16⟩
  | .hbm, ⟨36, _⟩ => ⟨S512x8x256, .bf16⟩
  | .hbm, ⟨37, _⟩ => ⟨S512x2048, .bf16⟩
  | .hbm, ⟨38, _⟩ => ⟨S256x2048, .bf16⟩
  | .hbm, ⟨39, _⟩ => ⟨S256x8x2x128, .bf16⟩
  | .hbm, ⟨40, _⟩ => ⟨S256x2x8x128, .bf16⟩
  | .hbm, ⟨41, _⟩ => ⟨S256x2048, .bf16⟩
  | .hbm, ⟨42, _⟩ => ⟨S_, .i32⟩
  | .hbm, ⟨43, _⟩ => ⟨S_, .f32⟩
  | .hbm, ⟨44, _⟩ => ⟨S1x256, .f32⟩
  | .hbm, ⟨45, _⟩ => ⟨S_, .i32⟩
  | .hbm, ⟨46, _⟩ => ⟨S_, .f32⟩
  | .hbm, ⟨47, _⟩ => ⟨S1x256, .f32⟩
  | .hbm, ⟨48, _⟩ => ⟨S8192x2048, .bf16⟩
  | .hbm, ⟨49, _⟩ => ⟨S8192x2048, .bf16⟩
  | .hbm, ⟨50, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S256x1, .f32⟩
  | .local _ .vmem, ⟨7, _⟩ => ⟨S256x1, .f32⟩
  | .local _ .vmem, ⟨8, _⟩ => ⟨S1x512, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x2048, .bf16⟩
  | .local _ .vmem, ⟨13, _⟩ => ⟨S256x2048, .bf16⟩
  | .local _ .vmem, ⟨14, _⟩ => ⟨S1x128, .f32⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x1024, .bf16⟩
  | .local _ .vmem, ⟨20, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_call2_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call3_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_call4_v0 : Ref sig .tc := ⟨.hbm, 43, rfl⟩
abbrev main_v22 : Ref sig .tc := ⟨.hbm, 44, rfl⟩
abbrev main_c_5 : Ref sig .tc := ⟨.hbm, 45, rfl⟩
abbrev main_call5_v0 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepFwdIdeal.lean ====
variable {F : FTy → Type} [FloatOps F] [Named F]
def κ : String → Option EReal := fun
  | "qs" => some (((Real.sqrt 192)⁻¹ * (Real.log 2)⁻¹ : ℝ) : EReal)
  | "r192" => some ((192⁻¹ : ℝ) : EReal)
  | _ => none
-- ==== PrepFwdRefIdeal.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S1x512 : Shape := ⟨2, ![1, 512]⟩
abbrev S1x256 : Shape := ⟨2, ![1, 256]⟩
abbrev S1x192 : Shape := ⟨2, ![1, 192]⟩
abbrev S512x1536 : Shape := ⟨2, ![512, 1536]⟩
abbrev S256x2048 : Shape := ⟨2, ![256, 2048]⟩
abbrev S_ : Shape := ⟨0, ![]⟩
abbrev S8192x1 : Shape := ⟨2, ![8192, 1]⟩
abbrev S8192x1536 : Shape := ⟨2, ![8192, 1536]⟩
abbrev S8192x8x192 : Shape := ⟨3, ![8192, 8, 192]⟩
abbrev S8192x2048 : Shape := ⟨2, ![8192, 2048]⟩
abbrev S8192x8x256 : Shape := ⟨3, ![8192, 8, 256]⟩
abbrev S8192x8x128 : Shape := ⟨3, ![8192, 8, 128]⟩
abbrev S8192x1x64 : Shape := ⟨3, ![8192, 1, 64]⟩
abbrev S8192x8x64 : Shape := ⟨3, ![8192, 8, 64]⟩
abbrev S8192x8 : Shape := ⟨2, ![8192, 8]⟩
abbrev S8192x8x1 : Shape := ⟨3, ![8192, 8, 1]⟩
abbrev S1x1x192 : Shape := ⟨3, ![1, 1, 192]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x1024 : Shape := ⟨2, ![8192, 1024]⟩

abbrev nBuf : Space → Nat
  | .hbm => 169
  | .vmem => 0
  | .smem => 0
  | _ => 0

abbrev hbmTy0_0 (i : Nat) : BufTy := match i % 128 with
  | 0 => ⟨S8192x512, .f32⟩
  | 1 => ⟨S8192x256, .f32⟩
  | 2 => ⟨S8192x64, .f32⟩
  | 3 => ⟨S8192, .i32⟩
  | 4 => ⟨S1x512, .f32⟩
  | 5 => ⟨S1x256, .f32⟩
  | 6 => ⟨S1x192, .f32⟩
  | 7 => ⟨S1x192, .f32⟩
  | 8 => ⟨S512x1536, .f32⟩
  | 9 => ⟨S256x2048, .f32⟩
  | 10 => ⟨S8192x512, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x512, .f32⟩
  | 22 => ⟨S8192x512, .f32⟩
  | 23 => ⟨S8192x512, .f32⟩
  | 24 => ⟨S8192x512, .f32⟩
  | 25 => ⟨S8192x1536, .f32⟩
  | 26 => ⟨S8192x8x192, .f32⟩
  | 27 => ⟨S8192x256, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x256, .f32⟩
  | 39 => ⟨S8192x256, .f32⟩
  | 40 => ⟨S8192x256, .f32⟩
  | 41 => ⟨S8192x256, .f32⟩
  | 42 => ⟨S8192x2048, .f32⟩
  | 43 => ⟨S8192x8x256, .f32⟩
  | 44 => ⟨S8192x8x128, .f32⟩
  | 45 => ⟨S8192x8x128, .f32⟩
  | 46 => ⟨S8192x1x64, .f32⟩
  | 47 => ⟨S8192x8x64, .f32⟩
  | 48 => ⟨S8192x8x192, .f32⟩
  | 49 => ⟨S8192x8x192, .f32⟩
  | 50 => ⟨S_, .f32⟩
  | 51 => ⟨S8192x8, .f32⟩
  | 52 => ⟨S8192x8x1, .f32⟩
  | 53 => ⟨S_, .f32⟩
  | 54 => ⟨S8192x8x1, .f32⟩
  | 55 => ⟨S8192x8x1, .f32⟩
  | 56 => ⟨S_, .f32⟩
  | 57 => ⟨S8192x8x1, .f32⟩
  | 58 => ⟨S8192x8x1, .f32⟩
  | 59 => ⟨S8192x8x1, .f32⟩
  | 60 => ⟨S8192x8x192, .f32⟩
  | 61 => ⟨S8192x8x192, .f32⟩
  | 62 => ⟨S1x1x192, .f32⟩
  | 63 => ⟨S8192x8x192, .f32⟩
  | 64 => ⟨S8192x8x192, .f32⟩
  | 65 => ⟨S8192x8x192, .f32⟩
  | 66 => ⟨S_, .f32⟩
  | 67 => ⟨S8192x8, .f32⟩
  | 68 => ⟨S8192x8x1, .f32⟩
  | 69 => ⟨S_, .f32⟩
  | 70 => ⟨S8192x8x1, .f32⟩
  | 71 => ⟨S8192x8x1, .f32⟩
  | 72 => ⟨S_, .f32⟩
  | 73 => ⟨S8192x8x1, .f32⟩
  | 74 => ⟨S8192x8x1, .f32⟩
  | 75 => ⟨S8192x8x1, .f32⟩
  | 76 => ⟨S8192x8x192, .f32⟩
  | 77 => ⟨S8192x8x192, .f32⟩
  | 78 => ⟨S1x1x192, .f32⟩
  | 79 => ⟨S8192x8x192, .f32⟩
  | 80 => ⟨S8192x8x192, .f32⟩
  | 81 => ⟨S8192x8x128, .f32⟩
  | 82 => ⟨S8192x8x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8192, .f32⟩
  | 92 => ⟨S8192x1, .f32⟩
  | 93 => ⟨S1x32, .f32⟩
  | 94 => ⟨S8192x32, .f32⟩
  | 95 => ⟨S8192x32, .f32⟩
  | 96 => ⟨S8192x32, .f32⟩
  | 97 => ⟨S8192x32, .f32⟩
  | 98 => ⟨S8192x1x32, .f32⟩
  | 99 => ⟨S8192x32, .f32⟩
  | 100 => ⟨S8192x1x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x32, .f32⟩
  | 113 => ⟨S8192x8x64, .f32⟩
  | 114 => ⟨S8192x8x192, .f32⟩
  | 115 => ⟨S8192x8x128, .f32⟩
  | 116 => ⟨S8192x8x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S8192, .f32⟩
  | 126 => ⟨S8192x1, .f32⟩
  | 127 => ⟨S1x32, .f32⟩
  | _ => ⟨S8192x512, .f32⟩

abbrev hbmTy0_1 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S8192x1x32, .f32⟩
  | 5 => ⟨S8192x32, .f32⟩
  | 6 => ⟨S8192x1x32, .f32⟩
  | 7 => ⟨S8192x8x32, .f32⟩
  | 8 => ⟨S8192x8x32, .f32⟩
  | 9 => ⟨S8192x8x32, .f32⟩
  | 10 => ⟨S8192x8x32, .f32⟩
  | 11 => ⟨S8192x8x32, .f32⟩
  | 12 => ⟨S8192x8x32, .f32⟩
  | 13 => ⟨S8192x8x32, .f32⟩
  | 14 => ⟨S8192x8x32, .f32⟩
  | 15 => ⟨S8192x8x32, .f32⟩
  | 16 => ⟨S8192x8x32, .f32⟩
  | 17 => ⟨S8192x8x32, .f32⟩
  | 18 => ⟨S8192x8x32, .f32⟩
  | 19 => ⟨S8192x8x64, .f32⟩
  | 20 => ⟨S8192x8x192, .f32⟩
  | 21 => ⟨S_, .f32⟩
  | 22 => ⟨S_, .f32⟩
  | 23 => ⟨S8192x8x192, .f32⟩
  | 24 => ⟨S8192x8x192, .f32⟩
  | 25 => ⟨S_, .f32⟩
  | 26 => ⟨S_, .f32⟩
  | 27 => ⟨S8192x8x192, .f32⟩
  | 28 => ⟨S8192x8x192, .f32⟩
  | 29 => ⟨S_, .i32⟩
  | 30 => ⟨S_, .f32⟩
  | 31 => ⟨S8192x8x256, .f32⟩
  | 32 => ⟨S8192x2048, .f32⟩
  | 33 => ⟨S_, .i32⟩
  | 34 => ⟨S_, .f32⟩
  | 35 => ⟨S8192x8x256, .f32⟩
  | 36 => ⟨S8192x2048, .f32⟩
  | 37 => ⟨S8192x2048, .bf16⟩
  | 38 => ⟨S8192x2048, .bf16⟩
  | 39 => ⟨S8192x1024, .f32⟩
  | 40 => ⟨S8192x1024, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_cst_14 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_15 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_16 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_c : Ref sig .tc := ⟨.hbm, 157, rfl⟩
abbrev main_call0_v0 : Ref sig .tc := ⟨.hbm, 158, rfl⟩
abbrev main_v129 : Ref sig .tc := ⟨.hbm, 159, rfl⟩
abbrev main_v130 : Ref sig .tc := ⟨.hbm, 160, rfl⟩
abbrev main_c_17 : Ref sig .tc := ⟨.hbm, 161, rfl⟩
abbrev main_call1_v0 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩

abbrev nD : Nat := 1
abbrev τ : Topo := Topo.v7x

variable {F : FTy → Type} [FloatOps F]
-- ==== MlstmFwd.lean ====
abbrev S8192x2048 : Shape := ⟨2, ![8192, 2048]⟩
abbrev S8192x1024 : Shape := ⟨2, ![8192, 1024]⟩
abbrev S8192x16 : Shape := ⟨2, ![8192, 16]⟩
abbrev S1x16 : Shape := ⟨2, ![1, 16]⟩
abbrev S_ : Shape := ⟨0, ![]⟩
abbrev S8192x4096 : Shape := ⟨2, ![8192, 4096]⟩
abbrev S8192x4x4 : Shape := ⟨3, ![8192, 4, 4]⟩
abbrev S4x4x8192 : Shape := ⟨3, ![4, 4, 8192]⟩
abbrev S2x2x4x8192 : Shape := ⟨4, ![2, 2, 4, 8192]⟩
abbrev S2x2x4 : Shape := ⟨3, ![2, 2, 4]⟩
abbrev S2x1x4x8192 : Shape := ⟨4, ![2, 1, 4, 8192]⟩
abbrev S2x4x8192 : Shape := ⟨3, ![2, 4, 8192]⟩
abbrev S2x4x8192x1 : Shape := ⟨4, ![2, 4, 8192, 1]⟩
abbrev S2x4x1x8192 : Shape := ⟨4, ![2, 4, 1, 8192]⟩
abbrev S2x1x4 : Shape := ⟨3, ![2, 1, 4]⟩
abbrev S2x4 : Shape := ⟨2, ![2, 4]⟩
abbrev S2x4x1x1 : Shape := ⟨4, ![2, 4, 1, 1]⟩
abbrev S2x8192x1024 : Shape := ⟨3, ![2, 8192, 1024]⟩
abbrev S2x4x64x256x256 : Shape := ⟨5, ![2, 4, 64, 256, 256]⟩
abbrev S2x4x64x1x256 : Shape := ⟨5, ![2, 4, 64, 1, 256]⟩
abbrev S2x4x64x1x1 : Shape := ⟨5, ![2, 4, 64, 1, 1]⟩
abbrev S128x1024 : Shape := ⟨2, ![128, 1024]⟩
abbrev S1x4x128x1 : Shape := ⟨4, ![1, 4, 128, 1]⟩
abbrev S1x4x1x128 : Shape := ⟨4, ![1, 4, 1, 128]⟩
abbrev S1x4x1x1 : Shape := ⟨4, ![1, 4, 1, 1]⟩
abbrev S1x128x1024 : Shape := ⟨3, ![1, 128, 1024]⟩
abbrev S1x4x1x256x256 : Shape := ⟨5, ![1, 4, 1, 256, 256]⟩
abbrev S1x4x1x1x256 : Shape := ⟨5, ![1, 4, 1, 1, 256]⟩
abbrev S1x4x1x1x1 : Shape := ⟨5, ![1, 4, 1, 1, 1]⟩
abbrev S4x256x256 : Shape := ⟨3, ![4, 256, 256]⟩
abbrev S4x1x256 : Shape := ⟨3, ![4, 1, 256]⟩
abbrev S4x1x1 : Shape := ⟨3, ![4, 1, 1]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S1x1x1 : Shape := ⟨3, ![1, 1, 1]⟩
abbrev S1x1 : Shape := ⟨2, ![1, 1]⟩
abbrev S1x1x1x256x256 : Shape := ⟨5, ![1, 1, 1, 256, 256]⟩
abbrev S1x1x1x1x256 : Shape := ⟨5, ![1, 1, 1, 1, 256]⟩
abbrev S1x1x1x1x1 : Shape := ⟨5, ![1, 1, 1, 1, 1]⟩
abbrev S128x256 : Shape := ⟨2, ![128, 256]⟩
abbrev S1x1x128x1 : Shape := ⟨4, ![1, 1, 128, 1]⟩
abbrev S128x1 : Shape := ⟨2, ![128, 1]⟩
abbrev S1x1x1x128 : Shape := ⟨4, ![1, 1, 1, 128]⟩
abbrev S1x128 : Shape := ⟨2, ![1, 128]⟩
abbrev S1x1x1x1 : Shape := ⟨4, ![1, 1, 1, 1]⟩
abbrev S128x128 : Shape := ⟨2, ![128, 128]⟩
abbrev S128 : Shape := ⟨1, ![128]⟩
abbrev S1 : Shape := ⟨1, ![1]⟩
abbrev S256 : Shape := ⟨1, ![256]⟩
abbrev S1x128x256 : Shape := ⟨3, ![1, 128, 256]⟩

abbrev nBuf : Space → Nat
  | .hbm => 33
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x16, .f32⟩
  | .hbm, ⟨3, _⟩ => ⟨S1x16, .f32⟩
  | .hbm, ⟨4, _⟩ => ⟨S_, .i32⟩
  | .hbm, ⟨5, _⟩ => ⟨S_, .f32⟩
  | .hbm, ⟨6, _⟩ => ⟨S8192x4096, .f32⟩
  | .hbm, ⟨7, _⟩ => ⟨S8192x4x4, .f32⟩
  | .hbm, ⟨8, _⟩ => ⟨S4x4x8192, .f32⟩
  | .hbm, ⟨9, _⟩ => ⟨S2x2x4x8192, .f32⟩
  | .hbm, ⟨10, _⟩ => ⟨S2x2x4, .f32⟩
  | .hbm, ⟨11, _⟩ => ⟨S2x1x4x8192, .f32⟩
  | .hbm, ⟨12, _⟩ => ⟨S2x4x8192, .f32⟩
  | .hbm, ⟨13, _⟩ => ⟨S2x4x8192x1, .f32⟩
  | .hbm, ⟨14, _⟩ => ⟨S2x1x4x8192, .f32⟩
  | .hbm, ⟨15, _⟩ => ⟨S2x4x8192, .f32⟩
  | .hbm, ⟨16, _⟩ => ⟨S2x4x8192x1, .f32⟩
  | .hbm, ⟨17, _⟩ => ⟨S2x1x4x8192, .f32⟩
  | .hbm, ⟨18, _⟩ => ⟨S2x4x8192, .f32⟩
  | .hbm, ⟨19, _⟩ => ⟨S2x4x1x8192, .f32⟩
  | .hbm, ⟨20, _⟩ => ⟨S2x1x4x8192, .f32⟩
  | .hbm, ⟨21, _⟩ => ⟨S2x4x8192, .f32⟩
  | .hbm, ⟨22, _⟩ => ⟨S2x4x1x8192, .f32⟩
  | .hbm, ⟨23, _⟩ => ⟨S2x1x4, .f32⟩
  | .hbm, ⟨24, _⟩ => ⟨S2x4, .f32⟩
  | .hbm, ⟨25, _⟩ => ⟨S2x4x1x1, .f32⟩
  | .hbm, ⟨26, _⟩ => ⟨S2x1x4, .f32⟩
  | .hbm, ⟨27, _⟩ => ⟨S2x4, .f32⟩
  | .hbm, ⟨28, _⟩ => ⟨S2x4x1x1, .f32⟩
  | .hbm, ⟨29, _⟩ => ⟨S2x8192x1024, .f32⟩
  | .hbm, ⟨30, _⟩ => ⟨S2x4x64x256x256, .f32⟩
  | .hbm, ⟨31, _⟩ => ⟨S2x4x64x1x256, .f32⟩
  | .hbm, ⟨32, _⟩ => ⟨S2x4x64x1x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x4x128x1, .f32⟩
  | .local _ .vmem, ⟨7, _⟩ => ⟨S1x4x128x1, .f32⟩
  | .local _ .vmem, ⟨8, _⟩ => ⟨S1x4x128x1, .f32⟩
  | .local _ .vmem, ⟨9, _⟩ => ⟨S1x4x128x1, .f32⟩
  | .local _ .vmem, ⟨10, _⟩ => ⟨S1x4x1x128, .f32⟩
  | .local _ .vmem, ⟨11, _⟩ => ⟨S1x4x1x128, .f32⟩
  | .local _ .vmem, ⟨12, _⟩ => ⟨S1x4x1x128, .f32⟩
  | .local _ .vmem, ⟨13, _⟩ => ⟨S1x4x1x128, .f32⟩
  | .local _ .vmem, ⟨14, _⟩ => ⟨S1x4x1x1, .f32⟩
  | .local _ .vmem, ⟨15, _⟩ => ⟨S1x4x1x1, .f32⟩
  | .local _ .vmem, ⟨16, _⟩ => ⟨S1x4x1x1, .f32⟩
  | .local _ .vmem, ⟨17, _⟩ => ⟨S1x4x1x1, .f32⟩
  | .local _ .vmem, ⟨18, _⟩ => ⟨S1x128x1024, .f32⟩
  | .local _ .vmem, ⟨19, _⟩ => ⟨S1x128x1024, .f32⟩
  | .local _ .vmem, ⟨20, _⟩ => ⟨S1x4x1x256x256, .f32⟩
  | .local _ .vmem, ⟨21, _⟩ => ⟨S1x4x1x256x256, .f32⟩
  | .local _ .vmem, ⟨22, _⟩ => ⟨S1x4x1x1x256, .f32⟩
  | .local _ .vmem, ⟨23, _⟩ => ⟨S1x4x1x1x256, .f32⟩
  | .local _ .vmem, ⟨24, _⟩ => ⟨S1x4x1x1x1, .f32⟩
  | .local _ .vmem, ⟨25, _⟩ => ⟨S1x4x1x1x1, .f32⟩
  | .local _ .vmem, ⟨26, _⟩ => ⟨S4x256x256, .f32⟩
  | .local _ .vmem, ⟨27, _⟩ => ⟨S4x1x256, .f32⟩
  | .local _ .vmem, ⟨28, _⟩ => ⟨S4x1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  ![v3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c1_i32 : BitVec 32 := 1#32
  let v4 : BitVec 32 := Scalar.addi c1_i32 arg1
  let c0_i32 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c2_i32_0 : BitVec 32 := 2#32
  let v4 : BitVec 32 := Scalar.addi c2_i32_0 arg1
  let c0_i32 : BitVec 32 := 0#32
  ![v3.toNat, v4.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, c0_i32.toNat, v3.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, c0_i32.toNat, v3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  ![arg0.toNat, v3.toNat, arg1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4x1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Proof.Scalars.lean ====
/- Facts about extended reals shared by the value proofs: constants' bit patterns as numbers, and a finite
   factor taken through a sum. -/
module

public import Idealize.ShloMosaic.Lib.IdealHost
public import Mathlib.Data.EReal.Operations

@[expose] public section

namespace Cert.Scalars

open Idealize.ShloMosaic
open scoped BigOperators

/-- The word of one half. -/
theorem half : Ideal.ofBits .f32 0x3F000000#32 = ((1 / 2 : ℝ) : EReal) := by
  simp [Ideal.ofBits, Ideal.ieee, -EReal.coe_mul]; norm_num

/-- The word of two. -/
theorem two : Ideal.ofBits .f32 0x40000000#32 = ((2 : ℝ) : EReal) := by
  simp [Ideal.ofBits, Ideal.ieee, -EReal.coe_mul]; norm_num

/-- The word of 2048. -/
theorem n2048 : Ideal.ofBits .f32 0x45000000#32 = ((2048 : ℝ) : EReal) := by
  simp [Ideal.ofBits, Ideal.ieee, -EReal.coe_mul]; norm_num

/-- The word of 1/2048. -/
theorem inv2048 : Ideal.ofBits .f32 0x3A000000#32 = ((1 / 2048 : ℝ) : EReal) := by
  simp [Ideal.ofBits, Ideal.ieee, -EReal.coe_mul]; norm_num

/-- A real factor that is not negative goes through a sum of two extended reals. -/
theorem mul_add_real {c : ℝ} (hc : 0 ≤ c) (a b : EReal) : (c : EReal) * (a + b) = c * a + c * b :=
  EReal.left_distrib_of_nonneg_of_ne_top (by exact_mod_cast hc) (EReal.coe_ne_top c) a b

/-- A real factor that is not negative goes through a finite sum. -/
theorem mul_sum_real {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert i s hi ih => rw [Finset.sum_insert hi, Finset.sum_insert hi, mul_add_real hc, ih]

/-- The same with the factor on the right. -/
theorem sum_mul_real {ι : Type*} {c : ℝ} (hc : 0 ≤ c) (s : Finset ι) (f : ι → EReal) :
    (∑ i ∈ s, f i) * (c : EReal) = ∑ i ∈ s, f i * (c : EReal) := by
  rw [mul_comm, mul_sum_real hc]; exact Finset.sum_congr rfl fun i _ => mul_comm _ _

end Cert.Scalars

end
-- ==== Proof.LossValue.lean ====
/- The loss head, at extended reals: what its four result arrays hold after the run, as sums over the arguments. -/
module

public import proofs.«01_k».proof.Proof.Gen.LossIdeal.Frame
public import proofs.«01_k».proof.Proof.Gen.LossIdeal.Value
public import Idealize.ShloMosaic.Lib.Pipeline.ValueKit
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen

variable (m : (ℓ : Loc nD τ sig) → Buf (Elt Ideal) ℓ)

/-- The step's error at row `r`, column `l`. -/
def err (x y t : FVec Ideal S8192x2048 .f32) (g : FVec Ideal S1x2048 .f32) (r : Fin 8192) (l : Fin 2048) : EReal :=
  x (ix2 r l) + g (ix2 0 l) * y (ix2 r l) - t (ix2 r l)

/-- The loss: half the sum over the rows of the mean square error. -/
def loss (x y t : FVec Ideal S8192x2048 .f32) (g : FVec Ideal S1x2048 .f32) : FVec Ideal S1x1 .f32 := fun _ =>
  ∑ r : Fin 8192, ((1 / 2 : ℝ) : EReal) * ((∑ l : Fin 2048, err x y t g r l * err x y t g r l) * ((1 / 2048 : ℝ) : EReal))

/-- The gradient by the residual stream. -/
def dOut (x y t : FVec Ideal S8192x2048 .f32) (g : FVec Ideal S1x2048 .f32) : FVec Ideal S8192x2048 .f32 := fun i =>
  err x y t g (i 0) (i 1) * ((1 / 2048 : ℝ) : EReal)

/-- The gradient by the MLP's output. -/
def dY (x y t : FVec Ideal S8192x2048 .f32) (g : FVec Ideal S1x2048 .f32) : FVec Ideal S8192x2048 .bf16 := fun i =>
  dOut x y t g i * g (ix2 0 (i 1))

/-- The gradient by the gate. -/
def dGate (x y t : FVec Ideal S8192x2048 .f32) (g : FVec Ideal S1x2048 .f32) : FVec Ideal S1x2048 .f32 := fun j =>
  ∑ r : Fin 8192, dOut x y t g (ix2 r (j 1)) * y (ix2 r (j 1))

/-- Which block each window shows at point `t`. -/
theorem at_point : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] ∧ win0_6.index t = ![t.val, 0] ∧ win0_7.index t = ![0, 0] :=
  (by decide +kernel : ∀ t : Fin grid0.N, _)

/-- The residual gradient's block, from the blocks of the arguments. -/
theorem dOut_block (y x t : Vec Ideal S256x2048 .f32) (g : Vec Ideal S1x2048 .f32) (j : S256x2048.Idx) :
    k0_pay6 (F := Ideal) y g x t j = (x j + g (ix2 0 (j 1)) * y j - t j) * ((1 / 2048 : ℝ) : EReal) := by
  pointwise [k0_pay6, k0_pay4]
  rw [Scalars.inv2048]

/-- The block of the gradient by the MLP's output. -/
theorem dY_block (y x t : Vec Ideal S256x2048 .f32) (g : Vec Ideal S1x2048 .f32) (j : S256x2048.Idx) :
    k0_pay7 (F := Ideal) y g x t j
      = (x j + g (ix2 0 (j 1)) * y j - t j) * ((1 / 2048 : ℝ) : EReal) * g (ix2 0 (j 1)) := by
  pointwise [k0_pay7, dOut_block]

/-- One block's contribution to the loss. -/
theorem loss_block (y x t : Vec Ideal S256x2048 .f32) (g : Vec Ideal S1x2048 .f32) (acc : Vec Ideal S1x1 .f32) (j : S1x1.Idx) :
    k0_pay5 (F := Ideal) y g x t acc j = acc j + ∑ r : Fin 256, ((1 / 2 : ℝ) : EReal)
      * ((∑ l : Fin 2048, (x (ix2 r l) + g (ix2 0 l) * y (ix2 r l) - t (ix2 r l))
          * (x (ix2 r l) + g (ix2 0 l) * y (ix2 r l) - t (ix2 r l))) * ((1 / 2048 : ℝ) : EReal)) := by
  rw [← Scalars.mul_sum_real (by norm_num)]
  pointwise [k0_pay5, k0_pay4]
  rw [Scalars.inv2048, Scalars.half]

/-- One block's contribution to the gate's gradient. -/
theorem dGate_block (y : Vec Ideal S256x2048 .f32) (d : FVec Ideal S256x2048 .f32) (acc : Vec Ideal S1x2048 .f32) (j : S1x2048.Idx) :
    k0_pay1 (F := Ideal) y d acc j = acc j + ∑ r : Fin 256, d (ix2 r (j 1)) * y (ix2 r (j 1)) := by
  pointwise [k0_pay1]

/-- The loss starts at zero. -/
theorem loss_start (j : S1x1.Idx) : k0_pay2 (F := Ideal) j = 0 := by pointwise [k0_pay2]

/-- The gate's gradient starts at zero. -/
theorem dGate_start (j : S1x2048.Idx) : k0_pay3 (F := Ideal) j = 0 := by pointwise [k0_pay3]

/-- The argument arrays of device `c`. -/
abbrev X (c : Dev nD) : FVec Ideal S8192x2048 .f32 := m ((c : Thread nD τ).loc main_arg0)
/-- The MLP's output on device `c`. -/
abbrev Y (c : Dev nD) : FVec Ideal S8192x2048 .f32 := m ((c : Thread nD τ).loc main_arg1)
/-- The target on device `c`. -/
abbrev T (c : Dev nD) : FVec Ideal S8192x2048 .f32 := m ((c : Thread nD τ).loc main_arg2)
/-- The gate on device `c`. -/
abbrev G (c : Dev nD) : FVec Ideal S1x2048 .f32 := m ((c : Thread nD τ).loc main_arg3)

/-- The loss array after the run. -/
theorem loss_final (c : Dev nD) : (dats m 0 c).arrAt 4 (cfgs 0).N = loss (X m c) (Y m c) (T m c) (G m c) := by
  refine (dats m 0 c).arrAt_eq_of_covers 4 _ (by decide +kernel) fun t hf y => ?_
  blk_simp
  rw [after0_4, Pipeline.eq_sum_fin_of_reset_step_apply_of_flush (fun n h => (outsAt0 m c n h).1) 32 (fun _ => 0) _
    (fun t h j => by rw [outsAt0_A m c t h]; frame_out; rw [loss_block, loss_start])
    (fun t h j => by rw [outsAt0_B m c t h]; frame_out; rw [loss_block])
    t ((flush0_4 t).mp hf) _, zero_add]
  unfold loss
  refine Fin.sum_mul_add_congr fun s k hl => ?_
  unfold err
  blk_point [iblk, V, at_point t, at_point ⟨_, Pipeline.run_point_lt_of_flush t ((flush0_4 t).mp hf) s⟩]

/-- The residual gradient's array after the run. -/
theorem dOut_final (c : Dev nD) : (dats m 0 c).arrAt 5 (cfgs 0).N = dOut (X m c) (Y m c) (T m c) (G m c) := by
  refine (dats m 0 c).arrAt_eq_of_covers 5 _ (by decide +kernel) fun t hf y => ?_
  blk_simp
  rw [after0_5]
  unfold dOut err
  by_cases h : t.val % 32 = 0
  · rw [outsAt0_A m c t h]; frame_out; rw [dOut_block]; blk_point [iblk, V, at_point t]
  · rw [outsAt0_B m c t h]; frame_out; rw [dOut_block]; blk_point [iblk, V, at_point t]

/-- The array of the gradient by the MLP's output after the run. -/
theorem dY_final (c : Dev nD) : (dats m 0 c).arrAt 6 (cfgs 0).N = dY (X m c) (Y m c) (T m c) (G m c) := by
  refine (dats m 0 c).arrAt_eq_of_covers 6 _ (by decide +kernel) fun t hf y => ?_
  blk_simp
  rw [after0_6]
  unfold dY dOut err
  by_cases h : t.val % 32 = 0
  · rw [outsAt0_A m c t h]; frame_out; rw [dY_block]; blk_point [iblk, V, at_point t]
  · rw [outsAt0_B m c t h]; frame_out; rw [dY_block]; blk_point [iblk, V, at_point t]

/-- The array of the gate's gradient after the run. -/
theorem dGate_final (c : Dev nD) : (dats m 0 c).arrAt 7 (cfgs 0).N = dGate (X m c) (Y m c) (T m c) (G m c) := by
  refine (dats m 0 c).arrAt_eq_of_covers 7 _ (by decide +kernel) fun t hf y => ?_
  blk_simp
  rw [after0_7, Pipeline.eq_sum_fin_of_reset_step_apply_of_flush (fun n h => (outsAt0 m c n h).2.2.2) 32 (fun _ => 0) _
    (fun t h j => by rw [outsAt0_A m c t h]; frame_out; rw [dGate_block, dGate_start])
    (fun t h j => by rw [outsAt0_B m c t h]; frame_out; rw [dGate_block])
    t ((flush0_7 t).mp hf) _, zero_add]
  unfold dGate dOut err
  refine Fin.sum_mul_add_congr fun s k hl => ?_
  rw [dOut_block]
  blk_point [iblk, V, at_point t, at_point ⟨_, Pipeline.run_point_lt_of_flush t ((flush0_7 t).mp hf) s⟩]

end Cert.LossIdeal.Value

end
-- ==== Proof.LossAgree.lean ====
/- The loss head against the loss and its gradients by `jax.vjp`. -/
module

public import proofs.«01_k».proof.Defs
public import proofs.«01_k».proof.Proof.LossValue
public import proofs.«01_k».proof.Proof.Gen.LossRefIdeal.Run
public import Idealize.ShloMosaic.Lib.Claim

@[expose] public section

set_option maxRecDepth 16384

noncomputable section

namespace Cert.Proof

open Idealize.ShloMosaic Idealize.SL.Sem

/-- The factor that the mean's gradient and the half leave on an error. -/
theorem loss_factor (e : EReal) :
    Ideal.div ((1 / 2 : ℝ) : EReal) ((2048 : ℝ) : EReal) * (((2 : ℝ) : EReal) * e) = e * ((1 / 2048 : ℝ) : EReal) := by
  rw [Ideal.div_coe (by norm_num), ← EReal.coe_mul, ← mul_assoc, ← EReal.coe_mul, mul_comm]
  norm_num

/-- The loss head and the gradients of the loss agree. -/
theorem loss_algebraic : Cert.algebraic_LossIdeal_LossRefIdeal := by
  pair_intro
  · run_from Cert.LossIdeal.Gen.run_main m g
  · run_from Cert.LossRefIdeal.Value.run m' g'
    · rw [Cert.LossIdeal.Value.loss_final]; funext j
      pointwise [Cert.LossIdeal.Value.loss, Cert.LossIdeal.Value.err]
      rw [Scalars.half, Scalars.n2048, ← Scalars.mul_sum_real (by norm_num)]
      exact congrArg (_ * ·) (Finset.sum_congr rfl fun r _ => Ideal.div_coe (by norm_num) _)
    · rw [Cert.LossIdeal.Value.dOut_final]; funext j
      pointwise [Cert.LossIdeal.Value.dOut, Cert.LossIdeal.Value.err]
      rw [Scalars.half, Scalars.n2048, Scalars.two]
      exact loss_factor _
    · rw [Cert.LossIdeal.Value.dY_final]; funext j
      pointwise [Cert.LossIdeal.Value.dY, Cert.LossIdeal.Value.dOut, Cert.LossIdeal.Value.err]
      rw [Scalars.half, Scalars.n2048, Scalars.two]
      exact (mul_comm _ _).trans (congrArg (· * _) (loss_factor _))
    · rw [Cert.LossIdeal.Value.dGate_final]; funext j
      pointwise [Cert.LossIdeal.Value.dGate, Cert.LossIdeal.Value.dOut, Cert.LossIdeal.Value.err]
      rw [Scalars.half, Scalars.n2048, Scalars.two]
      exact Finset.sum_congr rfl fun r _ => congrArg (· * _) (loss_factor _)

/-- The reference of the loss runs and leaves its arguments alone. -/
theorem loss_reference : Cert.quiescent_LossRefIdeal := by
  intro m g _
  run_from Cert.LossRefIdeal.Value.run m g
  · simp
  · exact sem_eq_zero_of_no_sems (show Cert.LossRefIdeal.sig.nSem + Cert.LossRefIdeal.sig.nDmaSem = 0 from rfl) _

end Cert.Proof

end
-- ==== Proof.AttnRows.lean ====
/- Attention backward: the conditions of the body, its staging buffers, and where the row blocks of its results start. -/
module

public import proofs.«01_k».proof.Proof.Gen.AttnBwdIdeal.Frame
public import proofs.«01_k».proof.Proof.Gen.AttnBwdIdeal.Skeleton

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The third grid coordinate has one value. -/
theorem coord2 (i : grid0.Coords) : (i 2).val = 0 := by
  have := (i 2).isLt
  have h : grid0.bound 2 = 1 := rfl
  omega

/-- The rows of block `r` of the kernel's `dv` block start at `512 r`, the key axis having one tile. -/
theorem rows1 (i : grid0.Coords) (r : Fin 16) : k0_off1 i (BitVec.ofNat 32 (512 * r.val)) = ![512 * r.val, 0] := by
  rw [k0_off1_eq, coord2]; simp

/-- The rows of block `r` of the kernel's `dk` block start at `512 r`, the key axis having one tile. -/
theorem rows2 (i : grid0.Coords) (r : Fin 16) : k0_off2 i (BitVec.ofNat 32 (512 * r.val)) = ![512 * r.val, 0] := by
  rw [k0_off2_eq, coord2]; simp

instance rows1_0 (i : grid0.Coords) : ClosedOff (k0_off1 i (BitVec.ofNat 32 0)) := ⟨![0, 0], rows1 i 0⟩
instance rows1_1 (i : grid0.Coords) : ClosedOff (k0_off1 i (BitVec.ofNat 32 512)) := ⟨![512, 0], rows1 i 1⟩
instance rows1_2 (i : grid0.Coords) : ClosedOff (k0_off1 i (BitVec.ofNat 32 1024)) := ⟨![1024, 0], rows1 i 2⟩
instance rows1_3 (i : grid0.Coords) : ClosedOff (k0_off1 i (BitVec.ofNat 32 1536)) := ⟨![1536, 0], rows1 i 3⟩
instance rows1_4 (i : grid0.Coords) : ClosedOff (k0_off1 i (BitVec.ofNat 32 2048)) := ⟨![2048, 0], rows1 i 4⟩
instance rows1_5 (i : grid0.Coords) : ClosedOff (k0_off1 i (BitVec.ofNat 32 2560)) := ⟨![2560, 0], rows1 i 5⟩
instance rows1_6 (i : grid0.Coords) : ClosedOff (k0_off1 i (BitVec.ofNat 32 3072)) := ⟨![3072, 0], rows1 i 6⟩
instance rows1_7 (i : grid0.Coords) : ClosedOff (k0_off1 i (BitVec.ofNat 32 3584)) := ⟨![3584, 0], rows1 i 7⟩
instance rows1_8 (i : grid0.Coords) : ClosedOff (k0_off1 i (BitVec.ofNat 32 4096)) := ⟨![4096, 0], rows1 i 8⟩
instance rows1_9 (i : grid0.Coords) : ClosedOff (k0_off1 i (BitVec.ofNat 32 4608)) := ⟨![4608, 0], rows1 i 9⟩
instance rows1_10 (i : grid0.Coords) : ClosedOff (k0_off1 i (BitVec.ofNat 32 5120)) := ⟨![5120, 0], rows1 i 10⟩
instance rows1_11 (i : grid0.Coords) : ClosedOff (k0_off1 i (BitVec.ofNat 32 5632)) := ⟨![5632, 0], rows1 i 11⟩
instance rows1_12 (i : grid0.Coords) : ClosedOff (k0_off1 i (BitVec.ofNat 32 6144)) := ⟨![6144, 0], rows1 i 12⟩
instance rows1_13 (i : grid0.Coords) : ClosedOff (k0_off1 i (BitVec.ofNat 32 6656)) := ⟨![6656, 0], rows1 i 13⟩
instance rows1_14 (i : grid0.Coords) : ClosedOff (k0_off1 i (BitVec.ofNat 32 7168)) := ⟨![7168, 0], rows1 i 14⟩
instance rows1_15 (i : grid0.Coords) : ClosedOff (k0_off1 i (BitVec.ofNat 32 7680)) := ⟨![7680, 0], rows1 i 15⟩
instance rows2_0 (i : grid0.Coords) : ClosedOff (k0_off2 i (BitVec.ofNat 32 0)) := ⟨![0, 0], rows2 i 0⟩
instance rows2_1 (i : grid0.Coords) : ClosedOff (k0_off2 i (BitVec.ofNat 32 512)) := ⟨![512, 0], rows2 i 1⟩
instance rows2_2 (i : grid0.Coords) : ClosedOff (k0_off2 i (BitVec.ofNat 32 1024)) := ⟨![1024, 0], rows2 i 2⟩
instance rows2_3 (i : grid0.Coords) : ClosedOff (k0_off2 i (BitVec.ofNat 32 1536)) := ⟨![1536, 0], rows2 i 3⟩
instance rows2_4 (i : grid0.Coords) : ClosedOff (k0_off2 i (BitVec.ofNat 32 2048)) := ⟨![2048, 0], rows2 i 4⟩
instance rows2_5 (i : grid0.Coords) : ClosedOff (k0_off2 i (BitVec.ofNat 32 2560)) := ⟨![2560, 0], rows2 i 5⟩
instance rows2_6 (i : grid0.Coords) : ClosedOff (k0_off2 i (BitVec.ofNat 32 3072)) := ⟨![3072, 0], rows2 i 6⟩
instance rows2_7 (i : grid0.Coords) : ClosedOff (k0_off2 i (BitVec.ofNat 32 3584)) := ⟨![3584, 0], rows2 i 7⟩
instance rows2_8 (i : grid0.Coords) : ClosedOff (k0_off2 i (BitVec.ofNat 32 4096)) := ⟨![4096, 0], rows2 i 8⟩
instance rows2_9 (i : grid0.Coords) : ClosedOff (k0_off2 i (BitVec.ofNat 32 4608)) := ⟨![4608, 0], rows2 i 9⟩
instance rows2_10 (i : grid0.Coords) : ClosedOff (k0_off2 i (BitVec.ofNat 32 5120)) := ⟨![5120, 0], rows2 i 10⟩
instance rows2_11 (i : grid0.Coords) : ClosedOff (k0_off2 i (BitVec.ofNat 32 5632)) := ⟨![5632, 0], rows2 i 11⟩
instance rows2_12 (i : grid0.Coords) : ClosedOff (k0_off2 i (BitVec.ofNat 32 6144)) := ⟨![6144, 0], rows2 i 12⟩
instance rows2_13 (i : grid0.Coords) : ClosedOff (k0_off2 i (BitVec.ofNat 32 6656)) := ⟨![6656, 0], rows2 i 13⟩
instance rows2_14 (i : grid0.Coords) : ClosedOff (k0_off2 i (BitVec.ofNat 32 7168)) := ⟨![7168, 0], rows2 i 14⟩
instance rows2_15 (i : grid0.Coords) : ClosedOff (k0_off2 i (BitVec.ofNat 32 7680)) := ⟨![7680, 0], rows2 i 15⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at every point — by arithmetic of the point. -/
theorem hcond0_0 : ∀ t : Fin cfg0.N, cond0_0 (grid0.coords t) :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    have e2 : (grid0.coords t 2).val = t.val / 1 % 1 := Pipeline.Grid.coords_val t 2 (by decide) rfl
    simp only [cond0_0, e0, e1, e2]
    word_cmp
   : ∀ t : Fin grid0.N, cond0_0 (grid0.coords t))

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    have e2 : (grid0.coords t 2).val = t.val / 1 % 1 := Pipeline.Grid.coords_val t 2 (by decide) rfl
    simp only [cond0_1, e0, e1, e2]
    word_cmp
   : ∀ t : Fin grid0.N, cond0_1 (grid0.coords t) ↔ t.val % 8 = 0)

/-! ## The kernel body on any staging memrefs: a subtype the run finds -/

/-- One staging buffer of output window 6, through which its contents are stated (`View.read_writes_of_cover`: the
    choice does not matter). -/
abbrev VO0_6 : View sig .tc .vmem S1024x256 .f32 := (Memref.whole cc0_stg6_0 : Memref sig .tc .vmem S1024x256 .f32).view
/-- One staging buffer of output window 7, through which its contents are stated (`View.read_writes_of_cover`: the
    choice does not matter). -/
abbrev VO0_7 : View sig .tc .vmem S8192x256 .f32 := (Memref.whole cc0_stg7_0 : Memref sig .tc .vmem S8192x256 .f32).view
/-- One staging buffer of output window 8, through which its contents are stated (`View.read_writes_of_cover`: the
    choice does not matter). -/
abbrev VO0_8 : View sig .tc .vmem S8192x128 .f32 := (Memref.whole cc0_stg8_0 : Memref sig .tc .vmem S8192x128 .f32).view
/-- Each window's current staging memref at point `t`, spelled as the pipeline passes it (`bodyAt0`), and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8192x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x128 .f32 := win0_8.stage (cfg0.slots t 8)
abbrev hs0_8 (t : Fin cfg0.N) : (ms0_8 t).IsWhole := hstage0_8 ((cfg0.slots t 8).cast nbuf0_8)

end Cert.AttnBwdIdeal.Body

end
-- ==== Proof.AttnRunA.lean ====
/- Attention backward: what one grid point leaves, case A. -/
module

public import proofs.«01_k».proof.Proof.AttnRows

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option sl_exec.closedPieces true
set_option sl_exec.closedLoads true
-- (the run's proof term is large: the definition's epilogue — `abstractNestedProofs` — walks it past the default budget)
set_option maxHeartbeats 1000000 in
/-- What the body's stores leave in each output's staging memref, as pieces (last first) IN CASE A (`scf.if` 0 taken, `scf.if` 1 taken: points 0, 8, … 56: 8 of 64), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) :
    Σ' (L6 : List (View.Piece (Elt F) S1024x256 .f32)), Σ' (L7 : List (View.Piece (Elt F) S8192x256 .f32)), { L8 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact H8

end Cert.AttnBwdIdeal.Body

end
-- ==== Proof.AttnRunB.lean ====
/- Attention backward: what one grid point leaves, case B. -/
module

public import proofs.«01_k».proof.Proof.AttnRunA

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option sl_exec.closedPieces true
set_option sl_exec.closedLoads true
-- (the run's proof term is large: the definition's epilogue — `abstractNestedProofs` — walks it past the default budget)
set_option maxHeartbeats 1000000 in
/-- What the body's stores leave in each output's staging memref, as pieces (last first) IN CASE B (`scf.if` 0 taken, `scf.if` 1 not taken: points 1, 2, … 63: 56 of 64), WITH the
    proof that on whole staging memrefs — the inputs' at their contents, the outputs it reads before covering (7, 8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) :
    Σ' (L6 : List (View.Piece (Elt F) S1024x256 .f32)), Σ' (L7 : List (View.Piece (Elt F) S8192x256 .f32)), { L8 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ owns (c : Thread nD τ) arg11 fullShare xo8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact H8

end Cert.AttnBwdIdeal.Body

end
-- ==== Proof.AttnBody.lean ====
/- Attention backward: what the results hold point by point, and the run of the whole program. -/
module

public import proofs.«01_k».proof.Proof.AttnRunB
public import Idealize.ShloMosaic.Lib.Claim

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's pieces for output 6 tile its block (2 stores of `S1024x256`, checked by the kernel's evaluation: Lib/Ring.lean `Piece.tiledL`, linear in the pieces, through a loop's `@[irreducible]` trip theorem too), so they cover it. -/
theorem cover0_A_6 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (y : S1024x256.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).1 S1024x256.size (by sl_kernel_rfl) y

/-- What case A leaves in output 6's staging buffer: its pieces read back over junk. -/
def out0_A_6 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) : Vec F S1024x256 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)

/-- Case A's pieces for output 7 are of SEVERAL sizes (17 stores of `S512x256`, `S8192x256`): cut into blocks of `![512, 256]` they tile its block (checked by the kernel's evaluation: Lib/Ring.lean `Piece.tiledBy`), so they cover it. -/
theorem cover0_A_7 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (y : S8192x256.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledBy (kernelRun0_A c i arg3 harg3 arg4 harg4 arg5 harg5 arg6 harg6 arg7 harg7 arg8 harg8 arg9 harg9 arg10 harg10 arg11 harg11 hc0 hc1 x0 x1 x2 x3 x4 x5).2.1 ![512, 256] (by sl_kernel_rfl) y

/-- What case A leaves in output 7's staging buffer: its pieces read back over junk. -/
def out0_A_7 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) : Vec F S8192x256 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)

/-- Case A's pieces for output 8 are of SEVERAL sizes (17 stores of `S512x128`, `S8192x128`): cut into blocks of `![512, 128]` they tile its block (checked by the kernel's evaluation: Lib/Ring.lean `Piece.tiledBy`), so they cover it. -/
theorem cover0_A_8 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (y : S8192x128.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledBy (kernelRun0_A c i arg3 harg3 arg4 harg4 arg5 harg5 arg6 harg6 arg7 harg7 arg8 harg8 arg9 harg9 arg10 harg10 arg11 harg11 hc0 hc1 x0 x1 x2 x3 x4 x5).2.2.1 ![512, 128] (by sl_kernel_rfl) y

/-- What case A leaves in output 8's staging buffer: its pieces read back over junk. -/
def out0_A_8 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) : Vec F S8192x128 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 hc0 hc1 x0 x1 x2 x3 x4 x5).2.2.1)

/-- Case B's pieces for output 6 tile its block (2 stores of `S1024x256`, checked by the kernel's evaluation: Lib/Ring.lean `Piece.tiledL`, linear in the pieces, through a loop's `@[irreducible]` trip theorem too), so they cover it. -/
theorem cover0_B_6 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) (y : S1024x256.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xo7 xo8).1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xo7 xo8).1 S1024x256.size (by sl_kernel_rfl) y

/-- What case B leaves in output 6's staging buffer: its pieces read back over junk. -/
def out0_B_6 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) : Vec F S1024x256 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xo7 xo8).1)

/-- Case B's pieces for output 7 tile its block (16 stores of `S512x256`, checked by the kernel's evaluation: Lib/Ring.lean `Piece.tiledL`, linear in the pieces, through a loop's `@[irreducible]` trip theorem too), so they cover it. -/
theorem cover0_B_7 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) (y : S8192x256.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xo7 xo8).2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xo7 xo8).2.1 S512x256.size (by sl_kernel_rfl) y

/-- What case B leaves in output 7's staging buffer: its pieces read back over junk. -/
def out0_B_7 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) : Vec F S8192x256 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 xo7 xo8).2.1)

/-- Case B's pieces for output 8 tile its block (16 stores of `S512x128`, checked by the kernel's evaluation: Lib/Ring.lean `Piece.tiledL`, linear in the pieces, through a loop's `@[irreducible]` trip theorem too), so they cover it. -/
theorem cover0_B_8 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) (y : S8192x128.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xo7 xo8).2.2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xo7 xo8).2.2.1 S512x128.size (by sl_kernel_rfl) y

/-- What case B leaves in output 8's staging buffer: its pieces read back over junk. -/
def out0_B_8 (c : Dev nD) (i : grid0.Coords) (arg3 : Memref sig .tc .vmem S1024x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .f32) (harg11 : arg11.IsWhole) (hc0 : cond0_0 i) (hc1 : ¬cond0_1 i)
    (x0 : Vec F S1024x256 .bf16) (x1 : Vec F S8192x256 .bf16) (x2 : Vec F S8192x128 .bf16) (x3 : Vec F S1024x128 .bf16) (x4 : Vec F S1x1x1024 .f32) (x5 : Vec F S1024x128 .f32) (xo7 : Vec F S8192x256 .f32) (xo8 : Vec F S8192x128 .f32) : Vec F S8192x128 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 hc0 hc1 x0 x1 x2 x3 x4 x5 xo7 xo8).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .f32 × Vec F S8192x256 .f32 × Vec F S8192x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (hcond0_0 ⟨0, hn⟩) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (hcond0_0 ⟨0, hn⟩) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (hcond0_0 ⟨0, hn⟩) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h1 : (n + 1) % 8 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (hcond0_0 ⟨n + 1, hn⟩) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h1 : t.val % 8 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) ((hcond0_1 t).mpr h1) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) ((hcond0_1 t).mpr h1) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) ((hcond0_1 t).mpr h1) (iblk m c 0 t) (iblk m c 1 t) (iblk m c 2 t) (iblk m c 3 t) (iblk m c 4 t) (iblk m c 5 t)) := by
  obtain ⟨n, hn⟩ := t
  cases n with
  | zero => exact rfl
  | succ n => exact (dif_pos h1).trans rfl

/-- `outsAt0` at a point of case B: that case's contents, over what the point before left. -/
theorem outsAt0_B (c : Dev nD) (t : Fin cfg0.N) (h1 : ¬t.val % 8 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hcond0_0 t) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h1); exact absurd (Nat.zero_mod _) h1)
  | succ n => exact (dif_neg h1).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h1 : ¬t.val % 8 = 0) (d) :
    (dats m 0 c).before 7 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h1 : ¬t.val % 8 = 0) (d) :
    (dats m 0 c).before 8 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 64 := lt_of_lt_of_eq t.isLt (show cfg0.N = 64 from N_0)
  by_cases h1 : t.val % 8 = 0
  · rw [outsAt0_A m c t h1]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ (hcond0_0 t) ((hcond0_1 t).mpr h1) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _ _)
  · rw [outsAt0_B m c t h1]
    simp only [before0_7_B m c t h1, before0_8_B m c t h1]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (hcond0_0 t) (fun h => h1 ((hcond0_1 t).mp h)) (iblk m c 0 t) (iblk m c 1 t) (iblk m c 2 t) (iblk m c 3 t) (iblk m c 4 t) (iblk m c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnBwdIdeal.Body

end
-- ==== Proof.AttnTiles.lean ====
/- Attention backward: one tile of 512 keys against one tile of 1024 queries. -/
module

public import proofs.«01_k».proof.Proof.AttnBody
public import Idealize.ShloMosaic.Lib.Pipeline.ValueKit

@[expose] public section

set_option maxRecDepth 16384

noncomputable section

namespace Cert.AttnBwdIdeal.Value

open Cert.AttnBwdIdeal Cert.AttnBwdIdeal.Gen
open Idealize.ShloMosaic Idealize.ShloMosaic.TcCoe Idealize.SL.Sem
open Idealize.ShloMosaic.Pipeline (Dat)
open scoped BigOperators

/-- A weight of attention: key `r` of a tile of keys, query `a`. -/
def weight {n : ℕ} (q : FVec Ideal S1024x256 .bf16) (l : FVec Ideal S1x1x1024 .f32) (k : FVec Ideal ⟨2, ![n, 256]⟩ .bf16)
    (r : Fin n) (a : Fin 1024) : EReal :=
  Ideal.exp2 ((∑ x : Fin 256, k (ix2 r x) * q (ix2 a x)) - l (ix3 0 0 a))

/-- The gradient by a score: key `r`, query `a`. -/
def slope {n : ℕ} (q : FVec Ideal S1024x256 .bf16) (l : FVec Ideal S1x1x1024 .f32) (k : FVec Ideal ⟨2, ![n, 256]⟩ .bf16)
    (v : FVec Ideal ⟨2, ![n, 128]⟩ .bf16) (g : FVec Ideal S1024x128 .f32) (o : FVec Ideal S1024x128 .bf16) (r : Fin n) (a : Fin 1024) : EReal :=
  weight q l k r a * ((∑ x : Fin 128, v (ix2 r x) * (g (ix2 a x) * ((Real.log 2 : ℝ) : EReal)))
    - ∑ x : Fin 128, g (ix2 a x) * ((Real.log 2 : ℝ) : EReal) * o (ix2 a x))

theorem ln2_name : Named.named (F := Ideal) κ (φ := .f32) "ln2" 0x3F317218#32 = ((Real.log 2 : ℝ) : EReal) :=
  IdealRules.named_const.ideal_named_scalar _ _ _ _ rfl

section
variable (q : Vec Ideal S1024x256 .bf16) (l : Vec Ideal S1x1x1024 .f32) (k : Vec Ideal S512x256 .bf16)
  (v : Vec Ideal S512x128 .bf16) (g : Vec Ideal S1024x128 .f32) (o : Vec Ideal S1024x128 .bf16)

theorem weight_tile (j : S512x1024.Idx) :
    k0_pay13 (F := Ideal) (k0_pay6 q) (k0_pay10 l) (k0_pay12 k) j = weight q l k (j 0) (j 1) := by
  pointwise [k0_pay13, k0_pay6, k0_pay10, k0_pay12, weight]
  rfl

theorem slope_tile (j : S512x1024.Idx) :
    k0_pay14 (F := Ideal) (k0_pay6 q) (k0_pay8 g) (k0_pay9 g o) (k0_pay10 l) (k0_pay12 k) v j = slope q l k v g o (j 0) (j 1) := by
  pointwise [k0_pay14, k0_pay8, k0_pay9, slope, weight_tile, ln2_name]

/-- What a tile of keys adds to the gradient by the values. -/
theorem dv_tile (x : Vec Ideal S512x128 .f32) (j : S512x128.Idx) :
    k0_pay15 (F := Ideal) (k0_pay6 q) (k0_pay7 g) (k0_pay10 l) (k0_pay12 k) x j
      = (show FVec Ideal S512x128 .f32 from x) j + ∑ a : Fin 1024, weight q l k (j 0) a * (show FVec Ideal S1024x128 .f32 from g) (ix2 a (j 1)) := by
  pointwise [k0_pay15, k0_pay7, weight_tile]

/-- What a tile of keys adds to the gradient by the keys. -/
theorem dk_tile (x : Vec Ideal S512x256 .f32) (j : S512x256.Idx) :
    k0_pay16 (F := Ideal) (k0_pay6 q) (k0_pay8 g) (k0_pay9 g o) (k0_pay10 l) (k0_pay12 k) v x j
      = (show FVec Ideal S512x256 .f32 from x) j + ∑ a : Fin 1024, slope q l k v g o (j 0) a * (show FVec Ideal S1024x256 .bf16 from q) (ix2 a (j 1)) := by
  pointwise [k0_pay16, slope_tile]
  pointwise [k0_pay6, k0_pay12]

/-- What a tile of keys adds to the gradient by the queries. -/
theorem dq_tile (x : Vec Ideal S1024x256 .f32) (j : S1024x256.Idx) :
    k0_pay17 (F := Ideal) (k0_pay6 q) (k0_pay8 g) (k0_pay9 g o) (k0_pay10 l) x (k0_pay12 k) v j
      = (show FVec Ideal S1024x256 .f32 from x) j + ∑ r : Fin 512, slope q l k v g o r (j 0) * (show FVec Ideal S512x256 .bf16 from k) (ix2 r (j 1)) := by
  pointwise [k0_pay17, slope_tile]
  pointwise [k0_pay6, k0_pay12]
end

section
variable (q : Vec Ideal S1024x256 .bf16) (l : Vec Ideal S1x1x1024 .f32) (K : Vec Ideal S8192x256 .bf16)
  (V : Vec Ideal S8192x128 .bf16) (g : Vec Ideal S1024x128 .f32) (o : Vec Ideal S1024x128 .bf16)

/-- A key of tile `n`. -/
def key (n : Fin 16) (r : Fin 512) : Fin 8192 := ⟨n.val * 512 + r.val, by omega⟩

/-- A tile of the keys and its places among all of them: the gradients by its scores are the gradients by the scores there. -/
theorem slope_at {w : ℕ} (h₁ h₂) (r : Fin 512) (R : Fin 8192) (hR : R.val = w + r.val) (a : Fin 1024) :
    slope (n := 512) q l (View.ld K (Rect.unit ![w, 0] ![512, 256] h₁)) (View.ld V (Rect.unit ![w, 0] ![512, 128] h₂)) g o r a
      = slope q l K V g o R a := by
  obtain ⟨R, hb⟩ := R; dsimp only at hR; subst hR
  pointwise [slope, weight]

/-- The same of the weights. -/
theorem weight_at {w : ℕ} (h₁) (r : Fin 512) (R : Fin 8192) (hR : R.val = w + r.val) (a : Fin 1024) :
    weight (n := 512) q l (View.ld K (Rect.unit ![w, 0] ![512, 256] h₁)) r a = weight q l (show FVec Ideal S8192x256 .bf16 from K) R a := by
  obtain ⟨R, hb⟩ := R; dsimp only at hR; subst hR
  pointwise [weight]

/-- A tile of the keys added to the gradient by the keys, at its place among all of them. -/
theorem dk_at {w : ℕ} (h₁ h₂) (x : Vec Ideal S512x256 .f32) (j : S512x256.Idx) (y : S8192x256.Idx) (h0 : (y 0 : ℕ) = w + j 0) (h1 : (y 1 : ℕ) = j 1)
    {s : EReal} (hs : (show FVec Ideal S512x256 .f32 from x) j = s) :
    k0_pay16 (F := Ideal) (k0_pay6 q) (k0_pay8 g) (k0_pay9 g o) (k0_pay10 l) (k0_pay12 (View.ld K (Rect.unit ![w, 0] ![512, 256] h₁)))
      (View.ld V (Rect.unit ![w, 0] ![512, 128] h₂)) x j
      = s + ∑ a : Fin 1024, slope q l K V g o (y 0) a * (show FVec Ideal S1024x256 .bf16 from q) (ix2 a (y 1)) := by
  refine (dk_tile _ _ _ _ _ _ _ _).trans (congrArg₂ (· + ·) hs (Finset.sum_congr rfl fun a _ => ?_))
  have e1 : j 1 = y 1 := Fin.ext h1.symm
  exact congrArg₂ (· * ·) (slope_at q l K V g o h₁ h₂ (j 0) (y 0) h0 a) (congrArg (fun z => (show FVec Ideal S1024x256 .bf16 from q) (ix2 a z)) e1)

/-- A tile of the keys added to the gradient by the values, at its place among all of them. -/
theorem dv_at {w : ℕ} (h₁) (x : Vec Ideal S512x128 .f32) (j : S512x128.Idx) (y : S8192x128.Idx) (h0 : (y 0 : ℕ) = w + j 0) (h1 : (y 1 : ℕ) = j 1)
    {s : EReal} (hs : (show FVec Ideal S512x128 .f32 from x) j = s) :
    k0_pay15 (F := Ideal) (k0_pay6 q) (k0_pay7 g) (k0_pay10 l) (k0_pay12 (View.ld K (Rect.unit ![w, 0] ![512, 256] h₁))) x j
      = s + ∑ a : Fin 1024, weight q l (show FVec Ideal S8192x256 .bf16 from K) (y 0) a * (show FVec Ideal S1024x128 .f32 from g) (ix2 a (y 1)) := by
  refine (dv_tile _ _ _ _ _ _).trans (congrArg₂ (· + ·) hs (Finset.sum_congr rfl fun a _ => ?_))
  have e1 : j 1 = y 1 := Fin.ext h1.symm
  exact congrArg₂ (· * ·) (weight_at q l K h₁ (j 0) (y 0) h0 a) (congrArg (fun z => (show FVec Ideal S1024x128 .f32 from g) (ix2 a z)) e1)

/-- What tile `n` of the keys adds to the gradient by the queries. -/
def part (y : S1024x256.Idx) (n : Fin 16) : EReal :=
  ∑ r : Fin 512, slope q l K V g o (key n r) (y 0) * (show FVec Ideal S8192x256 .bf16 from K) (ix2 (key n r) (y 1))

/-- A tile cut out of all the keys holds the tile's keys. -/
theorem ld_key {w : ℕ} (n : Fin 16) (hw : w = n.val * 512) (h₁) (r : Fin 512) (x : Fin 256) :
    (show FVec Ideal S512x256 .bf16 from View.ld K (Rect.unit ![w, 0] ![512, 256] h₁)) (ix2 r x)
      = (show FVec Ideal S8192x256 .bf16 from K) (ix2 (key n r) x) := by
  subst hw
  pointwise [key]

/-- Adding a tile of the keys to the gradient by the queries. -/
theorem dq_step {w : ℕ} (n : Fin 16) (hw : w = n.val * 512) (h₁ h₂) (x : Vec Ideal S1024x256 .f32) (y : S1024x256.Idx) {s : EReal}
    (hs : (show FVec Ideal S1024x256 .f32 from x) y = s) :
    k0_pay17 (F := Ideal) (k0_pay6 q) (k0_pay8 g) (k0_pay9 g o) (k0_pay10 l) x (k0_pay12 (View.ld K (Rect.unit ![w, 0] ![512, 256] h₁)))
      (View.ld V (Rect.unit ![w, 0] ![512, 128] h₂)) y = s + part q l K V g o y n := by
  refine (dq_tile _ _ _ _ _ _ _ _).trans (congrArg₂ (· + ·) hs (Finset.sum_congr rfl fun r _ => ?_))
  exact congrArg₂ (· * ·) (slope_at q l K V g o h₁ h₂ r (key n r) (by rw [hw]; rfl) _) (ld_key K n hw h₁ r _)

/-- The last tile, and the block the body starts from, zero, under it all. -/
theorem dq_last {w : ℕ} (n : Fin 16) (hw : w = n.val * 512) (h₁ h₂) (x : Vec Ideal S1024x256 .f32) (y : S1024x256.Idx) {s : EReal}
    (hs : (show FVec Ideal S1024x256 .f32 from x) y = s) :
    k0_pay2 (F := Ideal) x (k0_pay12 (View.ld K (Rect.unit ![w, 0] ![512, 256] h₁)))
      (k0_pay14 (k0_pay6 q) (k0_pay8 g) (k0_pay9 g o) (k0_pay10 l) (k0_pay12 (View.ld K (Rect.unit ![w, 0] ![512, 256] h₁)))
        (View.ld V (Rect.unit ![w, 0] ![512, 128] h₂))) (show FVec Ideal S1024x256 .f32 from k0_pay3) y = s + part q l K V g o y n := by
  refine Eq.trans ?_ (dq_step q l K V g o n hw h₁ h₂ x y hs)
  pointwise [k0_pay2, k0_pay17, k0_pay3]
end

end Cert.AttnBwdIdeal.Value

end
-- ==== Proof.AttnBlocks.lean ====
/- Attention backward: what a grid point leaves in each output's block. -/
module

public import proofs.«01_k».proof.Proof.AttnTiles
public import Idealize.ShloMosaic.Lib.Pipeline.ReadBack

@[expose] public section

set_option maxRecDepth 16384

noncomputable section

namespace Cert.AttnBwdIdeal.Value

open Cert.AttnBwdIdeal Cert.AttnBwdIdeal.Gen
open Idealize.ShloMosaic Idealize.ShloMosaic.TcCoe Idealize.ShloMosaic.Tactic Idealize.SL.Sem
open Idealize.ShloMosaic.Pipeline (Dat)
open scoped BigOperators

/-- A load of a block of rows of the gradient by the keys, at its literal rows. -/
theorem at_rows2 {e : EltTy} {sp : Space} (v : View sig .tc sp S8192x256 e) (L : List (View.Piece (Elt Ideal) S8192x256 e)) (i : grid0.Coords) {n : ℕ} {sz : Fin 2 → ℕ}
    (h : ∀ a, k0_off2 i (BitVec.ofNat 32 n) a + sz a ≤ S8192x256.size a) (hn : n = 512 * (n / 512) ∧ n / 512 < 16) :
    v.readCov L (Rect.unit (k0_off2 i (BitVec.ofNat 32 n)) sz h).toLoadRect
      = v.readCov L (Rect.unit ![n, 0] sz ((show k0_off2 i (BitVec.ofNat 32 n) = ![n, 0] by
          rw [hn.1]; exact Body.rows2 i ⟨n / 512, hn.2⟩) ▸ h)).toLoadRect := by
  have e : k0_off2 i (BitVec.ofNat 32 n) = ![n, 0] := by
    rw [hn.1]; exact Body.rows2 i ⟨n / 512, hn.2⟩
  congr 2
  simp only [e]

/-- A load of a block of rows of the gradient by the values, at its literal rows. -/
theorem at_rows1 {e : EltTy} {sp : Space} (v : View sig .tc sp S8192x128 e) (L : List (View.Piece (Elt Ideal) S8192x128 e)) (i : grid0.Coords) {n : ℕ} {sz : Fin 2 → ℕ}
    (h : ∀ a, k0_off1 i (BitVec.ofNat 32 n) a + sz a ≤ S8192x128.size a) (hn : n = 512 * (n / 512) ∧ n / 512 < 16) :
    v.readCov L (Rect.unit (k0_off1 i (BitVec.ofNat 32 n)) sz h).toLoadRect
      = v.readCov L (Rect.unit ![n, 0] sz ((show k0_off1 i (BitVec.ofNat 32 n) = ![n, 0] by
          rw [hn.1]; exact Body.rows1 i ⟨n / 512, hn.2⟩) ▸ h)).toLoadRect := by
  have e : k0_off1 i (BitVec.ofNat 32 n) = ![n, 0] := by
    rw [hn.1]; exact Body.rows1 i ⟨n / 512, hn.2⟩
  congr 2
  simp only [e]

variable (m : (ℓ : Loc nD τ sig) → Buf (Elt Ideal) ℓ)

/-- What a tile of queries adds to the gradient by the keys. -/
def dkPart (c : Dev nD) (t : Fin cfg0.N) (y : S8192x256.Idx) : EReal :=
  ∑ a : Fin 1024, slope (iblk m c 0 t) (iblk m c 4 t) (iblk m c 1 t) (iblk m c 2 t) (iblk m c 5 t) (iblk m c 3 t) (y 0) a
    * (show FVec Ideal S1024x256 .bf16 from iblk m c 0 t) (ix2 a (y 1))

/-- What a tile of queries adds to the gradient by the values. -/
def dvPart (c : Dev nD) (t : Fin cfg0.N) (y : S8192x128.Idx) : EReal :=
  ∑ a : Fin 1024, weight (iblk m c 0 t) (iblk m c 4 t) (show FVec Ideal S8192x256 .bf16 from iblk m c 1 t) (y 0) a
    * (show FVec Ideal S1024x128 .f32 from iblk m c 5 t) (ix2 a (y 1))

/-- A tile of the keys added to nothing, at its place among all of them: the tile of queries' part of the gradient by the keys. -/
theorem dk_first (c : Dev nD) (t : Fin cfg0.N) {w : ℕ} (h₁ h₂) (x : Vec Ideal S512x256 .f32) (j : S512x256.Idx) (y : S8192x256.Idx) (h0 : (y 0 : ℕ) = w + j 0)
    (h1 : (y 1 : ℕ) = 0 + j 1) (hs : (show FVec Ideal S512x256 .f32 from x) j = 0) :
    k0_pay16 (F := Ideal) (k0_pay6 (iblk m c 0 t)) (k0_pay8 (iblk m c 5 t)) (k0_pay9 (iblk m c 5 t) (iblk m c 3 t)) (k0_pay10 (iblk m c 4 t))
      (k0_pay12 (View.ld (show Vec Ideal S8192x256 .bf16 from iblk m c 1 t) (Rect.unit ![w, 0] ![512, 256] h₁)))
      (View.ld (show Vec Ideal S8192x128 .bf16 from iblk m c 2 t) (Rect.unit ![w, 0] ![512, 128] h₂)) x j = dkPart m c t y :=
  (dk_at _ _ _ _ _ _ h₁ h₂ x j y h0 (h1.trans (Nat.zero_add _)) hs).trans (zero_add _)

/-- The same of the gradient by the values. -/
theorem dv_first (c : Dev nD) (t : Fin cfg0.N) {w : ℕ} (h₁) (x : Vec Ideal S512x128 .f32) (j : S512x128.Idx) (y : S8192x128.Idx) (h0 : (y 0 : ℕ) = w + j 0)
    (h1 : (y 1 : ℕ) = 0 + j 1) (hs : (show FVec Ideal S512x128 .f32 from x) j = 0) :
    k0_pay15 (F := Ideal) (k0_pay6 (iblk m c 0 t)) (k0_pay7 (iblk m c 5 t)) (k0_pay10 (iblk m c 4 t))
      (k0_pay12 (View.ld (show Vec Ideal S8192x256 .bf16 from iblk m c 1 t) (Rect.unit ![w, 0] ![512, 256] h₁))) x j = dvPart m c t y :=
  (dv_at _ _ _ _ h₁ x j y h0 (h1.trans (Nat.zero_add _)) hs).trans (zero_add _)

/-- At a later tile of queries of a head the gradient by the keys grows by the tile's part. -/
theorem dk_step (c : Dev nD) (t : Fin cfg0.N) (h : ¬ t.val % 8 = 0) (y : S8192x256.Idx) :
    (Body.outsAt0 m c t.val t.isLt).2.1 y
      = (Body.outsAt0 m c (t.val - 1) (Nat.lt_of_le_of_lt (Nat.sub_le _ _) t.isLt)).2.1 y + dkPart m c t y := by
  rw [Body.outsAt0_B m c t h]; frame_out
  canon_tiles x h using View.cover_of_tiledBy _ ![512, 256] (by sl_kernel_rfl) y
  all_goals
    refine dk_at _ _ _ _ _ _ _ _ _ x y ?_ h1 ?_
    · omega
    · pointwise
      blk_ext

set_option maxHeartbeats 1600000 in
/-- At the first tile of queries of a head it is the tile's part. -/
theorem dk_start (c : Dev nD) (t : Fin cfg0.N) (h : t.val % 8 = 0) (y : S8192x256.Idx) :
    (Body.outsAt0 m c t.val t.isLt).2.1 y = dkPart m c t y := by
  rw [Body.outsAt0_A m c t h]; frame_out
  refine View.canon_append_of_piecesOf (Val := Elt Ideal) (e := .f32) (dkPart m c t) [_] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL _ ![512, 256] (by sl_kernel_rfl) y)
  all_goals
    intro x
    dsimp only
    refine dk_first m c t _ _ _ _ _ ?_ ?_ ?_
    · exact ValueKit.rect_emb_unit_val _ _ _ _ 0
    · exact ValueKit.rect_emb_unit_val _ _ _ _ 1
    dsimp only
    rw [at_rows2 (hn := by decide)]
    repeat (rw [View.readCov_skip]; rotate_left; exact rfl)
    rw [View.readCov_fill]
    · pointwise [k0_pay4]
    · decide

/-- At a later tile of queries of a head the gradient by the values grows by the tile's part. -/
theorem dv_step (c : Dev nD) (t : Fin cfg0.N) (h : ¬ t.val % 8 = 0) (y : S8192x128.Idx) :
    (Body.outsAt0 m c t.val t.isLt).2.2 y
      = (Body.outsAt0 m c (t.val - 1) (Nat.lt_of_le_of_lt (Nat.sub_le _ _) t.isLt)).2.2 y + dvPart m c t y := by
  rw [Body.outsAt0_B m c t h]; frame_out
  canon_tiles x h using View.cover_of_tiledBy _ ![512, 128] (by sl_kernel_rfl) y
  all_goals
    refine dv_at _ _ _ _ _ _ x y ?_ h1 ?_
    · omega
    · pointwise
      blk_ext

set_option maxHeartbeats 1600000 in
/-- At the first tile of queries of a head it is the tile's part. -/
theorem dv_start (c : Dev nD) (t : Fin cfg0.N) (h : t.val % 8 = 0) (y : S8192x128.Idx) :
    (Body.outsAt0 m c t.val t.isLt).2.2 y = dvPart m c t y := by
  rw [Body.outsAt0_A m c t h]; frame_out
  refine View.canon_append_of_piecesOf (Val := Elt Ideal) (e := .f32) (dvPart m c t) [_] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL _ ![512, 128] (by sl_kernel_rfl) y)
  all_goals
    intro x
    dsimp only
    refine dv_first m c t _ _ _ _ ?_ ?_ ?_
    · exact ValueKit.rect_emb_unit_val _ _ _ _ 0
    · exact ValueKit.rect_emb_unit_val _ _ _ _ 1
    dsimp only
    rw [at_rows1 (hn := by decide)]
    repeat (rw [View.readCov_skip]; rotate_left; exact rfl)
    rw [View.readCov_fill]
    · pointwise [k0_pay5]
    · decide

/-- A sum over the tiles in their order. -/
theorem sum_tiles (f : Fin 16 → EReal) :
    ∑ n : Fin 16, f n = 0 + f 0 + f 1 + f 2 + f 3 + f 4 + f 5 + f 6 + f 7 + f 8 + f 9 + f 10 + f 11 + f 12 + f 13 + f 14 + f 15 := by
  simp only [Fin.sum_univ_castSucc, Finset.univ_eq_empty, Finset.sum_empty]
  rfl

set_option maxHeartbeats 1600000 in
/-- What a grid point leaves of the gradient by the queries: the parts of the sixteen tiles of keys, in turn. -/
theorem dq_point (c : Dev nD) (t : Fin cfg0.N) (y : S1024x256.Idx) :
    (Body.outsAt0 m c t.val t.isLt).1 y
      = ∑ n : Fin 16, part (iblk m c 0 t) (iblk m c 4 t) (iblk m c 1 t) (iblk m c 2 t) (iblk m c 5 t) (iblk m c 3 t) y n := by
  rw [sum_tiles]
  by_cases h : t.val % 8 = 0
  · rw [Body.outsAt0_A m c t h]; frame_out
    refine dq_last _ _ _ _ _ _ 15 (by rfl) _ _ _ y ?_
    iterate 15 refine dq_step _ _ _ _ _ _ _ (by rfl) _ _ _ y ?_
    pointwise [k0_pay11]
  · rw [Body.outsAt0_B m c t h]; frame_out
    refine dq_last _ _ _ _ _ _ 15 (by rfl) _ _ _ y ?_
    iterate 15 refine dq_step _ _ _ _ _ _ _ (by rfl) _ _ _ y ?_
    pointwise [k0_pay11]

end Cert.AttnBwdIdeal.Value

end
-- ==== Proof.AttnFinals.lean ====
/- Attention backward: the three gradient arrays after the region, as sums over the arrays the region reads. -/
module

public import proofs.«01_k».proof.Proof.AttnBlocks

@[expose] public section

set_option maxRecDepth 16384

noncomputable section

namespace Cert.AttnBwdIdeal.Value

open Cert.AttnBwdIdeal Cert.AttnBwdIdeal.Gen
open Idealize.ShloMosaic Idealize.ShloMosaic.TcCoe Idealize.ShloMosaic.Tactic Idealize.SL.Sem
open Idealize.ShloMosaic.Pipeline (Dat)
open scoped BigOperators

/-- Column `x` of head `h` among the padded query and key columns. -/
def qcol (h : Fin 8) (x : Fin 256) : Fin 2048 := ⟨h.val * 256 + x.val, by omega⟩
/-- Column `x` of head `h` among the value columns. -/
def vcol (h : Fin 8) (x : Fin 128) : Fin 1024 := ⟨h.val * 128 + x.val, by omega⟩
/-- The head a padded query or key column belongs to. -/
def qhead (j : Fin 2048) : Fin 8 := ⟨j.val / 256, by omega⟩
/-- The head a value column belongs to. -/
def vhead (j : Fin 1024) : Fin 8 := ⟨j.val / 128, by omega⟩

section
variable (Q K : FVec Ideal S8192x2048 .bf16) (V : FVec Ideal S8192x1024 .bf16) (O : FVec Ideal S8192x1024 .bf16)
  (L : FVec Ideal S8x1x8192 .f32) (G : FVec Ideal S8192x1024 .f32)

/-- The weight query `r` gives key `k` in head `h`. -/
def wgt (h : Fin 8) (k r : Fin 8192) : EReal :=
  Ideal.exp2 ((∑ x : Fin 256, K (ix2 k (qcol h x)) * Q (ix2 r (qcol h x))) - L (ix3 h 0 r))

/-- The gradient by the score of query `r` and key `k` in head `h`, times the logarithm of two. -/
def slp (h : Fin 8) (k r : Fin 8192) : EReal :=
  wgt Q K L h k r * ((∑ x : Fin 128, V (ix2 k (vcol h x)) * (G (ix2 r (vcol h x)) * ((Real.log 2 : ℝ) : EReal)))
    - ∑ x : Fin 128, G (ix2 r (vcol h x)) * ((Real.log 2 : ℝ) : EReal) * O (ix2 r (vcol h x)))

/-- The gradient by the queries. -/
def dQ : FVec Ideal S8192x2048 .f32 := fun i => ∑ k : Fin 8192, slp Q K V O L G (qhead (i 1)) k (i 0) * K (ix2 k (i 1))
/-- The gradient by the keys. -/
def dK : FVec Ideal S8192x2048 .f32 := fun i => ∑ r : Fin 8192, slp Q K V O L G (qhead (i 1)) (i 0) r * Q (ix2 r (i 1))
/-- The gradient by the values. -/
def dV : FVec Ideal S8192x1024 .f32 := fun i => ∑ r : Fin 8192, wgt Q K L (vhead (i 1)) (i 0) r * G (ix2 r (i 1))
end

/-- Which block each window shows at point `t`. -/
theorem at_point : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val / 8, 0, t.val % 8]
    ∧ win0_5.index t = ![t.val % 8, t.val / 8] ∧ win0_6.index t = ![t.val % 8, t.val / 8] ∧ win0_7.index t = ![0, t.val / 8]
    ∧ win0_8.index t = ![0, t.val / 8] :=
  (by decide +kernel : ∀ t : Fin grid0.N, _)

variable (m : (ℓ : Loc nD τ sig) → Buf (Elt Ideal) ℓ)

/-- The scaled queries the region reads. -/
abbrev Qa (c : Dev nD) : FVec Ideal S8192x2048 .bf16 := V m c main_v7
/-- The keys the region reads. -/
abbrev Ka (c : Dev nD) : FVec Ideal S8192x2048 .bf16 := V m c main_v10
/-- The values the region reads. -/
abbrev Va (c : Dev nD) : FVec Ideal S8192x1024 .bf16 := V m c main_v12
/-- The attention's output the region reads. -/
abbrev Oa (c : Dev nD) : FVec Ideal S8192x1024 .bf16 := V m c main_v28
/-- The rows' log-sums the region reads. -/
abbrev La (c : Dev nD) : FVec Ideal S8x1x8192 .f32 := V m c main_v34
/-- The cotangent the region reads. -/
abbrev Ga (c : Dev nD) : FVec Ideal S8192x1024 .f32 := V m c main_arg3

theorem dQ_final (c : Dev nD) : (Body.dats m 0 c).arrAt 6 cfg0.N = dQ (Qa m c) (Ka m c) (Va m c) (Oa m c) (La m c) (Ga m c) := by
  refine (Body.dats m 0 c).arrAt_eq_of_covers 6 _ (by decide +kernel) fun t hf y => ?_
  blk_simp
  rw [Body.after0_6, dq_point]
  unfold dQ part
  refine Fin.sum_mul_add_congr fun s k hl => ?_
  unfold slope weight key slp wgt qhead qcol vcol
  blk_point [iblk, at_point t]

theorem dK_final (c : Dev nD) : (Body.dats m 0 c).arrAt 7 cfg0.N = dK (Qa m c) (Ka m c) (Va m c) (Oa m c) (La m c) (Ga m c) := by
  refine (Body.dats m 0 c).arrAt_eq_of_covers 7 _ (by decide +kernel) fun t hf y => ?_
  blk_simp
  rw [Body.after0_7, Pipeline.eq_sum_fin_of_reset_step_apply_of_flush (fun n h => (Body.outsAt0 m c n h).2.1) 8 (fun _ => 0) (dkPart m c)
    (fun t h j => (dk_start m c t h j).trans (zero_add _).symm) (fun t h j => dk_step m c t h j) t ((flush0_7 t).mp hf) _, zero_add]
  unfold dK dkPart
  refine Fin.sum_mul_add_congr fun s k hl => ?_
  unfold slope weight slp wgt qhead qcol vcol
  blk_point [iblk, at_point t, at_point ⟨_, Pipeline.run_point_lt_of_flush t ((flush0_7 t).mp hf) s⟩]

theorem dV_final (c : Dev nD) : (Body.dats m 0 c).arrAt 8 cfg0.N = dV (Qa m c) (Ka m c) (La m c) (Ga m c) := by
  refine (Body.dats m 0 c).arrAt_eq_of_covers 8 _ (by decide +kernel) fun t hf y => ?_
  blk_simp
  rw [Body.after0_8, Pipeline.eq_sum_fin_of_reset_step_apply_of_flush (fun n h => (Body.outsAt0 m c n h).2.2) 8 (fun _ => 0) (dvPart m c)
    (fun t h j => (dv_start m c t h j).trans (zero_add _).symm) (fun t h j => dv_step m c t h j) t ((flush0_8 t).mp hf) _, zero_add]
  unfold dV dvPart
  refine Fin.sum_mul_add_congr fun s k hl => ?_
  unfold weight wgt vhead qcol
  blk_point [iblk, at_point t, at_point ⟨_, Pipeline.run_point_lt_of_flush t ((flush0_8 t).mp hf) s⟩]

end Cert.AttnBwdIdeal.Value

end
-- ==== Proof.AttnReal.lean ====
/- Softmax attention over real numbers: the weights, their log-sum form, and the gradient by the scores. -/
module

public import proofs.«01_k».proof.Proof.Scalars

@[expose] public section

noncomputable section

namespace Cert.AttnMath

open Idealize.ShloMosaic
open scoped BigOperators

/-- A sum of real numbers, summed as extended reals. -/
theorem coe_sum {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ ?_ ?_
  · simp
  · intro a s ha ih
    rw [Finset.sum_insert ha, Finset.sum_insert ha, ih, EReal.coe_add]

/-- The greatest of finitely many real numbers. -/
def top (f : Fin 8192 → ℝ) : ℝ := Finset.univ.sup' ⟨0, Finset.mem_univ _⟩ f

/-- A running maximum that begins below every real number ends at the greatest entry. -/
theorem fold_max (f : Fin 8192 → ℝ) :
    Finset.fold max (⊥ : EReal) (fun x => ((f x : ℝ) : EReal)) Finset.univ = ((top f : ℝ) : EReal) := by
  have h : Finset.fold max (⊥ : EReal) (fun x => ((f x : ℝ) : EReal)) Finset.univ = Finset.univ.sup (fun x => ((f x : ℝ) : EReal)) := rfl
  rw [h, ← Finset.sup'_eq_sup ⟨0, Finset.mem_univ _⟩]
  exact (Finset.comp_sup'_eq_sup'_comp (s := Finset.univ) (H := ⟨0, Finset.mem_univ _⟩) (f := f) (fun x : ℝ => (x : EReal)) (fun x y => (EReal.coe_strictMono.monotone.map_max (a := x) (b := y)))).symm

theorem div_real (x : ℝ) {y : ℝ} (h : y ≠ 0) : Ideal.div (x : EReal) (y : EReal) = ((x / y : ℝ) : EReal) := by
  rw [Ideal.div_coe h, ← EReal.coe_mul]; congr 1; ring

theorem log_real {x : ℝ} (h : 0 < x) : Ideal.log (x : EReal) = ((Real.log x : ℝ) : EReal) := by
  rw [Ideal.log_coe, if_neg (not_le.mpr h)]

theorem sum_exp_pos (f : Fin 8192 → ℝ) : 0 < ∑ x, Real.exp (f x) :=
  Finset.sum_pos (fun x _ => Real.exp_pos _) ⟨0, Finset.mem_univ _⟩

theorem log_two_ne : Real.log 2 ≠ 0 := (Real.log_pos (by norm_num)).ne'

variable (s : Fin 8192 → ℝ)

/-- The exponential of one score over the greatest one. -/
def ex (s : Fin 8192 → ℝ) (k : Fin 8192) : ℝ := Real.exp (s k - top s)
/-- The row's sum of exponentials. -/
def tot (s : Fin 8192 → ℝ) : ℝ := ∑ k, ex s k

theorem tot_pos : 0 < tot s := sum_exp_pos _

/-- The weight by the log-sum to base two is the softmax weight. -/
theorem weight_eq (k : Fin 8192) :
    Real.rpow 2 (s k / Real.log 2 - (top s + Real.log (tot s)) / Real.log 2) = ex s k / tot s := by
  have h := log_two_ne
  have ht := tot_pos s
  rw [Real.rpow_eq_pow, Real.rpow_def_of_pos (by norm_num), show Real.log 2 * (s k / Real.log 2 - (top s + Real.log (tot s)) / Real.log 2)
    = (s k - top s) - Real.log (tot s) by field_simp; ring, Real.exp_sub, Real.exp_log ht]
  rfl

/-- The row's sum of cotangent times output, as a weighted sum over the keys. -/
theorem delta_eq {d : Nat} (v : Fin 8192 → Fin d → ℝ) (g : Fin d → ℝ) (l : ℝ) :
    ∑ x, g x * l * (∑ k, v k x * (ex s k / tot s)) = l * ∑ k, (∑ x, g x * v k x) * (ex s k / tot s) := by
  simp only [Finset.mul_sum, Finset.sum_mul]
  rw [Finset.sum_comm]
  refine Finset.sum_congr rfl fun k _ => Finset.sum_congr rfl fun x _ => ?_
  ring

/-- The two spellings of the gradient by a score agree. -/
theorem slope_eq {d : Nat} (v : Fin 8192 → Fin d → ℝ) (g : Fin d → ℝ) (c : ℝ) (k : Fin 8192) :
    ex s k / tot s * (∑ x, v k x * (g x * Real.log 2) - ∑ x, g x * Real.log 2 * (∑ r, v r x * (ex s r / tot s))) * c / Real.log 2
      = (-(∑ r, (∑ x, g x * v r x) * (1 / (tot s * tot s)) * ex s r) + (∑ x, g x * v k x) / tot s) * ex s k * c := by
  have h := log_two_ne
  have ht := (tot_pos s).ne'
  rw [delta_eq]
  have h1 : ∑ x, v k x * (g x * Real.log 2) = Real.log 2 * ∑ x, g x * v k x := by
    rw [Finset.mul_sum]; exact Finset.sum_congr rfl fun x _ => by ring
  have h2 : ∑ r, (∑ x, g x * v r x) * (1 / (tot s * tot s)) * ex s r = (∑ r, (∑ x, g x * v r x) * (ex s r / tot s)) / tot s := by
    rw [Finset.sum_div]; exact Finset.sum_congr rfl fun x _ => by field_simp
  rw [h1, h2]
  field_simp
  ring

theorem div_sum (x : ℝ) (f : Fin 8192 → ℝ) :
    Ideal.div (x : EReal) ((∑ y, Real.exp (f y) : ℝ) : EReal) = ((x / ∑ y, Real.exp (f y) : ℝ) : EReal) :=
  div_real x (sum_exp_pos f).ne'

theorem div_sum_sq (f : Fin 8192 → ℝ) :
    Ideal.div 1 (((∑ y, Real.exp (f y)) * ∑ y, Real.exp (f y) : ℝ) : EReal) = ((1 / ((∑ y, Real.exp (f y)) * ∑ y, Real.exp (f y)) : ℝ) : EReal) :=
  div_real 1 (mul_ne_zero (sum_exp_pos f).ne' (sum_exp_pos f).ne')

/-- The scale of the scores, as the number its bit pattern stands for. -/
def scale : ℝ := 9686330 / 134217728

theorem scale_bits : Ideal.ofBits .f32 1033096506#32 = ((scale : ℝ) : EReal) := by
  unfold scale; simp [Ideal.ofBits, Ideal.ieee, -EReal.coe_mul]; norm_num

theorem bot_bits : Ideal.ofBits .f32 4286578688#32 = (⊥ : EReal) := by
  simp [Ideal.ofBits, Ideal.ieee]

/-- The scores of one query row of one head against every key. -/
def score (q k : Fin 8192 → Fin 8 → Fin 192 → ℝ) (a : Fin 8192) (b : Fin 8) (r : Fin 8192) : ℝ := (∑ x, q a b x * k r b x) * scale

/-- The gradient by one score, as the softmax's own derivative writes it. -/
def slopeRef {d : Nat} (s : Fin 8192 → ℝ) (v : Fin 8192 → Fin d → ℝ) (g : Fin d → ℝ) (k : Fin 8192) : ℝ :=
  ((∑ x, g x * v k x) / tot s + -(∑ r, (∑ x, g x * v r x) * (1 / (tot s * tot s)) * ex s r)) * ex s k * scale

/-- The gradient by one score, as the tiled computation writes it, before its last scale. -/
def slopeTile {d : Nat} (s : Fin 8192 → ℝ) (v : Fin 8192 → Fin d → ℝ) (g : Fin d → ℝ) (k : Fin 8192) : ℝ :=
  ex s k / tot s * (∑ x, v k x * (g x * Real.log 2) - ∑ x, g x * Real.log 2 * (∑ r, v r x * (ex s r / tot s)))

theorem slopes_agree {d : Nat} (v : Fin 8192 → Fin d → ℝ) (g : Fin d → ℝ) (k : Fin 8192) :
    slopeTile s v g k * scale / Real.log 2 = slopeRef s v g k :=
  (slope_eq s v g scale k).trans (by unfold slopeRef; ring)

end Cert.AttnMath

end
-- ==== Proof.AttnEntries.lean ====
/- Attention backward: the arrays the region reads, and the three results, at an index, over arguments that are
   real numbers. -/
module

public import proofs.«01_k».proof.Proof.AttnFinals
public import proofs.«01_k».proof.Proof.AttnReal
public import Idealize.ShloMosaic.Lib.Claim

@[expose] public section

set_option maxRecDepth 16384

noncomputable section

namespace Cert.AttnBwdIdeal.Value

open Cert.AttnBwdIdeal Cert.AttnBwdIdeal.Gen Cert.AttnMath
open Idealize.ShloMosaic Idealize.ShloMosaic.TcCoe Idealize.ShloMosaic.Tactic Idealize.SL.Sem
open Idealize.ShloMosaic.Pipeline (Dat)
open scoped BigOperators

/-! What the host computes from the arguments. -/

/-- Heads of 192 columns widened with zeros to 256. -/
def padded (x : FVec Ideal S8192x8x192 .f32) : FVec Ideal S8192x8x256 .f32 :=
  pad S8192x8x256 ![0, 0, 0] ![0, 0, 64] ![0, 0, 0] x (sitofp .f32 (constantI S_ 32 0#32)) pads_S8192x8x192_S8192x8x256_000_000_0640 h_S_

/-- The scaled queries. -/
def qArr (q : FVec Ideal S8192x8x192 .f32) : FVec Ideal S8192x2048 .bf16 :=
  truncf .bf16 (shapeCast S8192x2048 (Host.divf (mulf (padded q) (broadcastInDim S8192x8x256 ![] bcast_S_S8192x8x256 (constant S_ .f32 1033096506#32)))
    (broadcastInDim S8192x8x256 ![] bcast_S_S8192x8x256 (Host.log (constant S_ .f32 1073741824#32)))) shapeCasts_S8192x8x256_S8192x2048) bitsLt_bf16_f32
/-- The keys. -/
def kArr (k : FVec Ideal S8192x8x192 .f32) : FVec Ideal S8192x2048 .bf16 :=
  truncf .bf16 (shapeCast S8192x2048 (padded k) shapeCasts_S8192x8x256_S8192x2048) bitsLt_bf16_f32
/-- The values. -/
def vArr (v : FVec Ideal S8192x8x128 .f32) : FVec Ideal S8192x1024 .bf16 :=
  truncf .bf16 (shapeCast S8192x1024 v shapeCasts_S8192x8x128_S8192x1024) bitsLt_bf16_f32
/-- Every query's score against every key. -/
def scores (q k : FVec Ideal S8192x8x192 .f32) : FVec Ideal S8x8192x8192 .f32 :=
  mulf (Host.dotGeneral dot_S8192x8x192_S8192x8x192_S8x8192x8192_2_2_0_0_1_1 none q k) (broadcastInDim S8x8192x8192 ![] bcast_S_S8x8192x8192 (constant S_ .f32 1033096506#32))
/-- The greatest score of every row. -/
def tops (s : FVec Ideal S8x8192x8192 .f32) : FVec Ideal S8x8192 .f32 :=
  Host.reduce FloatOps.maximumf s (constant S_ .f32 4286578688#32) reducesTo_S8x8192x8192_S8x8192_d2 h_S_
/-- The exponentials of the scores over their row's greatest. -/
def expos (s : FVec Ideal S8x8192x8192 .f32) (z : FVec Ideal S8x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1 z)))
/-- The rows' sums. -/
def sums (E : FVec Ideal S8x8192x8192 .f32) : FVec Ideal S8x8192 .f32 :=
  Host.reduceAdd E (constant S_ .f32 0#32) reducesTo_S8x8192x8192_S8x8192_d2 h_S_
/-- The attention's output. -/
def outs (v : FVec Ideal S8192x8x128 .f32) (E : FVec Ideal S8x8192x8192 .f32) (l : FVec Ideal S8x8192 .f32) : FVec Ideal S8192x1024 .bf16 :=
  truncf .bf16 (shapeCast S8192x1024 (transpose S8192x8x128 [2, 0, 1] (Host.dotGeneral dot_S8192x8x128_S8x8192x8192_S8x128x8192_0_2_2_1_1_0 none v
    (Host.divf E (broadcastInDim S8x8192x8192 ![0, 1, 2] bcast_S8x8192x1_S8x8192x8192_0_1_2 (broadcastInDim S8x8192x1 ![0, 1] bcast_S8x8192_S8x8192x1_0_1 l))))
    transposes_S8x128x8192_S8192x8x128_2_0_1) shapeCasts_S8192x8x128_S8192x1024) bitsLt_bf16_f32
/-- The rows' log-sums to base two. -/
def lses (z l : FVec Ideal S8x8192 .f32) : FVec Ideal S8x1x8192 .f32 :=
  shapeCast S8x1x8192 (Host.divf (addf (broadcastInDim S8x8192x1 ![0, 1] bcast_S8x8192_S8x8192x1_0_1 z) (Host.log (broadcastInDim S8x8192x1 ![0, 1] bcast_S8x8192_S8x8192x1_0_1 l)))
    (broadcastInDim S8x8192x1 ![] bcast_S_S8x8192x1 (Host.log (constant S_ .f32 1073741824#32)))) shapeCasts_S8x8192x1_S8x1x8192

section
variable (m : (ℓ : Loc nD τ sig) → Buf (Elt Ideal) ℓ) (c : Dev nD)
/-- The exponentials the host computes. -/
def E0 (Q K : FVec Ideal S8192x8x192 .f32) : FVec Ideal S8x8192x8192 .f32 := expos (scores Q K) (tops (scores Q K))

theorem q_text : Qa m c = qArr (m (c.tc.loc main_arg0)) := by
  unfold Qa
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem k_text : Ka m c = kArr (m (c.tc.loc main_arg1)) := by
  unfold Ka
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem v_text : Va m c = vArr (m (c.tc.loc main_arg2)) := by
  unfold Va
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem o_text : Oa m c = outs (m (c.tc.loc main_arg2)) (E0 (m (c.tc.loc main_arg0)) (m (c.tc.loc main_arg1))) (sums (E0 (m (c.tc.loc main_arg0)) (m (c.tc.loc main_arg1)))) := by
  unfold Oa
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem l_text : La m c = lses (tops (scores (m (c.tc.loc main_arg0)) (m (c.tc.loc main_arg1)))) (sums (E0 (m (c.tc.loc main_arg0)) (m (c.tc.loc main_arg1)))) := by
  unfold La
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

end

/-! Each array at an index. -/

theorem padded_low (x) (a : Fin 8192) (b : Fin 8) (y : Fin 192) : padded x (ix3 a b (Fin.castLE (by decide) y)) = x (ix3 a b y) := by
  pointwise [padded, Fin.val_castLE]
theorem padded_high (x) (a : Fin 8192) (b : Fin 8) (y : Fin 256) (h : 192 ≤ y.val) : padded x (ix3 a b y) = 0 := by
  pointwise [padded]
  rw [dif_neg (by omega)]
  show ((((0#32 : BitVec 32).toInt : ℝ)) : EReal) = 0
  simp
theorem scores_at (q k) (a r : Fin 8192) (b : Fin 8) : scores q k (ix3 b a r) = (∑ x, q (ix3 a b x) * k (ix3 r b x)) * Ideal.ofBits .f32 1033096506#32 := by
  pointwise [scores]
theorem tops_at (s) (a : Fin 8192) (b : Fin 8) : tops s (ix2 b a) = Finset.univ.fold max (Ideal.ofBits .f32 4286578688#32) fun r : Fin 8192 => s (ix3 b a r) := by
  pointwise [tops]
theorem expos_at (s z) (a r : Fin 8192) (b : Fin 8) : expos s z (ix3 b a r) = Ideal.exp (s (ix3 b a r) - z (ix2 b a)) := by
  pointwise [expos]
theorem sums_at (E) (a : Fin 8192) (b : Fin 8) : sums E (ix2 b a) = ∑ r : Fin 8192, E (ix3 b a r) := by
  pointwise [sums]
theorem qArr_at (q) (a : Fin 8192) (b : Fin 8) (x : Fin 256) : qArr q (ix2 a (qcol b x))
    = Ideal.div (padded q (ix3 a b x) * Ideal.ofBits .f32 1033096506#32) (Ideal.log (Ideal.ofBits .f32 1073741824#32)) := by
  unfold qArr
  generalize padded q = p
  pointwise [qcol]
theorem kArr_at (k) (a : Fin 8192) (b : Fin 8) (x : Fin 256) : kArr k (ix2 a (qcol b x)) = padded k (ix3 a b x) := by
  unfold kArr
  generalize padded k = p
  pointwise [qcol]
theorem vArr_at (v) (a : Fin 8192) (b : Fin 8) (x : Fin 128) : vArr v (ix2 a (vcol b x)) = v (ix3 a b x) := by
  pointwise [vArr, vcol]
theorem outs_at (v E l) (a : Fin 8192) (b : Fin 8) (x : Fin 128) : outs v E l (ix2 a (vcol b x))
    = ∑ r : Fin 8192, v (ix3 r b x) * Ideal.div (E (ix3 b a r)) (l (ix2 b a)) := by
  pointwise [outs, vcol]
theorem lses_at (z l) (a : Fin 8192) (b : Fin 8) : lses z l (ix3 b 0 a)
    = Ideal.div (z (ix2 b a) + Ideal.log (l (ix2 b a))) (Ideal.log (Ideal.ofBits .f32 1073741824#32)) := by
  pointwise [lses]

/-! The three results. -/

variable (m : (ℓ : Loc nD τ sig) → Buf (Elt Ideal) ℓ)

theorem dv_entry (c : Dev nD) (a : Fin 8192) (b : Fin 8) (x : Fin 128) :
    (show FVec Ideal S8192x8x128 .f32 from Pipeline.afterTail₀ cfgs (Body.dats m) 0 (V0 m) [hostOps1] c main_v45) (ix3 a b x)
      = dV (Qa m c) (Ka m c) (La m c) (Ga m c) (ix2 a (vcol b x)) := by
  rw [← dV_final]
  unfold Pipeline.afterTail₀
  simp only [hostOps1, List.flatten_cons, List.flatten_nil, List.append_nil, StableHlo.after_cons, StableHlo.after_nil]
  after_results_simp
  after_results_loop
  erw [Pipeline.withArrays_arr spec0 (by decide) c _ _ 8]
  pointwise [vcol]

theorem dk_entry (c : Dev nD) (a : Fin 8192) (b : Fin 8) (x : Fin 192) :
    (show FVec Ideal S8192x8x192 .f32 from Pipeline.afterTail₀ cfgs (Body.dats m) 0 (V0 m) [hostOps1] c main_v44) (ix3 a b x)
      = dK (Qa m c) (Ka m c) (Va m c) (Oa m c) (La m c) (Ga m c) (ix2 a (qcol b (Fin.castLE (by decide) x))) := by
  rw [← dK_final]
  unfold Pipeline.afterTail₀
  simp only [hostOps1, List.flatten_cons, List.flatten_nil, List.append_nil, StableHlo.after_cons, StableHlo.after_nil]
  after_results_simp
  after_results_loop
  erw [Pipeline.withArrays_arr spec0 (by decide) c _ _ 7]
  pointwise [qcol, Fin.val_castLE]

theorem dq_entry (c : Dev nD) (a : Fin 8192) (b : Fin 8) (x : Fin 192) :
    (show FVec Ideal S8192x8x192 .f32 from Pipeline.afterTail₀ cfgs (Body.dats m) 0 (V0 m) [hostOps1] c main_v42) (ix3 a b x)
      = Ideal.div (dQ (Qa m c) (Ka m c) (Va m c) (Oa m c) (La m c) (Ga m c) (ix2 a (qcol b (Fin.castLE (by decide) x))) * Ideal.ofBits .f32 1033096506#32)
          (Ideal.log (Ideal.ofBits .f32 1073741824#32)) := by
  rw [← dQ_final]
  unfold Pipeline.afterTail₀
  simp only [hostOps1, List.flatten_cons, List.flatten_nil, List.append_nil, StableHlo.after_cons, StableHlo.after_nil]
  after_results_simp
  after_results_loop
  erw [Pipeline.withArrays_arr spec0 (by decide) c _ _ 6]
  pointwise [qcol, Fin.val_castLE]

end Cert.AttnBwdIdeal.Value

end
-- ==== Proof.AttnKernel.lean ====
/- Attention backward: the kernel's three gradients over arguments that are real numbers. -/
module

public import proofs.«01_k».proof.Proof.AttnEntries

@[expose] public section

set_option maxRecDepth 16384

noncomputable section

namespace Cert.AttnBwdIdeal.Value

open Cert.AttnBwdIdeal Cert.AttnBwdIdeal.Gen Cert.AttnMath
open Idealize.ShloMosaic Idealize.ShloMosaic.TcCoe Idealize.ShloMosaic.Tactic Idealize.SL.Sem
open scoped BigOperators

theorem log_two : Ideal.log (Ideal.ofBits .f32 1073741824#32) = ((Real.log 2 : ℝ) : EReal) := by
  rw [show (1073741824#32 : BitVec 32) = 0x40000000#32 from rfl, Scalars.two, log_real (by norm_num)]

theorem qhead_qcol (b : Fin 8) (x : Fin 256) : qhead (qcol b x) = b := Fin.ext (by show (b.val * 256 + x.val) / 256 = b.val; omega)
theorem vhead_vcol (b : Fin 8) (x : Fin 128) : vhead (vcol b x) = b := Fin.ext (by show (b.val * 128 + x.val) / 128 = b.val; omega)

/-- A sum whose terms vanish on the widening. -/
theorem sum_low (f : Fin 256 → EReal) (h : ∀ x : Fin 256, 192 ≤ x.val → f x = 0) : ∑ x, f x = ∑ x : Fin 192, f (Fin.castLE (by decide) x) := by
  rw [show (∑ x, f x) = ∑ x : Fin (192 + 64), f x from rfl, Fin.sum_univ_add, Finset.sum_eq_zero (s := Finset.univ) (f := fun i : Fin 64 => f (Fin.natAdd 192 i)), add_zero]
  · rfl
  · exact fun i _ => h _ (Nat.le_add_right _ _)

section
variable (Q K : FVec Ideal S8192x8x192 .f32) (V : FVec Ideal S8192x8x128 .f32) (G : FVec Ideal S8192x1024 .f32)
  (q k : Fin 8192 → Fin 8 → Fin 192 → ℝ) (v g : Fin 8192 → Fin 8 → Fin 128 → ℝ)
  (hq : ∀ a b x, Q (ix3 a b x) = ((q a b x : ℝ) : EReal)) (hk : ∀ a b x, K (ix3 a b x) = ((k a b x : ℝ) : EReal))
  (hv : ∀ a b x, V (ix3 a b x) = ((v a b x : ℝ) : EReal)) (hg : ∀ a b x, G (ix2 a (vcol b x)) = ((g a b x : ℝ) : EReal))

/-- The row log-sums the host computes from the queries and keys. -/
abbrev L0 : FVec Ideal S8x1x8192 .f32 := lses (tops (scores Q K)) (sums (E0 Q K))
/-- The output the host computes from the queries, keys and values. -/
abbrev O0 : FVec Ideal S8192x1024 .bf16 := outs V (E0 Q K) (sums (E0 Q K))

include hq in
theorem q_real (a : Fin 8192) (b : Fin 8) (x : Fin 192) : qArr Q (ix2 a (qcol b (Fin.castLE (by decide) x))) = ((q a b x * scale / Real.log 2 : ℝ) : EReal) := by
  rw [qArr_at, padded_low, hq, scale_bits, log_two, ← EReal.coe_mul, div_real _ log_two_ne]

include hk in
theorem k_real (a : Fin 8192) (b : Fin 8) (x : Fin 192) : kArr K (ix2 a (qcol b (Fin.castLE (by decide) x))) = ((k a b x : ℝ) : EReal) := by
  rw [kArr_at, padded_low, hk]

include hq hk

theorem scores_real (a r : Fin 8192) (b : Fin 8) : scores Q K (ix3 b a r) = ((score q k a b r : ℝ) : EReal) := by
  rw [scores_at]
  simp only [hq, hk, scale_bits, ← EReal.coe_mul, coe_sum]
  rfl

theorem tops_real (a : Fin 8192) (b : Fin 8) : tops (scores Q K) (ix2 b a) = ((top (score q k a b) : ℝ) : EReal) := by
  rw [tops_at, bot_bits]
  simp only [scores_real Q K q k hq hk]
  exact fold_max _

theorem E0_real (a r : Fin 8192) (b : Fin 8) : E0 Q K (ix3 b a r) = ((ex (score q k a b) r : ℝ) : EReal) := by
  rw [E0, expos_at, scores_real Q K q k hq hk, tops_real Q K q k hq hk, ← EReal.coe_sub, Ideal.exp_coe]
  rfl

theorem sums_real (a : Fin 8192) (b : Fin 8) : sums (E0 Q K) (ix2 b a) = ((tot (score q k a b) : ℝ) : EReal) := by
  rw [sums_at]
  simp only [E0_real Q K q k hq hk, coe_sum]
  rfl

theorem wgt_real (a r : Fin 8192) (b : Fin 8) :
    wgt (qArr Q) (kArr K) (L0 Q K) b r a = ((ex (score q k a b) r / tot (score q k a b) : ℝ) : EReal) := by
  unfold wgt L0
  rw [lses_at, tops_real Q K q k hq hk, sums_real Q K q k hq hk, log_real (tot_pos _), ← EReal.coe_add, log_two, div_real _ log_two_ne,
    sum_low _ fun x hx => by rw [kArr_at, padded_high _ _ _ _ hx, zero_mul]]
  simp only [q_real Q q hq, k_real K k hk, ← EReal.coe_mul, coe_sum, ← EReal.coe_sub, Ideal.exp2_coe]
  rw [← weight_eq, show (∑ x, k r b x * (q a b x * scale / Real.log 2)) = score q k a b r / Real.log 2 by
    unfold score; rw [Finset.sum_mul, Finset.sum_div]; exact Finset.sum_congr rfl fun x _ => by ring]

include hv in
theorem o_real (a : Fin 8192) (b : Fin 8) (x : Fin 128) :
    O0 Q K V (ix2 a (vcol b x)) = ((∑ r, v r b x * (ex (score q k a b) r / tot (score q k a b)) : ℝ) : EReal) := by
  unfold O0
  rw [outs_at]
  simp only [E0_real Q K q k hq hk, sums_real Q K q k hq hk, hv, div_real _ (tot_pos (score q k a b)).ne', ← EReal.coe_mul, coe_sum]

include hv hg in
theorem slp_real (a r : Fin 8192) (b : Fin 8) :
    slp (qArr Q) (kArr K) (vArr V) (O0 Q K V) (L0 Q K) G b r a = ((slopeTile (score q k a b) (fun r => v r b) (g a b) r : ℝ) : EReal) := by
  unfold slp
  rw [wgt_real Q K q k hq hk]
  simp only [vArr_at, hv, hg, o_real Q K V q k v hq hk hv, ← EReal.coe_mul, coe_sum, ← EReal.coe_sub]
  rfl

include hv hg in
theorem dq_real (a : Fin 8192) (b : Fin 8) (x : Fin 192) :
    Ideal.div (dQ (qArr Q) (kArr K) (vArr V) (O0 Q K V) (L0 Q K) G (ix2 a (qcol b (Fin.castLE (by decide) x))) * Ideal.ofBits .f32 1033096506#32) (Ideal.log (Ideal.ofBits .f32 1073741824#32))
      = ((∑ r, slopeRef (score q k a b) (fun r => v r b) (g a b) r * k r b x : ℝ) : EReal) := by
  unfold dQ
  simp only [ix2_0, ix2_1, qhead_qcol, slp_real Q K V G q k v g hq hk hv hg, k_real K k hk, ← EReal.coe_mul, coe_sum, scale_bits, log_two]
  rw [div_real _ log_two_ne]
  refine congrArg (fun y : ℝ => (y : EReal)) ?_
  rw [Finset.sum_mul, Finset.sum_div]
  refine Finset.sum_congr rfl fun r _ => ?_
  rw [← slopes_agree]
  ring

include hv hg in
theorem dk_real (a : Fin 8192) (b : Fin 8) (x : Fin 192) :
    dK (qArr Q) (kArr K) (vArr V) (O0 Q K V) (L0 Q K) G (ix2 a (qcol b (Fin.castLE (by decide) x)))
      = ((∑ r, slopeRef (score q k r b) (fun r => v r b) (g r b) a * q r b x : ℝ) : EReal) := by
  unfold dK
  simp only [ix2_0, ix2_1, qhead_qcol, slp_real Q K V G q k v g hq hk hv hg, q_real Q q hq, ← EReal.coe_mul, coe_sum]
  refine congrArg (fun y : ℝ => (y : EReal)) (Finset.sum_congr rfl fun r _ => ?_)
  rw [← slopes_agree]
  ring

include hg in
theorem dv_real (a : Fin 8192) (b : Fin 8) (x : Fin 128) :
    dV (qArr Q) (kArr K) (L0 Q K) G (ix2 a (vcol b x)) = ((∑ r, g r b x * (ex (score q k r b) a / tot (score q k r b)) : ℝ) : EReal) := by
  unfold dV
  simp only [ix2_0, ix2_1, vhead_vcol, wgt_real Q K q k hq hk, hg, ← EReal.coe_mul, coe_sum]
  exact congrArg (fun y : ℝ => (y : EReal)) (Finset.sum_congr rfl fun r _ => mul_comm _ _)
end

end Cert.AttnBwdIdeal.Value

end
-- ==== Proof.AttnRef.lean ====
/- Attention backward: the reference's three gradients at an index, over arguments that are real numbers. -/
module

public import proofs.«01_k».proof.Proof.AttnReal
public import proofs.«01_k».proof.Proof.Gen.AttnBwdRefIdeal.Run
public import Idealize.ShloMosaic.Lib.Claim
public import Idealize.ShloMosaic.Lib.IdealHost
public import Idealize.ShloMosaic.Lib.Pipeline.ValueKit

@[expose] public section

set_option maxRecDepth 16384

noncomputable section

namespace Cert.AttnBwdRefIdeal.Value

open Cert.AttnBwdRefIdeal Cert.AttnBwdRefIdeal.Gen Cert.AttnMath
open Idealize.ShloMosaic Idealize.ShloMosaic.TcCoe Idealize.ShloMosaic.Tactic Idealize.SL.Sem
open scoped BigOperators

/-- Every query's score against every key. -/
def scores (q k : FVec Ideal S8192x8x192 .f32) : FVec Ideal S8x8192x8192 .f32 :=
  mulf (Host.dotGeneral dot_S8192x8x192_S8192x8x192_S8x8192x8192_2_2_0_0_1_1 none q k) (broadcastInDim S8x8192x8192 ![] bcast_S_S8x8192x8192 (constant S_ .f32 0x3D93CD3A#32))

/-- The greatest score of every row. -/
def tops (s : FVec Ideal S8x8192x8192 .f32) : FVec Ideal S8x8192 .f32 :=
  Host.reduce FloatOps.maximumf s (constant S_ .f32 0xFF800000#32) reducesTo_S8x8192x8192_S8x8192_d2 h_S_

/-- The exponentials of the scores over their row's greatest. -/
def expos (s : FVec Ideal S8x8192x8192 .f32) (z : FVec Ideal S8x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1 (maximumf (broadcastInDim S8x8192 ![] bcast_S_S8x8192 (constant S_ .f32 0xFF800000#32)) z))))

/-- The rows' sums. -/
def sums (E : FVec Ideal S8x8192x8192 .f32) : FVec Ideal S8x8192 .f32 :=
  Host.reduceAdd E (constant S_ .f32 0x00000000#32) reducesTo_S8x8192x8192_S8x8192_d2 h_S_

/-- The cotangents by head. -/
def cots (g : FVec Ideal S8192x1024 .f32) : FVec Ideal S8x128x8192 .f32 :=
  transpose S8x128x8192 [1, 2, 0] (shapeCast S8192x8x128 g shapeCasts_S8192x1024_S8192x8x128) transposes_S8192x8x128_S8x128x8192_1_2_0

/-- The gradients by the weights. -/
def dweights (g : FVec Ideal S8x128x8192 .f32) (v : FVec Ideal S8192x8x128 .f32) : FVec Ideal S8x8192x8192 .f32 :=
  Host.dotGeneral dot_S8x128x8192_S8192x8x128_S8x8192x8192_1_2_2_0_0_1 none g v

/-- What a row's sum hands back to every exponential. -/
def backs (E D : FVec Ideal S8x8192x8192 .f32) (l : FVec Ideal S8x8192 .f32) : FVec Ideal S8x8192 .f32 :=
  Host.reduceAdd (Host.negf (shapeCast S8x8192x1 (Host.reduceAdd (mulf (mulf D (broadcastInDim S8x8192x8192 ![0, 1, 2] bcast_S8x8192x1_S8x8192x8192_0_1_2 (Host.divf (broadcastInDim S8x8192x1 ![] bcast_S_S8x8192x1 (constant S_ .f32 0x3F800000#32)) (mulf (broadcastInDim S8x8192x1 ![0, 1] bcast_S8x8192_S8x8192x1_0_1 l) (broadcastInDim S8x8192x1 ![0, 1] bcast_S8x8192_S8x8192x1_0_1 l))))) E) (constant S_ .f32 0x00000000#32) reducesTo_S8x8192x8192_S8x8192_d2 h_S_) shapeCasts_S8x8192_S8x8192x1)) (constant S_ .f32 0x00000000#32) reducesTo_S8x8192x1_S8x8192_d2 h_S_

/-- The gradients by the scores before the scale. -/
def slopes (E D : FVec Ideal S8x8192x8192 .f32) (l z : FVec Ideal S8x8192 .f32) : FVec Ideal S8x8192x8192 .f32 :=
  mulf (mulf (addf (Host.divf D (broadcastInDim S8x8192x8192 ![0, 1, 2] bcast_S8x8192x1_S8x8192x8192_0_1_2 (broadcastInDim S8x8192x1 ![0, 1] bcast_S8x8192_S8x8192x1_0_1 l))) (broadcastInDim S8x8192x8192 ![0, 1] bcast_S8x8192_S8x8192x8192_0_1 z)) E) (broadcastInDim S8x8192x8192 ![] bcast_S_S8x8192x8192 (constant S_ .f32 0x3D93CD3A#32))

/-- The gradient by the queries. -/
def dqs (G : FVec Ideal S8x8192x8192 .f32) (k : FVec Ideal S8192x8x192 .f32) : FVec Ideal S8192x8x192 .f32 :=
  transpose S8192x8x192 [1, 0, 2] (Host.dotGeneral dot_S8x8192x8192_S8192x8x192_S8x8192x192_2_0_1_2_0_1 none G k) transposes_S8x8192x192_S8192x8x192_1_0_2
/-- The gradient by the keys. -/
def dks (G : FVec Ideal S8x8192x8192 .f32) (q : FVec Ideal S8192x8x192 .f32) : FVec Ideal S8192x8x192 .f32 :=
  transpose S8192x8x192 [1, 0, 2] (Host.dotGeneral dot_S8x8192x8192_S8192x8x192_S8x8192x192_1_0_2_2_0_1 none G q) transposes_S8x8192x192_S8192x8x192_1_0_2
/-- The gradient by the values. -/
def dvs (g : FVec Ideal S8x128x8192 .f32) (E : FVec Ideal S8x8192x8192 .f32) (l : FVec Ideal S8x8192 .f32) : FVec Ideal S8192x8x128 .f32 :=
  transpose S8192x8x128 [2, 0, 1] (Host.dotGeneral dot_S8x128x8192_S8x8192x8192_S8x128x8192_2_1_1_2_0_0 none g (Host.divf E (broadcastInDim S8x8192x8192 ![0, 1, 2] bcast_S8x8192x1_S8x8192x8192_0_1_2 (broadcastInDim S8x8192x1 ![0, 1] bcast_S8x8192_S8x8192x1_0_1 l)))) transposes_S8x128x8192_S8192x8x128_2_0_1

section
variable (Q K : FVec Ideal S8192x8x192 .f32) (V : FVec Ideal S8192x8x128 .f32) (G : FVec Ideal S8192x1024 .f32)
/-- The exponentials the reference computes. -/
def E0 : FVec Ideal S8x8192x8192 .f32 := expos (scores Q K) (tops (scores Q K))
/-- The gradients by the weights the reference computes. -/
def D0 : FVec Ideal S8x8192x8192 .f32 := dweights (cots G) V
/-- The gradients by the scores the reference computes. -/
def G0 : FVec Ideal S8x8192x8192 .f32 := slopes (E0 Q K) (D0 V G) (sums (E0 Q K)) (backs (E0 Q K) (D0 V G) (sums (E0 Q K)))
end

section
variable (m : (ℓ : Loc nD τ sig) → Buf (Elt Ideal) ℓ) (c : Dev nD)
theorem dq_text : res_main_v56 m c = dqs (G0 (m (c.tc.loc main_arg0)) (m (c.tc.loc main_arg1)) (m (c.tc.loc main_arg2)) (m (c.tc.loc main_arg3))) (m (c.tc.loc main_arg1)) := rfl
theorem dk_text : res_main_v54 m c = dks (G0 (m (c.tc.loc main_arg0)) (m (c.tc.loc main_arg1)) (m (c.tc.loc main_arg2)) (m (c.tc.loc main_arg3))) (m (c.tc.loc main_arg0)) := rfl
end

/-! Each array at an index. -/

theorem scores_at (q k) (a r : Fin 8192) (b : Fin 8) : scores q k (ix3 b a r) = (∑ x, q (ix3 a b x) * k (ix3 r b x)) * Ideal.ofBits .f32 1033096506#32 := by
  pointwise [scores]
theorem tops_at (s) (a : Fin 8192) (b : Fin 8) : tops s (ix2 b a) = Finset.univ.fold max (Ideal.ofBits .f32 4286578688#32) fun r : Fin 8192 => s (ix3 b a r) := by
  pointwise [tops]
theorem expos_at (s z) (a r : Fin 8192) (b : Fin 8) : expos s z (ix3 b a r) = Ideal.exp (s (ix3 b a r) - max (Ideal.ofBits .f32 4286578688#32) (z (ix2 b a))) := by
  pointwise [expos]
theorem sums_at (E) (a : Fin 8192) (b : Fin 8) : sums E (ix2 b a) = ∑ r : Fin 8192, E (ix3 b a r) := by
  pointwise [sums]
theorem dweights_at (g v) (a r : Fin 8192) (b : Fin 8) : dweights g v (ix3 b a r) = ∑ x : Fin 128, g (ix3 b x a) * v (ix3 r b x) := by
  pointwise [dweights]
theorem cots_at (g) (a : Fin 8192) (b : Fin 8) (x : Fin 128) : cots g (ix3 b x a) = g (ix2 a ⟨b.val * 128 + x.val, by omega⟩) := by
  pointwise [cots]
theorem backs_at (E D l) (a : Fin 8192) (b : Fin 8) : backs E D l (ix2 b a) = -∑ r : Fin 8192, D (ix3 b a r) * Ideal.div 1 (l (ix2 b a) * l (ix2 b a)) * E (ix3 b a r) := by
  pointwise [backs]
  simp
theorem slopes_at (E D l z) (a r : Fin 8192) (b : Fin 8) : slopes E D l z (ix3 b a r)
    = (Ideal.div (D (ix3 b a r)) (l (ix2 b a)) + z (ix2 b a)) * E (ix3 b a r) * Ideal.ofBits .f32 1033096506#32 := by
  pointwise [slopes]
theorem dqs_at (G k) (a : Fin 8192) (b : Fin 8) (x : Fin 192) : dqs G k (ix3 a b x) = ∑ r : Fin 8192, G (ix3 b a r) * k (ix3 r b x) := by
  pointwise [dqs]
theorem dks_at (G q) (a : Fin 8192) (b : Fin 8) (x : Fin 192) : dks G q (ix3 a b x) = ∑ r : Fin 8192, G (ix3 b r a) * q (ix3 r b x) := by
  pointwise [dks]
theorem dvs_at (g E l) (a : Fin 8192) (b : Fin 8) (x : Fin 128) : dvs g E l (ix3 a b x)
      = ∑ r : Fin 8192, g (ix3 b x r) * Ideal.div (E (ix3 b r a)) (l (ix2 b r)) := by
  pointwise [dvs]

section
variable (Q K : FVec Ideal S8192x8x192 .f32) (V : FVec Ideal S8192x8x128 .f32) (G : FVec Ideal S8192x1024 .f32) (q k : Fin 8192 → Fin 8 → Fin 192 → ℝ) (v g : Fin 8192 → Fin 8 → Fin 128 → ℝ)
  (hq : ∀ a b x, Q (ix3 a b x) = ((q a b x : ℝ) : EReal))
  (hk : ∀ a b x, K (ix3 a b x) = ((k a b x : ℝ) : EReal))
  (hv : ∀ a b x, V (ix3 a b x) = ((v a b x : ℝ) : EReal))
  (hg : ∀ a (b : Fin 8) (x : Fin 128) h, G (ix2 a ⟨b.val * 128 + x.val, h⟩) = ((g a b x : ℝ) : EReal))

include hq hk in
theorem scores_real (a r : Fin 8192) (b : Fin 8) : scores Q K (ix3 b a r) = ((score q k a b r : ℝ) : EReal) := by
  rw [scores_at]
  simp only [hq, hk, scale_bits, ← EReal.coe_mul, coe_sum]
  rfl

include hq hk in
theorem E0_real (a r : Fin 8192) (b : Fin 8) : E0 Q K (ix3 b a r) = ((ex (score q k a b) r : ℝ) : EReal) := by
  rw [E0, expos_at, tops_at, bot_bits]
  simp only [scores_real Q K q k hq hk]
  rw [fold_max, max_bot_left, ← EReal.coe_sub, Ideal.exp_coe]
  rfl

include hq hk in
theorem sums_real (a : Fin 8192) (b : Fin 8) : sums (E0 Q K) (ix2 b a) = ((tot (score q k a b) : ℝ) : EReal) := by
  rw [sums_at]
  simp only [E0_real Q K q k hq hk, coe_sum]
  rfl

include hv hg in
theorem D0_real (a r : Fin 8192) (b : Fin 8) : D0 V G (ix3 b a r) = ((∑ x, g a b x * v r b x : ℝ) : EReal) := by
  rw [D0, dweights_at]
  simp only [cots_at, hv, hg, ← EReal.coe_mul, coe_sum]

include hq hk hv hg

theorem G0_real (a r : Fin 8192) (b : Fin 8) : G0 Q K V G (ix3 b a r) = ((slopeRef (score q k a b) (fun r => v r b) (g a b) r : ℝ) : EReal) := by
  rw [G0, slopes_at, backs_at, scale_bits]
  simp only [E0_real Q K q k hq hk, sums_real Q K q k hq hk, D0_real V G v g hv hg]
  have h := (tot_pos (score q k a b)).ne'
  rw [div_real _ h, ← EReal.coe_mul (tot _), show (1 : EReal) = ((1 : ℝ) : EReal) from rfl, div_real _ (mul_ne_zero h h)]
  simp only [← EReal.coe_mul, coe_sum, ← EReal.coe_neg, ← EReal.coe_add]
  rfl

theorem dq_ref (a : Fin 8192) (b : Fin 8) (x : Fin 192) : dqs (G0 Q K V G) K (ix3 a b x)
    = ((∑ r, slopeRef (score q k a b) (fun r => v r b) (g a b) r * k r b x : ℝ) : EReal) := by
  rw [dqs_at]
  simp only [G0_real Q K V G q k v g hq hk hv hg, hk, ← EReal.coe_mul, coe_sum]

theorem dk_ref (a : Fin 8192) (b : Fin 8) (x : Fin 192) : dks (G0 Q K V G) Q (ix3 a b x)
    = ((∑ r, slopeRef (score q k r b) (fun r => v r b) (g r b) a * q r b x : ℝ) : EReal) := by
  rw [dks_at]
  simp only [G0_real Q K V G q k v g hq hk hv hg, hq, ← EReal.coe_mul, coe_sum]

omit hv in
theorem dv_ref (a : Fin 8192) (b : Fin 8) (x : Fin 128) : dvs (cots G) (E0 Q K) (sums (E0 Q K)) (ix3 a b x)
    = ((∑ r, g r b x * (ex (score q k r b) a / tot (score q k r b)) : ℝ) : EReal) := by
  rw [dvs_at]
  simp only [E0_real Q K q k hq hk, sums_real Q K q k hq hk, cots_at, hg, div_real _ (tot_pos (score q k _ b)).ne', ← EReal.coe_mul, coe_sum]
end

end Cert.AttnBwdRefIdeal.Value

end
-- ==== Proof.AttnAgree.lean ====
/- Attention backward: the reference's frame, and the kernel's results equal to the reference's. -/
module

public import proofs.«01_k».proof.Defs
public import proofs.«01_k».proof.Proof.Gen.Pre_attn_finite
public import proofs.«01_k».proof.Proof.AttnKernel
public import proofs.«01_k».proof.Proof.AttnRef

@[expose] public section

set_option maxRecDepth 16384

noncomputable section

namespace Cert.Proof

open Idealize.ShloMosaic Idealize.ShloMosaic.TcCoe Idealize.ShloMosaic.Tactic Idealize.SL.Sem Cert.AttnMath
open scoped BigOperators

/-- The bit pattern of infinity. -/
theorem top_bits : Ideal.ofBits .f32 0x7F800000#32 = (⊤ : EReal) := by
  simp [Ideal.ofBits, Ideal.ieee]

/-- An entry whose magnitude compares below infinity is a real number. -/
theorem real_of_below (x : EReal) (h : Ideal.cmp .olt (max x (-x)) (Ideal.ofBits .f32 0x7F800000#32) = 1#1) : ((x.toReal : ℝ) : EReal) = x := by
  rw [top_bits] at h
  refine EReal.coe_toReal ?_ ?_ <;> rintro rfl <;> simp [Ideal.cmp] at h

section
open Cert.AttnBwdIdeal
variable (m : (ℓ : Loc nD τ sig) → Buf (Elt Ideal) ℓ) (c : Dev nD)

/-- The queries as real numbers. -/
def qR (a : Fin 8192) (b : Fin 8) (x : Fin 192) : ℝ := EReal.toReal ((show FVec Ideal S8192x8x192 .f32 from m (c.tc.loc main_arg0)) (ix3 a b x))
/-- The keys as real numbers. -/
def kR (a : Fin 8192) (b : Fin 8) (x : Fin 192) : ℝ := EReal.toReal ((show FVec Ideal S8192x8x192 .f32 from m (c.tc.loc main_arg1)) (ix3 a b x))
/-- The values as real numbers. -/
def vR (a : Fin 8192) (b : Fin 8) (x : Fin 128) : ℝ := EReal.toReal ((show FVec Ideal S8192x8x128 .f32 from m (c.tc.loc main_arg2)) (ix3 a b x))
/-- The cotangents as real numbers. -/
def gR (a : Fin 8192) (b : Fin 8) (x : Fin 128) : ℝ := EReal.toReal ((show FVec Ideal S8192x1024 .f32 from m (c.tc.loc main_arg3)) (ix2 a (Value.vcol b x)))

variable (hpre : Cert.Pre_AttnBwdIdeal_attn_finite m)
include hpre
theorem q_finite (a : Fin 8192) (b : Fin 8) (x : Fin 192) : (show FVec Ideal S8192x8x192 .f32 from m (c.tc.loc main_arg0)) (ix3 a b x) = ((qR m c a b x : ℝ) : EReal) :=
  (real_of_below _ (congrFun (hpre c).1 (ix3 a b x))).symm
theorem k_finite (a : Fin 8192) (b : Fin 8) (x : Fin 192) : (show FVec Ideal S8192x8x192 .f32 from m (c.tc.loc main_arg1)) (ix3 a b x) = ((kR m c a b x : ℝ) : EReal) :=
  (real_of_below _ (congrFun (hpre c).2.1 (ix3 a b x))).symm
theorem v_finite (a : Fin 8192) (b : Fin 8) (x : Fin 128) : (show FVec Ideal S8192x8x128 .f32 from m (c.tc.loc main_arg2)) (ix3 a b x) = ((vR m c a b x : ℝ) : EReal) :=
  (real_of_below _ (congrFun (hpre c).2.2.1 (ix3 a b x))).symm
theorem g_finite (a : Fin 8192) (b : Fin 8) (x : Fin 128) : (show FVec Ideal S8192x1024 .f32 from m (c.tc.loc main_arg3)) (ix2 a (Value.vcol b x)) = ((gR m c a b x : ℝ) : EReal) :=
  (real_of_below _ (congrFun (hpre c).2.2.2 (ix2 a (Value.vcol b x)))).symm

open Cert.AttnBwdIdeal.Gen Cert.AttnBwdRefIdeal.Value in
theorem dq_same : dqs (G0 (m (c.tc.loc main_arg0)) (m (c.tc.loc main_arg1)) (m (c.tc.loc main_arg2)) (m (c.tc.loc main_arg3))) (m (c.tc.loc main_arg1))
    = Pipeline.afterTail₀ cfgs (Body.dats m) 0 (V0 m) [hostOps1] c main_v42 := by
  funext j
  rw [eq_ix3 j]
  refine (dq_ref _ _ _ _ (qR m c) (kR m c) (vR m c) (gR m c) (q_finite m c hpre) (k_finite m c hpre) (v_finite m c hpre) (fun a b x _ => g_finite m c hpre a b x) _ _ _).trans ?_
  refine Eq.trans ?_ (Value.dq_entry m c (j 0) (j 1) (j 2)).symm
  rw [Value.q_text, Value.k_text, Value.v_text, Value.o_text, Value.l_text]
  exact (Value.dq_real _ _ _ _ (qR m c) (kR m c) (vR m c) (gR m c) (q_finite m c hpre) (k_finite m c hpre) (v_finite m c hpre) (g_finite m c hpre) _ _ _).symm

open Cert.AttnBwdIdeal.Gen Cert.AttnBwdRefIdeal.Value in
theorem dk_same : dks (G0 (m (c.tc.loc main_arg0)) (m (c.tc.loc main_arg1)) (m (c.tc.loc main_arg2)) (m (c.tc.loc main_arg3))) (m (c.tc.loc main_arg0))
    = Pipeline.afterTail₀ cfgs (Body.dats m) 0 (V0 m) [hostOps1] c main_v44 := by
  funext j
  rw [eq_ix3 j]
  refine (dk_ref _ _ _ _ (qR m c) (kR m c) (vR m c) (gR m c) (q_finite m c hpre) (k_finite m c hpre) (v_finite m c hpre) (fun a b x _ => g_finite m c hpre a b x) _ _ _).trans ?_
  refine Eq.trans ?_ (Value.dk_entry m c (j 0) (j 1) (j 2)).symm
  rw [Value.q_text, Value.k_text, Value.v_text, Value.o_text, Value.l_text]
  exact (Value.dk_real _ _ _ _ (qR m c) (kR m c) (vR m c) (gR m c) (q_finite m c hpre) (k_finite m c hpre) (v_finite m c hpre) (g_finite m c hpre) _ _ _).symm

open Cert.AttnBwdIdeal.Gen Cert.AttnBwdRefIdeal.Value in
theorem dv_same : dvs (cots (m (c.tc.loc main_arg3))) (E0 (m (c.tc.loc main_arg0)) (m (c.tc.loc main_arg1))) (sums (E0 (m (c.tc.loc main_arg0)) (m (c.tc.loc main_arg1))))
    = Pipeline.afterTail₀ cfgs (Body.dats m) 0 (V0 m) [hostOps1] c main_v45 := by
  funext j
  rw [eq_ix3 j]
  refine (dv_ref _ _ _ (qR m c) (kR m c) (gR m c) (q_finite m c hpre) (k_finite m c hpre) (fun a b x _ => g_finite m c hpre a b x) _ _ _).trans ?_
  refine Eq.trans ?_ (Value.dv_entry m c (j 0) (j 1) (j 2)).symm
  rw [Value.q_text, Value.k_text, Value.l_text]
  exact (Value.dv_real _ _ _ (qR m c) (kR m c) (gR m c) (q_finite m c hpre) (k_finite m c hpre) (g_finite m c hpre) _ _ _).symm
end

/-- The kernel's gradients and the gradients of the attention agree. -/
theorem attn_algebraic : Cert.algebraic_AttnBwdIdeal_AttnBwdRefIdeal_pre_attn_finite := by
  pair_intro
  · run_from Cert.AttnBwdIdeal.Body.run_main m g
    · exact Cert.AttnBwdIdeal.Gen.W_main_arg0 m (Cert.AttnBwdIdeal.Body.dats m) c
    · exact Cert.AttnBwdIdeal.Gen.W_main_arg1 m (Cert.AttnBwdIdeal.Body.dats m) c
    · exact Cert.AttnBwdIdeal.Gen.W_main_arg2 m (Cert.AttnBwdIdeal.Body.dats m) c
  · run_from Cert.AttnBwdRefIdeal.Value.run m' g'
    · refine (Cert.AttnBwdRefIdeal.Value.dq_text m' c).trans ?_
      rw [(hagree c).1, (hagree c).2.1, (hagree c).2.2.1, (hagree c).2.2.2]
      exact dq_same m c hpre
    · refine (Cert.AttnBwdRefIdeal.Value.dk_text m' c).trans ?_
      rw [(hagree c).1, (hagree c).2.1, (hagree c).2.2.1, (hagree c).2.2.2]
      exact dk_same m c hpre
    · exact dv_same m c hpre

/-- The reference of the attention runs and leaves its arguments alone. -/
theorem attn_reference : Cert.quiescent_AttnBwdRefIdeal := by
  intro m g _
  run_from Cert.AttnBwdRefIdeal.Value.run m g
  · simp
  · exact sem_eq_zero_of_no_sems (show Cert.AttnBwdRefIdeal.sig.nSem + Cert.AttnBwdRefIdeal.sig.nDmaSem = 0 from rfl) _

end Cert.Proof

end
-- ==== Proof.AttnFrame.lean ====
/- The frame of the attention backward before its constant is named: the run of the named program, with the constant read back as its own bits. -/
module

public import proofs.«01_k».proof.Proof.Gen.AttnBwd.Frame
public import proofs.«01_k».proof.Proof.AttnBody
public import proofs.«01_k».proof.Defs

@[expose] public section

set_option maxRecDepth 65536
set_option maxHeartbeats 4000000

noncomputable section

namespace Cert.AttnPlain

open Idealize.ShloMosaic Idealize.SL.Sem

/-- The named constant as the number it was printed with. -/
@[reducible] def plain : Named Bits := ⟨fun _ _ {φ} bits => Scalar.ofBits φ bits⟩

variable [Cert.AttnBwd.Facts]

attribute [local instance] plain

/-- The two bodies differ only in the constant, which `plain` reads back. -/
theorem body_same : (Cert.AttnBwdIdeal.cc0_flash_bwd (F := Bits)) = (Cert.AttnBwd.cc0_flash_bwd (F := Bits)) := rfl

/-- The host lines are the same. -/
theorem hlo_same : Cert.AttnBwdIdeal.main (F := Bits) = Cert.AttnBwd.main (F := Bits) := rfl

/-- The table of bodies is the same. -/
theorem table_same : Cert.AttnBwdIdeal.defs₀ (F := Bits) = Cert.AttnBwd.defs₀ (F := Bits) := by
  unfold Cert.AttnBwdIdeal.defs₀ Cert.AttnBwd.defs₀
  refine congrArg Defs.onTc (funext fun l => funext fun a => ?_)
  match l, a with
  | 0, (t, s) =>
    dsimp only
    rw [body_same]
    rfl

theorem regions_same : Cert.AttnBwdIdeal.defs (F := Bits) = Cert.AttnBwd.defs (F := Bits) := by
  unfold Cert.AttnBwdIdeal.defs Cert.AttnBwd.defs
  rw [table_same]
  rfl

/-- The frame of the program as printed. -/
theorem frame : Cert.quiescent_AttnBwd := fun m g _ => by
  have h := Cert.AttnBwdIdeal.Body.frame (F := Bits) m g
  rw [regions_same, hlo_same] at h
  exact h

end Cert.AttnPlain

end
-- ==== Proof.FwdTiles.lean ====
/- Attention forward: a tile of 512 queries against all keys, in eight tiles of 1024. -/
module

public import proofs.«01_k».proof.Proof.Gen.AttnFwdIdeal.Value
public import proofs.«01_k».proof.Proof.AttnReal
public import Idealize.ShloMosaic.Lib.Pipeline.ValueKit
public import Idealize.ShloMosaic.Lib.Pipeline.ReadBack

@[expose] public section

set_option maxRecDepth 16384

noncomputable section

namespace Cert.AttnFwdIdeal.Value

open Cert.AttnFwdIdeal Cert.AttnFwdIdeal.Gen
open Idealize.ShloMosaic Idealize.ShloMosaic.TcCoe Idealize.ShloMosaic.Tactic Idealize.SL.Sem
open Idealize.ShloMosaic.Pipeline (Dat)
open scoped BigOperators

/-- Key `r` of tile `n`. -/
def key (n : Fin 8) (r : Fin 1024) : Fin 8192 := ⟨n.val * 1024 + r.val, by omega⟩

/-- Eight entries added in their order. -/
def added (f : Fin 8 → EReal) : EReal := f 0 + f 1 + f 2 + f 3 + f 4 + f 5 + f 6 + f 7

/-- The greatest of eight entries taken in their order. -/
def greatest (f : Fin 8 → EReal) : EReal := max (max (max (max (max (max (max (f 0) (f 1)) (f 2)) (f 3)) (f 4)) (f 5)) (f 6)) (f 7)

theorem added_eq (f : Fin 8 → EReal) : added f = ∑ n, f n := by
  simp only [Fin.sum_univ_castSucc, Finset.univ_eq_empty, Finset.sum_empty, zero_add]
  rfl

theorem le_greatest (f : Fin 8 → EReal) (n : Fin 8) : f n ≤ greatest f := by
  unfold greatest
  fin_cases n <;> simp [le_max_iff]

/-- A sum over all keys, tile by tile. -/
theorem sum_keys (f : Fin 8192 → EReal) : ∑ r, f r = added fun n => ∑ r, f (key n r) := by
  rw [added_eq, ← Fintype.sum_prod_type']
  refine (Fintype.sum_equiv (finProdFinEquiv (m := 8) (n := 1024)) _ f fun p => congrArg f (Fin.ext ?_)).symm
  simp only [key, finProdFinEquiv, Equiv.coe_fn_mk]
  omega

/-- The sum over a tile's places of the tiles' entries there. -/
theorem sum_places (f : Fin 8 → Fin 1024 → EReal) : ∑ r, added (fun n => f n r) = added fun n => ∑ r, f n r := by
  simp only [added, Finset.sum_add_distrib]

/-- The greatest entry over all keys, place by place. -/
theorem fold_keys (f : Fin 8192 → EReal) :
    Finset.univ.fold max ⊥ (fun r => greatest fun n => f (key n r)) = Finset.univ.fold max ⊥ f := by
  show Finset.univ.sup (fun r => greatest fun n => f (key n r)) = Finset.univ.sup f
  refine le_antisymm (Finset.sup_le fun r _ => ?_) (Finset.sup_le fun x _ => ?_)
  · unfold greatest
    simp only [max_le_iff]
    exact ⟨⟨⟨⟨⟨⟨⟨Finset.le_sup (Finset.mem_univ _), Finset.le_sup (Finset.mem_univ _)⟩, Finset.le_sup (Finset.mem_univ _)⟩, Finset.le_sup (Finset.mem_univ _)⟩,
      Finset.le_sup (Finset.mem_univ _)⟩, Finset.le_sup (Finset.mem_univ _)⟩, Finset.le_sup (Finset.mem_univ _)⟩, Finset.le_sup (Finset.mem_univ _)⟩
  · have e : x = key ⟨x.val / 1024, by omega⟩ ⟨x.val % 1024, by omega⟩ := Fin.ext (by simp only [key]; omega)
    rw [e]
    exact (le_greatest (fun n => f (key n ⟨x.val % 1024, by omega⟩)) _).trans
      (Finset.le_sup (f := fun r => greatest fun n => f (key n r)) (Finset.mem_univ _))

section
variable (q : Vec Ideal S512x256 .bf16) (K : Vec Ideal S8192x256 .bf16) (V : Vec Ideal S8192x128 .bf16)

/-- The score of query `a` against key `r`. -/
def scored (q : FVec Ideal S512x256 .bf16) (K : FVec Ideal S8192x256 .bf16) (a : Fin 512) (r : Fin 8192) : EReal := ∑ x : Fin 256, q (ix2 a x) * K (ix2 r x)
/-- The greatest score of query `a`. -/
def peak (q : FVec Ideal S512x256 .bf16) (K : FVec Ideal S8192x256 .bf16) (a : Fin 512) : EReal := Finset.univ.fold max ⊥ (scored q K a)
/-- The power of two of a score over the greatest one. -/
def lift (q : FVec Ideal S512x256 .bf16) (K : FVec Ideal S8192x256 .bf16) (a : Fin 512) (r : Fin 8192) : EReal := Ideal.exp2 (scored q K a r - peak q K a)

/-- A tile's score block. -/
def tile (q : FVec Ideal S512x256 .bf16) (k : FVec Ideal S1024x256 .bf16) : FVec Ideal S512x1024 .f32 := fun j => ∑ x : Fin 256, q (ix2 (j 0) x) * k (ix2 (j 1) x)

theorem tile_eq (k : Vec Ideal S1024x256 .bf16) : k0_pay11 (F := Ideal) q k = tile q k := by
  funext j; pointwise [k0_pay11, k0_pay10, tile]
theorem tile2_eq (k : Vec Ideal S1024x256 .bf16) : k0_pay12 (F := Ideal) q k = tile q k := tile_eq q k
theorem tile3_eq (k : Vec Ideal S1024x256 .bf16) : k0_pay13 (F := Ideal) q k = tile q k := tile_eq q k
theorem tile4_eq (k : Vec Ideal S1024x256 .bf16) : k0_pay14 (F := Ideal) q k = tile q k := tile_eq q k
theorem tile5_eq (k : Vec Ideal S1024x256 .bf16) : k0_pay15 (F := Ideal) q k = tile q k := tile_eq q k
theorem tile6_eq (k : Vec Ideal S1024x256 .bf16) : k0_pay16 (F := Ideal) q k = tile q k := tile_eq q k
theorem tile7_eq (k : Vec Ideal S1024x256 .bf16) : k0_pay17 (F := Ideal) q k = tile q k := tile_eq q k
theorem tile8_eq (k : Vec Ideal S1024x256 .bf16) : k0_pay18 (F := Ideal) (k0_pay10 q) k = tile q k := tile_eq q k

/-- A tile cut out of all keys scores the tile's keys. -/
theorem tile_key {w : ℕ} (n : Fin 8) (hw : w = n.val * 1024) (h) (a : Fin 512) (r : Fin 1024) :
    tile q (View.ld K (Rect.unit ![w, 0] ![1024, 256] h)) (ix2 a r) = scored q K a (key n r) := by
  subst hw
  pointwise [tile, scored, key]

/-- A tile cut out of all values holds the tile's values. -/
theorem ld_key {w : ℕ} (n : Fin 8) (hw : w = n.val * 1024) (h) (r : Fin 1024) (x : Fin 128) :
    (show FVec Ideal S1024x128 .bf16 from View.ld V (Rect.unit ![w, 0] ![1024, 128] h)) (ix2 r x)
      = (show FVec Ideal S8192x128 .bf16 from V) (ix2 (key n r) x) := by
  subst hw
  pointwise [key]
end

section stages
variable (s : Fin 8 → FVec Ideal S512x1024 .f32) (p : FVec Ideal S512x1 .f32)

/-- The running maximum over the eight score tiles. -/
theorem peak_stage (q : FVec Ideal S512x256 .bf16) (k : Vec Ideal S1024x256 .bf16) (hk : k0_pay18 (F := Ideal) q k = s 7) (j : S512x1.Idx) :
    k0_pay19 (F := Ideal) q p (s 0) (s 1) (s 2) (s 3) (s 4) (s 5) (s 6) k j
      = max (p j) (Finset.univ.fold max (Ideal.ofBits .f32 0xFF800000#32) fun r : Fin 1024 => greatest fun n => s n (ix2 (j 0) r)) := by
  unfold k0_pay19
  rw [hk]
  pointwise [greatest]

end stages

section whole
variable (q : Vec Ideal S512x256 .bf16) (k : Fin 8 → Vec Ideal S1024x256 .bf16) (v : Fin 8 → Vec Ideal S1024x128 .bf16)

/-- The running maximum, as the body writes it. -/
def peakT : FVec Ideal S512x1 .f32 := k0_pay19 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7)
/-- The old maximum's factor. -/
def fadeT : FVec Ideal S512x1 .f32 := k0_pay20 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7)
/-- The powers of the first three tiles, added. -/
def threeT : FVec Ideal S512x1024 .f32 := k0_pay24 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7)
/-- The powers of the fourth tile. -/
def fourthT : FVec Ideal S512x1024 .f32 := k0_pay26 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7)
/-- The same, cut to the narrow format. -/
def fourthN : FVec Ideal S512x1024 .bf16 := k0_pay27 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7)
/-- The first three tiles' weighted values. -/
def valuesT : FVec Ideal S512x128 .f32 := k0_pay25 (F := Ideal) (k0_pay10 (F := Ideal) q) (k0_pay7 (F := Ideal)) (k0_pay11 (F := Ideal) q (k 0)) (k0_pay12 (F := Ideal) q (k 1)) (k0_pay13 (F := Ideal) q (k 2)) (k0_pay14 (F := Ideal) q (k 3)) (k0_pay15 (F := Ideal) q (k 4)) (k0_pay16 (F := Ideal) q (k 5)) (k0_pay17 (F := Ideal) q (k 6)) (k 7) (v 0) (v 1) (v 2)
/-- The running sum. -/
def totalT : FVec Ideal S512x1 .f32 := k0_pay34 (F := Ideal) (k0_pay15 (F := Ideal) q (k 4)) (k0_pay16 (F := Ideal) q (k 5)) (k0_pay17 (F := Ideal) q (k 6)) (k0_pay18 (F := Ideal) (k0_pay10 (F := Ideal) q) (k 7)) (peakT q k) (fadeT q k) (threeT q k) (fourthT q k) (k0_pay8 (F := Ideal))
/-- All tiles' weighted values. -/
def sumT : FVec Ideal S512x128 .f32 := k0_pay33 (F := Ideal) (k0_pay15 (F := Ideal) q (k 4)) (k0_pay16 (F := Ideal) q (k 5)) (k0_pay17 (F := Ideal) q (k 6)) (k0_pay18 (F := Ideal) (k0_pay10 (F := Ideal) q) (k 7)) (peakT q k) (valuesT q k v) (fourthN q k) (k0_pay28 (F := Ideal) (v 3)) (constant S512x128 .f32 0#32) (v 4) (v 5) (v 6) (v 7)

/-- The power of two of a score in tile `n`. -/
def powerT (n : Fin 8) (a : Fin 512) (r : Fin 1024) : EReal := Ideal.exp2 (tile q (k n) (ix2 a r) - peakT q k (ix2 a 0))

theorem exp2_same (x : EReal) : FloatOps.exp2 (F := Ideal) (φ := .f32) x = Ideal.exp2 x := rfl

theorem peakT_at (j : S512x1.Idx) : peakT q k j = Finset.univ.fold max ⊥ fun r : Fin 1024 => greatest fun n => tile q (k n) (ix2 (j 0) r) := by
  unfold peakT
  rw [tile_eq, tile2_eq, tile3_eq, tile4_eq, tile5_eq, tile6_eq, tile7_eq]
  refine (peak_stage (fun n => tile q (k n)) _ _ _ (tile8_eq q _) j).trans ?_
  rw [show k0_pay7 (F := Ideal) j = Ideal.ofBits .f32 0xFF800000#32 by pointwise [k0_pay7], show Ideal.ofBits .f32 0xFF800000#32 = (⊥ : EReal) from AttnMath.bot_bits]
  exact max_eq_right bot_le

theorem threeT_at (a : Fin 512) (r : Fin 1024) : threeT q k (ix2 a r) = powerT q k 0 a r + powerT q k 1 a r + powerT q k 2 a r := by
  unfold threeT powerT peakT
  rw [tile_eq, tile2_eq, tile3_eq, tile4_eq, tile5_eq, tile6_eq, tile7_eq]
  pointwise [k0_pay24, k0_pay21, k0_pay22, k0_pay23]
  simp only [exp2_same]

theorem fourthT_at (a : Fin 512) (r : Fin 1024) : fourthT q k (ix2 a r) = powerT q k 3 a r := by
  unfold fourthT powerT peakT
  rw [tile_eq, tile2_eq, tile3_eq, tile4_eq, tile5_eq, tile6_eq, tile7_eq]
  pointwise [k0_pay26]
  simp only [exp2_same]

theorem fourthN_at (a : Fin 512) (r : Fin 1024) : fourthN q k (ix2 a r) = powerT q k 3 a r := by
  rw [← fourthT_at]
  unfold fourthN fourthT
  pointwise [k0_pay27]

theorem valuesT_at (j : S512x128.Idx) : valuesT q k v j = (∑ r : Fin 1024, powerT q k 0 (j 0) r * v 0 (ix2 r (j 1))) + (∑ r : Fin 1024, powerT q k 1 (j 0) r * v 1 (ix2 r (j 1)))
    + ∑ r : Fin 1024, powerT q k 2 (j 0) r * v 2 (ix2 r (j 1)) := by
  unfold valuesT powerT peakT
  rw [tile_eq, tile2_eq, tile3_eq, tile4_eq, tile5_eq, tile6_eq, tile7_eq]
  pointwise [k0_pay25, k0_pay21, k0_pay22, k0_pay23]
  simp only [exp2_same]

theorem totalT_at (j : S512x1.Idx) : totalT q k j = ∑ r : Fin 1024, added fun n => powerT q k n (j 0) r := by
  unfold totalT
  rw [tile5_eq, tile6_eq, tile7_eq, tile8_eq]
  have h3 : ∀ r, threeT q k (ix2 (j 0) r) = _ := threeT_at q k (j 0)
  have h4 : ∀ r, fourthT q k (ix2 (j 0) r) = _ := fourthT_at q k (j 0)
  pointwise [k0_pay34, k0_pay29, k0_pay30, k0_pay31, k0_pay32, k0_pay8]
  simp only [exp2_same, mul_zero, zero_add]
  refine Finset.sum_congr rfl fun r _ => ?_
  refine (congrArg₂ (fun x y => x + y + _ + _ + _ + _) (h3 r) (h4 r)).trans ?_
  rfl

theorem sumT_at (j : S512x128.Idx) : sumT q k v j = added fun n => ∑ r : Fin 1024, powerT q k n (j 0) r * v n (ix2 r (j 1)) := by
  unfold sumT
  rw [tile5_eq, tile6_eq, tile7_eq, tile8_eq]
  pointwise [k0_pay33, k0_pay29, k0_pay30, k0_pay31, k0_pay32, k0_pay28]
  simp only [exp2_same, valuesT_at]
  have h4 : ∀ r, fourthN q k (ix2 (j 0) r) = _ := fourthN_at q k (j 0)
  refine (congrArg (fun x => _ + x + _ + _ + _ + _) (Finset.sum_congr rfl fun r _ => congrArg (· * _) (h4 r))).trans ?_
  rfl

/-- The output's block. -/
theorem outT_at (j : S512x128.Idx) : k0_pay5 (F := Ideal) (fadeT q k) (sumT q k v) (totalT q k) (k0_pay9 (F := Ideal)) j
    = Ideal.div (added fun n => ∑ r : Fin 1024, powerT q k n (j 0) r * v n (ix2 r (j 1))) (∑ r : Fin 1024, added fun n => powerT q k n (j 0) r) := by
  pointwise [k0_pay5, k0_pay1, k0_pay9]
  rw [totalT_at, sumT_at, mul_zero, zero_add]
  rfl

theorem rln2_name : Named.named (F := Ideal) κ (φ := .f32) "rln2" 0x3FB8AA3B#32 = (((Real.log 2)⁻¹ : ℝ) : EReal) :=
  IdealRules.named_const.ideal_named_scalar _ _ _ _ rfl

/-- The log-sums' block. -/
theorem lseT_at (j : S1x512x1.Idx) : k0_pay6 (F := Ideal) (peakT q k) (totalT q k) j
    = peakT q k (ix2 (j 1) 0) + Ideal.log (∑ r : Fin 1024, added fun n => powerT q k n (j 1) r) * (((Real.log 2)⁻¹ : ℝ) : EReal) := by
  pointwise [k0_pay6, rln2_name]
  rw [totalT_at]
  rfl
end whole

section all
variable (q : Vec Ideal S512x256 .bf16) (K : Vec Ideal S8192x256 .bf16) (V : Vec Ideal S8192x128 .bf16)

/-- The tiles of the keys. -/
abbrev keysT (n : Fin 8) : Vec Ideal S1024x256 .bf16 := View.ld K (Rect.unit ![n.val * 1024, 0] ![1024, 256] (by intro a; fin_cases a <;> simp <;> omega))
/-- The tiles of the values. -/
abbrev valsT (n : Fin 8) : Vec Ideal S1024x128 .bf16 := View.ld V (Rect.unit ![n.val * 1024, 0] ![1024, 128] (by intro a; fin_cases a <;> simp <;> omega))

theorem peak_all (a : Fin 512) : peakT q (keysT K) (ix2 a 0) = peak q K a := by
  refine (peakT_at q (keysT K) (ix2 a 0)).trans (Eq.trans ?_ (fold_keys (scored q K a)))
  refine congrArg (fun f => Finset.univ.fold max (⊥ : EReal) f) (funext fun r => congrArg greatest (funext fun n => ?_))
  exact tile_key q K n rfl _ a r

theorem power_all (n : Fin 8) (a : Fin 512) (r : Fin 1024) : powerT q (keysT K) n a r = lift q K a (key n r) := by
  unfold powerT lift
  rw [peak_all, tile_key q K n rfl]

theorem total_all (a : Fin 512) : ∑ r : Fin 1024, added (fun n => powerT q (keysT K) n a r) = ∑ r, lift q K a r := by
  simp only [power_all]
  rw [sum_places (fun n r => lift q K a (key n r)), sum_keys]

theorem sum_all (a : Fin 512) (x : Fin 128) : (added fun n => ∑ r : Fin 1024, powerT q (keysT K) n a r * valsT V n (ix2 r x))
    = ∑ r, lift q K a r * (show FVec Ideal S8192x128 .bf16 from V) (ix2 r x) := by
  simp only [power_all]
  rw [sum_keys]
  refine congrArg added (funext fun n => Finset.sum_congr rfl fun r _ => congrArg (lift q K a (key n r) * ·) (ld_key V n rfl _ r x))

/-- The output's block, over all keys. -/
theorem out_all (j : S512x128.Idx) : k0_pay5 (F := Ideal) (fadeT q (keysT K)) (sumT q (keysT K) (valsT V)) (totalT q (keysT K)) (k0_pay9 (F := Ideal)) j
    = Ideal.div (∑ r, lift q K (j 0) r * (show FVec Ideal S8192x128 .bf16 from V) (ix2 r (j 1))) (∑ r, lift q K (j 0) r) :=
  (outT_at q _ _ j).trans (congrArg₂ Ideal.div (sum_all q K V (j 0) (j 1)) (total_all q K (j 0)))

/-- The log-sums' block, over all keys. -/
theorem lse_all (j : S1x512x1.Idx) : k0_pay6 (F := Ideal) (peakT q (keysT K)) (totalT q (keysT K)) j
    = peak q K (j 1) + Ideal.log (∑ r, lift q K (j 1) r) * (((Real.log 2)⁻¹ : ℝ) : EReal) :=
  (lseT_at q _ j).trans (congrArg₂ (fun x y => x + Ideal.log y * (((Real.log 2)⁻¹ : ℝ) : EReal)) (peak_all q K (j 1)) (total_all q K (j 1)))
end all

end Cert.AttnFwdIdeal.Value

end
-- ==== Proof.FwdFinals.lean ====
/- Attention forward: the output and the rows' log-sums after the region, over the arrays the region reads. -/
module

public import proofs.«01_k».proof.Proof.FwdTiles
public import proofs.«01_k».proof.Proof.AttnEntries

@[expose] public section

set_option maxRecDepth 16384

noncomputable section

namespace Cert.AttnFwdIdeal.Value

open Cert.AttnFwdIdeal Cert.AttnFwdIdeal.Gen
open Cert.AttnBwdIdeal.Value (qcol vcol vhead qArr kArr vArr)
open Idealize.ShloMosaic Idealize.ShloMosaic.TcCoe Idealize.ShloMosaic.Tactic Idealize.SL.Sem
open Idealize.ShloMosaic.Pipeline (Dat)
open scoped BigOperators

section
variable (Q K : FVec Ideal S8192x2048 .bf16) (V : FVec Ideal S8192x1024 .bf16)

/-- The score of query `a` against key `r` in head `h`. -/
def sc (h : Fin 8) (a r : Fin 8192) : EReal := ∑ x : Fin 256, Q (ix2 a (qcol h x)) * K (ix2 r (qcol h x))
/-- The greatest score of query `a` in head `h`. -/
def pk (h : Fin 8) (a : Fin 8192) : EReal := Finset.univ.fold max ⊥ (sc Q K h a)
/-- The power of the score over the greatest. -/
def pw (h : Fin 8) (a r : Fin 8192) : EReal := Ideal.exp2 (sc Q K h a r - pk Q K h a)
/-- The attention's output. -/
def outA : FVec Ideal S8192x1024 .bf16 := fun i =>
  Ideal.div (∑ r : Fin 8192, pw Q K (vhead (i 1)) (i 0) r * V (ix2 r (i 1))) (∑ r : Fin 8192, pw Q K (vhead (i 1)) (i 0) r)
/-- The rows' log-sums to base two. -/
def lseA : FVec Ideal S8x8192x1 .f32 := fun i =>
  pk Q K (i 0) (i 1) + Ideal.log (∑ r : Fin 8192, pw Q K (i 0) (i 1) r) * (((Real.log 2)⁻¹ : ℝ) : EReal)
end

/-- Which block each window shows at point `t`. -/
theorem at_point : ∀ t : Fin cfg0.N, win0_0.index t = ![t.val % 16, t.val / 16] ∧ win0_1.index t = ![0, t.val / 16]
    ∧ win0_2.index t = ![0, t.val / 16] ∧ win0_3.index t = ![t.val % 16, t.val / 16] ∧ win0_4.index t = ![t.val / 16, t.val % 16, 0] :=
  (by decide +kernel : ∀ t : Fin grid0.N, _)

variable (m : (ℓ : Loc nD τ sig) → Buf (Elt Ideal) ℓ)

/-- The scaled queries the region reads. -/
abbrev Qf (c : Dev nD) : FVec Ideal S8192x2048 .bf16 := V m c main_v7
/-- The keys the region reads. -/
abbrev Kf (c : Dev nD) : FVec Ideal S8192x2048 .bf16 := V m c main_v10
/-- The values the region reads. -/
abbrev Vf (c : Dev nD) : FVec Ideal S8192x1024 .bf16 := V m c main_v12

/-- The head of point `t`. -/
def hd (t : Fin cfg0.N) : Fin 8 := ⟨t.val / 16, by have := t.isLt; have : cfg0.N = 128 := rfl; omega⟩
/-- Row `a` of the block of queries at point `t`. -/
def rw' (t : Fin cfg0.N) (a : Fin 512) : Fin 8192 := ⟨t.val % 16 * 512 + a.val, by omega⟩

theorem block_score (c : Dev nD) (t : Fin cfg0.N) (a : Fin 512) (r : Fin 8192) :
    scored (iblk m c 0 t) (iblk m c 1 t) a r = sc (Qf m c) (Kf m c) (hd t) (rw' t a) r := by
  unfold scored sc qcol hd rw'
  blk_point [iblk, at_point t]

theorem block_peak (c : Dev nD) (t : Fin cfg0.N) (a : Fin 512) :
    peak (iblk m c 0 t) (iblk m c 1 t) a = pk (Qf m c) (Kf m c) (hd t) (rw' t a) := by
  unfold peak pk
  exact congrArg (fun f => Finset.fold max ⊥ f Finset.univ) (funext fun r => block_score m c t a r)

theorem block_lift (c : Dev nD) (t : Fin cfg0.N) (a : Fin 512) (r : Fin 8192) :
    lift (iblk m c 0 t) (iblk m c 1 t) a r = pw (Qf m c) (Kf m c) (hd t) (rw' t a) r := by
  unfold lift pw
  rw [block_score, block_peak]

/-- Column `b` of the block of values at point `t`. -/
def cl (t : Fin cfg0.N) (b : Fin 128) : Fin 1024 := ⟨t.val / 16 * 128 + b.val, by have := t.isLt; have : cfg0.N = 128 := rfl; omega⟩

theorem vhead_cl (t : Fin cfg0.N) (b : Fin 128) : vhead (cl t b) = hd t := by
  refine Fin.ext ?_
  show (t.val / 16 * 128 + b.val) / 128 = t.val / 16
  omega

theorem block_value (c : Dev nD) (t : Fin cfg0.N) (r : Fin 8192) (b : Fin 128) : iblk m c 2 t (ix2 r b) = Vf m c (ix2 r (cl t b)) := by
  unfold cl
  blk_point [iblk, at_point t]

theorem outA_at (c : Dev nD) (t : Fin cfg0.N) (a : Fin 512) (b : Fin 128) : outA (Qf m c) (Kf m c) (Vf m c) (ix2 (rw' t a) (cl t b))
    = Ideal.div (∑ r, pw (Qf m c) (Kf m c) (hd t) (rw' t a) r * Vf m c (ix2 r (cl t b))) (∑ r, pw (Qf m c) (Kf m c) (hd t) (rw' t a) r) := by
  unfold outA
  rw [ix2_0, ix2_1, vhead_cl]

theorem out_index (t : Fin cfg0.N) (y : S512x128.Idx) :
    ((View.whole main_v13_0).slice (win0_3.rect t)).emb y = (ix2 (rw' t (y 0)) (cl t (y 1)) : S8192x1024.Idx) := by
  unfold cl rw'
  blk_point [at_point t]

theorem lse_index (t : Fin cfg0.N) (y : S1x512x1.Idx) :
    ((View.whole main_v13_1).slice (win0_4.rect t)).emb y = (ix3 (hd t) (rw' t (y 1)) 0 : S8x8192x1.Idx) := by
  unfold hd rw'
  blk_point [at_point t]

theorem final_out (c : Dev nD) : (dats m 0 c).arrAt 3 cfg0.N = outA (Qf m c) (Kf m c) (Vf m c) := by
  refine (dats m 0 c).arrAt_eq_of_covers 3 _ (by decide +kernel) fun t hf y => ?_
  blk_simp
  rw [after0_3]
  unfold outsAt0
  frame_out
  refine (out_all (iblk m c 0 t) (iblk m c 1 t) (iblk m c 2 t) _).trans ?_
  refine (congrArg₂ Ideal.div (Finset.sum_congr rfl fun r _ => congrArg (· * _) (block_lift m c t (y 0) r)) (Finset.sum_congr rfl fun r _ => block_lift m c t (y 0) r)).trans ?_
  refine Eq.trans ?_ ((congrArg (outA (Qf m c) (Kf m c) (Vf m c)) (out_index t y)).trans (outA_at m c t (y 0) (y 1))).symm
  exact congrArg₂ Ideal.div (Finset.sum_congr rfl fun r _ => congrArg (_ * ·) (block_value m c t r (y 1))) rfl

theorem final_lse (c : Dev nD) : (dats m 0 c).arrAt 4 cfg0.N = lseA (Qf m c) (Kf m c) := by
  refine (dats m 0 c).arrAt_eq_of_covers 4 _ (by decide +kernel) fun t hf y => ?_
  blk_simp
  rw [after0_4]
  unfold outsAt0
  frame_out
  refine (lse_all (iblk m c 0 t) (iblk m c 1 t) _).trans ?_
  refine (congrArg₂ (fun x z => x + Ideal.log z * (((Real.log 2)⁻¹ : ℝ) : EReal)) (block_peak m c t (y 1)) (Finset.sum_congr rfl fun r _ => block_lift m c t (y 1) r)).trans ?_
  exact (congrArg (lseA (Qf m c) (Kf m c)) (lse_index t y)).symm

/-! What the host hands the region. -/

theorem q_text (c : Dev nD) : Qf m c = qArr (m (c.tc.loc main_arg0)) := by
  unfold Qf
  simp only [V, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem k_text (c : Dev nD) : Kf m c = kArr (m (c.tc.loc main_arg1)) := by
  unfold Kf
  simp only [V, hostOps0, hostOps0_1, hostOps0_2, hostOps0_3, hostOps0_4, List.flatten_cons, List.flatten_nil, List.append_nil, List.cons_append, List.nil_append, StableHlo.after_cons, StableHlo.after_nil]
  after_results_simp
  after_results_loop
  rfl

theorem v_text (c : Dev nD) : Vf m c = vArr (m (c.tc.loc main_arg2)) := by
  unfold Vf
  simp only [V, hostOps0, hostOps0_1, hostOps0_2, hostOps0_3, hostOps0_4, List.flatten_cons, List.flatten_nil, List.append_nil, List.cons_append, List.nil_append, StableHlo.after_cons, StableHlo.after_nil]
  after_results_simp
  after_results_loop
  rfl

end Cert.AttnFwdIdeal.Value

end
-- ==== Proof.FwdAgree.lean ====
/- Attention forward: the kernel's output and log-sums are the reference's, where queries and keys are finite. -/
module

public import proofs.«01_k».proof.Defs
public import proofs.«01_k».proof.Proof.Gen.Pre_fwd_finite
public import proofs.«01_k».proof.Proof.Gen.AttnFwdIdeal.Value
public import proofs.«01_k».proof.Proof.Gen.AttnFwdRefIdeal.Run
public import proofs.«01_k».proof.Proof.FwdFinals
public import proofs.«01_k».proof.Proof.AttnKernel
public import proofs.«01_k».proof.Proof.AttnAgree

@[expose] public section

set_option maxRecDepth 16384

noncomputable section

namespace Cert.AttnFwdIdeal.Value

open Cert.AttnFwdIdeal Cert.AttnFwdIdeal.Gen Cert.AttnMath
open Cert.AttnBwdIdeal.Value
open Idealize.ShloMosaic Idealize.ShloMosaic.TcCoe Idealize.ShloMosaic.Tactic Idealize.SL.Sem
open scoped BigOperators

/-- The greatest of scores over a positive number. -/
theorem top_over (s : Fin 8192 → ℝ) {c : ℝ} (hc : 0 < c) : top (fun r => s r / c) = top s / c := by
  unfold top
  exact (Finset.comp_sup'_eq_sup'_comp (s := Finset.univ) (H := ⟨0, Finset.mem_univ _⟩) (f := s) (fun x : ℝ => x / c)
    (fun x y => (show Monotone fun x : ℝ => x / c from fun x y h => by exact div_le_div_of_nonneg_right h hc.le).map_max)).symm

/-- A power of two of a score over the greatest, both over the logarithm of two, is the exponential. -/
theorem power_eq (s t : ℝ) : Real.rpow 2 (s / Real.log 2 - t / Real.log 2) = Real.exp (s - t) := by
  have h := log_two_ne
  rw [Real.rpow_eq_pow, Real.rpow_def_of_pos (by norm_num)]
  congr 1
  field_simp

/-- The rows' log-sums to base two, a row to a line. -/
def lseRows (z l : FVec Ideal Cert.AttnFwdRefIdeal.S8x8192 .f32) : FVec Ideal S8x8192x1 .f32 :=
  Host.divf (addf (broadcastInDim S8x8192x1 ![0, 1] Cert.AttnFwdRefIdeal.Gen.bcast_S8x8192_S8x8192x1_0_1 z) (Host.log (broadcastInDim S8x8192x1 ![0, 1] Cert.AttnFwdRefIdeal.Gen.bcast_S8x8192_S8x8192x1_0_1 l)))
    (broadcastInDim S8x8192x1 ![] Cert.AttnFwdRefIdeal.Gen.bcast_S_S8x8192x1 (Host.log (constant S_ .f32 1073741824#32)))

theorem lseRows_at (z l : FVec Ideal Cert.AttnFwdRefIdeal.S8x8192 .f32) (a : Fin 8192) (b : Fin 8) : lseRows z l (ix3 b a 0)
    = Ideal.div (z (ix2 b a) + Ideal.log (l (ix2 b a))) (Ideal.log (Ideal.ofBits .f32 1073741824#32)) := by
  pointwise [lseRows]

section
variable (Q K : FVec Ideal S8192x8x192 .f32) (V : FVec Ideal S8192x8x128 .f32)
  (q k : Fin 8192 → Fin 8 → Fin 192 → ℝ)
  (hq : ∀ a b x, Q (ix3 a b x) = ((q a b x : ℝ) : EReal)) (hk : ∀ a b x, K (ix3 a b x) = ((k a b x : ℝ) : EReal))
include hq hk

theorem sc_real (a r : Fin 8192) (b : Fin 8) : sc (qArr Q) (kArr K) b a r = ((score q k a b r / Real.log 2 : ℝ) : EReal) := by
  unfold sc
  rw [sum_low _ fun x hx => by rw [kArr_at, padded_high _ _ _ _ hx, mul_zero]]
  simp only [q_real Q q hq, k_real K k hk, ← EReal.coe_mul, coe_sum]
  rw [show (∑ x, q a b x * scale / Real.log 2 * k r b x) = score q k a b r / Real.log 2 by
    unfold score; rw [Finset.sum_mul, Finset.sum_div]; exact Finset.sum_congr rfl fun x _ => by ring]

theorem pk_real (a : Fin 8192) (b : Fin 8) : pk (qArr Q) (kArr K) b a = ((top (score q k a b) / Real.log 2 : ℝ) : EReal) := by
  unfold pk
  rw [show sc (qArr Q) (kArr K) b a = fun r => ((score q k a b r / Real.log 2 : ℝ) : EReal) from funext fun r => sc_real Q K q k hq hk a r b,
    fold_max, top_over _ (Real.log_pos (by norm_num))]

theorem pw_real (a r : Fin 8192) (b : Fin 8) : pw (qArr Q) (kArr K) b a r = ((ex (score q k a b) r : ℝ) : EReal) := by
  unfold pw
  rw [sc_real Q K q k hq hk, pk_real Q K q k hq hk, ← EReal.coe_sub, Ideal.exp2_coe, power_eq]
  rfl

theorem pw_sum (a : Fin 8192) (b : Fin 8) : ∑ r, pw (qArr Q) (kArr K) b a r = ((tot (score q k a b) : ℝ) : EReal) := by
  simp only [pw_real Q K q k hq hk, coe_sum]
  rfl

theorem out_same : outA (qArr Q) (kArr K) (vArr V) = outs V (E0 Q K) (sums (E0 Q K)) := by
  funext j
  obtain ⟨a, b, x, rfl⟩ : ∃ (a : Fin 8192) (b : Fin 8) (x : Fin 128), j = ix2 a (vcol b x) :=
    ⟨j 0, vhead (j 1), ⟨(j 1).val % 128, Nat.mod_lt _ (by decide)⟩, by
      refine (eq_ix2 j).trans (congrArg (ix2 (j 0)) (Fin.ext ?_))
      show (j 1).val = (j 1).val / 128 * 128 + (j 1).val % 128
      omega⟩
  rw [outs_at]
  unfold outA
  rw [ix2_0, ix2_1, vhead_vcol, pw_sum Q K q k hq hk, Ideal.div_coe (tot_pos _).ne', Scalars.sum_mul_real (one_div_nonneg.mpr (tot_pos _).le)]
  refine Finset.sum_congr rfl fun r _ => ?_
  rw [pw_real Q K q k hq hk, vArr_at, E0_real Q K q k hq hk, sums_real Q K q k hq hk, Ideal.div_coe (tot_pos _).ne', mul_right_comm, mul_comm]

theorem lse_same : lseA (qArr Q) (kArr K) = lseRows (tops (scores Q K)) (sums (E0 Q K)) := by
  funext j
  obtain ⟨a, b, rfl⟩ : ∃ (a : Fin 8192) (b : Fin 8), j = ix3 b a 0 :=
    ⟨j 1, j 0, (eq_ix3 j).trans (congrArg (ix3 (j 0) (j 1)) (Subsingleton.elim (α := Fin 1) _ _))⟩
  rw [lseRows_at]
  unfold lseA
  rw [ix3_0, ix3_1, pw_sum Q K q k hq hk, pk_real Q K q k hq hk, tops_real Q K q k hq hk, sums_real Q K q k hq hk, log_real (tot_pos _),
    log_two, ← EReal.coe_add, div_real _ log_two_ne, ← EReal.coe_mul, ← EReal.coe_add]
  refine congrArg (fun y : ℝ => (y : EReal)) ?_
  ring
end

end Cert.AttnFwdIdeal.Value

namespace Cert.Proof

open Idealize.ShloMosaic Idealize.ShloMosaic.TcCoe Idealize.ShloMosaic.Tactic Idealize.SL.Sem Cert.AttnMath
open Cert.AttnBwdIdeal.Value (qArr kArr vArr outs E0 sums tops scores)

/-- The reference's two results over their stages. -/
theorem fwd_text (m' : (ℓ : Loc Cert.AttnFwdRefIdeal.nD Cert.AttnFwdRefIdeal.τ Cert.AttnFwdRefIdeal.sig) → Buf (Elt Ideal) ℓ) (g' : Dev Cert.AttnFwdRefIdeal.nD → PrngReg) :
    θ_run (Cert.AttnFwdRefIdeal.defs (F := Ideal)) (onTc (τ := Cert.AttnFwdRefIdeal.τ) (Cert.AttnFwdRefIdeal.main (F := Ideal))) ⟨m', fun _ => 0, g'⟩ fun r => ∀ c : Dev Cert.AttnFwdRefIdeal.nD,
      r.2.mem (c.tc.loc Cert.AttnFwdRefIdeal.main_v15) = outs (m' (c.tc.loc Cert.AttnFwdRefIdeal.main_arg2)) (E0 (m' (c.tc.loc Cert.AttnFwdRefIdeal.main_arg0)) (m' (c.tc.loc Cert.AttnFwdRefIdeal.main_arg1))) (sums (E0 (m' (c.tc.loc Cert.AttnFwdRefIdeal.main_arg0)) (m' (c.tc.loc Cert.AttnFwdRefIdeal.main_arg1))))
      ∧ r.2.mem (c.tc.loc Cert.AttnFwdRefIdeal.main_v20) = Cert.AttnFwdIdeal.Value.lseRows (tops (scores (m' (c.tc.loc Cert.AttnFwdRefIdeal.main_arg0)) (m' (c.tc.loc Cert.AttnFwdRefIdeal.main_arg1)))) (sums (E0 (m' (c.tc.loc Cert.AttnFwdRefIdeal.main_arg0)) (m' (c.tc.loc Cert.AttnFwdRefIdeal.main_arg1))))
      ∧ r.2.mem (c.tc.loc Cert.AttnFwdRefIdeal.main_arg0) = m' (c.tc.loc Cert.AttnFwdRefIdeal.main_arg0)
      ∧ r.2.mem (c.tc.loc Cert.AttnFwdRefIdeal.main_arg1) = m' (c.tc.loc Cert.AttnFwdRefIdeal.main_arg1)
      ∧ r.2.mem (c.tc.loc Cert.AttnFwdRefIdeal.main_arg2) = m' (c.tc.loc Cert.AttnFwdRefIdeal.main_arg2) :=
  Cert.AttnFwdRefIdeal.Value.run m' g'

section
open Cert.AttnFwdIdeal
variable (m : (ℓ : Loc nD τ sig) → Buf (Elt Ideal) ℓ) (c : Dev nD) (hpre : Cert.Pre_AttnFwdIdeal_fwd_finite m)
include hpre

theorem fwd_q_finite (a : Fin 8192) (b : Fin 8) (x : Fin 192) : (show FVec Ideal S8192x8x192 .f32 from m (c.tc.loc main_arg0)) (ix3 a b x)
    = ((EReal.toReal ((show FVec Ideal S8192x8x192 .f32 from m (c.tc.loc main_arg0)) (ix3 a b x)) : ℝ) : EReal) :=
  (real_of_below _ (congrFun (hpre c).1 (ix3 a b x))).symm
theorem fwd_k_finite (a : Fin 8192) (b : Fin 8) (x : Fin 192) : (show FVec Ideal S8192x8x192 .f32 from m (c.tc.loc main_arg1)) (ix3 a b x)
    = ((EReal.toReal ((show FVec Ideal S8192x8x192 .f32 from m (c.tc.loc main_arg1)) (ix3 a b x)) : ℝ) : EReal) :=
  (real_of_below _ (congrFun (hpre c).2 (ix3 a b x))).symm

theorem fwd_out : outs (m (c.tc.loc main_arg2)) (E0 (m (c.tc.loc main_arg0)) (m (c.tc.loc main_arg1))) (sums (E0 (m (c.tc.loc main_arg0)) (m (c.tc.loc main_arg1))))
    = (Gen.dats m 0 c).arrAt 3 cfg0.N := by
  rw [Value.final_out, Value.q_text, Value.k_text, Value.v_text]
  exact (Value.out_same _ _ _ _ _ (fwd_q_finite m c hpre) (fwd_k_finite m c hpre)).symm

theorem fwd_lse : Value.lseRows (tops (scores (m (c.tc.loc main_arg0)) (m (c.tc.loc main_arg1)))) (sums (E0 (m (c.tc.loc main_arg0)) (m (c.tc.loc main_arg1))))
    = (Gen.dats m 0 c).arrAt 4 cfg0.N := by
  rw [Value.final_lse, Value.q_text, Value.k_text]
  exact (Value.lse_same _ _ _ _ (fwd_q_finite m c hpre) (fwd_k_finite m c hpre)).symm
end

/-- The kernel's output and log-sums are the attention's. -/
theorem fwd_algebraic : Cert.algebraic_AttnFwdIdeal_AttnFwdRefIdeal_pre_fwd_finite := by
  intro m g m' g' hpre hagree
  refine ⟨_, _, Cert.AttnFwdIdeal.Value.run_blocks m g, ?_⟩
  refine θ_run_mono (fwd_text m' g') ?_
  intro r hr c
  obtain ⟨h0, h1, a⟩ := hr c
  obtain ⟨e0, e1, e2⟩ := hagree c
  rw [e0, e1, e2] at h0
  rw [e0, e1] at h1
  exact ⟨h0.trans (fwd_out m c hpre), h1.trans (fwd_lse m c hpre), a⟩

/-- The reference runs and leaves its arguments alone. -/
theorem fwd_reference : Cert.quiescent_AttnFwdRefIdeal := by
  intro m g _
  run_from Cert.AttnFwdRefIdeal.Value.run m g
  · simp
  · exact sem_eq_zero_of_no_sems (show Cert.AttnFwdRefIdeal.sig.nSem + Cert.AttnFwdRefIdeal.sig.nDmaSem = 0 from rfl) _

end Cert.Proof

end
-- ==== Proof.DuAgree.lean ====
/- The squared relu's gradient: the product's tiles times twice the relu, against the gradient of the product of the square. -/
module

public import proofs.«01_k».proof.Defs
public import proofs.«01_k».proof.Proof.Gen.Du.Frame
public import proofs.«01_k».proof.Proof.Gen.DuIdeal.Frame
public import proofs.«01_k».proof.Proof.Gen.DuRefIdeal.Run
public import Idealize.ShloMosaic.Lib.Pipeline.ValueKit
public import Idealize.ShloMosaic.Lib.Claim
public import Idealize.ShloMosaic.Lib.IdealHost
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.DuIdeal.Value

open Cert.DuIdeal Cert.DuIdeal.Gen

variable (m : (ℓ : Loc nD τ sig) → Buf (Elt Ideal) ℓ)

/-- The gradient's entry: the cotangent's row against the weight's row, times twice the relu. -/
def dU (u : FVec Ideal S8192x8192 .f32) (w : FVec Ideal S8192x2048 .f32) (d : FVec Ideal S8192x2048 .f32) : FVec Ideal S8192x8192 .bf16 := fun i =>
  (∑ k : Fin 2048, d (ix2 (i 0) k) * w (ix2 (i 1) k)) * (((2 : ℝ) : EReal) * max (u i) 0)

/-- Which block each window shows at point `t`. -/
theorem at_point : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The product starts at zero. -/
theorem start (j : S1024x1024.Idx) : k0_pay1 (F := Ideal) j = 0 := by pointwise [k0_pay1]

/-- A tile of the product. -/
theorem product (d : Vec Ideal S1024x2048 .bf16) (acc : Vec Ideal S1024x1024 .f32) (w : Vec Ideal S1024x2048 .bf16) (j : S1024x1024.Idx) :
    k0_pay2 (F := Ideal) d acc w j = acc j + ∑ k : Fin 2048, d (ix2 (j 0) k) * w (ix2 (j 1) k) := by
  pointwise [k0_pay2]

/-- The tile times twice the relu. -/
theorem slope (p : Vec Ideal S1024x1024 .f32) (u : Vec Ideal S1024x1024 .bf16) (j : S1024x1024.Idx) :
    k0_pay3 (F := Ideal) p u j = p j * (((2 : ℝ) : EReal) * max (u j) 0) := by
  pointwise [k0_pay3]
  rw [Scalars.two]

/-- The gradient's array after the run. -/
theorem final (c : Dev nD) : (dats m 0 c).arrAt 3 (cfgs 0).N
    = dU (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0 dU
  frame_out
  rw [slope, product, start, zero_add]
  blk_point [iblk, V, at_point t]

end Cert.DuIdeal.Value

namespace Cert.Proof

open Idealize.ShloMosaic Idealize.SL.Sem

/-- The kernel and the reference agree. -/
theorem du_algebraic : Cert.algebraic_DuIdeal_DuRefIdeal := by
  pair_intro
  · run_from Cert.DuIdeal.Gen.run_main m g
  · run_from Cert.DuRefIdeal.Value.run m' g'
    rw [Cert.DuIdeal.Value.final]; funext j
    pointwise [Cert.DuIdeal.Value.dU]
    rw [Scalars.two]
    split_ifs with h
    · rfl
    · rw [max_eq_right (not_lt.mp h), mul_zero, mul_zero]

/-- The reference runs and leaves its arguments alone. -/
theorem du_reference : Cert.quiescent_DuRefIdeal := by
  intro m g _
  run_from Cert.DuRefIdeal.Value.run m g
  · simp
  · exact sem_eq_zero_of_no_sems (show Cert.DuRefIdeal.sig.nSem + Cert.DuRefIdeal.sig.nDmaSem = 0 from rfl) _

end Cert.Proof

end
-- ==== Proof.DwAgree.lean ====
/- The second MLP weight's gradient: four accumulated tiles of rows against one product. -/
module

public import proofs.«01_k».proof.Defs
public import proofs.«01_k».proof.Proof.Gen.Dw.Frame
public import proofs.«01_k».proof.Proof.Gen.DwIdeal.Frame
public import proofs.«01_k».proof.Proof.Gen.DwRefIdeal.Run
public import Idealize.ShloMosaic.Lib.Pipeline.ValueKit
public import Idealize.ShloMosaic.Lib.Claim
public import Idealize.ShloMosaic.Lib.IdealHost
public import proofs.«01_k».proof.Proof.Scalars
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwIdeal.Value

open Cert.DwIdeal Cert.DwIdeal.Gen

variable (m : (ℓ : Loc nD τ sig) → Buf (Elt Ideal) ℓ)

/-- The gradient's entry: the squared relu's column against the cotangent's. -/
def dW (u : FVec Ideal S8192x8192 .f32) (d : FVec Ideal S8192x2048 .f32) : FVec Ideal S8192x2048 .bf16 := fun i =>
  ∑ r : Fin 8192, max (u (ix2 r (i 0))) 0 * max (u (ix2 r (i 0))) 0 * d (ix2 r (i 1))

/-- Which block each window shows at point `t`. -/
theorem at_point : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The accumulator starts at zero. -/
theorem start (j : S1024x1024.Idx) : k0_pay1 (F := Ideal) j = 0 := by pointwise [k0_pay1]

/-- One tile of rows added. -/
theorem block (u : Vec Ideal S2048x1024 .bf16) (acc : Vec Ideal S1024x1024 .f32) (d : Vec Ideal S2048x1024 .bf16) (j : S1024x1024.Idx) :
    k0_pay2 (F := Ideal) u acc d j
      = acc j + ∑ r : Fin 2048, max (u (ix2 r (j 0))) 0 * max (u (ix2 r (j 0))) 0 * d (ix2 r (j 1)) := by
  pointwise [k0_pay2]

/-- What is written back is the accumulator. -/
theorem written (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out
  pointwise [k0_pay3]

/-- The gradient's array after the run. -/
theorem final (c : Dev nD) : (dats m 0 c).arrAt 2 (cfgs 0).N
    = dW (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, written m c t (by omega) h3,
    Pipeline.eq_sum_fin_of_reset_step_apply_of_flush (fun n h => (outsAt0 m c n h).2) 4 (fun _ => 0) _
    (fun t h j => by rw [outsAt0_A m c t h (by omega)]; frame_out; rw [block, start])
    (fun t h j => by
      by_cases h' : t.val % 4 = 3
      · rw [outsAt0_C m c t h h']; frame_out; rw [block, read_unread_whole]
      · rw [outsAt0_B m c t h h']; frame_out; rw [block, read_unread_whole])
    t ((flush0_2 t).mp hf) _, zero_add]
  unfold dW
  refine Fin.sum_mul_add_congr fun s k hl => ?_
  blk_point [iblk, V, at_point t, at_point ⟨_, Pipeline.run_point_lt_of_flush t ((flush0_2 t).mp hf) s⟩]

end Cert.DwIdeal.Value

namespace Cert.Proof

open Idealize.ShloMosaic Idealize.SL.Sem

/-- The kernel and the reference agree. -/
theorem dw_algebraic : Cert.algebraic_DwIdeal_DwRefIdeal := by
  pair_intro
  · run_from Cert.DwIdeal.Gen.run_main m g
  · run_from Cert.DwRefIdeal.Value.run m' g'
    rw [Cert.DwIdeal.Value.final]; funext j
    pointwise [Cert.DwIdeal.Value.dW]
    exact Finset.sum_congr rfl fun b _ => mul_comm _ _

/-- The reference runs and leaves its arguments alone. -/
theorem dw_reference : Cert.quiescent_DwRefIdeal := by
  intro m g _
  run_from Cert.DwRefIdeal.Value.run m g
  · simp
  · exact sem_eq_zero_of_no_sems (show Cert.DwRefIdeal.sig.nSem + Cert.DwRefIdeal.sig.nDmaSem = 0 from rfl) _

end Cert.Proof

end
-- ==== Proof.AdaAgree.lean ====
/- The conditioning weight's gradient: the kernel's blocks of columns against the gradient of the product. -/
module

public import proofs.«01_k».proof.Defs
public import proofs.«01_k».proof.Proof.Gen.AdaBwd.Frame
public import proofs.«01_k».proof.Proof.Gen.AdaBwdIdeal.Frame
public import proofs.«01_k».proof.Proof.Gen.AdaBwdRefIdeal.Run
public import Idealize.ShloMosaic.Lib.Pipeline.ValueKit
public import Idealize.ShloMosaic.Lib.Claim
public import Idealize.ShloMosaic.Lib.IdealHost
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.AdaBwdIdeal.Value

open Cert.AdaBwdIdeal Cert.AdaBwdIdeal.Gen

variable (m : (ℓ : Loc nD τ sig) → Buf (Elt Ideal) ℓ)

/-- The gradient's entry: the sum over the sequences of the gated condition times the cotangent. -/
def dW (c : FVec Ideal S8x2048 .f32) (d : FVec Ideal S8x1536 .f32) : FVec Ideal S2048x1536 .f32 := fun i =>
  ∑ b : Fin 8, c (ix2 b (i 0)) * Ideal.logistic (c (ix2 b (i 0))) * d (ix2 b (i 1))

/-- Which block each window shows at point `t`. -/
theorem at_point : ∀ t : Fin cfg0.N, win0_0.index t = ![0, 0] ∧ win0_1.index t = ![0, t.val] ∧ win0_2.index t = ![0, t.val] :=
  (by decide +kernel : ∀ t : Fin grid0.N, _)

/-- A block of the gradient, from the blocks of the arguments. -/
theorem block (c : Vec Ideal S8x2048 .f32) (d : Vec Ideal S8x512 .f32) (j : S2048x512.Idx) :
    k0_pay1 (F := Ideal) c d j = ∑ b : Fin 8, c (ix2 b (j 0)) * Ideal.logistic (c (ix2 b (j 0))) * d (ix2 b (j 1)) := by
  pointwise [k0_pay1]

/-- The gradient's array after the run. -/
theorem final (c : Dev nD) : (dats m 0 c).arrAt 2 (cfgs 0).N
    = dW (m ((c : Thread nD τ).loc main_arg0)) (m ((c : Thread nD τ).loc main_arg2)) := by
  refine (dats m 0 c).arrAt_eq_of_covers 2 _ (by decide +kernel) fun t hf y => ?_
  blk_simp
  rw [after0_2]
  unfold dW out0_2
  frame_out
  rw [block]
  blk_point [iblk, V, at_point t]

end Cert.AdaBwdIdeal.Value

namespace Cert.Proof

open Idealize.ShloMosaic Idealize.SL.Sem

/-- The kernel and the reference agree. -/
theorem ada_algebraic : Cert.algebraic_AdaBwdIdeal_AdaBwdRefIdeal := by
  pair_intro
  · run_from Cert.AdaBwdIdeal.Gen.run_main m g
  · run_from Cert.AdaBwdRefIdeal.Value.run m' g'
    rw [Cert.AdaBwdIdeal.Value.final]; funext j
    pointwise [Cert.AdaBwdIdeal.Value.dW]
    exact Finset.sum_congr rfl fun b _ => mul_comm _ _

/-- The reference runs and leaves its arguments alone. -/
theorem ada_reference : Cert.quiescent_AdaBwdRefIdeal := by
  intro m g _
  run_from Cert.AdaBwdRefIdeal.Value.run m g
  · simp
  · exact sem_eq_zero_of_no_sems (show Cert.AdaBwdRefIdeal.sig.nSem + Cert.AdaBwdRefIdeal.sig.nDmaSem = 0 from rfl) _

end Cert.Proof

end
-- ==== Proof.Norms.lean ====
/- The mathematics of a normalised row and of its gradient, shared by the kernels and the references. -/
module

public import Idealize.ShloMosaic.Lib.IdealHost
public import proofs.«01_k».proof.Proof.Scalars

@[expose] public section

noncomputable section

namespace Cert.Norms

open Idealize.ShloMosaic
open scoped BigOperators

variable {n : ℕ}

/-- A row's mean square, one over the row's length given, plus the small constant. -/
def power (v : EReal) (x : Fin n → EReal) : EReal := (∑ k, x k * x k) * v + Ideal.ofBits .f32 0x358637BD#32

/-- The row's factor: one over the root of its mean square. -/
def rate (v : EReal) (x : Fin n → EReal) : EReal := Ideal.rsqrt (power v x)

/-- The factor's slope by the mean square. -/
def slope (v : EReal) (x : Fin n → EReal) : EReal := Ideal.ofBits .f32 0xBF000000#32 * Ideal.div (rate v x) (power v x)

/-- What each entry receives through the row's mean square, the normalised row's cotangent `w` given. -/
def share (v : EReal) (x w : Fin n → EReal) : EReal := (∑ k, x k * w k) * slope v x * v

/-- An entry's gradient: what passes by, what the factor carries, and the mean square's part, once for each factor of the square. -/
def pull (v : EReal) (d x w : Fin n → EReal) (l : Fin n) : EReal :=
  d l + w l * rate v x + x l * share v x w + share v x w * x l

end Cert.Norms

end
-- ==== Proof.NormHost.lean ====
/- The norm's gradient on the host: the specification over arrays, and the reference's operations stage by stage. -/
module

public import proofs.«01_k».proof.Defs
public import proofs.«01_k».proof.Proof.Norms
public import proofs.«01_k».proof.Proof.Gen.MixBwdRefIdeal
public import Idealize.ShloMosaic.Lib.IdealHost
public import Idealize.ShloMosaic.Lib.Pipeline.ValueKit

@[expose] public section

set_option maxRecDepth 16384

noncomputable section

namespace Cert.Norms

open Idealize.ShloMosaic Cert.MixBwdRefIdeal Cert.MixBwdRefIdeal.Gen
open scoped BigOperators

/-- One over the row's length. -/
abbrev v : EReal := ((1 / 2048 : ℝ) : EReal)

/-- The modulated row's cotangent by the scaled norm. -/
def weighed (dh : FVec Ideal S8192x2048 .f32) (s : FVec Ideal S1x2048 .f32) (r : Fin 8192) (l : Fin 2048) : EReal :=
  dh (ix2 r l) * (1 + s (ix2 0 l))

/-- The input's gradient. -/
def gradX (x : FVec Ideal S8192x2048 .f32) (g s : FVec Ideal S1x2048 .f32) (dh d : FVec Ideal S8192x2048 .f32) : FVec Ideal S8192x2048 .f32 :=
  fun i => pull v (fun l => d (ix2 (i 0) l)) (fun l => x (ix2 (i 0) l)) (fun l => weighed dh s (i 0) l * g (ix2 0 l)) (i 1)

/-- The norm weight's gradient. -/
def gradG (x : FVec Ideal S8192x2048 .f32) (s : FVec Ideal S1x2048 .f32) (dh : FVec Ideal S8192x2048 .f32) : FVec Ideal S1x2048 .f32 :=
  fun i => ∑ r : Fin 8192, x (ix2 r (i 1)) * rate v (fun l => x (ix2 r l)) * weighed dh s r (i 1)

/-- The shift's gradient. -/
def gradShift (dh : FVec Ideal S8192x2048 .f32) : FVec Ideal S1x2048 .f32 := fun i => ∑ r : Fin 8192, dh (ix2 r (i 1))

/-- The scale's gradient. -/
def gradScale (x : FVec Ideal S8192x2048 .f32) (g : FVec Ideal S1x2048 .f32) (dh : FVec Ideal S8192x2048 .f32) : FVec Ideal S1x2048 .f32 :=
  fun i => ∑ r : Fin 8192, x (ix2 r (i 1)) * rate v (fun l => x (ix2 r l)) * g (ix2 0 (i 1)) * dh (ix2 r (i 1))

section stages

variable (x dh d w : FVec Ideal S8192x2048 .f32) (g s : FVec Ideal S1x2048 .f32) (r p : FVec Ideal S8192x1 .f32)

/-- The rows' mean squares. -/
def hPower : FVec Ideal S8192x1 .f32 :=
  addf (Host.divf (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))

theorem hPower_at (j : S8192x1.Idx) : hPower x j = power v fun l => x (ix2 (j 0) l) := by
  pointwise [hPower, power]
  rw [Scalars.n2048, Ideal.div_coe (by norm_num)]

/-- The slopes, the factors and mean squares given. -/
def hSlope (r p : FVec Ideal S8192x1 .f32) : FVec Ideal S8192x1 .f32 :=
  mulf (broadcastInDim S8192x1 ![] bcast_S_S8192x1 (constant S_ .f32 0xBF000000#32)) (Host.divf r p)

theorem hSlope_at (j : S8192x1.Idx) : hSlope (Host.rsqrt (hPower x)) (hPower x) j = Norms.slope v fun l => x (ix2 (j 0) l) := by
  pointwise [hSlope, Norms.slope, rate]
  rw [hPower_at]

/-- The normalised rows. -/
def hUnit (r : FVec Ideal S8192x1 .f32) : FVec Ideal S8192x2048 .f32 := mulf x (broadcastInDim S8192x2048 ![0, 1] bcast_S8192x1_S8192x2048_0_1 r)

theorem hUnit_at (j : S8192x2048.Idx) : hUnit x (Host.rsqrt (hPower x)) j = x j * rate v fun l => x (ix2 (j 0) l) := by
  pointwise [hUnit, rate]
  rw [hPower_at]; rfl

/-- The scaled cotangent. -/
def hWeighed : FVec Ideal S8192x2048 .f32 :=
  mulf (shapeCast _ dh shapeCasts_S8192x2048_S8192x2048) (broadcastInDim S8192x2048 ![0, 1] bcast_S1x2048_S8192x2048_0_1 (addf (broadcastInDim S1x2048 ![] bcast_S_S1x2048 (constant S_ .f32 0x3F800000#32)) s))

theorem hWeighed_at (j : S8192x2048.Idx) : hWeighed dh s j = weighed dh s (j 0) (j 1) := by
  pointwise [hWeighed, weighed]

/-- The normalised rows' cotangent. -/
def hCot (w : FVec Ideal S8192x2048 .f32) : FVec Ideal S8192x2048 .f32 := mulf w (broadcastInDim S8192x2048 ![0, 1] bcast_S1x2048_S8192x2048_0_1 g)

theorem hCot_at (j : S8192x2048.Idx) : hCot g w j = w j * g (ix2 0 (j 1)) := by
  pointwise [hCot]

/-- Columns summed over the rows. -/
def hColumns (w : FVec Ideal S8192x2048 .f32) : FVec Ideal S1x2048 .f32 :=
  shapeCast _ (Host.reduceAdd w (constant S_ .f32 0x00000000#32) reducesTo_S8192x2048_S2048_d0 h_S_) shapeCasts_S2048_S1x2048

theorem hColumns_at (j : S1x2048.Idx) : hColumns w j = ∑ r : Fin 8192, w (ix2 r (j 1)) := by
  pointwise [hColumns]

/-- What each entry receives through the mean square. -/
def hShare (q : FVec Ideal S8192x1 .f32) (w : FVec Ideal S8192x2048 .f32) : FVec Ideal S8192x2048 .f32 :=
  broadcastInDim S8192x2048 ![0] bcast_S8192_S8192x2048_0 (Host.reduceAdd (Host.divf (mulf (shapeCast _ (Host.reduceAdd (mulf x w) (constant S_ .f32 0x00000000#32) reducesTo_S8192x2048_S8192_d1 h_S_) shapeCasts_S8192_S8192x1) q)
    (broadcastInDim S8192x1 ![] bcast_S_S8192x1 (constant S_ .f32 0x45000000#32))) (constant S_ .f32 0x00000000#32) reducesTo_S8192x1_S8192_d1 h_S_)

theorem hShare_at (q : FVec Ideal S8192x1 .f32) (j : S8192x2048.Idx) : hShare x q w j = (∑ l : Fin 2048, x (ix2 (j 0) l) * w (ix2 (j 0) l)) * q (ix2 (j 0) 0) * v := by
  pointwise [hShare]
  simp only [Fin.sum_univ_one]
  rw [Scalars.n2048, Ideal.div_coe (by norm_num)]

/-- The input's gradient over its stages. -/
def hPull (r : FVec Ideal S8192x1 .f32) (h : FVec Ideal S8192x2048 .f32) : FVec Ideal S8192x2048 .f32 :=
  addf (addf (addf d (mulf w (broadcastInDim S8192x2048 ![0, 1] bcast_S8192x1_S8192x2048_0_1 r))) (mulf x h)) (mulf h x)

theorem hPull_at (r : FVec Ideal S8192x1 .f32) (h : FVec Ideal S8192x2048 .f32) (j : S8192x2048.Idx) :
    hPull x d w r h j = d j + w j * r (ix2 (j 0) 0) + x j * h j + h j * x j := by
  pointwise [hPull]

/-- The input's gradient. -/
def hGradX : FVec Ideal S8192x2048 .f32 :=
  hPull x d (hCot g (hWeighed dh s)) (Host.rsqrt (hPower x)) (hShare x (hSlope (Host.rsqrt (hPower x)) (hPower x)) (hCot g (hWeighed dh s)))

theorem hGradX_eq : hGradX x dh d g s = gradX x g s dh d := by
  funext j
  simp only [hGradX, gradX, pull, share, hPull_at, hShare_at, hSlope_at, hCot_at, hWeighed_at]
  pointwise [rate]
  simp only [hPower_at]
  rfl

/-- The norm weight's gradient. -/
theorem hGradG_eq : hColumns (mulf (hUnit x (Host.rsqrt (hPower x))) (hWeighed dh s)) = gradG x s dh := by
  funext j
  simp only [gradG, hColumns_at]
  pointwise []
  simp only [hUnit_at, hWeighed_at]
  rfl

/-- The shift's gradient. -/
theorem hGradShift_eq : hColumns dh = gradShift dh := by
  funext j
  simp only [gradShift, hColumns_at]

/-- The scale's gradient. -/
theorem hGradScale_eq : hColumns (mulf (hCot g (hUnit x (Host.rsqrt (hPower x)))) (shapeCast _ dh shapeCasts_S8192x2048_S8192x2048)) = gradScale x g dh := by
  funext j
  simp only [gradScale, hColumns_at]
  pointwise []
  simp only [hUnit_at, hCot_at]
  rfl

end stages

end Cert.Norms

end
-- ==== Proof.ResidHost.lean ====
/- The residual sum before the MLP: its norm's gradient over arrays, and the reference's last operations. -/
module

public import proofs.«01_k».proof.Proof.NormHost
public import Idealize.ShloMosaic.Lib.Pipeline.ValueKit

@[expose] public section

set_option maxRecDepth 16384

noncomputable section

namespace Cert.Norms

open Idealize.ShloMosaic Cert.MixBwdRefIdeal Cert.MixBwdRefIdeal.Gen
open scoped BigOperators

/-- The stream with the gated branch added. -/
def resid (x y : FVec Ideal S8192x2048 .f32) (a : FVec Ideal S1x2048 .f32) : FVec Ideal S8192x2048 .f32 :=
  fun i => x i + a (ix2 0 (i 1)) * y i

/-- The branch's gradient. -/
def gradBranch (d : FVec Ideal S8192x2048 .f32) (a : FVec Ideal S1x2048 .f32) : FVec Ideal S8192x2048 .bf16 :=
  fun i => a (ix2 0 (i 1)) * d i

/-- The gate's gradient. -/
def gradGate (d y : FVec Ideal S8192x2048 .f32) : FVec Ideal S1x2048 .f32 := fun i => ∑ r : Fin 8192, d (ix2 r (i 1)) * y (ix2 r (i 1))

section stages

variable (x y d : FVec Ideal S8192x2048 .f32) (a : FVec Ideal S1x2048 .f32)

/-- The reference's sum. -/
def hResid : FVec Ideal S8192x2048 .f32 := addf x (mulf (broadcastInDim S8192x2048 ![0, 1] bcast_S1x2048_S8192x2048_0_1 a) y)

theorem hResid_eq : hResid x y a = resid x y a := by
  funext j; pointwise [hResid, resid]

/-- The reference's branch gradient. -/
def hBranch : FVec Ideal S8192x2048 .bf16 :=
  truncf .bf16 (mulf (broadcastInDim S8192x2048 ![0, 1] bcast_S1x2048_S8192x2048_0_1 a) (shapeCast _ d shapeCasts_S8192x2048_S8192x2048)) (by decide)

theorem hBranch_eq : hBranch d a = gradBranch d a := by
  funext j; pointwise [hBranch, gradBranch]

/-- The reference's gate gradient. -/
theorem hGate_eq : hColumns (mulf (shapeCast _ d shapeCasts_S8192x2048_S8192x2048) y) = gradGate d y := by
  funext j
  simp only [gradGate, hColumns_at]
  pointwise []

end stages

end Cert.Norms

end
-- ==== Proof.ResidValue.lean ====
/- The gradient of the residual sum, norm and modulation before the MLP: the kernel's tiles of rows and accumulated columns. -/
module

public import proofs.«01_k».proof.Defs
public import proofs.«01_k».proof.Proof.Gen.ResidBwd.Frame
public import proofs.«01_k».proof.Proof.Gen.ResidBwdIdeal.Frame
public import proofs.«01_k».proof.Proof.Gen.ResidBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ResidHost

@[expose] public section

set_option maxRecDepth 16384

noncomputable section

open Idealize.ShloMosaic Idealize.ShloMosaic.TcCoe Idealize.SL.Sem
open Idealize.ShloMosaic.Pipeline (Dat)
open scoped BigOperators

namespace Cert.ResidBwdIdeal.Value

open Cert.ResidBwdIdeal Cert.ResidBwdIdeal.Gen

open Cert.Norms

variable (m : (ℓ : Loc nD τ sig) → Buf (Elt Ideal) ℓ)

/-- Which block each window shows at point `t`. -/
theorem at_point : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

section block

variable (x y d dh X : Vec Ideal S256x2048 .f32) (a g s : Vec Ideal S1x2048 .f32)

/-- A row of the sum in a block. -/
def row (r : Fin 256) (l : Fin 2048) : EReal := x (ix2 r l) + a (ix2 0 l) * y (ix2 r l)

/-- A row of the normalised rows' cotangent in a block. -/
def cot (r : Fin 256) (l : Fin 2048) : EReal := dh (ix2 r l) * (1 + s (ix2 0 l)) * g (ix2 0 l)

theorem sum_at (j : S256x2048.Idx) : k0_pay3 (F := Ideal) x y a j = row x y a (j 0) (j 1) := by
  pointwise [k0_pay3, row]

theorem power_at (j : S256x1.Idx) : k0_pay4 (F := Ideal) x y a j = power v (row x y a (j 0)) := by
  pointwise [k0_pay4, power, sum_at]; rw [Scalars.inv2048]

theorem rate_at (j : S256x1.Idx) : k0_pay5 (F := Ideal) x y a j = rate v (row x y a (j 0)) := by
  pointwise [k0_pay5, rate]; rw [power_at]

theorem slope_at (j : S256x1.Idx) : k0_pay6 (F := Ideal) x y a j = Norms.slope v (row x y a (j 0)) := by
  pointwise [k0_pay6, Norms.slope]; rw [power_at, rate_at]

theorem unit_at (j : S256x2048.Idx) : k0_pay7 (F := Ideal) x y a j = row x y a (j 0) (j 1) * rate v (row x y a (j 0)) := by
  pointwise [k0_pay7, sum_at]; rw [rate_at]; rfl

theorem weighed_at (j : S256x2048.Idx) : k0_pay11 (F := Ideal) s dh j = dh j * (1 + s (ix2 0 (j 1))) := by
  pointwise [k0_pay11, k0_pay8]

/-- One block of rows of the norm weight's gradient. -/
theorem g_at (l : Fin 2048) : k0_pay12 (F := Ideal) x y a s dh (ix1 l)
    = ∑ r : Fin 256, row x y a r l * rate v (row x y a r) * (dh (ix2 r l) * (1 + s (ix2 0 l))) := by
  pointwise [k0_pay12, unit_at, weighed_at]

/-- One block of rows of the scale's gradient. -/
theorem scale_at (j : S1x2048.Idx) : k0_pay10 (F := Ideal) x y a g dh j
    = ∑ r : Fin 256, row x y a r (j 1) * rate v (row x y a r) * g (ix2 0 (j 1)) * dh (ix2 r (j 1)) := by
  pointwise [k0_pay10, unit_at, k0_pay8]

/-- One block of rows of the shift's gradient. -/
theorem shift_at (j : S1x2048.Idx) : k0_pay9 (F := Ideal) dh j = ∑ r : Fin 256, dh (ix2 r (j 1)) := by
  pointwise [k0_pay9]

/-- A tile of the sum's gradient, over its stages. -/
theorem stages_at (p q : FVec Ideal S256x1 .f32) (w : FVec Ideal S256x2048 .f32) (j : S256x2048.Idx) :
    k0_pay13 (F := Ideal) g X p q d w j
      = d j + w j * g (ix2 0 (j 1)) * p (ix2 (j 0) 0) + X j * ((∑ l : Fin 2048, X (ix2 (j 0) l) * (w (ix2 (j 0) l) * g (ix2 0 l))) * q (ix2 (j 0) 0) * v)
        + (∑ l : Fin 2048, X (ix2 (j 0) l) * (w (ix2 (j 0) l) * g (ix2 0 l))) * q (ix2 (j 0) 0) * v * X j := by
  pointwise [k0_pay13]; rw [Scalars.inv2048]; simp only [Fin.sum_univ_one]

/-- A tile of the sum's gradient. -/
theorem tile_at (j : S256x2048.Idx) :
    k0_pay13 (F := Ideal) g (k0_pay3 x y a) (k0_pay5 x y a) (k0_pay6 x y a) d (k0_pay11 s dh) j
      = pull v (fun l => d (ix2 (j 0) l)) (row x y a (j 0)) (cot dh g s (j 0)) (j 1) := by
  rw [stages_at]
  simp only [sum_at, rate_at, slope_at, weighed_at]
  pointwise [pull, share, cot]

theorem cast_at (p q : FVec Ideal S256x1 .f32) (w : FVec Ideal S256x2048 .f32) (j : S256x2048.Idx) :
    k0_pay14 (F := Ideal) g X p q d w j = k0_pay13 (F := Ideal) g X p q d w j := by
  pointwise [k0_pay14]

theorem branch_at (p q : FVec Ideal S256x1 .f32) (w : FVec Ideal S256x2048 .f32) (j : S256x2048.Idx) :
    k0_pay15 (F := Ideal) a g X p q d w j = a (ix2 0 (j 1)) * k0_pay13 (F := Ideal) g X p q d w j := by
  pointwise [k0_pay15]; rw [cast_at]

theorem gate_at (p q : FVec Ideal S256x1 .f32) (w : FVec Ideal S256x2048 .f32) (b : Vec Ideal S1x2048 .f32) (j : S1x2048.Idx) :
    k0_pay20 (F := Ideal) y g X p q d w b j = b j + ∑ r : Fin 256, k0_pay13 (F := Ideal) g X p q d w (ix2 r (j 1)) * y (ix2 r (j 1)) := by
  pointwise [k0_pay20, cast_at]

theorem add_g (a : FVec Ideal S2048 .f32) (b : Vec Ideal S1x2048 .f32) (j : S1x2048.Idx) : k0_pay21 (F := Ideal) a b j = b j + a (ix1 (j 1)) := by
  pointwise [k0_pay21]

/-- One block of rows added to the norm weight's gradient. -/
theorem add_g_at (b : Vec Ideal S1x2048 .f32) (j : S1x2048.Idx) : k0_pay21 (F := Ideal) (k0_pay12 x y a s dh) b j
    = b j + ∑ r : Fin 256, row x y a r (j 1) * rate v (row x y a r) * (dh (ix2 r (j 1)) * (1 + s (ix2 0 (j 1)))) := by
  rw [add_g]
  exact congrArg (b j + ·) (g_at x y dh a s (j 1))

theorem add_shift (a b : Vec Ideal S1x2048 .f32) (j : S1x2048.Idx) : k0_pay1 (F := Ideal) a b j = b j + a j := by pointwise [k0_pay1]
theorem add_scale (a b : Vec Ideal S1x2048 .f32) (j : S1x2048.Idx) : k0_pay2 (F := Ideal) a b j = b j + a j := by pointwise [k0_pay2]

end block

/-- The accumulators start at zero. -/
theorem start_gate (j : S1x2048.Idx) : k0_pay16 (F := Ideal) j = 0 := by pointwise [k0_pay16]
theorem start_g (j : S1x2048.Idx) : k0_pay17 (F := Ideal) j = 0 := by pointwise [k0_pay17]
theorem start_shift (j : S1x2048.Idx) : k0_pay18 (F := Ideal) j = 0 := by pointwise [k0_pay18]
theorem start_scale (j : S1x2048.Idx) : k0_pay19 (F := Ideal) j = 0 := by pointwise [k0_pay19]

/-- The sum, from the arguments. -/
abbrev sumOf (c : Dev nD) : FVec Ideal S8192x2048 .f32 :=
  resid (m ((c : Thread nD τ).loc main_arg0)) (m ((c : Thread nD τ).loc main_arg1)) (m ((c : Thread nD τ).loc main_arg2))

/-- The sum's gradient, from the arguments. -/
abbrev gradOf (c : Dev nD) : FVec Ideal S8192x2048 .f32 :=
  gradX (sumOf m c) (m ((c : Thread nD τ).loc main_arg3)) (m ((c : Thread nD τ).loc main_arg5)) (m ((c : Thread nD τ).loc main_arg7)) (m ((c : Thread nD τ).loc main_arg6))

/-- The stream's gradient after the run. -/
theorem final_x (c : Dev nD) : (dats m 0 c).arrAt 8 (cfgs 0).N = gradOf m c := by
  refine (dats m 0 c).arrAt_eq_of_covers 8 _ (by decide +kernel) fun t hf y => ?_
  blk_simp
  rw [after0_8]
  unfold gradOf gradX sumOf resid weighed
  by_cases h : t.val % 32 = 0
  · rw [outsAt0_A m c t h]; frame_out; rw [tile_at]; unfold row cot
    blk_point [iblk, V, at_point t]
  · rw [outsAt0_B m c t h]; frame_out; rw [tile_at]; unfold row cot
    blk_point [iblk, V, at_point t]

/-- The branch's gradient after the run. -/
theorem final_y (c : Dev nD) : (dats m 0 c).arrAt 9 (cfgs 0).N = gradBranch (gradOf m c) (m ((c : Thread nD τ).loc main_arg2)) := by
  refine (dats m 0 c).arrAt_eq_of_covers 9 _ (by decide +kernel) fun t hf y => ?_
  blk_simp
  rw [after0_9]
  unfold gradBranch gradOf gradX sumOf resid weighed
  by_cases h : t.val % 32 = 0
  · rw [outsAt0_A m c t h]; frame_out; rw [branch_at, tile_at]; unfold row cot
    blk_point [iblk, V, at_point t]
  · rw [outsAt0_B m c t h]; frame_out; rw [branch_at, tile_at]; unfold row cot
    blk_point [iblk, V, at_point t]

/-- The gate's gradient after the run. -/
theorem final_gate (c : Dev nD) : (dats m 0 c).arrAt 10 (cfgs 0).N = gradGate (gradOf m c) (m ((c : Thread nD τ).loc main_arg1)) := by
  refine (dats m 0 c).arrAt_eq_of_covers 10 _ (by decide +kernel) fun t hf y => ?_
  blk_simp
  rw [after0_10,
    Pipeline.eq_sum_fin_of_reset_step_apply_of_flush (fun n h => (outsAt0 m c n h).2.2.1) 32 (fun _ => 0) _
    (fun t h j => by rw [outsAt0_A m c t h]; frame_out; rw [gate_at, start_gate])
    (fun t h j => by rw [outsAt0_B m c t h]; frame_out; rw [gate_at])
    t ((flush0_10 t).mp hf) _, zero_add]
  unfold gradGate gradOf gradX sumOf resid weighed
  refine Fin.sum_mul_add_congr fun s k hl => ?_
  rw [tile_at]
  unfold row cot
  simp only [ix2_0, ix2_1]
  blk_point [iblk, V, at_point t, at_point ⟨_, Pipeline.run_point_lt_of_flush t ((flush0_10 t).mp hf) s⟩]
  refine Fin.ext ?_
  show (y 1 : ℕ) = ((win0_10.blk t).view.emb y 1 : ℕ)
  first
    | (blk_simp [at_point t]; done)
    | (blk_simp [at_point t]; omega)
    | (simp [at_point t]; done)

/-- The g's gradient after the run. -/
theorem final_g (c : Dev nD) : (dats m 0 c).arrAt 11 (cfgs 0).N = gradG (sumOf m c) (m ((c : Thread nD τ).loc main_arg5)) (m ((c : Thread nD τ).loc main_arg7)) := by
  refine (dats m 0 c).arrAt_eq_of_covers 11 _ (by decide +kernel) fun t hf y => ?_
  blk_simp
  rw [after0_11,
    Pipeline.eq_sum_fin_of_reset_step_apply_of_flush (fun n h => (outsAt0 m c n h).2.2.2.1) 32 (fun _ => 0) _
    (fun t h j => by rw [outsAt0_A m c t h]; frame_out; rw [add_g_at, start_g])
    (fun t h j => by rw [outsAt0_B m c t h]; frame_out; rw [add_g_at])
    t ((flush0_11 t).mp hf) _, zero_add]
  unfold gradG sumOf resid weighed
  refine Fin.sum_mul_add_congr fun s k hl => ?_
  unfold row
  blk_point [iblk, V, at_point t, at_point ⟨_, Pipeline.run_point_lt_of_flush t ((flush0_11 t).mp hf) s⟩]

/-- The shift's gradient after the run. -/
theorem final_shift (c : Dev nD) : (dats m 0 c).arrAt 12 (cfgs 0).N = gradShift (m ((c : Thread nD τ).loc main_arg7)) := by
  refine (dats m 0 c).arrAt_eq_of_covers 12 _ (by decide +kernel) fun t hf y => ?_
  blk_simp
  rw [after0_12,
    Pipeline.eq_sum_fin_of_reset_step_apply_of_flush (fun n h => (outsAt0 m c n h).2.2.2.2.1) 32 (fun _ => 0) _
    (fun t h j => by rw [outsAt0_A m c t h]; frame_out; rw [add_shift, start_shift, shift_at])
    (fun t h j => by rw [outsAt0_B m c t h]; frame_out; rw [add_shift, shift_at])
    t ((flush0_12 t).mp hf) _, zero_add]
  unfold gradShift
  refine Fin.sum_mul_add_congr fun s k hl => ?_
  unfold iblk
  blk_point [iblk, V, at_point t, at_point ⟨_, Pipeline.run_point_lt_of_flush t ((flush0_12 t).mp hf) s⟩]

/-- The scale's gradient after the run. -/
theorem final_scale (c : Dev nD) : (dats m 0 c).arrAt 13 (cfgs 0).N = gradScale (sumOf m c) (m ((c : Thread nD τ).loc main_arg3)) (m ((c : Thread nD τ).loc main_arg7)) := by
  refine (dats m 0 c).arrAt_eq_of_covers 13 _ (by decide +kernel) fun t hf y => ?_
  blk_simp
  rw [after0_13,
    Pipeline.eq_sum_fin_of_reset_step_apply_of_flush (fun n h => (outsAt0 m c n h).2.2.2.2.2) 32 (fun _ => 0) _
    (fun t h j => by rw [outsAt0_A m c t h]; frame_out; rw [add_scale, start_scale, scale_at])
    (fun t h j => by rw [outsAt0_B m c t h]; frame_out; rw [add_scale, scale_at])
    t ((flush0_13 t).mp hf) _, zero_add]
  unfold gradScale sumOf resid
  refine Fin.sum_mul_add_congr fun s k hl => ?_
  unfold row
  blk_point [iblk, V, at_point t, at_point ⟨_, Pipeline.run_point_lt_of_flush t ((flush0_13 t).mp hf) s⟩]

end Cert.ResidBwdIdeal.Value

end
-- ==== Proof.ResidAgree.lean ====
/- The residual sum before the MLP: the kernel's results are the gradients of the reference. -/
module

public import proofs.«01_k».proof.Defs
public import proofs.«01_k».proof.Proof.Gen.ResidBwd.Frame
public import proofs.«01_k».proof.Proof.Gen.ResidBwdIdeal.Frame
public import proofs.«01_k».proof.Proof.Gen.ResidBwdIdeal.Value
public import proofs.«01_k».proof.Proof.Gen.ResidBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ResidValue

@[expose] public section

set_option maxRecDepth 16384

noncomputable section

open Idealize.ShloMosaic Idealize.ShloMosaic.TcCoe Idealize.SL.Sem
open Idealize.ShloMosaic.Pipeline (Dat)
open scoped BigOperators

namespace Cert.Proof

open Idealize.ShloMosaic Idealize.SL.Sem Cert.Norms

section texts

variable (m' : (ℓ : Loc Cert.ResidBwdRefIdeal.nD Cert.ResidBwdRefIdeal.τ Cert.ResidBwdRefIdeal.sig) → Buf (Elt Ideal) ℓ) (c : Dev Cert.ResidBwdRefIdeal.nD)

/-- The reference's first three results over their stages. -/
theorem resid_text0 : Cert.ResidBwdRefIdeal.Value.res_out0 m' c = (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) := rfl
theorem resid_text1 : Cert.ResidBwdRefIdeal.Value.res_out1 m' c = hBranch (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) (m' (c.tc.loc Cert.ResidBwdRefIdeal.main_arg2)) := rfl
theorem resid_text2 : Cert.ResidBwdRefIdeal.Value.res_out2 m' c
    = hColumns (mulf (shapeCast _ (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) Cert.MixBwdRefIdeal.Gen.shapeCasts_S8192x2048_S8192x2048) (m' (c.tc.loc Cert.ResidBwdRefIdeal.main_arg1))) := rfl

end texts

section same

variable (m : (ℓ : Loc Cert.ResidBwdIdeal.nD Cert.ResidBwdIdeal.τ Cert.ResidBwdIdeal.sig) → Buf (Elt Ideal) ℓ)
  (m' : (ℓ : Loc Cert.ResidBwdRefIdeal.nD Cert.ResidBwdRefIdeal.τ Cert.ResidBwdRefIdeal.sig) → Buf (Elt Ideal) ℓ) (c : Dev Cert.ResidBwdIdeal.nD)
  (e0 : m' (c.tc.loc Cert.ResidBwdRefIdeal.main_arg0) = m (c.tc.loc Cert.ResidBwdIdeal.main_arg0)) (e1 : m' (c.tc.loc Cert.ResidBwdRefIdeal.main_arg1) = m (c.tc.loc Cert.ResidBwdIdeal.main_arg1))
  (e2 : m' (c.tc.loc Cert.ResidBwdRefIdeal.main_arg2) = m (c.tc.loc Cert.ResidBwdIdeal.main_arg2)) (e3 : m' (c.tc.loc Cert.ResidBwdRefIdeal.main_arg3) = m (c.tc.loc Cert.ResidBwdIdeal.main_arg3))
  (e5 : m' (c.tc.loc Cert.ResidBwdRefIdeal.main_arg5) = m (c.tc.loc Cert.ResidBwdIdeal.main_arg5))
  (e6 : m' (c.tc.loc Cert.ResidBwdRefIdeal.main_arg6) = m (c.tc.loc Cert.ResidBwdIdeal.main_arg6)) (e7 : m' (c.tc.loc Cert.ResidBwdRefIdeal.main_arg7) = m (c.tc.loc Cert.ResidBwdIdeal.main_arg7))

include e0 e1 e2 e3 e5 e6 e7 in
theorem resid_x : (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) = (Cert.ResidBwdIdeal.Gen.dats m 0 c).arrAt 8 (Cert.ResidBwdIdeal.cfgs 0).N := by
  rw [Cert.ResidBwdIdeal.Value.final_x]
  unfold Cert.ResidBwdIdeal.Value.gradOf Cert.ResidBwdIdeal.Value.sumOf
  rw [← e0, ← e1, ← e2, ← e3, ← e5, ← e6, ← e7, ← hResid_eq, ← hGradX_eq]

include e0 e1 e2 e3 e5 e6 e7 in
theorem resid_y : hBranch (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) (m' (c.tc.loc Cert.ResidBwdRefIdeal.main_arg2)) = (Cert.ResidBwdIdeal.Gen.dats m 0 c).arrAt 9 (Cert.ResidBwdIdeal.cfgs 0).N := by
  rw [Cert.ResidBwdIdeal.Value.final_y]
  unfold Cert.ResidBwdIdeal.Value.gradOf Cert.ResidBwdIdeal.Value.sumOf
  rw [← e0, ← e1, ← e2, ← e3, ← e5, ← e6, ← e7, ← hResid_eq, ← hGradX_eq, ← hBranch_eq]

include e0 e1 e2 e3 e5 e6 e7 in
theorem resid_gate : hColumns (mulf (shapeCast _ (hGradX (hResid (m' (c.tc.loc Cert.ResidBwdRefIdeal.main_arg0)) (m' (c.tc.loc Cert.ResidBwdRefIdeal.main_arg1)) (m' (c.tc.loc Cert.ResidBwdRefIdeal.main_arg2))) (m' (c.tc.loc Cert.ResidBwdRefIdeal.main_arg7)) (m' (c.tc.loc Cert.ResidBwdRefIdeal.main_arg6)) (m' (c.tc.loc Cert.ResidBwdRefIdeal.main_arg3)) (m' (c.tc.loc Cert.ResidBwdRefIdeal.main_arg5))) Cert.MixBwdRefIdeal.Gen.shapeCasts_S8192x2048_S8192x2048) (m' (c.tc.loc Cert.ResidBwdRefIdeal.main_arg1))) = (Cert.ResidBwdIdeal.Gen.dats m 0 c).arrAt 10 (Cert.ResidBwdIdeal.cfgs 0).N := by
  rw [Cert.ResidBwdIdeal.Value.final_gate]
  unfold Cert.ResidBwdIdeal.Value.gradOf Cert.ResidBwdIdeal.Value.sumOf
  rw [← e0, ← e1, ← e2, ← e3, ← e5, ← e6, ← e7, ← hResid_eq, ← hGradX_eq, ← hGate_eq]

end same

/-- The kernel and the reference agree. -/
theorem resid_algebraic : Cert.algebraic_ResidBwdIdeal_ResidBwdRefIdeal := by
  intro m g m' g' hpre hagree
  refine ⟨_, _, _, _, _, _, Cert.ResidBwdIdeal.Value.run_blocks m g, ?_⟩
  refine θ_run_mono (Cert.ResidBwdRefIdeal.Value.run m' g') ?_
  intro r hr c
  obtain ⟨h0, h1, h2, h3, h4, h5, a⟩ := hr c
  obtain ⟨e0, e1, e2, e3, e4, e5, e6, e7⟩ := hagree c
  refine ⟨?_, ?_, ?_, ?_, ?_, ?_, a⟩
  · exact (h0.trans (resid_text0 m' c)).trans (resid_x m m' c e0 e1 e2 e3 e5 e6 e7)
  · exact (h1.trans (resid_text1 m' c)).trans (resid_y m m' c e0 e1 e2 e3 e5 e6 e7)
  · exact (h2.trans (resid_text2 m' c)).trans (resid_gate m m' c e0 e1 e2 e3 e5 e6 e7)
  · rw [Cert.ResidBwdIdeal.Value.final_g]
    unfold Cert.ResidBwdIdeal.Value.sumOf
    rw [← e0, ← e1, ← e2, ← e5, ← e7, ← hResid_eq, ← hGradG_eq]
    exact h3
  · rw [Cert.ResidBwdIdeal.Value.final_shift]
    rw [← e7, ← hGradShift_eq]
    exact h4
  · rw [Cert.ResidBwdIdeal.Value.final_scale]
    unfold Cert.ResidBwdIdeal.Value.sumOf
    rw [← e0, ← e1, ← e2, ← e3, ← e7, ← hResid_eq, ← hGradScale_eq]
    exact h5

/-- The reference runs and leaves its arguments alone. -/
theorem resid_reference : Cert.quiescent_ResidBwdRefIdeal := by
  intro m g _
  run_from Cert.ResidBwdRefIdeal.Value.run m g
  · simp
  · exact sem_eq_zero_of_no_sems (show Cert.ResidBwdRefIdeal.sig.nSem + Cert.ResidBwdRefIdeal.sig.nDmaSem = 0 from rfl) _

end Cert.Proof

end
-- ==== Proof.MixValue.lean ====
/- The gradient of the norm and modulation before the token mixing: the kernel's tiles of rows and its accumulated columns. -/
module

public import proofs.«01_k».proof.Defs
public import proofs.«01_k».proof.Proof.Gen.MixBwd.Frame
public import proofs.«01_k».proof.Proof.Gen.MixBwdIdeal.Frame
public import proofs.«01_k».proof.Proof.Gen.MixBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.NormHost

@[expose] public section

set_option maxRecDepth 16384

noncomputable section

open Idealize.ShloMosaic Idealize.ShloMosaic.TcCoe Idealize.SL.Sem
open Idealize.ShloMosaic.Pipeline (Dat)
open scoped BigOperators

namespace Cert.MixBwdIdeal.Value

open Cert.MixBwdIdeal Cert.MixBwdIdeal.Gen

open Cert.Norms

variable (m : (ℓ : Loc nD τ sig) → Buf (Elt Ideal) ℓ)

/-- Which block each window shows at point `t`. -/
theorem at_point : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

section block

variable (x dh d : Vec Ideal S256x2048 .f32) (g s : Vec Ideal S1x2048 .f32)

/-- The rows' mean squares. -/
theorem power_at (j : S256x1.Idx) : k0_pay8 (F := Ideal) x j = power v fun l => x (ix2 (j 0) l) := by
  pointwise [k0_pay8, power]; rw [Scalars.inv2048]

/-- The rows' factors. -/
theorem rate_at (j : S256x1.Idx) : k0_pay9 (F := Ideal) x j = rate v fun l => x (ix2 (j 0) l) := by
  pointwise [k0_pay9, rate]; rw [power_at]

/-- The factors' slopes. -/
theorem slope_at (j : S256x1.Idx) : k0_pay10 (F := Ideal) x j = slope v fun l => x (ix2 (j 0) l) := by
  pointwise [k0_pay10, Norms.slope]; rw [power_at, rate_at]

/-- The normalised rows. -/
theorem unit_at (j : S256x2048.Idx) : k0_pay11 (F := Ideal) x j = x j * rate v fun l => x (ix2 (j 0) l) := by
  pointwise [k0_pay11]; rw [rate_at]; rfl

/-- The cotangent's rows scaled. -/
theorem weighed_at (j : S256x2048.Idx) : k0_pay15 (F := Ideal) s dh j = dh j * (1 + s (ix2 0 (j 1))) := by
  pointwise [k0_pay15, k0_pay12]

/-- One block of rows of the norm weight's gradient. -/
theorem g_at (j : S1x2048.Idx) : k0_pay16 (F := Ideal) x s dh j
    = ∑ r : Fin 256, x (ix2 r (j 1)) * rate v (fun l => x (ix2 r l)) * (dh (ix2 r (j 1)) * (1 + s (ix2 0 (j 1)))) := by
  pointwise [k0_pay16, unit_at, weighed_at]

/-- One block of rows of the scale's gradient. -/
theorem scale_at (j : S1x2048.Idx) : k0_pay14 (F := Ideal) x g dh j
    = ∑ r : Fin 256, x (ix2 r (j 1)) * rate v (fun l => x (ix2 r l)) * g (ix2 0 (j 1)) * dh (ix2 r (j 1)) := by
  pointwise [k0_pay14, unit_at, k0_pay12]

/-- One block of rows of the shift's gradient. -/
theorem shift_at (j : S1x2048.Idx) : k0_pay13 (F := Ideal) dh j = ∑ r : Fin 256, dh (ix2 r (j 1)) := by
  pointwise [k0_pay13]

/-- The normalised rows' cotangent. -/
theorem cot_at (j : S256x2048.Idx) : k0_pay17 (F := Ideal) g s dh j = dh j * (1 + s (ix2 0 (j 1))) * g (ix2 0 (j 1)) := by
  pointwise [k0_pay17, weighed_at]

/-- The rows against their cotangents. -/
theorem inner_at (j : S256x1.Idx) : k0_pay18 (F := Ideal) x g s dh j
    = ∑ l : Fin 2048, x (ix2 (j 0) l) * (dh (ix2 (j 0) l) * (1 + s (ix2 0 l)) * g (ix2 0 l)) := by
  pointwise [k0_pay18, cot_at]

/-- What the factor carries. -/
theorem carried_at (j : S256x2048.Idx) : k0_pay19 (F := Ideal) x g s dh j
    = dh j * (1 + s (ix2 0 (j 1))) * g (ix2 0 (j 1)) * rate v fun l => x (ix2 (j 0) l) := by
  pointwise [k0_pay19, cot_at]; rw [rate_at]; rfl

/-- A tile of the sum the kernel writes, over its stages. -/
theorem sum_at (q p : FVec Ideal S256x1 .f32) (w : FVec Ideal S256x2048 .f32) (j : S256x2048.Idx) :
    k0_pay1 (F := Ideal) x q d p w j
      = d j + w j + x j * (p (ix2 (j 0) 0) * q (ix2 (j 0) 0) * v) + p (ix2 (j 0) 0) * q (ix2 (j 0) 0) * v * x j := by
  pointwise [k0_pay1]; rw [Scalars.inv2048]; simp only [Fin.sum_univ_one]

/-- A tile of the input's gradient. -/
theorem tile_at (j : S256x2048.Idx) :
    k0_pay1 (F := Ideal) x (k0_pay10 x) d (k0_pay18 x g s dh) (k0_pay19 x g s dh) j
      = pull v (fun l => d (ix2 (j 0) l)) (fun l => x (ix2 (j 0) l)) (fun l => dh (ix2 (j 0) l) * (1 + s (ix2 0 l)) * g (ix2 0 l)) (j 1) := by
  rw [sum_at, slope_at, inner_at, carried_at]
  pointwise [pull, share]

end block

/-- The accumulators start at zero. -/
theorem start_g (j : S1x2048.Idx) : k0_pay2 (F := Ideal) j = 0 := by pointwise [k0_pay2]
theorem start_shift (j : S1x2048.Idx) : k0_pay3 (F := Ideal) j = 0 := by pointwise [k0_pay3]
theorem start_scale (j : S1x2048.Idx) : k0_pay4 (F := Ideal) j = 0 := by pointwise [k0_pay4]

/-- The three accumulations. -/
theorem add_g (a b : Vec Ideal S1x2048 .f32) (j : S1x2048.Idx) : k0_pay5 (F := Ideal) a b j = b j + a j := by pointwise [k0_pay5]
theorem add_shift (a b : Vec Ideal S1x2048 .f32) (j : S1x2048.Idx) : k0_pay6 (F := Ideal) a b j = b j + a j := by pointwise [k0_pay6]
theorem add_scale (a b : Vec Ideal S1x2048 .f32) (j : S1x2048.Idx) : k0_pay7 (F := Ideal) a b j = b j + a j := by pointwise [k0_pay7]

/-- The input's gradient after the run. -/
theorem final_x (c : Dev nD) : (dats m 0 c).arrAt 6 (cfgs 0).N
    = gradX (m ((c : Thread nD τ).loc main_arg0)) (m ((c : Thread nD τ).loc main_arg1)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  blk_simp
  rw [after0_6]
  unfold gradX weighed
  by_cases h : t.val % 32 = 0
  · rw [outsAt0_A m c t h]; frame_out; rw [tile_at]
    blk_point [iblk, V, at_point t]
  · rw [outsAt0_B m c t h]; frame_out; rw [tile_at]
    blk_point [iblk, V, at_point t]

/-- The norm weight's gradient after the run. -/
theorem final_g (c : Dev nD) : (dats m 0 c).arrAt 7 (cfgs 0).N = gradG (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7,
    Pipeline.eq_sum_fin_of_reset_step_apply_of_flush (fun n h => (outsAt0 m c n h).2.1) 32 (fun _ => 0) _
    (fun t h j => by rw [outsAt0_A m c t h]; frame_out; rw [add_g, start_g, g_at])
    (fun t h j => by rw [outsAt0_B m c t h]; frame_out; rw [add_g, g_at])
    t ((flush0_7 t).mp hf) _, zero_add]
  unfold gradG weighed
  refine Fin.sum_mul_add_congr fun s k hl => ?_
  blk_point [iblk, V, at_point t, at_point ⟨_, Pipeline.run_point_lt_of_flush t ((flush0_7 t).mp hf) s⟩]

/-- The shift's gradient after the run. -/
theorem final_shift (c : Dev nD) : (dats m 0 c).arrAt 8 (cfgs 0).N = gradShift (m ((c : Thread nD τ).loc main_arg4)) := by
  refine (dats m 0 c).arrAt_eq_of_covers 8 _ (by decide +kernel) fun t hf y => ?_
  blk_simp
  rw [after0_8,
    Pipeline.eq_sum_fin_of_reset_step_apply_of_flush (fun n h => (outsAt0 m c n h).2.2.1) 32 (fun _ => 0) _
    (fun t h j => by rw [outsAt0_A m c t h]; frame_out; rw [add_shift, start_shift, shift_at])
    (fun t h j => by rw [outsAt0_B m c t h]; frame_out; rw [add_shift, shift_at])
    t ((flush0_8 t).mp hf) _, zero_add]
  unfold gradShift
  refine Fin.sum_mul_add_congr fun s k hl => ?_
  blk_point [iblk, V, at_point t, at_point ⟨_, Pipeline.run_point_lt_of_flush t ((flush0_8 t).mp hf) s⟩]

/-- The scale's gradient after the run. -/
theorem final_scale (c : Dev nD) : (dats m 0 c).arrAt 9 (cfgs 0).N = gradScale (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9,
    Pipeline.eq_sum_fin_of_reset_step_apply_of_flush (fun n h => (outsAt0 m c n h).2.2.2) 32 (fun _ => 0) _
    (fun t h j => by rw [outsAt0_A m c t h]; frame_out; rw [add_scale, start_scale, scale_at])
    (fun t h j => by rw [outsAt0_B m c t h]; frame_out; rw [add_scale, scale_at])
    t ((flush0_9 t).mp hf) _, zero_add]
  unfold gradScale
  refine Fin.sum_mul_add_congr fun s k hl => ?_
  blk_point [iblk, V, at_point t, at_point ⟨_, Pipeline.run_point_lt_of_flush t ((flush0_9 t).mp hf) s⟩]

end Cert.MixBwdIdeal.Value

end
-- ==== Proof.MixAgree.lean ====
/- The norm before the token mixing: the kernel's results are the gradients of the reference. -/
module

public import proofs.«01_k».proof.Defs
public import proofs.«01_k».proof.Proof.Gen.MixBwd.Frame
public import proofs.«01_k».proof.Proof.Gen.MixBwdIdeal.Frame
public import proofs.«01_k».proof.Proof.Gen.MixBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.MixValue

@[expose] public section

set_option maxRecDepth 16384

noncomputable section

open Idealize.ShloMosaic Idealize.ShloMosaic.TcCoe Idealize.SL.Sem
open Idealize.ShloMosaic.Pipeline (Dat)
open scoped BigOperators

namespace Cert.Proof

open Idealize.ShloMosaic Idealize.SL.Sem Cert.Norms

/-- The reference's first result is the staged text. -/
theorem mix_text (m' : (ℓ : Loc Cert.MixBwdRefIdeal.nD Cert.MixBwdRefIdeal.τ Cert.MixBwdRefIdeal.sig) → Buf (Elt Ideal) ℓ) (c : Dev Cert.MixBwdRefIdeal.nD) :
    Cert.MixBwdRefIdeal.Value.res_out0 m' c
      = hGradX (m' (c.tc.loc Cert.MixBwdRefIdeal.main_arg0)) (m' (c.tc.loc Cert.MixBwdRefIdeal.main_arg4))
          (m' (c.tc.loc Cert.MixBwdRefIdeal.main_arg5)) (m' (c.tc.loc Cert.MixBwdRefIdeal.main_arg1))
          (m' (c.tc.loc Cert.MixBwdRefIdeal.main_arg3)) := rfl

/-- The kernel and the reference agree. -/
theorem mix_algebraic : Cert.algebraic_MixBwdIdeal_MixBwdRefIdeal := by
  pair_intro
  · run_from Cert.MixBwdIdeal.Gen.run_main m g
  · refine θ_run_mono (Cert.MixBwdRefIdeal.Value.run m' g') ?_
    intro r hr c
    obtain ⟨h0, h1, h2, h3, a⟩ := hr c
    obtain ⟨e0, e1, e2, e3, e4, e5⟩ := hagree c
    refine ⟨?_, ?_, ?_, ?_, a⟩
    · rw [Cert.MixBwdIdeal.Value.final_x, ← e0, ← e1, ← e3, ← e4, ← e5, ← hGradX_eq]
      exact h0.trans (mix_text m' c)
    · rw [Cert.MixBwdIdeal.Value.final_g, ← e0, ← e3, ← e4, ← hGradG_eq]
      exact h1
    · rw [Cert.MixBwdIdeal.Value.final_shift, ← e4, ← hGradShift_eq]
      exact h2
    · rw [Cert.MixBwdIdeal.Value.final_scale, ← e0, ← e1, ← e4, ← hGradScale_eq]
      exact h3

/-- The reference runs and leaves its arguments alone. -/
theorem mix_reference : Cert.quiescent_MixBwdRefIdeal := by
  intro m g _
  run_from Cert.MixBwdRefIdeal.Value.run m g
  · simp
  · exact sem_eq_zero_of_no_sems (show Cert.MixBwdRefIdeal.sig.nSem + Cert.MixBwdRefIdeal.sig.nDmaSem = 0 from rfl) _

end Cert.Proof

end
-- ==== Proof.HeadNorm.lean ====
/- A norm over each head's columns: where a head's columns lie, and one row's gradient through the norm and its gate. -/
module

public import Idealize.ShloMosaic.Lib.IdealHost
public import proofs.«01_k».proof.Proof.Norms

@[expose] public section

noncomputable section

namespace Cert.HeadNorm

open Idealize.ShloMosaic Cert.Norms
open scoped BigOperators

/-- One over a head's width. -/
abbrev v : EReal := ((1 / 256 : ℝ) : EReal)

/-- The words of the head's width and of one over it. -/
theorem inv256 : Ideal.ofBits .f32 0x3B800000#32 = v := by
  simp [Ideal.ofBits, Ideal.ieee, v, -EReal.coe_mul]; norm_num
theorem n256 : Ideal.ofBits .f32 0x43800000#32 = ((256 : ℝ) : EReal) := by
  simp [Ideal.ofBits, Ideal.ieee, -EReal.coe_mul]; norm_num

/-- Column `l` of head `h`, the head of a column and its place in the head. -/
def lane (h : Fin 4) (l : Fin 256) : Fin 1024 := ⟨256 * h.val + l.val, by omega⟩
def head (c : Fin 1024) : Fin 4 := ⟨c.val / 256, by omega⟩
def place (c : Fin 1024) : Fin 256 := ⟨c.val % 256, by omega⟩

theorem lane0 (l : Fin 256) : lane 0 l = ⟨l.val, by omega⟩ := Fin.ext (by simp [lane])
theorem lane1 (l : Fin 256) : lane 1 l = ⟨256 + l.val, by omega⟩ := rfl
theorem lane2 (l : Fin 256) : lane 2 l = ⟨512 + l.val, by omega⟩ := rfl
theorem lane3 (l : Fin 256) : lane 3 l = ⟨768 + l.val, by omega⟩ := rfl
theorem lane_head (c : Fin 1024) : lane (head c) (place c) = c := Fin.ext (by simp only [lane, head, place]; omega)

/-- A head's values among zeros. -/
def pad (h : Fin 4) (f : Fin 256 → EReal) (c : Fin 1024) : EReal := if head c = h then f (place c) else 0

theorem pad0 (f : Fin 256 → EReal) (c : Fin 1024) : (if h : c.val < 256 then f ⟨c.val, h⟩ else 0) = pad 0 f c := by
  unfold pad
  by_cases h : c.val < 256
  · rw [dif_pos h, if_pos (Fin.ext (show c.val / 256 = 0 by omega))]; exact congrArg f (Fin.ext (show c.val = c.val % 256 by omega))
  · rw [dif_neg h, if_neg fun e => h (by have := congrArg Fin.val e; change c.val / 256 = 0 at this; omega)]

theorem pad1 (f : Fin 256 → EReal) (c : Fin 1024) :
    (if h : c.val < 512 then (if h' : c.val < 256 then 0 else f ⟨c.val - 256, by omega⟩) else 0) = pad 1 f c := by
  unfold pad
  by_cases h : c.val / 256 = 1
  · rw [if_pos (Fin.ext h), dif_pos (by omega), dif_neg (by omega)]; exact congrArg f (Fin.ext (show c.val - 256 = c.val % 256 by omega))
  · rw [if_neg fun e => h (congrArg Fin.val e)]; split_ifs <;> first | rfl | omega

theorem pad2 (f : Fin 256 → EReal) (c : Fin 1024) :
    (if h : c.val < 768 then (if h' : c.val < 512 then 0 else f ⟨c.val - 512, by omega⟩) else 0) = pad 2 f c := by
  unfold pad
  by_cases h : c.val / 256 = 2
  · rw [if_pos (Fin.ext h), dif_pos (by omega), dif_neg (by omega)]; exact congrArg f (Fin.ext (show c.val - 512 = c.val % 256 by omega))
  · rw [if_neg fun e => h (congrArg Fin.val e)]; split_ifs <;> first | rfl | omega

theorem pad3 (f : Fin 256 → EReal) (c : Fin 1024) : (if h : c.val < 768 then 0 else f ⟨c.val - 768, by omega⟩) = pad 3 f c := by
  unfold pad
  by_cases h : c.val / 256 = 3
  · rw [if_pos (Fin.ext h), dif_neg (by omega)]; exact congrArg f (Fin.ext (show c.val - 768 = c.val % 256 by omega))
  · rw [if_neg fun e => h (congrArg Fin.val e)]; split_ifs <;> first | rfl | omega

/-- Four heads laid beside each other. -/
theorem pads (f : Fin 4 → Fin 256 → EReal) (c : Fin 1024) :
    pad 3 (f 3) c + pad 2 (f 2) c + pad 1 (f 1) c + pad 0 (f 0) c = f (head c) (place c) := by
  unfold pad
  generalize head c = h
  fin_cases h <;> simp

/-- An entry's gradient through its own norm, the factor and its slope given. -/
def tile (x w : Fin 256 → EReal) (r s : EReal) (l : Fin 256) : EReal :=
  w l * r + x l * ((∑ k, x k * w k) * s * v) + (∑ k, x k * w k) * s * v * x l

section row

variable (x o d g : Fin 1024 → EReal)

/-- A head's factor. -/
def headRate (h : Fin 4) : EReal := rate v fun l => x (lane h l)
/-- The slope of a head's factor. -/
def headSlope (h : Fin 4) : EReal := slope v fun l => x (lane h l)

/-- A head's gradient by the scans' sum. -/
def gradH (h : Fin 4) (l : Fin 256) : EReal :=
  tile (fun l => x (lane h l)) (fun l => Ideal.logistic (o (lane h l)) * d (lane h l) * g (lane h l)) (headRate x h) (headSlope x h) l

/-- A head's gradient by the output gate. -/
def gradO (h : Fin 4) (l : Fin 256) : EReal :=
  d (lane h l) * (x (lane h l) * headRate x h * g (lane h l))
    * (Ideal.logistic (o (lane h l)) * (1 - Ideal.logistic (o (lane h l))))

/-- A row's part of the norm weight's gradient. -/
def gradG (h : Fin 4) (l : Fin 256) : EReal :=
  x (lane h l) * headRate x h * (Ideal.logistic (o (lane h l)) * d (lane h l))

end row

end Cert.HeadNorm

end
-- ==== Proof.PostBlock.lean ====
/- The head norm's and output gate's gradient: the kernel's tiles of rows and its accumulated columns. -/
module

public import proofs.«01_k».proof.Defs
public import proofs.«01_k».proof.Proof.Gen.PostBwd.Frame
public import proofs.«01_k».proof.Proof.Gen.PostBwdIdeal.Frame
public import proofs.«01_k».proof.Proof.Gen.PostBwdIdeal.Value
public import proofs.«01_k».proof.Proof.Gen.PostBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.HeadNorm

@[expose] public section

set_option maxRecDepth 16384

noncomputable section

open Idealize.ShloMosaic Idealize.ShloMosaic.TcCoe Idealize.SL.Sem
open Idealize.ShloMosaic.Pipeline (Dat)
open scoped BigOperators

namespace Cert.PostBwdIdeal.Value

open Cert.PostBwdIdeal Cert.PostBwdIdeal.Gen

variable (m : (ℓ : Loc nD τ sig) → Buf (Elt Ideal) ℓ)

open Cert.Norms Cert.HeadNorm

/-- Which block each window shows at point `t`. -/
theorem at_point : ∀ t : Fin cfg0.N, win0_0.index t = ![0, t.val, 0] ∧ win0_1.index t = ![1, t.val, 0] ∧ win0_2.index t = ![t.val, 3]
    ∧ win0_3.index t = ![0, 0] ∧ win0_4.index t = ![t.val, 1] ∧ win0_5.index t = ![t.val, 0] ∧ win0_6.index t = ![t.val, 0]
    ∧ win0_7.index t = ![0, 0] :=
  (by decide +kernel : ∀ t : Fin grid0.N, _)

section block

variable (a b : Vec Ideal S1x256x1024 .f32) (o d : Vec Ideal S256x1024 .f32) (g : Vec Ideal S1x1024 .f32)

/-- A row of the scans' sum, of the gate, of the cotangent. -/
def sumRow (r : Fin 256) (c : Fin 1024) : EReal := a (ix3 0 r c) + b (ix3 0 r c)

theorem sum_at (i : Fin 256) (c : Fin 1024) : k0_pay4 (F := Ideal) a b (ix2 i c) = sumRow a b i c := by
  pointwise [k0_pay4, sumRow]

/-- The heads' columns of the scans' sum. -/
theorem x_at (i : Fin 256) (c : Fin 256) : k0_pay7 (F := Ideal) a b (ix2 i c) = sumRow a b i (lane 0 c) ∧ k0_pay16 (F := Ideal) a b (ix2 i c) = sumRow a b i (lane 1 c)
    ∧ k0_pay26 (F := Ideal) (k0_pay4 a b) (ix2 i c) = sumRow a b i (lane 2 c) ∧ k0_pay35 (F := Ideal) (k0_pay4 a b) (ix2 i c) = sumRow a b i (lane 3 c) := by
  refine ⟨?_, ?_, ?_, ?_⟩ <;> pointwise [k0_pay7, k0_pay16, k0_pay26, k0_pay35, sum_at, lane0, lane1, lane2, lane3]

/-- The heads' mean squares. -/
theorem power_at (i : Fin 256) (c : Fin 1) : k0_pay8 (F := Ideal) a b (ix2 i c) = power v (fun l => sumRow a b i (lane 0 l))
    ∧ k0_pay18 (F := Ideal) (k0_pay17 a b) (ix2 i c) = power v (fun l => sumRow a b i (lane 1 l))
    ∧ k0_pay27 (F := Ideal) (k0_pay4 a b) (ix2 i c) = power v (fun l => sumRow a b i (lane 2 l))
    ∧ k0_pay36 (F := Ideal) (k0_pay4 a b) (ix2 i c) = power v (fun l => sumRow a b i (lane 3 l)) := by
  refine ⟨?_, ?_, ?_, ?_⟩ <;> (pointwise [k0_pay8, k0_pay17, k0_pay18, k0_pay27, k0_pay36, x_at, power]; rw [inv256])

/-- The heads' factors. -/
theorem rate_at (i : Fin 256) (c : Fin 1) : k0_pay9 (F := Ideal) a b (ix2 i c) = headRate (sumRow a b i) 0
    ∧ k0_pay19 (F := Ideal) (k0_pay17 a b) (ix2 i c) = headRate (sumRow a b i) 1
    ∧ k0_pay28 (F := Ideal) (k0_pay4 a b) (ix2 i c) = headRate (sumRow a b i) 2
    ∧ k0_pay37 (F := Ideal) (k0_pay4 a b) (ix2 i c) = headRate (sumRow a b i) 3 := by
  refine ⟨?_, ?_, ?_, ?_⟩ <;> (pointwise [k0_pay9, k0_pay19, k0_pay28, k0_pay37, headRate, rate]; simp only [power_at])

/-- The factors' slopes. -/
theorem slope_at (i : Fin 256) (c : Fin 1) : k0_pay10 (F := Ideal) a b (ix2 i c) = headSlope (sumRow a b i) 0
    ∧ k0_pay20 (F := Ideal) (k0_pay17 a b) (ix2 i c) = headSlope (sumRow a b i) 1
    ∧ k0_pay29 (F := Ideal) (k0_pay4 a b) (ix2 i c) = headSlope (sumRow a b i) 2
    ∧ Ideal.ofBits .f32 0xBF000000#32 * k0_pay38 (F := Ideal) (k0_pay4 a b) (ix2 i c) = headSlope (sumRow a b i) 3 := by
  refine ⟨?_, ?_, ?_, ?_⟩ <;> (pointwise [k0_pay10, k0_pay20, k0_pay29, k0_pay38, headSlope, Norms.slope]; simp only [power_at, rate_at]; rfl)

/-- The gate, head by head, and its slope. -/
theorem gate_at (i : Fin 256) (c : Fin 256) : k0_pay5 (F := Ideal) o (ix2 i c) = Ideal.logistic (o (ix2 i (lane 0 c))) ∧ k0_pay14 (F := Ideal) o (ix2 i c) = Ideal.logistic (o (ix2 i (lane 1 c)))
    ∧ k0_pay24 (F := Ideal) o (ix2 i c) = Ideal.logistic (o (ix2 i (lane 2 c))) ∧ k0_pay33 (F := Ideal) o (ix2 i c) = Ideal.logistic (o (ix2 i (lane 3 c))) := by
  refine ⟨?_, ?_, ?_, ?_⟩ <;> pointwise [k0_pay5, k0_pay14, k0_pay24, k0_pay33, lane0, lane1, lane2, lane3]

theorem gate_slope_at (i : Fin 256) (c : Fin 256) :
    k0_pay6 (F := Ideal) o (ix2 i c) = Ideal.logistic (o (ix2 i (lane 0 c))) * (1 - Ideal.logistic (o (ix2 i (lane 0 c))))
    ∧ k0_pay15 (F := Ideal) o (ix2 i c) = Ideal.logistic (o (ix2 i (lane 1 c))) * (1 - Ideal.logistic (o (ix2 i (lane 1 c))))
    ∧ k0_pay25 (F := Ideal) o (ix2 i c) = Ideal.logistic (o (ix2 i (lane 2 c))) * (1 - Ideal.logistic (o (ix2 i (lane 2 c))))
    ∧ k0_pay34 (F := Ideal) o (ix2 i c) = Ideal.logistic (o (ix2 i (lane 3 c))) * (1 - Ideal.logistic (o (ix2 i (lane 3 c)))) := by
  refine ⟨?_, ?_, ?_, ?_⟩ <;> pointwise [k0_pay6, k0_pay15, k0_pay25, k0_pay34, gate_at]

/-- The heads' columns of the cotangent and of the norm's weight. -/
theorem d_at (i : Fin 256) (c : Fin 256) : k0_pay41 (F := Ideal) d (ix2 i c) = d (ix2 i (lane 0 c)) ∧ k0_pay42 (F := Ideal) d (ix2 i c) = d (ix2 i (lane 1 c))
    ∧ k0_pay43 (F := Ideal) d (ix2 i c) = d (ix2 i (lane 2 c)) ∧ k0_pay44 (F := Ideal) d (ix2 i c) = d (ix2 i (lane 3 c)) := by
  refine ⟨?_, ?_, ?_, ?_⟩ <;> pointwise [k0_pay41, k0_pay42, k0_pay43, k0_pay44, lane0, lane1, lane2, lane3]

theorem g_at (i : Fin 1) (c : Fin 256) : k0_pay12 (F := Ideal) g (ix2 i c) = g (ix2 0 (lane 0 c)) ∧ k0_pay22 (F := Ideal) (k0_pay3 g) (ix2 i c) = g (ix2 0 (lane 1 c))
    ∧ k0_pay31 (F := Ideal) (k0_pay3 g) (ix2 i c) = g (ix2 0 (lane 2 c)) ∧ k0_pay40 (F := Ideal) (k0_pay3 g) (ix2 i c) = g (ix2 0 (lane 3 c)) := by
  refine ⟨?_, ?_, ?_, ?_⟩ <;> pointwise [k0_pay12, k0_pay22, k0_pay31, k0_pay40, k0_pay3, lane0, lane1, lane2, lane3]

/-- The last head's tile among zeros. -/
theorem h3_at (p : FVec Ideal S1x1024 .f32) (s x : FVec Ideal S256x256 .f32) (r q : FVec Ideal S256x1 .f32) (w : EReal) (i : Fin 256) (c : Fin 1024) :
    k0_pay47 (F := Ideal) p s x r q w d (ix2 i c) = pad 3 (tile (fun l => x (ix2 i l))
      (fun l => s (ix2 i l) * k0_pay44 (F := Ideal) d (ix2 i l) * k0_pay40 (F := Ideal) p (ix2 0 l)) (r (ix2 i 0)) (w * q (ix2 i 0))) c := by
  rw [← pad3]
  pointwise [k0_pay47, k0_pay45, tile]
  simp only [Fin.sum_univ_one, inv256]

/-- The third head's tile added. -/
theorem h2_at (x w : FVec Ideal S256x256 .f32) (r s : FVec Ideal S256x1 .f32) (y : FVec Ideal S256x1024 .f32) (i : Fin 256) (c : Fin 1024) :
    k0_pay54 (F := Ideal) x r s y w (ix2 i c)
      = y (ix2 i c) + pad 2 (tile (fun l => x (ix2 i l)) (fun l => w (ix2 i l)) (r (ix2 i 0)) (s (ix2 i 0))) c := by
  rw [← pad2]
  pointwise [k0_pay54, tile]
  simp only [Fin.sum_univ_one, inv256]

/-- The second and the first head's tiles added. -/
theorem h0_at (s x x' e u : FVec Ideal S256x256 .f32) (r q k : FVec Ideal S256x1 .f32) (w : FVec Ideal S1x256 .f32) (y : FVec Ideal S256x1024 .f32) (i : Fin 256) (c : Fin 1024) :
    k0_pay64 (F := Ideal) s x r q w x' e y u k (ix2 i c)
      = y (ix2 i c) + pad 1 (fun l => u (ix2 i l) + x' (ix2 i l) * k (ix2 i 0) + k (ix2 i 0) * x' (ix2 i l)) c
        + pad 0 (tile (fun l => x (ix2 i l)) (fun l => s (ix2 i l) * e (ix2 i l) * w (ix2 0 l)) (r (ix2 i 0)) (q (ix2 i 0))) c := by
  rw [← pad0, ← pad1]
  pointwise [k0_pay64, k0_pay62, tile]
  simp only [Fin.sum_univ_one, inv256]

/-- The second head's parts. -/
theorem h1_at (x s e : FVec Ideal S256x256 .f32) (r q : FVec Ideal S256x1 .f32) (w : FVec Ideal S1x256 .f32) (i : Fin 256) (l : Fin 256) :
    k0_pay60 (F := Ideal) s r w e (ix2 i l) + x (ix2 i l) * k0_pay61 (F := Ideal) s x q w e (ix2 i 0) + k0_pay61 (F := Ideal) s x q w e (ix2 i 0) * x (ix2 i l)
      = tile (fun l => x (ix2 i l)) (fun l => s (ix2 i l) * e (ix2 i l) * w (ix2 0 l)) (r (ix2 i 0)) (q (ix2 i 0)) l := by
  pointwise [k0_pay60, k0_pay61, k0_pay58, k0_pay56, tile]
  simp only [inv256]

/-- A tile of the gradient by the scans' sum. -/
theorem tile_at (i : Fin 256) (c : Fin 1024) :
    k0_pay64 (F := Ideal) (k0_pay5 o) (k0_pay7 a b) (k0_pay9 a b) (k0_pay10 a b) (k0_pay12 g) (k0_pay16 a b) (k0_pay41 d)
      (k0_pay54 (k0_pay26 (k0_pay4 a b)) (k0_pay28 (k0_pay4 a b)) (k0_pay29 (k0_pay4 a b))
        (k0_pay47 (k0_pay3 g) (k0_pay33 o) (k0_pay35 (k0_pay4 a b)) (k0_pay37 (k0_pay4 a b)) (k0_pay38 (k0_pay4 a b))
          (FloatOps.ofBits FTy.f32 3204448256#32) d)
        (k0_pay52 (k0_pay24 o) (k0_pay31 (k0_pay3 g)) d))
      (k0_pay60 (k0_pay14 o) (k0_pay19 (k0_pay17 a b)) (k0_pay22 (k0_pay3 g)) (k0_pay42 d))
      (k0_pay61 (k0_pay14 o) (k0_pay16 a b) (k0_pay20 (k0_pay17 a b)) (k0_pay22 (k0_pay3 g)) (k0_pay42 d)) (ix2 i c)
      = HeadNorm.gradH (sumRow a b i) (fun k => o (ix2 i k)) (fun k => d (ix2 i k)) (fun k => g (ix2 0 k)) (head c) (place c) := by
  rw [h0_at, h2_at, h3_at]
  simp only [h1_at]
  refine Eq.trans ?_ (pads (HeadNorm.gradH (sumRow a b i) (fun k => o (ix2 i k)) (fun k => d (ix2 i k)) (fun k => g (ix2 0 k))) c)
  unfold HeadNorm.gradH
  have e : ∀ l, k0_pay52 (F := Ideal) (k0_pay24 o) (k0_pay31 (k0_pay3 g)) d (ix2 i l)
      = k0_pay24 (F := Ideal) o (ix2 i l) * k0_pay43 (F := Ideal) d (ix2 i l) * k0_pay31 (F := Ideal) (k0_pay3 g) (ix2 0 l) := fun l => by
    pointwise [k0_pay52, k0_pay49]
  simp only [e, x_at, gate_at, d_at, g_at, rate_at, slope_at]
  rw [show (FloatOps.ofBits FTy.f32 3204448256#32 : Ideal .f32) = Ideal.ofBits .f32 0xBF000000#32 from rfl, (slope_at a b i 0).2.2.2]

/-- A tile of the gradient by the gate. -/
theorem gate_tile_at (i : Fin 256) (c : Fin 1024) :
    k0_pay65 (F := Ideal) (k0_pay6 o) (k0_pay13 a b g) (k0_pay15 o) (k0_pay41 d)
      (k0_pay55 (k0_pay25 o) (k0_pay48 (k0_pay3 g) (k0_pay34 o) (k0_pay35 (k0_pay4 a b)) (k0_pay37 (k0_pay4 a b)) d)
        (k0_pay50 (k0_pay32 (k0_pay3 g) (k0_pay4 a b)) d))
      (k0_pay57 (k0_pay23 (k0_pay3 g) (k0_pay16 a b) (k0_pay17 a b)) (k0_pay42 d)) (ix2 i c)
      = HeadNorm.gradO (sumRow a b i) (fun k => o (ix2 i k)) (fun k => d (ix2 i k)) (fun k => g (ix2 0 k)) (head c) (place c) := by
  refine Eq.trans ?_ (pads (HeadNorm.gradO (sumRow a b i) (fun k => o (ix2 i k)) (fun k => d (ix2 i k)) (fun k => g (ix2 0 k))) c)
  rw [← pad0, ← pad1, ← pad2, ← pad3]
  pointwise [k0_pay65, k0_pay55, k0_pay48, k0_pay50, k0_pay57, k0_pay13, k0_pay11, k0_pay23, k0_pay21, k0_pay32, k0_pay30, k0_pay39, HeadNorm.gradO,
    x_at, gate_slope_at, d_at, g_at, rate_at]

/-- One block of rows of the norm weight's gradient. -/
theorem columns_at (i : Fin 1) (c : Fin 1024) :
    k0_pay63 (F := Ideal) (k0_pay5 o) (k0_pay11 a b) (k0_pay41 d)
      (k0_pay59 (k0_pay14 o) (k0_pay21 (k0_pay16 a b) (k0_pay17 a b)) (k0_pay42 d)
        (k0_pay46 (k0_pay33 o) (k0_pay35 (k0_pay4 a b)) (k0_pay37 (k0_pay4 a b)) d)
        (k0_pay51 (k0_pay24 o) (k0_pay30 (k0_pay4 a b)) d) (FloatOps.ofBits FTy.f32 0#32) k0_pay53) (ix2 i c)
      = ∑ r : Fin 256, HeadNorm.gradG (sumRow a b r) (fun c => o (ix2 r c)) (fun c => d (ix2 r c)) (head c) (place c) := by
  refine Eq.trans ?_ (pads (fun h l => ∑ r : Fin 256, HeadNorm.gradG (sumRow a b r) (fun c => o (ix2 r c)) (fun c => d (ix2 r c)) h l) c)
  rw [← pad0, ← pad1, ← pad2, ← pad3]
  pointwise [k0_pay63, k0_pay62, k0_pay59, k0_pay56, k0_pay53, k0_pay51, k0_pay49, k0_pay46, k0_pay45, k0_pay11, k0_pay21, k0_pay30, k0_pay39,
    HeadNorm.gradG, x_at, gate_at, d_at, rate_at]

end block

/-- The accumulator starts at zero and adds. -/
theorem start_g (j : S1x1024.Idx) : k0_pay1 (F := Ideal) j = 0 := by pointwise [k0_pay1]
theorem add_g (p q : Vec Ideal S1x1024 .f32) (j : S1x1024.Idx) : k0_pay2 (F := Ideal) p q j = q j + p j := by pointwise [k0_pay2]

end Cert.PostBwdIdeal.Value

end
-- ==== Proof.PostValue.lean ====
/- The head norm's and output gate's gradient: the arrays after the kernel's run. -/
module

public import proofs.«01_k».proof.Defs
public import proofs.«01_k».proof.Proof.Gen.PostBwd.Frame
public import proofs.«01_k».proof.Proof.Gen.PostBwdIdeal.Frame
public import proofs.«01_k».proof.Proof.Gen.PostBwdIdeal.Value
public import proofs.«01_k».proof.Proof.Gen.PostBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.PostBlock

@[expose] public section

set_option maxRecDepth 16384

noncomputable section

open Idealize.ShloMosaic Idealize.ShloMosaic.TcCoe Idealize.SL.Sem
open Idealize.ShloMosaic.Pipeline (Dat)
open scoped BigOperators

namespace Cert.PostBwdIdeal.Value

open Cert.PostBwdIdeal Cert.PostBwdIdeal.Gen

variable (m : (ℓ : Loc nD τ sig) → Buf (Elt Ideal) ℓ)

open Cert.Norms Cert.HeadNorm

section spec
variable (h : FVec Ideal S2x8192x1024 .f32) (p : FVec Ideal S8192x5120 .f32) (g : FVec Ideal S4x256 .f32) (d : FVec Ideal S8192x2048 .f32)

/-- A row of the two scans' sum. -/
def rX (r : Fin 8192) (c : Fin 1024) : EReal := h (ix3 0 r c) + h (ix3 1 r c)
/-- A row of the output gate. -/
def rO (r : Fin 8192) (c : Fin 1024) : EReal := p (ix2 r ⟨3072 + c.val, by omega⟩)
/-- A row of the cotangent. -/
def rD (r : Fin 8192) (c : Fin 1024) : EReal := d (ix2 r ⟨1024 + c.val, by omega⟩)
/-- The norm's weight. -/
def rG (c : Fin 1024) : EReal := g (ix2 (head c) (place c))

/-- The gradient by the scans' sum, by the gate, by the norm's weight. -/
def arrH : FVec Ideal S8192x1024 .f32 := fun i => HeadNorm.gradH (rX h (i 0)) (rO p (i 0)) (rD d (i 0)) (rG g) (head (i 1)) (place (i 1))
def arrO : FVec Ideal S8192x1024 .f32 := fun i => HeadNorm.gradO (rX h (i 0)) (rO p (i 0)) (rD d (i 0)) (rG g) (head (i 1)) (place (i 1))
def arrG : FVec Ideal S1x1024 .f32 := fun i => ∑ r : Fin 8192, HeadNorm.gradG (rX h r) (rO p r) (rD d r) (head (i 1)) (place (i 1))
end spec

variable (m : (ℓ : Loc nD τ sig) → Buf (Elt Ideal) ℓ)

/-- Row `a` of the blocks at point `t`. -/
def at_row (t : Fin cfg0.N) (a : Fin 256) : Fin 8192 := ⟨t.val * 256 + a.val, by have := t.isLt; have : cfg0.N = 32 := rfl; omega⟩

theorem block_x (c : Dev nD) (t : Fin cfg0.N) (a : Fin 256) :
    sumRow (iblk m c 0 t) (iblk m c 1 t) a = rX (m ((c : Thread nD τ).loc main_arg0)) (at_row t a) := by
  funext k; unfold sumRow rX at_row
  blk_point [iblk, V, at_point t]

theorem block_o (c : Dev nD) (t : Fin cfg0.N) (a : Fin 256) :
    (fun k => iblk m c 2 t (ix2 a k)) = rO (m ((c : Thread nD τ).loc main_arg1)) (at_row t a) := by
  funext k; unfold rO at_row
  blk_point [iblk, V, at_point t]

theorem block_d (c : Dev nD) (t : Fin cfg0.N) (a : Fin 256) :
    (fun k => iblk m c 4 t (ix2 a k)) = rD (m ((c : Thread nD τ).loc main_arg3)) (at_row t a) := by
  funext k; unfold rD at_row
  blk_point [iblk, V, at_point t]

theorem block_g (c : Dev nD) (t : Fin cfg0.N) :
    (fun k => iblk m c 3 t (ix2 0 k)) = rG (m ((c : Thread nD τ).loc main_arg2)) := by
  funext k; unfold rG
  unfold head place
  blk_point [iblk, V, at_point t]

theorem out_index (t : Fin cfg0.N) (y : S256x1024.Idx) :
    ((View.whole main_v1_0).slice (win0_5.rect t)).emb y = (ix2 (at_row t (y 0)) (y 1) : S8192x1024.Idx) := by
  unfold at_row
  blk_point [at_point t]

theorem gate_index (t : Fin cfg0.N) (y : S256x1024.Idx) :
    ((View.whole main_v1_1).slice (win0_6.rect t)).emb y = (ix2 (at_row t (y 0)) (y 1) : S8192x1024.Idx) := by
  unfold at_row
  blk_point [at_point t]

/-- A block of the first result. -/
theorem tile_all (c : Dev nD) (t : Fin cfg0.N) (y : S256x1024.Idx) :
    HeadNorm.gradH (sumRow (iblk m c 0 t) (iblk m c 1 t) (y 0)) (fun k => iblk m c 2 t (ix2 (y 0 : Fin 256) k)) (fun k => iblk m c 4 t (ix2 (y 0 : Fin 256) k)) (fun k => iblk m c 3 t (ix2 0 k)) (head (y 1)) (place (y 1))
      = arrH (m ((c : Thread nD τ).loc main_arg0)) (m ((c : Thread nD τ).loc main_arg1)) (m ((c : Thread nD τ).loc main_arg2)) (m ((c : Thread nD τ).loc main_arg3))
          (((View.whole main_v1_0).slice (win0_5.rect t)).emb y) := by
  rw [out_index]
  erw [block_x m c t (y 0), block_o m c t (y 0), block_d m c t (y 0), block_g m c t]
  rfl

/-- A block of the second. -/
theorem gate_all (c : Dev nD) (t : Fin cfg0.N) (y : S256x1024.Idx) :
    HeadNorm.gradO (sumRow (iblk m c 0 t) (iblk m c 1 t) (y 0)) (fun k => iblk m c 2 t (ix2 (y 0 : Fin 256) k)) (fun k => iblk m c 4 t (ix2 (y 0 : Fin 256) k)) (fun k => iblk m c 3 t (ix2 0 k)) (head (y 1)) (place (y 1))
      = arrO (m ((c : Thread nD τ).loc main_arg0)) (m ((c : Thread nD τ).loc main_arg1)) (m ((c : Thread nD τ).loc main_arg2)) (m ((c : Thread nD τ).loc main_arg3))
          (((View.whole main_v1_1).slice (win0_6.rect t)).emb y) := by
  rw [gate_index]
  erw [block_x m c t (y 0), block_o m c t (y 0), block_d m c t (y 0), block_g m c t]
  rfl

theorem final_h (c : Dev nD) : (dats m 0 c).arrAt 5 (cfgs 0).N
    = arrH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine Eq.trans ?_ (tile_all m c t y)
  by_cases h : t.val % 32 = 0
  · rw [outsAt0_A m c t h]; frame_out; rw [eq_ix2 y]; exact tile_at _ _ _ _ _ _ _
  · rw [outsAt0_B m c t h]; frame_out; rw [eq_ix2 y]; exact tile_at _ _ _ _ _ _ _

theorem final_o (c : Dev nD) : (dats m 0 c).arrAt 6 (cfgs 0).N
    = arrO (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine Eq.trans ?_ (gate_all m c t y)
  by_cases h : t.val % 32 = 0
  · rw [outsAt0_A m c t h]; frame_out; rw [eq_ix2 y]; exact gate_tile_at _ _ _ _ _ _ _
  · rw [outsAt0_B m c t h]; frame_out; rw [eq_ix2 y]; exact gate_tile_at _ _ _ _ _ _ _

/-- What one block of rows adds to the weight's gradient. -/
theorem columns_all (c : Dev nD) (t : Fin cfg0.N) (l : Fin 1024) :
    ∑ r : Fin 256, HeadNorm.gradG (sumRow (iblk m c 0 t) (iblk m c 1 t) r) (fun k => iblk m c 2 t (ix2 r k)) (fun k => iblk m c 4 t (ix2 r k)) (head l) (place l)
      = ∑ r : Fin 256, HeadNorm.gradG (rX (m ((c : Thread nD τ).loc main_arg0)) (at_row t r)) (rO (m ((c : Thread nD τ).loc main_arg1)) (at_row t r))
          (rD (m ((c : Thread nD τ).loc main_arg3)) (at_row t r)) (head l) (place l) := by
  refine Finset.sum_congr rfl fun r _ => ?_
  rw [block_x]
  erw [block_o m c t r, block_d m c t r]

theorem final_g (c : Dev nD) : (dats m 0 c).arrAt 7 (cfgs 0).N
    = arrG (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7,
    Pipeline.eq_sum_fin_of_reset_step_apply_of_flush (fun n h => (outsAt0 m c n h).2.2) 32 (fun _ => 0)
    (fun t j => ∑ r : Fin 256, HeadNorm.gradG (rX (m ((c : Thread nD τ).loc main_arg0)) (at_row t r)) (rO (m ((c : Thread nD τ).loc main_arg1)) (at_row t r))
          (rD (m ((c : Thread nD τ).loc main_arg3)) (at_row t r)) (head (j 1)) (place (j 1)))
    (fun t h j => by
      rw [outsAt0_A m c t h]; frame_out; rw [add_g, start_g]
      refine congrArg (0 + ·) (Eq.trans ?_ (columns_all m c t (j 1)))
      rw [eq_ix2 j]; exact columns_at _ _ _ _ _ _)
    (fun t h j => by
      rw [outsAt0_B m c t h]; frame_out; rw [add_g]
      refine congrArg (_ + ·) (Eq.trans ?_ (columns_all m c t (j 1)))
      rw [eq_ix2 j]; exact columns_at _ _ _ _ _ _)
    t ((flush0_7 t).mp hf) _, zero_add]
  unfold arrG
  have ey : (y 1 : Fin 1024) = ((win0_7.blk t).view.emb y 1 : Fin 1024) := by
    refine Fin.ext ?_
    show (y 1 : ℕ) = ((win0_7.blk t).view.emb y 1 : ℕ)
    first | (blk_simp [at_point t]; done) | (blk_simp [at_point t]; omega) | (simp [at_point t]; done)
  refine Fin.sum_mul_add_congr fun s k hl => ?_
  have er : at_row ⟨_, Pipeline.run_point_lt_of_flush t ((flush0_7 t).mp hf) s⟩ k = ⟨s.val * 256 + k.val, hl⟩ := by
    have : t.val < 32 := t.isLt
    refine Fin.ext ?_
    show (32 * (t.val / 32) + s.val) * 256 + k.val = s.val * 256 + k.val
    omega
  exact congrArg₂ (fun r l => HeadNorm.gradG (rX (m ((c : Thread nD τ).loc main_arg0)) r) (rO (m ((c : Thread nD τ).loc main_arg1)) r)
          (rD (m ((c : Thread nD τ).loc main_arg3)) r) (head l) (place l)) er ey

end Cert.PostBwdIdeal.Value

end
-- ==== Proof.PostHost.lean ====
/- The head norm's and output gate's gradient: the reference's operations stage by stage. -/
module

public import proofs.«01_k».proof.Defs
public import proofs.«01_k».proof.Proof.PostValue
public import proofs.«01_k».proof.Proof.Gen.PostBwdRefIdeal
public import Idealize.ShloMosaic.Lib.IdealHost
public import Idealize.ShloMosaic.Lib.Pipeline.ValueKit

@[expose] public section

set_option maxRecDepth 16384

noncomputable section

namespace Cert.HeadNorm

open Idealize.ShloMosaic Cert.PostBwdRefIdeal Cert.PostBwdRefIdeal.Gen Cert.Norms
open Cert.PostBwdIdeal.Value (rX rO rD rG arrH arrO arrG)
open scoped BigOperators

section stages

variable (h : FVec Ideal S2x8192x1024 .f32) (p : FVec Ideal S8192x5120 .f32) (g : FVec Ideal S4x256 .f32) (d : FVec Ideal S8192x2048 .f32)
variable (x y w : FVec Ideal S8192x4x256 .f32) (r q : FVec Ideal S8192x4x1 .f32)

/-- The two scans' sum, head by head. -/
def hX : FVec Ideal S8192x4x256 .f32 :=
  shapeCast _ (addf (shapeCast S8192x1024 (extractStridedSlice S1x8192x1024 ![0, 0, 0] h slices_S2x8192x1024_S1x8192x1024_0_0_0) shapeCasts_S1x8192x1024_S8192x1024)
    (shapeCast S8192x1024 (extractStridedSlice S1x8192x1024 ![1, 0, 0] h slices_S2x8192x1024_S1x8192x1024_1_0_0) shapeCasts_S1x8192x1024_S8192x1024)) shapeCasts_S8192x1024_S8192x4x256

theorem hX_at (i : Fin 8192) (a : Fin 4) (l : Fin 256) : hX h (ix3 i a l) = rX h i (lane a l) := by
  pointwise [hX, rX]
  simp only [lane, Nat.mul_comm]

/-- The gate. -/
def hGate : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32))
    (Host.exp (Host.negf (extractStridedSlice S8192x1024 ![0, 3072] p slices_S8192x5120_S8192x1024_0_3072))))

theorem hGate_at (i : Fin 8192) (c : Fin 1024) : hGate p (ix2 i c) = Ideal.logistic (rO p i c) := by
  pointwise [hGate, rO, Ideal.logistic]

/-- The gate head by head. -/
def hGates : FVec Ideal S8192x4x256 .f32 := shapeCast _ (hGate p) shapeCasts_S8192x1024_S8192x4x256

theorem hGates_at (i : Fin 8192) (a : Fin 4) (l : Fin 256) : hGates p (ix3 i a l) = Ideal.logistic (rO p i (lane a l)) := by
  pointwise [hGates, hGate_at]
  simp only [lane, Nat.mul_comm]

/-- The gate's slope. -/
def hGateSlope : FVec Ideal S8192x1024 .f32 :=
  mulf (hGate p) (subf (broadcastInDim S8192x1024 ![] bcast_S_S8192x1024 (constant S_ .f32 0x3F800000#32)) (hGate p))

theorem hGateSlope_at (i : Fin 8192) (c : Fin 1024) : hGateSlope p (ix2 i c) = Ideal.logistic (rO p i c) * (1 - Ideal.logistic (rO p i c)) := by
  pointwise [hGateSlope, hGate_at]

/-- The cotangent head by head. -/
def hD : FVec Ideal S8192x4x256 .f32 :=
  shapeCast _ (extractStridedSlice S8192x1024 ![0, 1024] d slices_S8192x2048_S8192x1024_0_1024) shapeCasts_S8192x1024_S8192x4x256

theorem hD_at (i : Fin 8192) (a : Fin 4) (l : Fin 256) : hD d (ix3 i a l) = rD d i (lane a l) := by
  pointwise [hD, rD]
  simp only [lane, Nat.mul_comm]

/-- The norm's weight on every row. -/
def hG : FVec Ideal S8192x4x256 .f32 :=
  broadcastInDim S8192x4x256 ![0, 1, 2] bcast_S1x4x256_S8192x4x256_0_1_2 (broadcastInDim S1x4x256 ![1, 2] bcast_S4x256_S1x4x256_1_2 g)

theorem head_lane (a : Fin 4) (l : Fin 256) : head (lane a l) = a := Fin.ext (by simp only [head, lane]; omega)
theorem place_lane (a : Fin 4) (l : Fin 256) : place (lane a l) = l := Fin.ext (by simp only [place, lane]; omega)

theorem hG_at (i : Fin 8192) (a : Fin 4) (l : Fin 256) : hG g (ix3 i a l) = rG g (lane a l) := by
  unfold rG
  rw [head_lane, place_lane]
  pointwise [hG]

/-- The heads' mean squares. -/
def hPower : FVec Ideal S8192x4x1 .f32 :=
  addf (Host.divf (broadcastInDim S8192x4x1 ![0, 1] bcast_S8192x4_S8192x4x1_0_1 (Host.reduceAdd (mulf x x) (constant S_ .f32 0x00000000#32) reducesTo_S8192x4x256_S8192x4_d2 h_S_))
    (broadcastInDim S8192x4x1 ![] bcast_S_S8192x4x1 (constant S_ .f32 0x43800000#32))) (broadcastInDim S8192x4x1 ![] bcast_S_S8192x4x1 (constant S_ .f32 0x358637BD#32))

theorem hPower_at (i : Fin 8192) (a : Fin 4) (z : Fin 1) : hPower x (ix3 i a z) = power v fun l => x (ix3 i a l) := by
  pointwise [hPower, power]
  rw [n256, Ideal.div_coe (by norm_num)]

/-- The heads' factors. -/
def hRate : FVec Ideal S8192x4x1 .f32 := Host.rsqrt (hPower x)

theorem hRate_at (i : Fin 8192) (a : Fin 4) (z : Fin 1) : hRate x (ix3 i a z) = rate v fun l => x (ix3 i a l) := by
  pointwise [hRate, rate]
  rw [hPower_at]

/-- Their slopes. -/
def hSlope : FVec Ideal S8192x4x1 .f32 :=
  mulf (broadcastInDim S8192x4x1 ![] bcast_S_S8192x4x1 (constant S_ .f32 0xBF000000#32)) (Host.divf (hRate x) (hPower x))

theorem hSlope_at (i : Fin 8192) (a : Fin 4) (z : Fin 1) : hSlope x (ix3 i a z) = Norms.slope v fun l => x (ix3 i a l) := by
  pointwise [hSlope, Norms.slope]
  rw [hPower_at, hRate_at]

/-- Each head by its factor. -/
def hUnit : FVec Ideal S8192x4x256 .f32 := mulf x (broadcastInDim S8192x4x256 ![0, 1, 2] bcast_S8192x4x1_S8192x4x256_0_1_2 (hRate x))

theorem hUnit_at (i : Fin 8192) (a : Fin 4) (l : Fin 256) : hUnit x (ix3 i a l) = x (ix3 i a l) * rate v fun l => x (ix3 i a l) := by
  pointwise [hUnit]
  rw [hRate_at]

/-- What each entry receives through the mean square. -/
def hShare : FVec Ideal S8192x4x256 .f32 :=
  broadcastInDim S8192x4x256 ![0, 1] bcast_S8192x4_S8192x4x256_0_1 (Host.reduceAdd (Host.divf (mulf (shapeCast _ (Host.reduceAdd (mulf x w) (constant S_ .f32 0x00000000#32) reducesTo_S8192x4x256_S8192x4_d2 h_S_) shapeCasts_S8192x4_S8192x4x1) q)
    (broadcastInDim S8192x4x1 ![] bcast_S_S8192x4x1 (constant S_ .f32 0x43800000#32))) (constant S_ .f32 0x00000000#32) reducesTo_S8192x4x1_S8192x4_d2 h_S_)

theorem hShare_at (i : Fin 8192) (a : Fin 4) (l : Fin 256) :
    hShare x w q (ix3 i a l) = (∑ k : Fin 256, x (ix3 i a k) * w (ix3 i a k)) * q (ix3 i a 0) * v := by
  pointwise [hShare]
  simp only [Fin.sum_univ_one]
  rw [n256, Ideal.div_coe (by norm_num)]

/-- The gradient by the sum, over its stages. -/
def hTile : FVec Ideal S8192x4x256 .f32 :=
  addf (addf (mulf w (broadcastInDim S8192x4x256 ![0, 1, 2] bcast_S8192x4x1_S8192x4x256_0_1_2 r)) (mulf x y)) (mulf y x)

theorem hTile_at (i : Fin 8192) (a : Fin 4) (l : Fin 256) :
    hTile x y w r (ix3 i a l) = w (ix3 i a l) * r (ix3 i a 0) + x (ix3 i a l) * y (ix3 i a l) + y (ix3 i a l) * x (ix3 i a l) := by
  pointwise [hTile]

/-- The normalised rows' cotangent. -/
def hCot : FVec Ideal S8192x4x256 .f32 := mulf (mulf (hGates p) (hD d)) (hG g)

theorem hCot_at (i : Fin 8192) (a : Fin 4) (l : Fin 256) :
    hCot p g d (ix3 i a l) = Ideal.logistic (rO p i (lane a l)) * rD d i (lane a l) * rG g (lane a l) := by
  pointwise [hCot]
  rw [hGates_at, hD_at, hG_at]

/-- Heads back to columns. -/
def hFlat : FVec Ideal S8192x1024 .f32 := shapeCast _ x shapeCasts_S8192x4x256_S8192x1024

theorem hFlat_at (i : Fin 8192) (c : Fin 1024) : hFlat x (ix2 i c) = x (ix3 i (head c) (place c)) := by
  unfold head place
  pointwise [hFlat]

/-- The gradient by the scans' sum. -/
def hGradH : FVec Ideal S8192x1024 .f32 :=
  hFlat (hTile (hX h) (hShare (hX h) (hCot p g d) (hSlope (hX h))) (hCot p g d) (hRate (hX h)))

theorem hGradH_eq : hGradH h p g d = arrH h p g d := by
  funext j
  obtain ⟨i, c, rfl⟩ : ∃ (i : Fin 8192) (c : Fin 1024), j = ix2 i c := ⟨j 0, j 1, eq_ix2 j⟩
  unfold hGradH
  rw [hFlat_at, hTile_at, hShare_at, hSlope_at, hRate_at]
  simp only [hCot_at, hX_at]
  rfl

/-- The gradient by the gate. -/
def hGradO : FVec Ideal S8192x1024 .f32 := mulf (hFlat (mulf (hD d) (mulf (hUnit (hX h)) (hG g)))) (hGateSlope p)

theorem hGradO_eq : hGradO h p g d = arrO h p g d := by
  funext j
  obtain ⟨i, c, rfl⟩ : ∃ (i : Fin 8192) (c : Fin 1024), j = ix2 i c := ⟨j 0, j 1, eq_ix2 j⟩
  show hFlat (mulf (hD d) (mulf (hUnit (hX h)) (hG g))) (ix2 i c) * hGateSlope p (ix2 i c) = HeadNorm.gradO (rX h i) (rO p i) (rD d i) (rG g) (head c) (place c)
  rw [hFlat_at, hGateSlope_at]
  pointwise [HeadNorm.gradO, headRate]
  rw [hD_at, hUnit_at, hG_at, lane_head]
  simp only [hX_at, lane_head]

/-- The gradient by the norm's weight. -/
def hGradG : FVec Ideal S1x1024 .f32 :=
  shapeCast _ (Host.reduceAdd (shapeCast S1x4x256 (Host.reduceAdd (mulf (hUnit (hX h)) (mulf (hGates p) (hD d))) (constant S_ .f32 0x00000000#32) reducesTo_S8192x4x256_S4x256_d0 h_S_) shapeCasts_S4x256_S1x4x256)
    (constant S_ .f32 0x00000000#32) reducesTo_S1x4x256_S4x256_d0 h_S_) shapeCasts_S4x256_S1x1024

theorem hGradG_eq : hGradG h p d = arrG h p d := by
  funext j
  obtain ⟨i, c, rfl⟩ : ∃ (i : Fin 1) (c : Fin 1024), j = ix2 i c := ⟨j 0, j 1, eq_ix2 j⟩
  show _ = ∑ r : Fin 8192, HeadNorm.gradG (rX h r) (rO p r) (rD d r) (head c) (place c)
  unfold head place
  pointwise [hGradG, HeadNorm.gradG, headRate]
  simp only [Fin.sum_univ_one, hUnit_at, hGates_at, hD_at, hX_at]

end stages

end Cert.HeadNorm

end
-- ==== Proof.PostAgree.lean ====
/- The head norm and output gate: the kernel's results are the gradients of the reference. -/
module

public import proofs.«01_k».proof.Defs
public import proofs.«01_k».proof.Proof.Gen.PostBwd.Frame
public import proofs.«01_k».proof.Proof.Gen.PostBwdIdeal.Frame
public import proofs.«01_k».proof.Proof.Gen.PostBwdIdeal.Value
public import proofs.«01_k».proof.Proof.Gen.PostBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.PostHost
public import proofs.«01_k».proof.Proof.Gen.PostBwdRefIdeal.Run

@[expose] public section

set_option maxRecDepth 16384

noncomputable section

open Idealize.ShloMosaic Idealize.ShloMosaic.TcCoe Idealize.SL.Sem
open Idealize.ShloMosaic.Pipeline (Dat)
open scoped BigOperators

namespace Cert.Proof

open Idealize.ShloMosaic Idealize.SL.Sem Cert.HeadNorm

/-- The reference's first result is the staged text. -/
theorem post_text (m' : (ℓ : Loc Cert.PostBwdRefIdeal.nD Cert.PostBwdRefIdeal.τ Cert.PostBwdRefIdeal.sig) → Buf (Elt Ideal) ℓ) (c : Dev Cert.PostBwdRefIdeal.nD) :
    Cert.PostBwdRefIdeal.Value.res_out0 m' c
      = hGradH (m' (c.tc.loc Cert.PostBwdRefIdeal.main_arg0)) (m' (c.tc.loc Cert.PostBwdRefIdeal.main_arg1))
          (m' (c.tc.loc Cert.PostBwdRefIdeal.main_arg2)) (m' (c.tc.loc Cert.PostBwdRefIdeal.main_arg3)) := rfl

/-- The kernel and the reference agree. -/
theorem post_algebraic : Cert.algebraic_PostBwdIdeal_PostBwdRefIdeal := by
  pair_intro
  · run_from Cert.PostBwdIdeal.Gen.run_main m g
  · refine θ_run_mono (Cert.PostBwdRefIdeal.Value.run m' g') ?_
    intro r hr c
    obtain ⟨h0, h1, h2, a⟩ := hr c
    obtain ⟨e0, e1, e2, e3⟩ := hagree c
    refine ⟨?_, ?_, ?_, a⟩
    · rw [Cert.PostBwdIdeal.Value.final_h, ← e0, ← e1, ← e2, ← e3, ← hGradH_eq]
      exact h0.trans (post_text m' c)
    · rw [Cert.PostBwdIdeal.Value.final_o, ← e0, ← e1, ← e2, ← e3, ← hGradO_eq]
      exact h1
    · rw [Cert.PostBwdIdeal.Value.final_g, ← e0, ← e1, ← e3, ← hGradG_eq]
      exact h2

/-- The reference runs and leaves its arguments alone. -/
theorem post_reference : Cert.quiescent_PostBwdRefIdeal := by
  intro m g _
  run_from Cert.PostBwdRefIdeal.Value.run m g
  · simp
  · exact sem_eq_zero_of_no_sems (show Cert.PostBwdRefIdeal.sig.nSem + Cert.PostBwdRefIdeal.sig.nDmaSem = 0 from rfl) _

end Cert.Proof

end
-- ==== Proof.Shifts.lean ====
/- A tile moved by one or two rows, with its neighbours' rows at its edges. -/
module

public import proofs.«01_k».proof.Defs
public import proofs.«01_k».proof.Proof.Gen.ConvFwdIdeal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open scoped BigOperators

namespace Cert.Shifts

open Cert.ConvFwdIdeal Cert.ConvFwdIdeal.Gen

/-- The head rows: the neighbour's (or zeros) below `k`, the tile's own from there. -/
def headRows (k : BitVec 32) (edge : BitVec 1) (prev : FVec Ideal S8x2048 .f32) (own : FVec Ideal S8x2048 .f32) : FVec Ideal S8x2048 .f32 :=
  select (cmpi .slt (iota .tc S8x2048 32 [0] iota_S8x2048_d0_w32) (broadcast S8x2048 k))
    (Scalar.select edge (broadcast S8x2048 (Scalar.ofBits .f32 0x00000000#32)) (dynamicRotate 0 k none prev rotates_S8x2048_d0)) own

/-- The last rows: the neighbour's (or zeros) from `k` on, the tile's own below. -/
def tailRows (k : BitVec 32) (edge : BitVec 1) (next : FVec Ideal S8x2048 .f32) (own : FVec Ideal S8x2048 .f32) : FVec Ideal S8x2048 .f32 :=
  select (cmpi .sge (iota .tc S8x2048 32 [0] iota_S8x2048_d0_w32) (broadcast S8x2048 k))
    (Scalar.select edge (broadcast S8x2048 (Scalar.ofBits .f32 0x00000000#32)) (dynamicRotate 0 k none next rotates_S8x2048_d0)) own

/-- Eight head rows before the other rows of a moved tile. -/
def withHead (h : FVec Ideal S8x2048 .f32) (moved : FVec Ideal S256x2048 .f32) : FVec Ideal S256x2048 .f32 :=
  concatenate S256x2048 0 [⟨S8x2048, h⟩, ⟨S248x2048, extractStridedSlice S248x2048 ![8, 0] moved slices_S256x2048_o8_0_S248x2048⟩]
    concatenates_S8x2048_S248x2048_S256x2048_d0

/-- Eight last rows after the other rows of a moved tile. -/
def withTail (h : FVec Ideal S8x2048 .f32) (moved : FVec Ideal S256x2048 .f32) : FVec Ideal S256x2048 .f32 :=
  concatenate S256x2048 0 [⟨S248x2048, extractStridedSlice S248x2048 ![0, 0] moved slices_S256x2048_o0_0_S248x2048⟩, ⟨S8x2048, h⟩]
    concatenates_S248x2048_S8x2048_S256x2048_d0

section at_lemmas
variable (edge : BitVec 1) (prev next own : FVec Ideal S8x2048 .f32) (cur : FVec Ideal S256x2048 .f32)

theorem below2 : ∀ i : Fin 8, IntOp.cmpi .slt (BitVec.ofNat 32 i.val) 2#32 = if i.val < 2 then 1#1 else 0#1 := by decide
theorem below1 : ∀ i : Fin 8, IntOp.cmpi .slt (BitVec.ofNat 32 i.val) 1#32 = if i.val < 1 then 1#1 else 0#1 := by decide
theorem from7 : ∀ i : Fin 8, IntOp.cmpi .sge (BitVec.ofNat 32 i.val) 7#32 = if 7 ≤ i.val then 1#1 else 0#1 := by decide
theorem from6 : ∀ i : Fin 8, IntOp.cmpi .sge (BitVec.ofNat 32 i.val) 6#32 = if 6 ≤ i.val then 1#1 else 0#1 := by decide

theorem pick {p : Prop} [Decidable p] (x y : EReal) : Scalar.select (if p then 1#1 else 0#1) x y = if p then x else y := by
  by_cases h : p <;> simp [h, Scalar.select]

theorem head2_at (i : Fin 8) (c : Fin 2048) : headRows 2#32 edge prev own (ix2 i c)
    = if i.val < 2 then (if edge = 1#1 then 0 else prev (ix2 ⟨(i.val + 8 - 2) % 8, Nat.mod_lt _ (by norm_num)⟩ c)) else own (ix2 i c) := by
  pointwise [headRows]
  rw [below2 i, pick]
  rfl

theorem head1_at (i : Fin 8) (c : Fin 2048) : headRows 1#32 edge prev own (ix2 i c)
    = if i.val < 1 then (if edge = 1#1 then 0 else prev (ix2 ⟨(i.val + 8 - 1) % 8, Nat.mod_lt _ (by norm_num)⟩ c)) else own (ix2 i c) := by
  pointwise [headRows]
  rw [below1 i, pick]
  rfl

theorem tail7_at (i : Fin 8) (c : Fin 2048) : tailRows 7#32 edge next own (ix2 i c)
    = if 7 ≤ i.val then (if edge = 1#1 then 0 else next (ix2 ⟨(i.val + 8 - 7) % 8, Nat.mod_lt _ (by norm_num)⟩ c)) else own (ix2 i c) := by
  pointwise [tailRows]
  rw [from7 i, pick]
  rfl

theorem tail6_at (i : Fin 8) (c : Fin 2048) : tailRows 6#32 edge next own (ix2 i c)
    = if 6 ≤ i.val then (if edge = 1#1 then 0 else next (ix2 ⟨(i.val + 8 - 6) % 8, Nat.mod_lt _ (by norm_num)⟩ c)) else own (ix2 i c) := by
  pointwise [tailRows]
  rw [from6 i, pick]
  rfl

theorem withHead_at (g : FVec Ideal S8x2048 .f32) (i : Fin 256) (c : Fin 2048) : withHead g cur (ix2 i c)
    = if h : i.val < 8 then g (ix2 ⟨i.val, h⟩ c) else cur (ix2 i c) := by
  pointwise [withHead]
  by_cases h : i.val < 8
  · simp only [h, dite_true]
  · simp only [h, dite_false]
    exact congrArg (fun a => cur (ix2 a c)) (Fin.ext (show 8 + (i.val - 8) = i.val by omega))

theorem withTail_at (g : FVec Ideal S8x2048 .f32) (i : Fin 256) (c : Fin 2048) : withTail g cur (ix2 i c)
    = if h : i.val < 248 then cur (ix2 i c) else g (ix2 ⟨i.val - 248, by omega⟩ c) := by
  pointwise [withTail]

end at_lemmas

/-- Column `c` of a tile and of its neighbours reads the row `X`, two rows before the tile first; zeros where there is no neighbour. -/
structure Around (first last : BitVec 1) (prev : FVec Ideal S8x2048 .f32) (cur : FVec Ideal S256x2048 .f32) (next : FVec Ideal S8x2048 .f32)
    (c : Fin 2048) (X : ℕ → EReal) : Prop where
  own : ∀ a : Fin 256, cur (ix2 a c) = X (a.val + 2)
  before : first ≠ 1#1 → ∀ a : Fin 8, 6 ≤ a.val → prev (ix2 a c) = X (a.val - 6)
  start : first = 1#1 → X 0 = 0 ∧ X 1 = 0
  after : last ≠ 1#1 → ∀ a : Fin 8, a.val < 2 → next (ix2 a c) = X (a.val + 258)
  stop : last = 1#1 → X 258 = 0 ∧ X 259 = 0

section moved
variable {first last : BitVec 1} {prev next : FVec Ideal S8x2048 .f32} {cur : FVec Ideal S256x2048 .f32} {c : Fin 2048} {X : ℕ → EReal}
    (A : Around first last prev cur next c X)
include A

theorem back2 (i : Fin 256) :
    withHead (headRows 2#32 first prev (extractStridedSlice S8x2048 ![0, 0] (dynamicRotate 0 2#32 none cur rotates_S256x2048_d0)
      slices_S256x2048_o0_0_S8x2048)) (dynamicRotate 0 2#32 none cur rotates_S256x2048_d0) (ix2 i c) = X (i.val + 0) := by
  rw [withHead_at]
  by_cases h : i.val < 8
  · rw [dif_pos h, head2_at]
    by_cases h2 : i.val < 2
    · rw [if_pos h2]
      by_cases e : first = 1#1
      · rw [if_pos e]
        have hs := A.start e
        rcases (show i.val + 0 = 0 ∨ i.val + 0 = 1 by omega) with hi | hi <;> rw [hi]
        · exact hs.1.symm
        · exact hs.2.symm
      · rw [if_neg e, A.before e _ (show 6 ≤ (i.val + 8 - 2) % 8 by omega)]
        exact congrArg X (show (i.val + 8 - 2) % 8 - 6 = i.val + 0 by omega)
    · rw [if_neg h2]
      pointwise []
      rw [A.own]
      exact congrArg X (show (i.val + 256 - 2) % 256 + 2 = i.val + 0 by omega)
  · rw [dif_neg h]
    pointwise []
    rw [A.own]
    exact congrArg X (show (i.val + 256 - 2) % 256 + 2 = i.val + 0 by omega)

theorem back1 (i : Fin 256) :
    withHead (headRows 1#32 first prev (extractStridedSlice S8x2048 ![0, 0] (dynamicRotate 0 1#32 none cur rotates_S256x2048_d0)
      slices_S256x2048_o0_0_S8x2048)) (dynamicRotate 0 1#32 none cur rotates_S256x2048_d0) (ix2 i c) = X (i.val + 1) := by
  rw [withHead_at]
  by_cases h : i.val < 8
  · rw [dif_pos h, head1_at]
    by_cases h2 : i.val < 1
    · rw [if_pos h2]
      by_cases e : first = 1#1
      · rw [if_pos e]
        have hs := A.start e
        rcases (show i.val + 1 = 0 ∨ i.val + 1 = 1 by omega) with hi | hi <;> rw [hi]
        · exact hs.1.symm
        · exact hs.2.symm
      · rw [if_neg e, A.before e _ (show 6 ≤ (i.val + 8 - 1) % 8 by omega)]
        exact congrArg X (show (i.val + 8 - 1) % 8 - 6 = i.val + 1 by omega)
    · rw [if_neg h2]
      pointwise []
      rw [A.own]
      exact congrArg X (show (i.val + 256 - 1) % 256 + 2 = i.val + 1 by omega)
  · rw [dif_neg h]
    pointwise []
    rw [A.own]
    exact congrArg X (show (i.val + 256 - 1) % 256 + 2 = i.val + 1 by omega)

theorem forth1 (i : Fin 256) :
    withTail (tailRows 7#32 last next (extractStridedSlice S8x2048 ![248, 0] (dynamicRotate 0 255#32 none cur rotates_S256x2048_d0)
      slices_S256x2048_o248_0_S8x2048)) (dynamicRotate 0 255#32 none cur rotates_S256x2048_d0) (ix2 i c) = X (i.val + 3) := by
  rw [withTail_at]
  by_cases h : i.val < 248
  · rw [dif_pos h]
    pointwise []
    rw [A.own]
    exact congrArg X (show (i.val + 256 - 255) % 256 + 2 = i.val + 3 by omega)
  · rw [dif_neg h, tail7_at]
    by_cases h2 : 7 ≤ i.val - 248
    · rw [if_pos h2]
      by_cases e : last = 1#1
      · rw [if_pos e]
        have hs := A.stop e
        rcases (show i.val + 3 = 258 ∨ i.val + 3 = 259 by omega) with hi | hi <;> rw [hi]
        · exact hs.1.symm
        · exact hs.2.symm
      · rw [if_neg e, A.after e _ (show (i.val - 248 + 8 - 7) % 8 < 2 by omega)]
        exact congrArg X (show (i.val - 248 + 8 - 7) % 8 + 258 = i.val + 3 by omega)
    · rw [if_neg h2]
      pointwise []
      rw [A.own]
      exact congrArg X (show (248 + (i.val - 248) + 256 - 255) % 256 + 2 = i.val + 3 by omega)

theorem forth2 (i : Fin 256) :
    withTail (tailRows 6#32 last next (extractStridedSlice S8x2048 ![248, 0] (dynamicRotate 0 254#32 none cur rotates_S256x2048_d0)
      slices_S256x2048_o248_0_S8x2048)) (dynamicRotate 0 254#32 none cur rotates_S256x2048_d0) (ix2 i c) = X (i.val + 4) := by
  rw [withTail_at]
  by_cases h : i.val < 248
  · rw [dif_pos h]
    pointwise []
    rw [A.own]
    exact congrArg X (show (i.val + 256 - 254) % 256 + 2 = i.val + 4 by omega)
  · rw [dif_neg h, tail6_at]
    by_cases h2 : 6 ≤ i.val - 248
    · rw [if_pos h2]
      by_cases e : last = 1#1
      · rw [if_pos e]
        have hs := A.stop e
        rcases (show i.val + 4 = 258 ∨ i.val + 4 = 259 by omega) with hi | hi <;> rw [hi]
        · exact hs.1.symm
        · exact hs.2.symm
      · rw [if_neg e, A.after e _ (show (i.val - 248 + 8 - 6) % 8 < 2 by omega)]
        exact congrArg X (show (i.val - 248 + 8 - 6) % 8 + 258 = i.val + 4 by omega)
    · rw [if_neg h2]
      pointwise []
      rw [A.own]
      exact congrArg X (show (248 + (i.val - 248) + 256 - 254) % 256 + 2 = i.val + 4 by omega)

end moved

end Cert.Shifts

end
-- ==== Proof.ConvForward.lean ====
/- The convolution over queries and keys, forward: the kernel computes the reference. -/
module

public import proofs.«01_k».proof.Defs
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import Idealize.ShloMosaic.Lib.Pipeline.ValueKit
public import Idealize.ShloMosaic.Lib.Claim
public import Idealize.ShloMosaic.Lib.IdealHost
public import proofs.«01_k».proof.Proof.Shifts

@[expose] public section

set_option maxRecDepth 16384

noncomputable section

open Idealize.ShloMosaic Idealize.ShloMosaic.TcCoe Idealize.SL.Sem
open Idealize.ShloMosaic.Pipeline (Dat)
open scoped BigOperators

namespace Cert.ConvFwdIdeal.Value

open Cert.ConvFwdIdeal Cert.ConvFwdIdeal.Gen Cert.Shifts

variable (m : (ℓ : Loc nD τ sig) → Buf (Elt Ideal) ℓ)

/-- Entry `n` of a column with two zeros before it and zeros after it. -/
def padded (x : Fin 8192 → EReal) (n : ℕ) : EReal := if h : 2 ≤ n ∧ n < 8194 then x ⟨n - 2, by omega⟩ else 0

/-- The convolution of a padded column with five weights, at row `r`. -/
def five (X : ℕ → EReal) (w : Fin 5 → EReal) (b : EReal) (r : ℕ) : EReal :=
  b + w 0 * X r + w 1 * X (r + 1) + w 2 * X (r + 2) + w 3 * X (r + 3) + w 4 * X (r + 4)

section block
variable (i : grid0.Coords) (last : BitVec 1) (prev next : Vec Ideal S8x2048 .f32) (cur : Vec Ideal S256x2048 .f32)
    (b w0 w1 w2 w3 w4 : Vec Ideal S1x2048 .f32)

/-- Whether a point is the first of the grid. -/
def isFirst : BitVec 1 := Scalar.cmpi .eq (BitVec.ofNat 32 (i 0).val) 0#32

/-- A moved tile's rows by its weights, added to what is there. -/
def plus (acc : FVec Ideal S256x2048 .f32) (w : FVec Ideal S1x2048 .f32) (x : FVec Ideal S256x2048 .f32) : FVec Ideal S256x2048 .f32 :=
  addf acc (mulf (broadcastTo S256x2048 (shapeCast S1x2048 w shapeCasts_S1x2048_S1x2048) broadcasts_S1x2048_S256x2048) x)

theorem plus_at (acc : FVec Ideal S256x2048 .f32) (w : FVec Ideal S1x2048 .f32) (x : FVec Ideal S256x2048 .f32) (r : Fin 256) (c : Fin 2048) :
    plus acc w x (ix2 r c) = acc (ix2 r c) + w (ix2 0 c) * x (ix2 r c) := by pointwise [plus]

/-- The bias in every row. -/
def bias : FVec Ideal S256x2048 .f32 :=
  addf (broadcastTo S256x2048 b broadcasts_S1x2048_S256x2048) (broadcast S256x2048 (Scalar.ofBits .f32 0x00000000#32))

theorem bias_at (r : Fin 256) (c : Fin 2048) : bias b (ix2 r c) = b (ix2 0 c) := by
  pointwise [bias]

theorem tile_text : k0_pay5 (F := Ideal) last cur next (k0_pay1 i prev cur b w0) (k0_pay2 w1) (k0_pay3 cur) (k0_pay4 i prev cur) w2 w3 w4
    = plus (plus (plus (plus (plus (bias b) w0
        (withHead (headRows 2#32 (isFirst i) prev (extractStridedSlice S8x2048 ![0, 0] (dynamicRotate 0 2#32 none cur rotates_S256x2048_d0)
          slices_S256x2048_o0_0_S8x2048)) (dynamicRotate 0 2#32 none cur rotates_S256x2048_d0))) w1
        (withHead (headRows 1#32 (isFirst i) prev (extractStridedSlice S8x2048 ![0, 0] (dynamicRotate 0 1#32 none cur rotates_S256x2048_d0)
          slices_S256x2048_o0_0_S8x2048)) (dynamicRotate 0 1#32 none cur rotates_S256x2048_d0))) w2 cur) w3
        (withTail (tailRows 7#32 last next (extractStridedSlice S8x2048 ![248, 0] (dynamicRotate 0 255#32 none cur rotates_S256x2048_d0)
          slices_S256x2048_o248_0_S8x2048)) (dynamicRotate 0 255#32 none cur rotates_S256x2048_d0))) w4
        (withTail (tailRows 6#32 last next (extractStridedSlice S8x2048 ![248, 0] (dynamicRotate 0 254#32 none cur rotates_S256x2048_d0)
          slices_S256x2048_o248_0_S8x2048)) (dynamicRotate 0 254#32 none cur rotates_S256x2048_d0)) := rfl

theorem tile_at (c : Fin 2048) (X : ℕ → EReal) (A : Around (isFirst i) last prev cur next c X) (r : Fin 256) :
    k0_pay5 (F := Ideal) last cur next (k0_pay1 i prev cur b w0) (k0_pay2 w1) (k0_pay3 cur) (k0_pay4 i prev cur) w2 w3 w4 (ix2 r c)
    = five X ![w0 (ix2 0 c), w1 (ix2 0 c), w2 (ix2 0 c), w3 (ix2 0 c), w4 (ix2 0 c)] (b (ix2 0 c)) r.val := by
  rw [tile_text]
  simp only [plus_at, bias_at, back2 A, back1 A, forth1 A, forth2 A, A.own]
  rfl

end block

section points

/-- Which block each window shows at point `t`. -/
theorem at_point : ∀ t : Fin cfg0.N, win0_0.index t = ![32 * t.val - 1, 0] ∧ win0_1.index t = ![t.val, 0] ∧ win0_2.index t = ![min (32 * t.val + 32) 1023, 0]
    ∧ win0_3.index t = ![0, 0] ∧ win0_4.index t = ![0, 0] ∧ win0_5.index t = ![t.val, 0] :=
  (by decide +kernel : ∀ t : Fin grid0.N, _)

theorem first_at : ∀ t : Fin cfg0.N, isFirst (grid0.coords t) = if t.val = 0 then 1#1 else 0#1 :=
  (by decide +kernel : ∀ t : Fin grid0.N, _)

theorem last_at : ∀ t : Fin cfg0.N, Scalar.cmpi .eq (BitVec.ofNat 32 (grid0.coords t 0).val) 31#32 = if t.val = 31 then 1#1 else 0#1 :=
  (by decide +kernel : ∀ t : Fin grid0.N, _)

/-- Row `a` of the tile at point `t`, and of its neighbours. -/
def at_row (t : Fin cfg0.N) (a : Fin 256) : Fin 8192 := ⟨t.val * 256 + a.val, by have := t.isLt; have : cfg0.N = 32 := rfl; omega⟩
def left_row (t : Fin cfg0.N) (a : Fin 8) : Fin 8192 := ⟨(32 * t.val - 1) * 8 + a.val, by have := t.isLt; have : cfg0.N = 32 := rfl; omega⟩
def right_row (t : Fin cfg0.N) (a : Fin 8) : Fin 8192 := ⟨(min (32 * t.val + 32) 1023) * 8 + a.val, by have := t.isLt; have : cfg0.N = 32 := rfl; omega⟩

theorem left_at (c : Dev nD) (t : Fin cfg0.N) (a : Fin 8) (k : Fin 2048) :
    X0_0 m c t (ix2 a k) = m ((c : Thread nD τ).loc main_arg0) (ix2 (left_row t a) ⟨k.val, by omega⟩) := by
  unfold X0_0 Pipeline.Window.fill left_row
  rw [dif_pos (moved0_0 t _)]
  blk_point [iblk, V, at_point t]

theorem own_at (c : Dev nD) (t : Fin cfg0.N) (a : Fin 256) (k : Fin 2048) :
    X0_1 m c t (ix2 a k) = m ((c : Thread nD τ).loc main_arg0) (ix2 (at_row t a) ⟨k.val, by omega⟩) := by
  unfold X0_1 Pipeline.Window.fill at_row
  rw [dif_pos (moved0_1 t _)]
  blk_point [iblk, V, at_point t]

theorem bias_row (c : Dev nD) (t : Fin cfg0.N) (k : Fin 2048) :
    iblk m c 4 t (ix2 0 k) = m ((c : Thread nD τ).loc main_arg2) (ix2 0 k) := by
  blk_point [iblk, V, at_point t]

/-- The weights as the host hands them on: three rows of zeros after them. -/
def wide (w : FVec Ideal S5x2048 .f32) : FVec Ideal S8x2048 .f32 :=
  pad S8x2048 ![0, 0] ![3, 0] ![0, 0] w (sitofp .f32 (constantI S_ 32 0#32)) pads_S5x2048_S8x2048_030_000 h_S_

theorem wide_at (w : FVec Ideal S5x2048 .f32) (j : Fin 5) (k : Fin 2048) : wide w (ix2 ⟨j.val, by omega⟩ k) = w (ix2 j k) := by
  pointwise [wide]

theorem V_weights (c : Dev nD) : V m c main_v0 = wide (m ((c : Thread nD τ).loc main_arg1)) := by
  simp only [V, hostOps0, hostOps0_1, List.flatten_cons, List.flatten_nil, List.append_nil, List.cons_append, List.nil_append, StableHlo.after_cons, StableHlo.after_nil]
  after_results_simp
  after_results_loop
  rfl

theorem weight_block (c : Dev nD) (t : Fin cfg0.N) (j : Fin 8) (k : Fin 2048) :
    iblk m c 3 t (ix2 j k) = V m c main_v0 (ix2 j k) := by
  blk_point [iblk, at_point t]

theorem weight_row (c : Dev nD) (t : Fin cfg0.N) (j : Fin 5) (k : Fin 2048) :
    iblk m c 3 t (ix2 ⟨j.val, by omega⟩ k) = m ((c : Thread nD τ).loc main_arg1) (ix2 j k) := by
  rw [weight_block, V_weights]
  exact wide_at _ j k

theorem right_at (c : Dev nD) (t : Fin cfg0.N) (a : Fin 8) (k : Fin 2048) :
    X0_2 m c t (ix2 a k) = m ((c : Thread nD τ).loc main_arg0) (ix2 (right_row t a) ⟨k.val, by omega⟩) := by
  unfold X0_2 Pipeline.Window.fill right_row
  rw [dif_pos (moved0_2 t _)]
  blk_point [iblk, V, at_point t]

/-- The column of the projections that a column of the tile shows, padded, from two rows before the tile at point `t`. -/
def column (p : FVec Ideal S8192x5120 .f32) (k : Fin 2048) (i : Fin 8192) : EReal := p (ix2 i ⟨k.val, by omega⟩)

theorem around (c : Dev nD) (t : Fin cfg0.N) (k : Fin 2048) :
    Around (isFirst (grid0.coords t)) (Scalar.cmpi .eq (BitVec.ofNat 32 (grid0.coords t 0).val) 31#32) (X0_0 m c t) (X0_1 m c t) (X0_2 m c t) k
      (fun n => padded (column (m ((c : Thread nD τ).loc main_arg0)) k) (t.val * 256 + n)) := by
  have ht : t.val < 32 := t.isLt
  refine ⟨fun a => ?_, fun h a ha => ?_, fun h => ?_, fun h a ha => ?_, fun h => ?_⟩
  · rw [own_at, padded, dif_pos (by omega)]
    exact congrArg (column _ k) (Fin.ext (show t.val * 256 + a.val = t.val * 256 + (a.val + 2) - 2 by omega))
  · have h0 : t.val ≠ 0 := fun e => h (by rw [first_at, if_pos e])
    rw [left_at, padded, dif_pos (by omega)]
    exact congrArg (column _ k) (Fin.ext (show (32 * t.val - 1) * 8 + a.val = t.val * 256 + (a.val - 6) - 2 by omega))
  · have h0 : t.val = 0 := by
      by_contra e
      rw [first_at, if_neg e] at h
      exact absurd h (by decide)
    exact ⟨by rw [padded, dif_neg (by omega)], by rw [padded, dif_neg (by omega)]⟩
  · have h0 : t.val ≠ 31 := fun e => h (by rw [last_at, if_pos e])
    rw [right_at, padded, dif_pos (by omega)]
    exact congrArg (column _ k) (Fin.ext (show (min (32 * t.val + 32) 1023) * 8 + a.val = t.val * 256 + (a.val + 258) - 2 by omega))
  · have h0 : t.val = 31 := by
      by_contra e
      rw [last_at, if_neg e] at h
      exact absurd h (by decide)
    exact ⟨by rw [padded, dif_neg (by omega)], by rw [padded, dif_neg (by omega)]⟩

/-- The result, from the arguments. -/
def arr (p : FVec Ideal S8192x5120 .f32) (w : FVec Ideal S5x2048 .f32) (b : FVec Ideal S1x2048 .f32) : FVec Ideal S8192x2048 .f32 :=
  fun i => five (padded (column p (i 1))) (fun j => w (ix2 j (i 1))) (b (ix2 0 (i 1))) (i 0).val

theorem out_index (t : Fin cfg0.N) (y : S256x2048.Idx) :
    ((View.whole main_v1).slice (win0_5.rect t)).emb y = (ix2 (at_row t (y 0)) (y 1) : S8192x2048.Idx) := by
  unfold at_row
  blk_point [at_point t]

theorem five_from (X : ℕ → EReal) (w : Fin 5 → EReal) (b : EReal) (s r : ℕ) : five (fun n => X (s + n)) w b r = five X w b (s + r) := rfl

/-- The array after the run. -/
theorem final (c : Dev nD) : (dats m 0 c).arrAt 5 (cfgs 0).N
    = arr (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  refine Eq.trans (congrArg _ (eq_ix2 y)) ((tile_at _ _ _ _ _ _ _ _ _ _ _ (y 1) _ (around m c t (y 1)) (y 0)).trans ?_)
  rw [out_index, five_from]
  refine congrArg₂ (fun w b => five _ w b _) (funext fun j => ?_) (bias_row m c t (y 1))
  fin_cases j
  · refine Eq.trans ?_ (weight_row m c t 0 (y 1))
    pointwise []
  · refine Eq.trans ?_ (weight_row m c t 1 (y 1))
    pointwise []
  · refine Eq.trans ?_ (weight_row m c t 2 (y 1))
    pointwise []
  · refine Eq.trans ?_ (weight_row m c t 3 (y 1))
    pointwise []
  · refine Eq.trans ?_ (weight_row m c t 4 (y 1))
    pointwise []

end points

end Cert.ConvFwdIdeal.Value

namespace Cert.ConvFwdRefIdeal.Value

open Cert.ConvFwdRefIdeal Cert.ConvFwdRefIdeal.Gen
open Cert.ConvFwdIdeal.Value (padded column five arr)

section host
variable (p : FVec Ideal S8192x5120 .f32) (w : FVec Ideal S5x2048 .f32) (b : FVec Ideal S1x2048 .f32)

/-- Two rows of zeros. -/
def hEdge : FVec Ideal S2x2048 .f32 := broadcastInDim S2x2048 ![] bcast_S_S2x2048 (constant S_ .f32 0x00000000#32)

/-- The rows with zeros before and after them. -/
def hPad : FVec Ideal S8196x2048 .f32 :=
  concatenate S8196x2048 0 [⟨S2x2048, hEdge⟩, ⟨S8192x2048, extractStridedSlice S8192x2048 ![0, 0] p slices_S8192x5120_S8192x2048_0_0⟩, ⟨S2x2048, hEdge⟩]
    concatenates_S2x2048_S8192x2048_S2x2048_S8196x2048_d0

theorem hPad_at (n : Fin 8196) (k : Fin 2048) : hPad p (ix2 n k) = padded (column p k) n.val := by
  pointwise [hPad, hEdge]
  unfold padded column
  by_cases h : n.val < 2
  · rw [dif_pos h, dif_neg (by omega)]
  · rw [dif_neg h]
    by_cases h2 : n.val - 2 < 8192
    · rw [dif_pos h2, dif_pos (by omega)]
    · rw [dif_neg h2, dif_neg (by omega)]

/-- The reference's result. -/
def hConv : FVec Ideal S8192x2048 .f32 :=
  addf (addf (addf (addf (addf (broadcastInDim S8192x2048 ![0, 1] bcast_S1x2048_S8192x2048_0_1 b)
    (mulf (extractStridedSlice S8192x2048 ![0, 0] (hPad p) slices_S8196x2048_S8192x2048_0_0)
      (broadcastInDim S8192x2048 ![0, 1] bcast_S1x2048_S8192x2048_0_1 (extractStridedSlice S1x2048 ![0, 0] w slices_S5x2048_S1x2048_0_0))))
    (mulf (extractStridedSlice S8192x2048 ![1, 0] (hPad p) slices_S8196x2048_S8192x2048_1_0)
      (broadcastInDim S8192x2048 ![0, 1] bcast_S1x2048_S8192x2048_0_1 (extractStridedSlice S1x2048 ![1, 0] w slices_S5x2048_S1x2048_1_0))))
    (mulf (extractStridedSlice S8192x2048 ![2, 0] (hPad p) slices_S8196x2048_S8192x2048_2_0)
      (broadcastInDim S8192x2048 ![0, 1] bcast_S1x2048_S8192x2048_0_1 (extractStridedSlice S1x2048 ![2, 0] w slices_S5x2048_S1x2048_2_0))))
    (mulf (extractStridedSlice S8192x2048 ![3, 0] (hPad p) slices_S8196x2048_S8192x2048_3_0)
      (broadcastInDim S8192x2048 ![0, 1] bcast_S1x2048_S8192x2048_0_1 (extractStridedSlice S1x2048 ![3, 0] w slices_S5x2048_S1x2048_3_0))))
    (mulf (extractStridedSlice S8192x2048 ![4, 0] (hPad p) slices_S8196x2048_S8192x2048_4_0)
      (broadcastInDim S8192x2048 ![0, 1] bcast_S1x2048_S8192x2048_0_1 (extractStridedSlice S1x2048 ![4, 0] w slices_S5x2048_S1x2048_4_0)))

theorem hConv_text : hConv p w b = arr p w b := by
  funext j
  obtain ⟨i, k, rfl⟩ : ∃ (i : Fin 8192) (k : Fin 2048), j = ix2 i k := ⟨j 0, j 1, eq_ix2 j⟩
  show _ = five (padded (column p k)) (fun j => w (ix2 j k)) (b (ix2 0 k)) i.val
  pointwise [hConv, hPad_at]
  unfold five
  simp only [mul_comm, add_comm _ i.val]

end host

end Cert.ConvFwdRefIdeal.Value

namespace Cert.Proof

open Idealize.ShloMosaic Idealize.SL.Sem

/-- The kernel and the reference agree. -/
theorem convf_algebraic : Cert.algebraic_ConvFwdIdeal_ConvFwdRefIdeal := by
  pair_intro
  · run_from Cert.ConvFwdIdeal.Gen.run_main m g
    exact Cert.ConvFwdIdeal.Gen.V_main_arg1 m c
  · run_from Cert.ConvFwdRefIdeal.Value.run m' g'
    rw [Cert.ConvFwdIdeal.Value.final]
    obtain ⟨h0, h1, h2⟩ := hagree c
    rw [← h0, ← h1, ← h2]
    exact Cert.ConvFwdRefIdeal.Value.hConv_text _ _ _

/-- The reference runs and leaves its arguments alone. -/
theorem convf_reference : Cert.quiescent_ConvFwdRefIdeal := by
  intro m g _
  run_from Cert.ConvFwdRefIdeal.Value.run m g
  · simp
  · exact sem_eq_zero_of_no_sems (show Cert.ConvFwdRefIdeal.sig.nSem + Cert.ConvFwdRefIdeal.sig.nDmaSem = 0 from rfl) _

end Cert.Proof

end
-- ==== Proof.ConvTiles.lean ====
/- The convolution over queries and keys, backward: one tile of the gradients. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvForward

@[expose] public section

set_option maxRecDepth 16384

noncomputable section

open Idealize.ShloMosaic Idealize.ShloMosaic.TcCoe Idealize.SL.Sem
open Idealize.ShloMosaic.Pipeline (Dat)
open scoped BigOperators

namespace Cert.ConvBwdIdeal.Value

open Cert.ConvBwdIdeal Cert.ConvBwdIdeal.Gen Cert.Shifts
open Cert.ConvFwdIdeal.Value (padded plus plus_at column wide wide_at)

variable (m : (ℓ : Loc nD τ sig) → Buf (Elt Ideal) ℓ)

/-- The two directions' gradients, added: the queries' columns first, then the keys'. -/
def both (q k : FVec Ideal S2x8192x1024 .f32) (l : Fin 2048) (i : Fin 8192) : EReal :=
  if h : l.val < 1024 then q (ix3 0 i ⟨l.val, h⟩) + q (ix3 1 i ⟨l.val, h⟩)
  else k (ix3 0 i ⟨l.val - 1024, by omega⟩) + k (ix3 1 i ⟨l.val - 1024, by omega⟩)

section block
variable (first last : BitVec 1) (prev next : FVec Ideal S8x2048 .f32) (cur : FVec Ideal S256x2048 .f32) (w0 w1 w2 w3 w4 old : FVec Ideal S1x2048 .f32)

/-- Nothing yet. -/
def none_yet : FVec Ideal S256x2048 .f32 := broadcast S256x2048 (Scalar.ofBits .f32 0x00000000#32)

theorem none_yet_at (r : Fin 256) (c : Fin 2048) : none_yet (ix2 r c) = 0 := by pointwise [none_yet]

/-- Products of two tiles added over their rows, to what is there. -/
def gather (x y : FVec Ideal S256x2048 .f32) : FVec Ideal S1x2048 .f32 :=
  addf (shapeCast S1x2048 old shapeCasts_S1x2048_S1x2048)
    (shapeCast S1x2048 (multiReduction .add [0] S2048 (mulf x y) 0x00000000#32 reduces_S256x2048_S2048 (.inl rfl) rfl) shapeCasts_S2048_S1x2048)

theorem gather_at (x y : FVec Ideal S256x2048 .f32) (c : Fin 2048) :
    gather old x y (ix2 0 c) = old (ix2 0 c) + ∑ a : Fin 256, x (ix2 a c) * y (ix2 a c) := by
  pointwise [gather]

theorem head_tile (a0 a1 a2 a3 : FVec Ideal S1x8x1024 .f32) (a : Fin 8) (l : Fin 2048) : k0_pay6 (F := Ideal) a0 a1 a2 a3 (ix2 a l)
    = if h : l.val < 1024 then a0 (ix3 0 a ⟨l.val, h⟩) + a1 (ix3 0 a ⟨l.val, h⟩)
      else a2 (ix3 0 a ⟨l.val - 1024, by omega⟩) + a3 (ix3 0 a ⟨l.val - 1024, by omega⟩) := by
  pointwise [k0_pay6]

theorem last_tile (a0 a1 a2 a3 : FVec Ideal S1x8x1024 .f32) (a : Fin 8) (l : Fin 2048) : k0_pay9 (F := Ideal) a0 a1 a2 a3 (ix2 a l)
    = if h : l.val < 1024 then a0 (ix3 0 a ⟨l.val, h⟩) + a1 (ix3 0 a ⟨l.val, h⟩)
      else a2 (ix3 0 a ⟨l.val - 1024, by omega⟩) + a3 (ix3 0 a ⟨l.val - 1024, by omega⟩) := by
  pointwise [k0_pay9]

theorem own_tile (a0 a1 a2 a3 : FVec Ideal S1x256x1024 .f32) (a : Fin 256) (l : Fin 2048) : k0_pay8 (F := Ideal) (k0_pay7 a0 a1) a2 a3 (ix2 a l)
    = if h : l.val < 1024 then a0 (ix3 0 a ⟨l.val, h⟩) + a1 (ix3 0 a ⟨l.val, h⟩)
      else a2 (ix3 0 a ⟨l.val - 1024, by omega⟩) + a3 (ix3 0 a ⟨l.val - 1024, by omega⟩) := by
  pointwise [k0_pay8, k0_pay7]

theorem values_at (a0 a1 : FVec Ideal S1x256x1024 .f32) (a : Fin 256) (l : Fin 1024) : k0_pay5 (F := Ideal) a0 a1 (ix2 a l)
    = a0 (ix3 0 a l) + a1 (ix3 0 a l) := by
  pointwise [k0_pay5]

/-- The gradient of the projections at one tile. -/
def du_tile : FVec Ideal S256x2048 .f32 :=
  plus (plus (plus (plus (plus none_yet w0
        (withTail (tailRows 6#32 last next (extractStridedSlice S8x2048 ![248, 0] (dynamicRotate 0 254#32 none cur rotates_S256x2048_d0)
          slices_S256x2048_o248_0_S8x2048)) (dynamicRotate 0 254#32 none cur rotates_S256x2048_d0))) w1
        (withTail (tailRows 7#32 last next (extractStridedSlice S8x2048 ![248, 0] (dynamicRotate 0 255#32 none cur rotates_S256x2048_d0)
          slices_S256x2048_o248_0_S8x2048)) (dynamicRotate 0 255#32 none cur rotates_S256x2048_d0))) w2 cur) w3
        (withHead (headRows 1#32 first prev (extractStridedSlice S8x2048 ![0, 0] (dynamicRotate 0 1#32 none cur rotates_S256x2048_d0)
          slices_S256x2048_o0_0_S8x2048)) (dynamicRotate 0 1#32 none cur rotates_S256x2048_d0))) w4
        (withHead (headRows 2#32 first prev (extractStridedSlice S8x2048 ![0, 0] (dynamicRotate 0 2#32 none cur rotates_S256x2048_d0)
          slices_S256x2048_o0_0_S8x2048)) (dynamicRotate 0 2#32 none cur rotates_S256x2048_d0))

/-- The five weights on a padded column of gradients, the last rows first. -/
def turned (X : ℕ → EReal) (w : Fin 5 → EReal) (r : ℕ) : EReal :=
  w 0 * X (r + 4) + w 1 * X (r + 3) + w 2 * X (r + 2) + w 3 * X (r + 1) + w 4 * X r

theorem du_at (c : Fin 2048) (X : ℕ → EReal) (A : Around first last prev cur next c X) (r : Fin 256) :
    du_tile first last prev next cur w0 w1 w2 w3 w4 (ix2 r c)
    = turned X ![w0 (ix2 0 c), w1 (ix2 0 c), w2 (ix2 0 c), w3 (ix2 0 c), w4 (ix2 0 c)] r.val := by
  unfold du_tile
  simp only [plus_at, none_yet_at, back2 A, back1 A, forth1 A, forth2 A, A.own, zero_add]
  rfl

theorem du_text (a0 a1 a2 a3 : FVec Ideal S1x256x1024 .f32) (n0 n1 n2 n3 : FVec Ideal S1x8x1024 .f32) :
    k0_pay26 (F := Ideal) first prev (k0_pay8 (k0_pay7 a0 a1) a2 a3)
      (k0_pay19 (k0_pay8 (k0_pay7 a0 a1) a2 a3) (k0_pay17 last (k0_pay8 (k0_pay7 a0 a1) a2 a3) (k0_pay9 n0 n1 n2 n3) k0_pay10 (k0_pay11 w0)
        (iota .tc S8x2048 32 [0] iota_S8x2048_d0_w32) (k0_pay12 (k0_pay7 a0 a1) a2 a3) (k0_pay13 last n0 n1 n2 n3) (k0_pay14 (k0_pay7 a0 a1) a2 a3) k0_pay15 w1) w2)
      (k0_pay21 w3) (k0_pay22 (k0_pay8 (k0_pay7 a0 a1) a2 a3)) (k0_pay23 first prev) k0_pay24 w4
    = du_tile first last prev (k0_pay9 n0 n1 n2 n3) (k0_pay8 (k0_pay7 a0 a1) a2 a3) w0 w1 w2 w3 w4 := rfl

theorem row0_text (dz : FVec Ideal S256x2048 .f32) : k0_pay16 (F := Ideal) first dz prev cur old = gather old dz (withHead (headRows 2#32 first prev (extractStridedSlice S8x2048 ![0, 0] (dynamicRotate 0 2#32 none cur rotates_S256x2048_d0)
      slices_S256x2048_o0_0_S8x2048)) (dynamicRotate 0 2#32 none cur rotates_S256x2048_d0)) := rfl

theorem row1_text (dz : FVec Ideal S256x2048 .f32) : k0_pay18 (F := Ideal) first dz prev cur old = gather old dz (withHead (headRows 1#32 first prev (extractStridedSlice S8x2048 ![0, 0] (dynamicRotate 0 1#32 none cur rotates_S256x2048_d0)
      slices_S256x2048_o0_0_S8x2048)) (dynamicRotate 0 1#32 none cur rotates_S256x2048_d0)) := rfl

theorem row2_text (dz : FVec Ideal S256x2048 .f32) : k0_pay20 (F := Ideal) dz cur old = gather old dz cur := rfl

theorem row3_text (dz : FVec Ideal S256x2048 .f32) : k0_pay25 (F := Ideal) last dz cur next old = gather old dz (withTail (tailRows 7#32 last next (extractStridedSlice S8x2048 ![248, 0] (dynamicRotate 0 255#32 none cur rotates_S256x2048_d0)
      slices_S256x2048_o248_0_S8x2048)) (dynamicRotate 0 255#32 none cur rotates_S256x2048_d0)) := rfl

theorem row4_text (dz : FVec Ideal S256x2048 .f32) : k0_pay1 (F := Ideal) last dz cur next old = gather old dz (withTail (tailRows 6#32 last next (extractStridedSlice S8x2048 ![248, 0] (dynamicRotate 0 254#32 none cur rotates_S256x2048_d0)
      slices_S256x2048_o248_0_S8x2048)) (dynamicRotate 0 254#32 none cur rotates_S256x2048_d0)) := rfl

section rows
variable (dz : FVec Ideal S256x2048 .f32) (c : Fin 2048) (X : ℕ → EReal) (A : Around first last prev cur next c X)
include A

theorem row0_at : k0_pay16 (F := Ideal) first dz prev cur old (ix2 0 c) = old (ix2 0 c) + ∑ a : Fin 256, dz (ix2 a c) * X (a.val + 0) := by
  rw [row0_text, gather_at]
  simp only [back2 A]

theorem row1_at : k0_pay18 (F := Ideal) first dz prev cur old (ix2 0 c) = old (ix2 0 c) + ∑ a : Fin 256, dz (ix2 a c) * X (a.val + 1) := by
  rw [row1_text, gather_at]
  simp only [back1 A]

theorem row2_at : k0_pay20 (F := Ideal) dz cur old (ix2 0 c) = old (ix2 0 c) + ∑ a : Fin 256, dz (ix2 a c) * X (a.val + 2) := by
  rw [row2_text, gather_at]
  simp only [A.own]

theorem row3_at : k0_pay25 (F := Ideal) last dz cur next old (ix2 0 c) = old (ix2 0 c) + ∑ a : Fin 256, dz (ix2 a c) * X (a.val + 3) := by
  rw [row3_text, gather_at]
  simp only [forth1 A]

theorem row4_at : k0_pay1 (F := Ideal) last dz cur next old (ix2 0 c) = old (ix2 0 c) + ∑ a : Fin 256, dz (ix2 a c) * X (a.val + 4) := by
  rw [row4_text, gather_at]
  simp only [forth2 A]

end rows

theorem bias_at (dz : FVec Ideal S256x2048 .f32) (c : Fin 2048) : k0_pay2 (F := Ideal) dz old (ix2 0 c) = old (ix2 0 c) + ∑ a : Fin 256, dz (ix2 a c) := by
  pointwise [k0_pay2]

theorem clear_at (a : Fin 8) (c : Fin 2048) : k0_pay3 (F := Ideal) (ix2 a c) = 0 := by pointwise [k0_pay3]
theorem clear_bias (c : Fin 2048) : k0_pay4 (F := Ideal) (ix2 0 c) = 0 := by pointwise [k0_pay4]

end block

end Cert.ConvBwdIdeal.Value

end
-- ==== Proof.ConvPoints.lean ====
/- The convolution over queries and keys, backward: what the grid leaves in the four results. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvTiles
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.ConvBwdIdeal.Value

open Cert.ConvBwdIdeal Cert.ConvBwdIdeal.Gen Cert.Shifts
open Cert.ConvFwdIdeal.Value (padded plus plus_at column wide wide_at)

variable (m : (ℓ : Loc nD τ sig) → Buf (Elt Ideal) ℓ)

section points

/-- Which block each window shows at point `t`. -/
theorem at_point : ∀ t : Fin cfg0.N, win0_0.index t = ![0, 32 * t.val - 1, 0]
    ∧ win0_1.index t = ![0, t.val, 0]
    ∧ win0_2.index t = ![0, min (32 * t.val + 32) 1023, 0]
    ∧ win0_3.index t = ![1, 32 * t.val - 1, 0]
    ∧ win0_4.index t = ![1, t.val, 0]
    ∧ win0_5.index t = ![1, min (32 * t.val + 32) 1023, 0]
    ∧ win0_6.index t = ![0, 32 * t.val - 1, 0]
    ∧ win0_7.index t = ![0, t.val, 0]
    ∧ win0_8.index t = ![0, min (32 * t.val + 32) 1023, 0]
    ∧ win0_9.index t = ![1, 32 * t.val - 1, 0]
    ∧ win0_10.index t = ![1, t.val, 0]
    ∧ win0_11.index t = ![1, min (32 * t.val + 32) 1023, 0]
    ∧ win0_12.index t = ![0, t.val, 0]
    ∧ win0_13.index t = ![1, t.val, 0]
    ∧ win0_14.index t = ![32 * t.val - 1, 0]
    ∧ win0_15.index t = ![t.val, 0]
    ∧ win0_16.index t = ![min (32 * t.val + 32) 1023, 0]
    ∧ win0_17.index t = ![0, 0]
    ∧ win0_18.index t = ![t.val, 0]
    ∧ win0_19.index t = ![0, 0]
    ∧ win0_20.index t = ![0, 0]
    ∧ win0_21.index t = ![t.val, 0] :=
  (by decide +kernel : ∀ t : Fin grid0.N, _)

/-- Whether a point is the first, and the last, of the grid. -/
def isFirst (t : Fin cfg0.N) : BitVec 1 := Scalar.cmpi .eq (BitVec.ofNat 32 (grid0.coords t 0).val) 0#32
def isLast (t : Fin cfg0.N) : BitVec 1 := Scalar.cmpi .eq (BitVec.ofNat 32 (grid0.coords t 0).val) 31#32

theorem first_at : ∀ t : Fin cfg0.N, isFirst t = if t.val = 0 then 1#1 else 0#1 :=
  (by decide +kernel : ∀ t : Fin grid0.N, _)

theorem last_at : ∀ t : Fin cfg0.N, isLast t = if t.val = 31 then 1#1 else 0#1 :=
  (by decide +kernel : ∀ t : Fin grid0.N, _)

/-- Row `a` of the tile at point `t`, and of its neighbours. -/
def at_row (t : Fin cfg0.N) (a : Fin 256) : Fin 8192 := ⟨t.val * 256 + a.val, by have := t.isLt; have : cfg0.N = 32 := rfl; omega⟩
def left_row (t : Fin cfg0.N) (a : Fin 8) : Fin 8192 := ⟨(32 * t.val - 1) * 8 + a.val, by have := t.isLt; have : cfg0.N = 32 := rfl; omega⟩
def right_row (t : Fin cfg0.N) (a : Fin 8) : Fin 8192 := ⟨(min (32 * t.val + 32) 1023) * 8 + a.val, by have := t.isLt; have : cfg0.N = 32 := rfl; omega⟩

theorem input_0 (c : Dev nD) (t : Fin cfg0.N) (a : Fin 8) (k : Fin 1024) :
    iblk m c 0 t (ix3 0 a k) = m ((c : Thread nD τ).loc main_arg0) (ix3 0 (left_row t a) k) := by
  unfold left_row
  blk_point [iblk, V, V0, at_point t]

theorem input_1 (c : Dev nD) (t : Fin cfg0.N) (a : Fin 256) (k : Fin 1024) :
    iblk m c 1 t (ix3 0 a k) = m ((c : Thread nD τ).loc main_arg0) (ix3 0 (at_row t a) k) := by
  unfold at_row
  blk_point [iblk, V, V0, at_point t]

theorem input_2 (c : Dev nD) (t : Fin cfg0.N) (a : Fin 8) (k : Fin 1024) :
    iblk m c 2 t (ix3 0 a k) = m ((c : Thread nD τ).loc main_arg0) (ix3 0 (right_row t a) k) := by
  unfold right_row
  blk_point [iblk, V, V0, at_point t]

theorem input_3 (c : Dev nD) (t : Fin cfg0.N) (a : Fin 8) (k : Fin 1024) :
    iblk m c 3 t (ix3 0 a k) = m ((c : Thread nD τ).loc main_arg0) (ix3 1 (left_row t a) k) := by
  unfold left_row
  blk_point [iblk, V, V0, at_point t]

theorem input_4 (c : Dev nD) (t : Fin cfg0.N) (a : Fin 256) (k : Fin 1024) :
    iblk m c 4 t (ix3 0 a k) = m ((c : Thread nD τ).loc main_arg0) (ix3 1 (at_row t a) k) := by
  unfold at_row
  blk_point [iblk, V, V0, at_point t]

theorem input_5 (c : Dev nD) (t : Fin cfg0.N) (a : Fin 8) (k : Fin 1024) :
    iblk m c 5 t (ix3 0 a k) = m ((c : Thread nD τ).loc main_arg0) (ix3 1 (right_row t a) k) := by
  unfold right_row
  blk_point [iblk, V, V0, at_point t]

theorem input_6 (c : Dev nD) (t : Fin cfg0.N) (a : Fin 8) (k : Fin 1024) :
    iblk m c 6 t (ix3 0 a k) = m ((c : Thread nD τ).loc main_arg1) (ix3 0 (left_row t a) k) := by
  unfold left_row
  blk_point [iblk, V, V0, at_point t]

theorem input_7 (c : Dev nD) (t : Fin cfg0.N) (a : Fin 256) (k : Fin 1024) :
    iblk m c 7 t (ix3 0 a k) = m ((c : Thread nD τ).loc main_arg1) (ix3 0 (at_row t a) k) := by
  unfold at_row
  blk_point [iblk, V, V0, at_point t]

theorem input_8 (c : Dev nD) (t : Fin cfg0.N) (a : Fin 8) (k : Fin 1024) :
    iblk m c 8 t (ix3 0 a k) = m ((c : Thread nD τ).loc main_arg1) (ix3 0 (right_row t a) k) := by
  unfold right_row
  blk_point [iblk, V, V0, at_point t]

theorem input_9 (c : Dev nD) (t : Fin cfg0.N) (a : Fin 8) (k : Fin 1024) :
    iblk m c 9 t (ix3 0 a k) = m ((c : Thread nD τ).loc main_arg1) (ix3 1 (left_row t a) k) := by
  unfold left_row
  blk_point [iblk, V, V0, at_point t]

theorem input_10 (c : Dev nD) (t : Fin cfg0.N) (a : Fin 256) (k : Fin 1024) :
    iblk m c 10 t (ix3 0 a k) = m ((c : Thread nD τ).loc main_arg1) (ix3 1 (at_row t a) k) := by
  unfold at_row
  blk_point [iblk, V, V0, at_point t]

theorem input_11 (c : Dev nD) (t : Fin cfg0.N) (a : Fin 8) (k : Fin 1024) :
    iblk m c 11 t (ix3 0 a k) = m ((c : Thread nD τ).loc main_arg1) (ix3 1 (right_row t a) k) := by
  unfold right_row
  blk_point [iblk, V, V0, at_point t]

theorem input_12 (c : Dev nD) (t : Fin cfg0.N) (a : Fin 256) (k : Fin 1024) :
    iblk m c 12 t (ix3 0 a k) = m ((c : Thread nD τ).loc main_arg2) (ix3 0 (at_row t a) k) := by
  unfold at_row
  blk_point [iblk, V, V0, at_point t]

theorem input_13 (c : Dev nD) (t : Fin cfg0.N) (a : Fin 256) (k : Fin 1024) :
    iblk m c 13 t (ix3 0 a k) = m ((c : Thread nD τ).loc main_arg2) (ix3 1 (at_row t a) k) := by
  unfold at_row
  blk_point [iblk, V, V0, at_point t]

theorem rows_14 (c : Dev nD) (t : Fin cfg0.N) (a : Fin 8) (k : Fin 2048) :
    X0_14 m c t (ix2 a k) = m ((c : Thread nD τ).loc main_arg3) (ix2 (left_row t a) ⟨k.val, by omega⟩) := by
  unfold X0_14 Pipeline.Window.fill left_row
  rw [dif_pos (moved0_14 t _)]
  blk_point [iblk, V, V0, at_point t]

theorem rows_15 (c : Dev nD) (t : Fin cfg0.N) (a : Fin 256) (k : Fin 2048) :
    X0_15 m c t (ix2 a k) = m ((c : Thread nD τ).loc main_arg3) (ix2 (at_row t a) ⟨k.val, by omega⟩) := by
  unfold X0_15 Pipeline.Window.fill at_row
  rw [dif_pos (moved0_15 t _)]
  blk_point [iblk, V, V0, at_point t]

theorem rows_16 (c : Dev nD) (t : Fin cfg0.N) (a : Fin 8) (k : Fin 2048) :
    X0_16 m c t (ix2 a k) = m ((c : Thread nD τ).loc main_arg3) (ix2 (right_row t a) ⟨k.val, by omega⟩) := by
  unfold X0_16 Pipeline.Window.fill right_row
  rw [dif_pos (moved0_16 t _)]
  blk_point [iblk, V, V0, at_point t]

theorem V_weights (c : Dev nD) : V m c main_v0 = wide (m ((c : Thread nD τ).loc main_arg4)) := by
  simp only [V, V0, hostOps0, hostOps0_1, List.flatten_cons, List.flatten_nil, List.append_nil, List.cons_append, List.nil_append, StableHlo.after_cons, StableHlo.after_nil]
  after_results_simp
  after_results_loop
  rfl

theorem weight_block (c : Dev nD) (t : Fin cfg0.N) (j : Fin 8) (k : Fin 2048) :
    iblk m c 17 t (ix2 j k) = V m c main_v0 (ix2 j k) := by
  blk_point [iblk, at_point t]

theorem weight_row (c : Dev nD) (t : Fin cfg0.N) (j : Fin 5) (k : Fin 2048) :
    iblk m c 17 t (ix2 ⟨j.val, by omega⟩ k) = m ((c : Thread nD τ).loc main_arg4) (ix2 j k) := by
  rw [weight_block, V_weights]
  exact wide_at _ j k

/-- The added gradients of the tile at point `t`. -/
def gz (c : Dev nD) (t : Fin cfg0.N) : FVec Ideal S256x2048 .f32 := k0_pay8 (F := Ideal) (k0_pay7 (iblk m c 1 t) (iblk m c 4 t)) (iblk m c 7 t) (iblk m c 10 t)

/-- The added gradients' column, from the arguments. -/
abbrev dz (c : Dev nD) (k : Fin 2048) : Fin 8192 → EReal := both (m ((c : Thread nD τ).loc main_arg0)) (m ((c : Thread nD τ).loc main_arg1)) k

theorem gz_at (c : Dev nD) (t : Fin cfg0.N) (a : Fin 256) (k : Fin 2048) : gz m c t (ix2 a k) = dz m c k (at_row t a) := by
  refine (own_tile _ _ _ _ a k).trans ?_
  simp only [input_1, input_4, input_7, input_10]
  rfl

theorem gz_left (c : Dev nD) (t : Fin cfg0.N) (a : Fin 8) (k : Fin 2048) :
    k0_pay6 (F := Ideal) (iblk m c 0 t) (iblk m c 3 t) (iblk m c 6 t) (iblk m c 9 t) (ix2 a k) = dz m c k (left_row t a) := by
  refine (head_tile _ _ _ _ a k).trans ?_
  simp only [input_0, input_3, input_6, input_9]
  rfl

theorem gz_right (c : Dev nD) (t : Fin cfg0.N) (a : Fin 8) (k : Fin 2048) :
    k0_pay9 (F := Ideal) (iblk m c 2 t) (iblk m c 5 t) (iblk m c 8 t) (iblk m c 11 t) (ix2 a k) = dz m c k (right_row t a) := by
  refine (last_tile _ _ _ _ a k).trans ?_
  simp only [input_2, input_5, input_8, input_11]
  rfl

/-- A tile and its neighbours, taken from one column of the arguments, read that column padded. -/
theorem around (t : Fin cfg0.N) (k : Fin 2048) (prev next : FVec Ideal S8x2048 .f32) (cur : FVec Ideal S256x2048 .f32) (x : Fin 8192 → EReal)
    (hp : ∀ a, prev (ix2 a k) = x (left_row t a)) (hc : ∀ a, cur (ix2 a k) = x (at_row t a)) (hn : ∀ a, next (ix2 a k) = x (right_row t a)) :
    Around (isFirst t) (isLast t) prev cur next k (fun n => padded x (t.val * 256 + n)) := by
  have ht : t.val < 32 := t.isLt
  refine ⟨fun a => ?_, fun h a ha => ?_, fun h => ?_, fun h a ha => ?_, fun h => ?_⟩
  · rw [hc, padded, dif_pos (by omega)]
    exact congrArg x (Fin.ext (show t.val * 256 + a.val = t.val * 256 + (a.val + 2) - 2 by omega))
  · have h0 : t.val ≠ 0 := fun e => h (by rw [first_at, if_pos e])
    rw [hp, padded, dif_pos (by omega)]
    exact congrArg x (Fin.ext (show (32 * t.val - 1) * 8 + a.val = t.val * 256 + (a.val - 6) - 2 by omega))
  · have h0 : t.val = 0 := by
      by_contra e
      rw [first_at, if_neg e] at h
      exact absurd h (by decide)
    exact ⟨by rw [padded, dif_neg (by omega)], by rw [padded, dif_neg (by omega)]⟩
  · have h0 : t.val ≠ 31 := fun e => h (by rw [last_at, if_pos e])
    rw [hn, padded, dif_pos (by omega)]
    exact congrArg x (Fin.ext (show (min (32 * t.val + 32) 1023) * 8 + a.val = t.val * 256 + (a.val + 258) - 2 by omega))
  · have h0 : t.val = 31 := by
      by_contra e
      rw [last_at, if_neg e] at h
      exact absurd h (by decide)
    exact ⟨by rw [padded, dif_neg (by omega)], by rw [padded, dif_neg (by omega)]⟩

theorem around_u (c : Dev nD) (t : Fin cfg0.N) (k : Fin 2048) :
    Around (isFirst t) (isLast t) (X0_14 m c t) (X0_15 m c t) (X0_16 m c t) k
      (fun n => padded (column (m ((c : Thread nD τ).loc main_arg3)) k) (t.val * 256 + n)) :=
  around t k _ _ _ _ (fun a => rows_14 m c t a k) (fun a => rows_15 m c t a k) (fun a => rows_16 m c t a k)

theorem around_z (c : Dev nD) (t : Fin cfg0.N) (k : Fin 2048) :
    Around (isFirst t) (isLast t) (k0_pay6 (F := Ideal) (iblk m c 0 t) (iblk m c 3 t) (iblk m c 6 t) (iblk m c 9 t)) (gz m c t)
      (k0_pay9 (F := Ideal) (iblk m c 2 t) (iblk m c 5 t) (iblk m c 8 t) (iblk m c 11 t)) k (fun n => padded (dz m c k) (t.val * 256 + n)) :=
  around t k _ _ _ _ (fun a => gz_left m c t a k) (fun a => gz_at m c t a k) (fun a => gz_right m c t a k)

end points

end Cert.ConvBwdIdeal.Value

end
-- ==== Proof.ConvOuts.lean ====
/- The convolution over queries and keys, backward: the four results after the run. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvPoints

@[expose] public section

set_option maxRecDepth 16384

noncomputable section

open Idealize.ShloMosaic Idealize.ShloMosaic.TcCoe Idealize.SL.Sem
open Idealize.ShloMosaic.Pipeline (Dat)
open scoped BigOperators

namespace Cert.ConvBwdIdeal.Value

open Cert.ConvBwdIdeal Cert.ConvBwdIdeal.Gen Cert.Shifts
open Cert.ConvFwdIdeal.Value (padded plus plus_at column wide wide_at)

variable (m : (ℓ : Loc nD τ sig) → Buf (Elt Ideal) ℓ)

section rows

/-- Five rows stored one by one: each reads what was stored there, and the others what was there before. -/
theorem rows_put {κ : Kind} {sp : Space} (v : View sig κ sp S8x2048 .f32) (f : v.ty.Contents (Elt Ideal)) (P0 P1 P2 P3 P4 : S1x2048.Idx → Elt Ideal .f32)
    (L : List (View.Piece (Elt Ideal) S8x2048 .f32)) (a : Fin 8) (k : Fin 2048) :
    v.read (Elt Ideal) (v.writes (Elt Ideal) f (⟨Rect.unit (s := S8x2048) ![4, 0] ![1, 2048] inb_S8x2048_S1x2048_4_0, P4⟩ :: ⟨Rect.unit (s := S8x2048) ![3, 0] ![1, 2048] inb_S8x2048_S1x2048_3_0, P3⟩ :: ⟨Rect.unit (s := S8x2048) ![2, 0] ![1, 2048] inb_S8x2048_S1x2048_2_0, P2⟩ :: ⟨Rect.unit (s := S8x2048) ![1, 0] ![1, 2048] inb_S8x2048_S1x2048_1_0, P1⟩ :: ⟨Rect.unit (s := S8x2048) ![0, 0] ![1, 2048] inb_S8x2048_S1x2048_0_0, P0⟩ :: L)) (ix2 a k)
    = (![P0 (ix2 0 k), P1 (ix2 0 k), P2 (ix2 0 k), P3 (ix2 0 k), P4 (ix2 0 k), v.read (Elt Ideal) (v.writes (Elt Ideal) f L) (ix2 5 k),
        v.read (Elt Ideal) (v.writes (Elt Ideal) f L) (ix2 6 k), v.read (Elt Ideal) (v.writes (Elt Ideal) f L) (ix2 7 k)] : Fin 8 → EReal) a := by
  fin_cases a
  · refine (View.read_writes_cons_rows_of_not_mem v f _ _ _ _ (o := 4) (W := 1) rfl rfl (by first | (left; show 0 < 4; decide) | (right; show 4 + 1 ≤ 0; decide))).trans ?_
    refine (View.read_writes_cons_rows_of_not_mem v f _ _ _ _ (o := 3) (W := 1) rfl rfl (by first | (left; show 0 < 3; decide) | (right; show 3 + 1 ≤ 0; decide))).trans ?_
    refine (View.read_writes_cons_rows_of_not_mem v f _ _ _ _ (o := 2) (W := 1) rfl rfl (by first | (left; show 0 < 2; decide) | (right; show 2 + 1 ≤ 0; decide))).trans ?_
    refine (View.read_writes_cons_rows_of_not_mem v f _ _ _ _ (o := 1) (W := 1) rfl rfl (by first | (left; show 0 < 1; decide) | (right; show 1 + 1 ≤ 0; decide))).trans ?_
    exact View.read_writes_cons_rows_of_mem v f _ _ _ _ (ix2 0 k) (o := 0) rfl rfl rfl
  · refine (View.read_writes_cons_rows_of_not_mem v f _ _ _ _ (o := 4) (W := 1) rfl rfl (by first | (left; show 1 < 4; decide) | (right; show 4 + 1 ≤ 1; decide))).trans ?_
    refine (View.read_writes_cons_rows_of_not_mem v f _ _ _ _ (o := 3) (W := 1) rfl rfl (by first | (left; show 1 < 3; decide) | (right; show 3 + 1 ≤ 1; decide))).trans ?_
    refine (View.read_writes_cons_rows_of_not_mem v f _ _ _ _ (o := 2) (W := 1) rfl rfl (by first | (left; show 1 < 2; decide) | (right; show 2 + 1 ≤ 1; decide))).trans ?_
    exact View.read_writes_cons_rows_of_mem v f _ _ _ _ (ix2 0 k) (o := 1) rfl rfl rfl
  · refine (View.read_writes_cons_rows_of_not_mem v f _ _ _ _ (o := 4) (W := 1) rfl rfl (by first | (left; show 2 < 4; decide) | (right; show 4 + 1 ≤ 2; decide))).trans ?_
    refine (View.read_writes_cons_rows_of_not_mem v f _ _ _ _ (o := 3) (W := 1) rfl rfl (by first | (left; show 2 < 3; decide) | (right; show 3 + 1 ≤ 2; decide))).trans ?_
    exact View.read_writes_cons_rows_of_mem v f _ _ _ _ (ix2 0 k) (o := 2) rfl rfl rfl
  · refine (View.read_writes_cons_rows_of_not_mem v f _ _ _ _ (o := 4) (W := 1) rfl rfl (by first | (left; show 3 < 4; decide) | (right; show 4 + 1 ≤ 3; decide))).trans ?_
    exact View.read_writes_cons_rows_of_mem v f _ _ _ _ (ix2 0 k) (o := 3) rfl rfl rfl
  · exact View.read_writes_cons_rows_of_mem v f _ _ _ _ (ix2 0 k) (o := 4) rfl rfl rfl
  · refine (View.read_writes_cons_rows_of_not_mem v f _ _ _ _ (o := 4) (W := 1) rfl rfl (by first | (left; show 5 < 4; decide) | (right; show 4 + 1 ≤ 5; decide))).trans ?_
    refine (View.read_writes_cons_rows_of_not_mem v f _ _ _ _ (o := 3) (W := 1) rfl rfl (by first | (left; show 5 < 3; decide) | (right; show 3 + 1 ≤ 5; decide))).trans ?_
    refine (View.read_writes_cons_rows_of_not_mem v f _ _ _ _ (o := 2) (W := 1) rfl rfl (by first | (left; show 5 < 2; decide) | (right; show 2 + 1 ≤ 5; decide))).trans ?_
    refine (View.read_writes_cons_rows_of_not_mem v f _ _ _ _ (o := 1) (W := 1) rfl rfl (by first | (left; show 5 < 1; decide) | (right; show 1 + 1 ≤ 5; decide))).trans ?_
    refine (View.read_writes_cons_rows_of_not_mem v f _ _ _ _ (o := 0) (W := 1) rfl rfl (by first | (left; show 5 < 0; decide) | (right; show 0 + 1 ≤ 5; decide))).trans ?_
    exact rfl
  · refine (View.read_writes_cons_rows_of_not_mem v f _ _ _ _ (o := 4) (W := 1) rfl rfl (by first | (left; show 6 < 4; decide) | (right; show 4 + 1 ≤ 6; decide))).trans ?_
    refine (View.read_writes_cons_rows_of_not_mem v f _ _ _ _ (o := 3) (W := 1) rfl rfl (by first | (left; show 6 < 3; decide) | (right; show 3 + 1 ≤ 6; decide))).trans ?_
    refine (View.read_writes_cons_rows_of_not_mem v f _ _ _ _ (o := 2) (W := 1) rfl rfl (by first | (left; show 6 < 2; decide) | (right; show 2 + 1 ≤ 6; decide))).trans ?_
    refine (View.read_writes_cons_rows_of_not_mem v f _ _ _ _ (o := 1) (W := 1) rfl rfl (by first | (left; show 6 < 1; decide) | (right; show 1 + 1 ≤ 6; decide))).trans ?_
    refine (View.read_writes_cons_rows_of_not_mem v f _ _ _ _ (o := 0) (W := 1) rfl rfl (by first | (left; show 6 < 0; decide) | (right; show 0 + 1 ≤ 6; decide))).trans ?_
    exact rfl
  · refine (View.read_writes_cons_rows_of_not_mem v f _ _ _ _ (o := 4) (W := 1) rfl rfl (by first | (left; show 7 < 4; decide) | (right; show 4 + 1 ≤ 7; decide))).trans ?_
    refine (View.read_writes_cons_rows_of_not_mem v f _ _ _ _ (o := 3) (W := 1) rfl rfl (by first | (left; show 7 < 3; decide) | (right; show 3 + 1 ≤ 7; decide))).trans ?_
    refine (View.read_writes_cons_rows_of_not_mem v f _ _ _ _ (o := 2) (W := 1) rfl rfl (by first | (left; show 7 < 2; decide) | (right; show 2 + 1 ≤ 7; decide))).trans ?_
    refine (View.read_writes_cons_rows_of_not_mem v f _ _ _ _ (o := 1) (W := 1) rfl rfl (by first | (left; show 7 < 1; decide) | (right; show 1 + 1 ≤ 7; decide))).trans ?_
    refine (View.read_writes_cons_rows_of_not_mem v f _ _ _ _ (o := 0) (W := 1) rfl rfl (by first | (left; show 7 < 0; decide) | (right; show 0 + 1 ≤ 7; decide))).trans ?_
    exact rfl

theorem row_of (X : S8x2048.Idx → Elt Ideal .f32) (k : Fin 2048) :
View.ld X (Rect.unit ![0, 0] ![1, 2048] inb_S8x2048_S1x2048_0_0) (ix2 0 k) = X (ix2 0 k)
    ∧ View.ld X (Rect.unit ![1, 0] ![1, 2048] inb_S8x2048_S1x2048_1_0) (ix2 0 k) = X (ix2 1 k)
    ∧ View.ld X (Rect.unit ![2, 0] ![1, 2048] inb_S8x2048_S1x2048_2_0) (ix2 0 k) = X (ix2 2 k)
    ∧ View.ld X (Rect.unit ![3, 0] ![1, 2048] inb_S8x2048_S1x2048_3_0) (ix2 0 k) = X (ix2 3 k)
    ∧ View.ld X (Rect.unit ![4, 0] ![1, 2048] inb_S8x2048_S1x2048_4_0) (ix2 0 k) = X (ix2 4 k) := by
  refine ⟨?_, ?_, ?_, ?_, ?_⟩ <;> pointwise []

/-- What the tile at point `t` adds to row `j` of the weights' gradient. -/
def share (c : Dev nD) (t : Fin cfg0.N) (k : Fin 2048) (j : ℕ) : EReal :=
  ∑ a : Fin 256, dz m c k (at_row t a) * padded (column (m ((c : Thread nD τ).loc main_arg3)) k) ((at_row t a).val + j)

variable (c : Dev nD) (t : Fin cfg0.N) (k : Fin 2048) (old : S8x2048.Idx → Elt Ideal .f32)

theorem share_of (j : ℕ) : ∑ a : Fin 256, gz m c t (ix2 a k) * padded (column (m ((c : Thread nD τ).loc main_arg3)) k) (t.val * 256 + (a.val + j)) = share m c t k j := by
  unfold share
  refine Finset.sum_congr rfl fun a _ => ?_
  rw [gz_at]
  exact congrArg (fun n => _ * padded _ n) (show t.val * 256 + (a.val + j) = t.val * 256 + a.val + j by omega)

theorem stored0 : k0_pay16 (F := Ideal) (isFirst t) (gz m c t) (X0_14 m c t) (X0_15 m c t) (View.ld old (Rect.unit ![0, 0] ![1, 2048] inb_S8x2048_S1x2048_0_0)) (ix2 0 k)
    = old (ix2 0 k) + share m c t k 0 := by
  rw [row0_at (A := around_u m c t k), share_of]
  exact congrArg (· + _) ((row_of old k).1)

theorem stored1 : k0_pay18 (F := Ideal) (isFirst t) (gz m c t) (X0_14 m c t) (X0_15 m c t) (View.ld old (Rect.unit ![1, 0] ![1, 2048] inb_S8x2048_S1x2048_1_0)) (ix2 0 k)
    = old (ix2 1 k) + share m c t k 1 := by
  rw [row1_at (A := around_u m c t k), share_of]
  exact congrArg (· + _) ((row_of old k).2.1)

theorem stored2 : k0_pay20 (F := Ideal) (gz m c t) (X0_15 m c t) (View.ld old (Rect.unit ![2, 0] ![1, 2048] inb_S8x2048_S1x2048_2_0)) (ix2 0 k)
    = old (ix2 2 k) + share m c t k 2 := by
  rw [row2_at (A := around_u m c t k), share_of]
  exact congrArg (· + _) ((row_of old k).2.2.1)

theorem stored3 : k0_pay25 (F := Ideal) (isLast t) (gz m c t) (X0_15 m c t) (X0_16 m c t) (View.ld old (Rect.unit ![3, 0] ![1, 2048] inb_S8x2048_S1x2048_3_0)) (ix2 0 k)
    = old (ix2 3 k) + share m c t k 3 := by
  rw [row3_at (A := around_u m c t k), share_of]
  exact congrArg (· + _) ((row_of old k).2.2.2.1)

theorem stored4 : k0_pay1 (F := Ideal) (isLast t) (gz m c t) (X0_15 m c t) (X0_16 m c t) (View.ld old (Rect.unit ![4, 0] ![1, 2048] inb_S8x2048_S1x2048_4_0)) (ix2 0 k)
    = old (ix2 4 k) + share m c t k 4 := by
  rw [row4_at (A := around_u m c t k), share_of]
  exact congrArg (· + _) ((row_of old k).2.2.2.2)

/-- What the tile at point `t` adds to every row of the buffer: nothing to the last three. -/
def shares (a : Fin 8) : EReal := (![share m c t k 0, share m c t k 1, share m c t k 2, share m c t k 3, share m c t k 4, 0, 0, 0] : Fin 8 → EReal) a

/-- The buffer after the tile at point `t`. -/
theorem stored_all {κ : Kind} {sp : Space} (v : View sig κ sp S8x2048 .f32) (f : v.ty.Contents (Elt Ideal))
    (L : List (View.Piece (Elt Ideal) S8x2048 .f32)) (hL : ∀ a k, v.read (Elt Ideal) (v.writes (Elt Ideal) f L) (ix2 a k) = old (ix2 a k)) (a : Fin 8) :
    v.read (Elt Ideal) (v.writes (Elt Ideal) f (⟨Rect.unit (s := S8x2048) ![4, 0] ![1, 2048] inb_S8x2048_S1x2048_4_0, k0_pay1 (F := Ideal) (isLast t) (gz m c t) (X0_15 m c t) (X0_16 m c t) (View.ld old (Rect.unit ![4, 0] ![1, 2048] inb_S8x2048_S1x2048_4_0))⟩ ::
      ⟨Rect.unit (s := S8x2048) ![3, 0] ![1, 2048] inb_S8x2048_S1x2048_3_0, k0_pay25 (F := Ideal) (isLast t) (gz m c t) (X0_15 m c t) (X0_16 m c t) (View.ld old (Rect.unit ![3, 0] ![1, 2048] inb_S8x2048_S1x2048_3_0))⟩ ::
      ⟨Rect.unit (s := S8x2048) ![2, 0] ![1, 2048] inb_S8x2048_S1x2048_2_0, k0_pay20 (F := Ideal) (gz m c t) (X0_15 m c t) (View.ld old (Rect.unit ![2, 0] ![1, 2048] inb_S8x2048_S1x2048_2_0))⟩ ::
      ⟨Rect.unit (s := S8x2048) ![1, 0] ![1, 2048] inb_S8x2048_S1x2048_1_0, k0_pay18 (F := Ideal) (isFirst t) (gz m c t) (X0_14 m c t) (X0_15 m c t) (View.ld old (Rect.unit ![1, 0] ![1, 2048] inb_S8x2048_S1x2048_1_0))⟩ ::
      ⟨Rect.unit (s := S8x2048) ![0, 0] ![1, 2048] inb_S8x2048_S1x2048_0_0, k0_pay16 (F := Ideal) (isFirst t) (gz m c t) (X0_14 m c t) (X0_15 m c t) (View.ld old (Rect.unit ![0, 0] ![1, 2048] inb_S8x2048_S1x2048_0_0))⟩ :: L)) (ix2 a k)
    = old (ix2 a k) + shares m c t k a := by
  refine (rows_put v f _ _ _ _ _ L a k).trans ?_
  fin_cases a
  · exact stored0 m c t k old
  · exact stored1 m c t k old
  · exact stored2 m c t k old
  · exact stored3 m c t k old
  · exact stored4 m c t k old
  · exact (hL 5 k).trans (add_zero _).symm
  · exact (hL 6 k).trans (add_zero _).symm
  · exact (hL 7 k).trans (add_zero _).symm

end rows

/-- The two directions' gradients of the values, added. -/
def two (x : FVec Ideal S2x8192x1024 .f32) (i : Fin 8192) (l : Fin 1024) : EReal := x (ix3 0 i l) + x (ix3 1 i l)

section finals
variable (c : Dev nD)

theorem wide_A (t : Fin cfg0.N) (h : t.val % 32 = 0) (a : Fin 8) (k : Fin 2048) :
    (outsAt0 m c t.val t.isLt).2.1 (ix2 a k) = 0 + shares m c t k a := by
  rw [outsAt0_A m c t h]
  frame_open
  simp (disch := decide) only [↓ View.readCov_skip, ↓ View.readCov_fill]
  frame_out
  rw [← View.read_writes_junk_eq_canon (ms0_19 t).view]
  have hz : ∀ a' k', k0_pay3 (F := Ideal) (ix2 a' k') = 0 := clear_at
  generalize (k0_pay3 (F := Ideal)) = Z at hz ⊢
  rw [← hz a k]
  refine stored_all m c t k Z (ms0_19 t).view _ _ ?_ a
  intro a' k'
  rw [View.read_writes_junk_eq_canon, View.canon_cons_unit_lit _ _ _ (by decide)]

theorem wide_B (t : Fin cfg0.N) (h : ¬ t.val % 32 = 0) (a : Fin 8) (k : Fin 2048) :
    (outsAt0 m c t.val t.isLt).2.1 (ix2 a k)
    = (outsAt0 m c (t.val - 1) (Nat.lt_of_le_of_lt (Nat.sub_le _ _) t.isLt)).2.1 (ix2 a k) + shares m c t k a := by
  rw [outsAt0_B m c t h]
  frame_out
  refine stored_all m c t k _ (ms0_19 t).view _ [] ?_ a
  intro a' k'
  exact congrFun (Memref.IsWhole.read_unread _ _) _

theorem bias_A (t : Fin cfg0.N) (h : t.val % 32 = 0) (k : Fin 2048) :
    (outsAt0 m c t.val t.isLt).2.2.1 (ix2 0 k) = 0 + ∑ a : Fin 256, dz m c k (at_row t a) := by
  rw [outsAt0_A m c t h]
  frame_out
  refine (bias_at _ (gz m c t) k).trans ?_
  rw [clear_bias]
  simp only [gz_at]

theorem bias_B (t : Fin cfg0.N) (h : ¬ t.val % 32 = 0) (k : Fin 2048) :
    (outsAt0 m c t.val t.isLt).2.2.1 (ix2 0 k)
    = (outsAt0 m c (t.val - 1) (Nat.lt_of_le_of_lt (Nat.sub_le _ _) t.isLt)).2.2.1 (ix2 0 k) + ∑ a : Fin 256, dz m c k (at_row t a) := by
  rw [outsAt0_B m c t h]
  frame_out
  refine (bias_at _ (gz m c t) k).trans ?_
  simp only [gz_at]

theorem values_all (t : Fin cfg0.N) (r : Fin 256) (l : Fin 1024) :
    k0_pay5 (F := Ideal) (iblk m c 12 t) (iblk m c 13 t) (ix2 r l)
    = two (m ((c : Thread nD τ).loc main_arg2)) (at_row t r) l := by
  rw [values_at, input_12, input_13]
  rfl

theorem values_out (t : Fin cfg0.N) (r : Fin 256) (l : Fin 1024) :
    (outsAt0 m c t.val t.isLt).2.2.2 (ix2 r l)
    = two (m ((c : Thread nD τ).loc main_arg2)) (at_row t r) l := by
  by_cases h : t.val % 32 = 0
  · rw [outsAt0_A m c t h]; frame_out; exact values_all m c t r l
  · rw [outsAt0_B m c t h]; frame_out; exact values_all m c t r l

theorem du_all (t : Fin cfg0.N) (r : Fin 256) (k : Fin 2048) :
    du_tile (isFirst t) (isLast t) (k0_pay6 (F := Ideal) (iblk m c 0 t) (iblk m c 3 t) (iblk m c 6 t) (iblk m c 9 t))
      (k0_pay9 (F := Ideal) (iblk m c 2 t) (iblk m c 5 t) (iblk m c 8 t) (iblk m c 11 t)) (gz m c t)
      (View.ld (iblk m c 17 t) (Rect.unit ![0, 0] ![1, 2048] inb_S8x2048_S1x2048_0_0)) (View.ld (iblk m c 17 t) (Rect.unit ![1, 0] ![1, 2048] inb_S8x2048_S1x2048_1_0)) (View.ld (iblk m c 17 t) (Rect.unit ![2, 0] ![1, 2048] inb_S8x2048_S1x2048_2_0)) (View.ld (iblk m c 17 t) (Rect.unit ![3, 0] ![1, 2048] inb_S8x2048_S1x2048_3_0)) (View.ld (iblk m c 17 t) (Rect.unit ![4, 0] ![1, 2048] inb_S8x2048_S1x2048_4_0)) (ix2 r k)
    = turned (padded (dz m c k)) (fun j => m ((c : Thread nD τ).loc main_arg4) (ix2 j k)) (at_row t r).val := by
  rw [du_at (A := around_z m c t k)]
  refine Eq.trans (b := turned (fun n => padded (dz m c k) (t.val * 256 + n)) (fun j => m ((c : Thread nD τ).loc main_arg4) (ix2 j k)) r.val) ?_ rfl
  refine congrArg (fun w => turned _ w _) (funext fun j => ?_)
  have hr := row_of (iblk m c 17 t) k
  fin_cases j
  · exact hr.1.trans (weight_row m c t 0 k)
  · exact hr.2.1.trans (weight_row m c t 1 k)
  · exact hr.2.2.1.trans (weight_row m c t 2 k)
  · exact hr.2.2.2.1.trans (weight_row m c t 3 k)
  · exact hr.2.2.2.2.trans (weight_row m c t 4 k)

theorem du_out (t : Fin cfg0.N) (r : Fin 256) (k : Fin 2048) :
    (outsAt0 m c t.val t.isLt).1 (ix2 r k)
    = turned (padded (dz m c k)) (fun j => m ((c : Thread nD τ).loc main_arg4) (ix2 j k)) (at_row t r).val := by
  by_cases h : t.val % 32 = 0
  · rw [outsAt0_A m c t h]; frame_out; exact (congrFun (du_text _ _ _ _ _ _ _ _ _ _ _ _ _ _ _ _) _).trans (du_all m c t r k)
  · rw [outsAt0_B m c t h]; frame_out; exact (congrFun (du_text _ _ _ _ _ _ _ _ _ _ _ _ _ _ _ _) _).trans (du_all m c t r k)

end finals

end Cert.ConvBwdIdeal.Value

end
-- ==== Proof.ConvFinals.lean ====
/- The convolution over queries and keys, backward: the kernel computes the gradients of the forward lines. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvOuts

@[expose] public section

set_option maxRecDepth 16384

noncomputable section

open Idealize.ShloMosaic Idealize.ShloMosaic.TcCoe Idealize.SL.Sem
open Idealize.ShloMosaic.Pipeline (Dat)
open scoped BigOperators

namespace Cert.ConvBwdIdeal.Value

open Cert.ConvBwdIdeal Cert.ConvBwdIdeal.Gen Cert.Shifts
open Cert.ConvFwdIdeal.Value (padded plus plus_at column wide wide_at)

variable (m : (ℓ : Loc nD τ sig) → Buf (Elt Ideal) ℓ)

/-- The gradient of the projections, from the arguments. -/
def arrU (q k : FVec Ideal S2x8192x1024 .f32) (w : FVec Ideal S5x2048 .f32) : FVec Ideal S8192x2048 .f32 :=
  fun i => turned (padded (both q k (i 1))) (fun j => w (ix2 j (i 1))) (i 0).val

/-- Row `j` of the weights' gradient. -/
def total (q k : FVec Ideal S2x8192x1024 .f32) (p : FVec Ideal S8192x5120 .f32) (l : Fin 2048) (j : ℕ) : EReal :=
  ∑ n : Fin 8192, both q k l n * padded (column p l) (n.val + j)

/-- The weights' gradient with three rows of zeros after it. -/
def arrW (q k : FVec Ideal S2x8192x1024 .f32) (p : FVec Ideal S8192x5120 .f32) : FVec Ideal S8x2048 .f32 :=
  fun i => (![total q k p (i 1) 0, total q k p (i 1) 1, total q k p (i 1) 2, total q k p (i 1) 3, total q k p (i 1) 4, 0, 0, 0] : Fin 8 → EReal) (i 0)

/-- The bias's gradient. -/
def arrB (q k : FVec Ideal S2x8192x1024 .f32) : FVec Ideal S1x2048 .f32 := fun i => ∑ n : Fin 8192, both q k (i 1) n

/-- The values' gradient. -/
def arrV (x : FVec Ideal S2x8192x1024 .f32) : FVec Ideal S8192x1024 .bf16 := fun i => two x (i 0) (i 1)

section finals
variable (c : Dev nD)

theorem u_index (t : Fin cfg0.N) (y : S256x2048.Idx) :
    ((View.whole main_v1_0).slice (win0_18.rect t)).emb y = (ix2 (at_row t (y 0)) (y 1) : S8192x2048.Idx) := by
  unfold at_row
  blk_point [at_point t]

theorem v_index (t : Fin cfg0.N) (y : S256x1024.Idx) :
    ((View.whole main_v1_3).slice (win0_21.rect t)).emb y = (ix2 (at_row t (y 0)) (y 1) : S8192x1024.Idx) := by
  unfold at_row
  blk_point [at_point t]

theorem w_index (t : Fin cfg0.N) (y : S8x2048.Idx) :
    ((View.whole main_v1_1).slice (win0_19.rect t)).emb y = (ix2 (y 0) (y 1) : S8x2048.Idx) := by
  blk_point [at_point t]

theorem b_index (t : Fin cfg0.N) (y : S1x2048.Idx) :
    ((View.whole main_v1_2).slice (win0_20.rect t)).emb y = (ix2 0 (y 1) : S1x2048.Idx) := by
  blk_point [at_point t]

theorem final_u : (dats m 0 c).arrAt 18 (cfgs 0).N
    = arrU (m ((c : Thread nD τ).loc main_arg0)) (m ((c : Thread nD τ).loc main_arg1)) (m ((c : Thread nD τ).loc main_arg4)) := by
  refine (dats m 0 c).arrAt_eq_of_covers 18 _ (by decide +kernel) fun t hf y => ?_
  blk_simp
  rw [after0_18]
  refine Eq.trans (congrArg _ (eq_ix2 y)) ((du_out m c t (y 0) (y 1)).trans ?_)
  rw [u_index]
  rfl

theorem final_v : (dats m 0 c).arrAt 21 (cfgs 0).N = arrV (m ((c : Thread nD τ).loc main_arg2)) := by
  refine (dats m 0 c).arrAt_eq_of_covers 21 _ (by decide +kernel) fun t hf y => ?_
  blk_simp
  rw [after0_21]
  refine Eq.trans (congrArg _ (eq_ix2 y)) ((values_out m c t (y 0) (y 1)).trans ?_)
  rw [v_index]
  rfl

theorem row_of_run (t : Fin cfg0.N) (h : t.val % 32 = 31) (s : Fin 32) (a : Fin 256) (hl : s.val * 256 + a.val < 8192) (hs : 32 * (t.val / 32) + s.val < cfg0.N) :
    at_row ⟨32 * (t.val / 32) + s.val, hs⟩ a = ⟨s.val * 256 + a.val, hl⟩ := by
  have : t.val < 32 := t.isLt
  refine Fin.ext ?_
  show (32 * (t.val / 32) + s.val) * 256 + a.val = s.val * 256 + a.val
  omega

theorem total_of (t : Fin cfg0.N) (h : t.val % 32 = 31) (hs : ∀ s : Fin 32, 32 * (t.val / 32) + s.val < cfg0.N) (k : Fin 2048) (j : ℕ) :
    ∑ s : Fin 32, share m c ⟨32 * (t.val / 32) + s.val, hs s⟩ k j
    = total (m ((c : Thread nD τ).loc main_arg0)) (m ((c : Thread nD τ).loc main_arg1)) (m ((c : Thread nD τ).loc main_arg3)) k j := by
  unfold total share
  refine Fin.sum_mul_add_congr fun s a hl => ?_
  exact congrArg (fun r : Fin 8192 => dz m c k r * padded (column (m ((c : Thread nD τ).loc main_arg3)) k) (r.val + j)) (row_of_run t h s a hl (hs s))

theorem totals (t : Fin cfg0.N) (h : t.val % 32 = 31) (hs : ∀ s : Fin 32, 32 * (t.val / 32) + s.val < cfg0.N) (a : Fin 8) (k : Fin 2048) :
    ∑ s : Fin 32, shares m c ⟨32 * (t.val / 32) + s.val, hs s⟩ k a
    = arrW (m ((c : Thread nD τ).loc main_arg0)) (m ((c : Thread nD τ).loc main_arg1)) (m ((c : Thread nD τ).loc main_arg3)) (ix2 a k) := by
  fin_cases a
  · exact total_of m c t h hs k 0
  · exact total_of m c t h hs k 1
  · exact total_of m c t h hs k 2
  · exact total_of m c t h hs k 3
  · exact total_of m c t h hs k 4
  · exact Finset.sum_eq_zero fun _ _ => rfl
  · exact Finset.sum_eq_zero fun _ _ => rfl
  · exact Finset.sum_eq_zero fun _ _ => rfl

theorem final_w : (dats m 0 c).arrAt 19 (cfgs 0).N
    = arrW (m ((c : Thread nD τ).loc main_arg0)) (m ((c : Thread nD τ).loc main_arg1)) (m ((c : Thread nD τ).loc main_arg3)) := by
  refine (dats m 0 c).arrAt_eq_of_covers 19 _ (by decide +kernel) fun t hf y => ?_
  blk_simp
  rw [after0_19,
    Pipeline.eq_sum_fin_of_reset_step_apply_of_flush (fun n h => (outsAt0 m c n h).2.1) 32 (fun _ => 0)
    (fun t j => shares m c t (j 1) (j 0))
    (fun t h j => (congrArg _ (eq_ix2 j)).trans (wide_A m c t h (j 0) (j 1)))
    (fun t h j => ((congrArg _ (eq_ix2 j)).trans (wide_B m c t h (j 0) (j 1))).trans (congrArg (· + _) (congrArg _ (eq_ix2 j).symm)))
    t ((flush0_19 t).mp hf) _, zero_add]
  refine (totals m c t ((flush0_19 t).mp hf) (fun s => Pipeline.run_point_lt_of_flush t ((flush0_19 t).mp hf) s) (y 0) (y 1)).trans ?_
  rw [w_index]

theorem final_b : (dats m 0 c).arrAt 20 (cfgs 0).N
    = arrB (m ((c : Thread nD τ).loc main_arg0)) (m ((c : Thread nD τ).loc main_arg1)) := by
  refine (dats m 0 c).arrAt_eq_of_covers 20 _ (by decide +kernel) fun t hf y => ?_
  have e0 : ∀ j : S1x2048.Idx, j = ix2 0 (j 1) := fun j => (eq_ix2 j).trans (congrArg (fun a : Fin 1 => ix2 a (j 1)) (Subsingleton.elim _ _))
  blk_simp
  rw [after0_20,
    Pipeline.eq_sum_fin_of_reset_step_apply_of_flush (fun n h => (outsAt0 m c n h).2.2.1) 32 (fun _ => 0)
    (fun t j => ∑ a : Fin 256, dz m c (j 1) (at_row t a))
    (fun t h j => (congrArg _ (e0 j)).trans (bias_A m c t h (j 1)))
    (fun t h j => ((congrArg _ (e0 j)).trans (bias_B m c t h (j 1))).trans (congrArg (· + _) (congrArg _ (e0 j).symm)))
    t ((flush0_20 t).mp hf) _, zero_add]
  rw [b_index]
  refine Fin.sum_mul_add_congr fun s a hl => ?_
  exact congrArg (dz m c (y 1)) (row_of_run t ((flush0_20 t).mp hf) s a hl (Pipeline.run_point_lt_of_flush t ((flush0_20 t).mp hf) s))

end finals

end Cert.ConvBwdIdeal.Value

end
-- ==== Proof.ConvHost.lean ====
/- The convolution over queries and keys, backward: the gradients of the forward lines, read at an entry. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvFinals

@[expose] public section

set_option maxRecDepth 16384

noncomputable section

open Idealize.ShloMosaic Idealize.ShloMosaic.TcCoe Idealize.SL.Sem
open Idealize.ShloMosaic.Pipeline (Dat)
open scoped BigOperators

namespace Cert.ConvBwdRefIdeal.Value

open Cert.ConvBwdRefIdeal Cert.ConvBwdRefIdeal.Gen
open Cert.ConvFwdIdeal.Value (padded column)
open Cert.ConvFwdRefIdeal.Value (hPad hPad_at)
open Cert.ConvBwdIdeal.Value (both two turned total arrU arrB arrV)

section host
variable (x q k : FVec Ideal S2x8192x1024 .f32) (p : FVec Ideal S8192x5120 .f32) (w : FVec Ideal S5x2048 .f32)

/-- The two directions, added. -/
def hTwo : FVec Ideal S8192x1024 .f32 := Host.reduceAdd x (constant S_ .f32 0x00000000#32) reducesTo_S2x8192x1024_S8192x1024_d0 h_S_

theorem hTwo_at (i : Fin 8192) (l : Fin 1024) : hTwo x (ix2 i l) = two x i l := by
  pointwise [hTwo]
  unfold two
  simp [Fin.sum_univ_two]

/-- The keys' gradient after zeros, and the queries' before zeros, added. -/
def hZ : FVec Ideal S8192x2048 .f32 :=
  addf (pad S8192x2048 ![0, 1024] ![0, 0] ![0, 0] (hTwo k) (constant S_ .f32 0x00000000#32) pads_S8192x1024_S8192x2048_000_102400 h_S_)
    (pad S8192x2048 ![0, 0] ![0, 1024] ![0, 0] (hTwo q) (constant S_ .f32 0x00000000#32) pads_S8192x1024_S8192x2048_000_010240 h_S_)

theorem hZ_at (i : Fin 8192) (l : Fin 2048) : hZ q k (ix2 i l) = both q k l i := by
  pointwise [hZ, hTwo_at]
  unfold both two
  by_cases h : l.val < 1024
  · simp [h, show ¬ 1024 ≤ l.val by omega]
  · simp [h, show 1024 ≤ l.val by omega, show l.val - 1024 < 1024 by omega]

/-- The gradient by the weights' row 0, 0 rows on. -/
def hMove0 : FVec Ideal S8196x2048 .f32 :=
  pad S8196x2048 ![0, 0] ![4, 0] ![0, 0] (mulf (hZ q k) (broadcastInDim S8192x2048 ![0, 1] bcast_S1x2048_S8192x2048_0_1
    (extractStridedSlice S1x2048 ![0, 0] w slices_S5x2048_S1x2048_0_0))) (constant S_ .f32 0x00000000#32) pads_S8192x2048_S8196x2048_040_000 h_S_

theorem hMove0_at (i : Fin 8192) (l : Fin 2048) : hMove0 q k w (ix2 ⟨2 + i.val, by omega⟩ l) = w (ix2 0 l) * padded (both q k l) (i.val + 4) := by
  pointwise [hMove0, hZ_at]
  unfold padded
  by_cases h : 2 ≤ i.val + 4 ∧ i.val + 4 < 8194
  · rw [dif_pos h, dif_pos (by omega), mul_comm]
    exact congrArg (fun n => _ * both q k l n) (Fin.ext (show 2 + i.val = i.val + 4 - 2 by omega))
  · rw [dif_neg h, dif_neg (by omega), mul_zero]

/-- The gradient by the weights' row 1, 1 rows on. -/
def hMove1 : FVec Ideal S8196x2048 .f32 :=
  pad S8196x2048 ![1, 0] ![3, 0] ![0, 0] (mulf (hZ q k) (broadcastInDim S8192x2048 ![0, 1] bcast_S1x2048_S8192x2048_0_1
    (extractStridedSlice S1x2048 ![1, 0] w slices_S5x2048_S1x2048_1_0))) (constant S_ .f32 0x00000000#32) pads_S8192x2048_S8196x2048_130_000 h_S_

theorem hMove1_at (i : Fin 8192) (l : Fin 2048) : hMove1 q k w (ix2 ⟨2 + i.val, by omega⟩ l) = w (ix2 1 l) * padded (both q k l) (i.val + 3) := by
  pointwise [hMove1, hZ_at]
  unfold padded
  by_cases h : 2 ≤ i.val + 3 ∧ i.val + 3 < 8194
  · rw [dif_pos h, dif_pos (by omega), mul_comm]
    exact congrArg (fun n => _ * both q k l n) (Fin.ext (show 2 + i.val - 1 = i.val + 3 - 2 by omega))
  · rw [dif_neg h, dif_neg (by omega), mul_zero]

/-- The gradient by the weights' row 2, 2 rows on. -/
def hMove2 : FVec Ideal S8196x2048 .f32 :=
  pad S8196x2048 ![2, 0] ![2, 0] ![0, 0] (mulf (hZ q k) (broadcastInDim S8192x2048 ![0, 1] bcast_S1x2048_S8192x2048_0_1
    (extractStridedSlice S1x2048 ![2, 0] w slices_S5x2048_S1x2048_2_0))) (constant S_ .f32 0x00000000#32) pads_S8192x2048_S8196x2048_220_000 h_S_

theorem hMove2_at (i : Fin 8192) (l : Fin 2048) : hMove2 q k w (ix2 ⟨2 + i.val, by omega⟩ l) = w (ix2 2 l) * padded (both q k l) (i.val + 2) := by
  pointwise [hMove2, hZ_at]
  unfold padded
  rw [dif_pos (by omega), mul_comm]
  rfl

/-- The gradient by the weights' row 3, 3 rows on. -/
def hMove3 : FVec Ideal S8196x2048 .f32 :=
  pad S8196x2048 ![3, 0] ![1, 0] ![0, 0] (mulf (hZ q k) (broadcastInDim S8192x2048 ![0, 1] bcast_S1x2048_S8192x2048_0_1
    (extractStridedSlice S1x2048 ![3, 0] w slices_S5x2048_S1x2048_3_0))) (constant S_ .f32 0x00000000#32) pads_S8192x2048_S8196x2048_310_000 h_S_

theorem hMove3_at (i : Fin 8192) (l : Fin 2048) : hMove3 q k w (ix2 ⟨2 + i.val, by omega⟩ l) = w (ix2 3 l) * padded (both q k l) (i.val + 1) := by
  pointwise [hMove3, hZ_at]
  unfold padded
  by_cases h : 2 ≤ i.val + 1 ∧ i.val + 1 < 8194
  · rw [dif_pos h, dif_pos (by omega), mul_comm]
    exact congrArg (fun n => _ * both q k l n) (Fin.ext (show 2 + i.val - 3 = i.val + 1 - 2 by omega))
  · rw [dif_neg h, dif_neg (by omega), mul_zero]

/-- The gradient by the weights' row 4, 4 rows on. -/
def hMove4 : FVec Ideal S8196x2048 .f32 :=
  pad S8196x2048 ![4, 0] ![0, 0] ![0, 0] (mulf (hZ q k) (broadcastInDim S8192x2048 ![0, 1] bcast_S1x2048_S8192x2048_0_1
    (extractStridedSlice S1x2048 ![4, 0] w slices_S5x2048_S1x2048_4_0))) (constant S_ .f32 0x00000000#32) pads_S8192x2048_S8196x2048_400_000 h_S_

theorem hMove4_at (i : Fin 8192) (l : Fin 2048) : hMove4 q k w (ix2 ⟨2 + i.val, by omega⟩ l) = w (ix2 4 l) * padded (both q k l) (i.val) := by
  pointwise [hMove4, hZ_at]
  unfold padded
  by_cases h : 2 ≤ i.val ∧ i.val < 8194
  · rw [dif_pos h, dif_pos (by omega), mul_comm]
    exact congrArg (fun n => _ * both q k l n) (Fin.ext (show 2 + i.val - 4 = i.val - 2 by omega))
  · rw [dif_neg h, dif_neg (by omega), mul_zero]

/-- The gradient of the projections. -/
def hU : FVec Ideal S8192x2048 .f32 :=
  extractStridedSlice S8192x2048 ![2, 0] (addf (addf (addf (addf (hMove4 q k w) (hMove3 q k w)) (hMove2 q k w)) (hMove1 q k w)) (hMove0 q k w)) slices_S8196x2048_S8192x2048_2_0

theorem hU_text : hU q k w = arrU q k w := by
  funext j
  obtain ⟨i, l, rfl⟩ : ∃ (i : Fin 8192) (l : Fin 2048), j = ix2 i l := ⟨j 0, j 1, eq_ix2 j⟩
  show _ = turned (padded (both q k l)) (fun j => w (ix2 j l)) i.val
  pointwise [hU, hMove0_at, hMove1_at, hMove2_at, hMove3_at, hMove4_at]
  unfold turned
  dsimp only
  ac_rfl

/-- Row 0 of the weights' gradient, among rows of zeros. -/
def hRow0 : FVec Ideal S5x2048 .f32 :=
  pad S5x2048 ![0, 0] ![4, 0] ![0, 0] (shapeCast S1x2048 (Host.reduceAdd (mulf (extractStridedSlice S8192x2048 ![0, 0] (hPad p) slices_S8196x2048_S8192x2048_0_0) (hZ q k))
    (constant S_ .f32 0x00000000#32) reducesTo_S8192x2048_S2048_d0 h_S_) shapeCasts_S2048_S1x2048) (constant S_ .f32 0x00000000#32) pads_S1x2048_S5x2048_040_000 h_S_

theorem hRow0_at (a : Fin 5) (l : Fin 2048) : hRow0 q k p (ix2 a l) = if a.val = 0 then total q k p l 0 else 0 := by
  pointwise [hRow0, hZ_at, hPad_at]
  unfold total
  by_cases h : a.val = 0
  · rw [if_pos h, dif_pos (by omega)]
    exact Finset.sum_congr rfl fun n _ => (mul_comm _ _).trans (congrArg (fun r => _ * padded _ r) (by omega))
  · rw [if_neg h, dif_neg (by omega)]

/-- Row 1 of the weights' gradient, among rows of zeros. -/
def hRow1 : FVec Ideal S5x2048 .f32 :=
  pad S5x2048 ![1, 0] ![3, 0] ![0, 0] (shapeCast S1x2048 (Host.reduceAdd (mulf (extractStridedSlice S8192x2048 ![1, 0] (hPad p) slices_S8196x2048_S8192x2048_1_0) (hZ q k))
    (constant S_ .f32 0x00000000#32) reducesTo_S8192x2048_S2048_d0 h_S_) shapeCasts_S2048_S1x2048) (constant S_ .f32 0x00000000#32) pads_S1x2048_S5x2048_130_000 h_S_

theorem hRow1_at (a : Fin 5) (l : Fin 2048) : hRow1 q k p (ix2 a l) = if a.val = 1 then total q k p l 1 else 0 := by
  pointwise [hRow1, hZ_at, hPad_at]
  unfold total
  by_cases h : a.val = 1
  · rw [if_pos h, dif_pos (by omega)]
    exact Finset.sum_congr rfl fun n _ => (mul_comm _ _).trans (congrArg (fun r => _ * padded _ r) (by omega))
  · rw [if_neg h, dif_neg (by omega)]

/-- Row 2 of the weights' gradient, among rows of zeros. -/
def hRow2 : FVec Ideal S5x2048 .f32 :=
  pad S5x2048 ![2, 0] ![2, 0] ![0, 0] (shapeCast S1x2048 (Host.reduceAdd (mulf (extractStridedSlice S8192x2048 ![2, 0] (hPad p) slices_S8196x2048_S8192x2048_2_0) (hZ q k))
    (constant S_ .f32 0x00000000#32) reducesTo_S8192x2048_S2048_d0 h_S_) shapeCasts_S2048_S1x2048) (constant S_ .f32 0x00000000#32) pads_S1x2048_S5x2048_220_000 h_S_

theorem hRow2_at (a : Fin 5) (l : Fin 2048) : hRow2 q k p (ix2 a l) = if a.val = 2 then total q k p l 2 else 0 := by
  pointwise [hRow2, hZ_at, hPad_at]
  unfold total
  by_cases h : a.val = 2
  · rw [if_pos h, dif_pos (by omega)]
    exact Finset.sum_congr rfl fun n _ => (mul_comm _ _).trans (congrArg (fun r => _ * padded _ r) (by omega))
  · rw [if_neg h, dif_neg (by omega)]

/-- Row 3 of the weights' gradient, among rows of zeros. -/
def hRow3 : FVec Ideal S5x2048 .f32 :=
  pad S5x2048 ![3, 0] ![1, 0] ![0, 0] (shapeCast S1x2048 (Host.reduceAdd (mulf (extractStridedSlice S8192x2048 ![3, 0] (hPad p) slices_S8196x2048_S8192x2048_3_0) (hZ q k))
    (constant S_ .f32 0x00000000#32) reducesTo_S8192x2048_S2048_d0 h_S_) shapeCasts_S2048_S1x2048) (constant S_ .f32 0x00000000#32) pads_S1x2048_S5x2048_310_000 h_S_

theorem hRow3_at (a : Fin 5) (l : Fin 2048) : hRow3 q k p (ix2 a l) = if a.val = 3 then total q k p l 3 else 0 := by
  pointwise [hRow3, hZ_at, hPad_at]
  unfold total
  by_cases h : a.val = 3
  · rw [if_pos h, dif_pos (by omega)]
    exact Finset.sum_congr rfl fun n _ => (mul_comm _ _).trans (congrArg (fun r => _ * padded _ r) (by omega))
  · rw [if_neg h, dif_neg (by omega)]

/-- Row 4 of the weights' gradient, among rows of zeros. -/
def hRow4 : FVec Ideal S5x2048 .f32 :=
  pad S5x2048 ![4, 0] ![0, 0] ![0, 0] (shapeCast S1x2048 (Host.reduceAdd (mulf (extractStridedSlice S8192x2048 ![4, 0] (hPad p) slices_S8196x2048_S8192x2048_4_0) (hZ q k))
    (constant S_ .f32 0x00000000#32) reducesTo_S8192x2048_S2048_d0 h_S_) shapeCasts_S2048_S1x2048) (constant S_ .f32 0x00000000#32) pads_S1x2048_S5x2048_400_000 h_S_

theorem hRow4_at (a : Fin 5) (l : Fin 2048) : hRow4 q k p (ix2 a l) = if a.val = 4 then total q k p l 4 else 0 := by
  pointwise [hRow4, hZ_at, hPad_at]
  unfold total
  by_cases h : a.val = 4
  · rw [if_pos h, dif_pos (by omega)]
    exact Finset.sum_congr rfl fun n _ => (mul_comm _ _).trans (congrArg (fun r => _ * padded _ r) (by omega))
  · rw [if_neg h, dif_neg (by omega)]

/-- The weights' gradient. -/
def hW : FVec Ideal S5x2048 .f32 := addf (addf (addf (addf (hRow4 q k p) (hRow3 q k p)) (hRow2 q k p)) (hRow1 q k p)) (hRow0 q k p)

theorem hW_at (a : Fin 5) (l : Fin 2048) : hW q k p (ix2 a l) = total q k p l a.val := by
  pointwise [hW, hRow0_at, hRow1_at, hRow2_at, hRow3_at, hRow4_at]
  fin_cases a <;> simp

/-- The bias's gradient. -/
def hB : FVec Ideal S1x2048 .f32 :=
  shapeCast S1x2048 (Host.reduceAdd (hZ q k) (constant S_ .f32 0x00000000#32) reducesTo_S8192x2048_S2048_d0 h_S_) shapeCasts_S2048_S1x2048

theorem hB_text : hB q k = arrB q k := by
  funext j
  obtain ⟨l, rfl⟩ : ∃ l : Fin 2048, j = ix2 0 l := ⟨j 1, (eq_ix2 j).trans (congrArg (fun a : Fin 1 => ix2 a (j 1)) (Subsingleton.elim _ _))⟩
  show _ = ∑ n : Fin 8192, both q k l n
  pointwise [hB, hZ_at]

/-- The values' gradient. -/
def hV : FVec Ideal S8192x1024 .bf16 := truncf .bf16 (hTwo x) bitsLt_bf16_f32

theorem hV_text : hV x = arrV x := by
  funext j
  obtain ⟨i, l, rfl⟩ : ∃ (i : Fin 8192) (l : Fin 1024), j = ix2 i l := ⟨j 0, j 1, eq_ix2 j⟩
  show _ = two x i l
  pointwise [hV, hTwo_at]

end host

variable (m : (ℓ : Loc nD τ sig) → Buf (Elt Ideal) ℓ) (c : Dev nD)

theorem u_text : res_main_v89 m c = hU (m ((c.tc : Thread nD τ).loc main_arg0)) (m ((c.tc : Thread nD τ).loc main_arg1)) (m ((c.tc : Thread nD τ).loc main_arg4)) := by
  unfold res_main_v89 hU hMove0 hMove1 hMove2 hMove3 hMove4 hZ hTwo
  rfl

theorem w_text : res_main_v85 m c = hW (m ((c.tc : Thread nD τ).loc main_arg0)) (m ((c.tc : Thread nD τ).loc main_arg1)) (m ((c.tc : Thread nD τ).loc main_arg3)) := by
  unfold res_main_v85 hW hRow0 hRow1 hRow2 hRow3 hRow4 hZ hTwo hPad Cert.ConvFwdRefIdeal.Value.hEdge
  rfl

end Cert.ConvBwdRefIdeal.Value

end
-- ==== Proof.ConvAgree.lean ====
/- The convolution over queries and keys, backward: the two programs agree. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.ConvHost

@[expose] public section

set_option maxRecDepth 16384

noncomputable section

open Idealize.ShloMosaic Idealize.ShloMosaic.TcCoe Idealize.SL.Sem
open Idealize.ShloMosaic.Pipeline (Dat)
open scoped BigOperators

namespace Cert.ConvBwdIdeal.Value

open Cert.ConvBwdIdeal Cert.ConvBwdIdeal.Gen

variable (m : (ℓ : Loc nD τ sig) → Buf (Elt Ideal) ℓ) (c : Dev nD)

/-- The weights' gradient handed on: the first five rows of the array after the run. -/
theorem w_handed (a : Fin 5) (l : Fin 2048) :
    (show FVec Ideal S5x2048 .f32 from Pipeline.afterTail₀ cfgs (dats m) 0 (V0 m) [hostOps1] c main_v2) (ix2 a l)
    = total (m ((c : Thread nD τ).loc main_arg0)) (m ((c : Thread nD τ).loc main_arg1)) (m ((c : Thread nD τ).loc main_arg3)) l a.val := by
  unfold Pipeline.afterTail₀
  simp only [hostOps1, List.flatten_cons, List.flatten_nil, List.append_nil, StableHlo.after_cons, StableHlo.after_nil]
  after_results_simp
  after_results_loop
  rw [show Pipeline.withArrays (cfgs 0).spec c (V0 m c) (fun w => (dats m 0 c).arrAt w (cfgs 0).N) (Proc.devRef .tc main_v1_1) = _ from
    Pipeline.Dat.withArrays_arrAt (dats m 0 c) sharedIn0 (V0 m c) (fun w => A_eq m c w) 19]
  rw [final_w]
  pointwise []
  fin_cases a <;> rfl

end Cert.ConvBwdIdeal.Value

namespace Cert.ConvBwdIdeal.Value

open Cert.ConvBwdIdeal Cert.ConvBwdIdeal.Gen

variable (m : (ℓ : Loc nD τ sig) → Buf (Elt Ideal) ℓ)

/-- The weights' gradient handed on is the one of the forward lines. -/
theorem w_whole (c : Dev nD) : Pipeline.afterTail₀ cfgs (dats m) 0 (V0 m) [hostOps1] c main_v2
    = Cert.ConvBwdRefIdeal.Value.hW (m ((c.tc : Thread nD τ).loc main_arg0)) (m ((c.tc : Thread nD τ).loc main_arg1)) (m ((c.tc : Thread nD τ).loc main_arg3)) := by
  refine funext fun j => ?_
  obtain ⟨a, l, rfl⟩ : ∃ (a : Fin 5) (l : Fin 2048), j = ix2 a l := ⟨j 0, j 1, eq_ix2 j⟩
  exact (w_handed m c a l).trans (Cert.ConvBwdRefIdeal.Value.hW_at _ _ _ a l).symm

/-- The kernel runs, leaves the four gradients, and leaves its arguments alone. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = arrU (m ((c.tc : Thread nD τ).loc main_arg0)) (m ((c.tc : Thread nD τ).loc main_arg1)) (m ((c.tc : Thread nD τ).loc main_arg4))
      ∧ r.2.mem ((c.tc : Thread nD τ).loc main_v2) = Cert.ConvBwdRefIdeal.Value.hW (m ((c.tc : Thread nD τ).loc main_arg0)) (m ((c.tc : Thread nD τ).loc main_arg1)) (m ((c.tc : Thread nD τ).loc main_arg3))
      ∧ r.2.mem ((c.tc : Thread nD τ).loc main_v1_2) = arrB (m ((c.tc : Thread nD τ).loc main_arg0)) (m ((c.tc : Thread nD τ).loc main_arg1))
      ∧ r.2.mem ((c.tc : Thread nD τ).loc main_v1_3) = arrV (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (θ_run_and (run_main m g) (unchanged m g)) fun r hr c => ?_
  refine ⟨((hr.1 c).1 18).trans (final_u m c), ((hr.1 c).2 main_v2 (by decide)).trans (w_whole m c),
    ((hr.1 c).1 20).trans (final_b m c), ((hr.1 c).1 21).trans (final_v m c), hr.2 c⟩

end Cert.ConvBwdIdeal.Value

namespace Cert.ConvBwdRefIdeal.Value

open Cert.ConvBwdRefIdeal Cert.ConvBwdRefIdeal.Gen
open Cert.ConvBwdIdeal.Value (arrU arrB arrV)

variable (m : (ℓ : Loc nD τ sig) → Buf (Elt Ideal) ℓ)

/-- The forward lines' gradients, in the same words. -/
theorem lines_run (g : Dev nD → PrngReg) :
    θ_run (defs (F := Ideal)) (onTc (τ := τ) (main (F := Ideal))) ⟨m, fun _ => 0, g⟩ (fun r => ∀ c : Dev nD,
      r.2.mem ((c.tc : Thread nD τ).loc main_v89) = arrU (m ((c.tc : Thread nD τ).loc main_arg0)) (m ((c.tc : Thread nD τ).loc main_arg1)) (m ((c.tc : Thread nD τ).loc main_arg4))
      ∧ r.2.mem ((c.tc : Thread nD τ).loc main_v85) = hW (m ((c.tc : Thread nD τ).loc main_arg0)) (m ((c.tc : Thread nD τ).loc main_arg1)) (m ((c.tc : Thread nD τ).loc main_arg3))
      ∧ r.2.mem ((c.tc : Thread nD τ).loc main_v78) = arrB (m ((c.tc : Thread nD τ).loc main_arg0)) (m ((c.tc : Thread nD τ).loc main_arg1))
      ∧ r.2.mem ((c.tc : Thread nD τ).loc main_v91) = arrV (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (run m g) fun r hr c => ?_
  obtain ⟨hu, hw, hb, hv, hrest⟩ := hr c
  exact ⟨(hu.trans (u_text m c)).trans (hU_text _ _ _), hw.trans (w_text m c), hb.trans (hB_text _ _), hv.trans (hV_text _), hrest⟩

end Cert.ConvBwdRefIdeal.Value

namespace Cert.Proof

open Idealize.ShloMosaic Idealize.SL.Sem

/-- The kernel and the gradients of the forward lines agree. -/
theorem conv_algebraic : Cert.algebraic_ConvBwdIdeal_ConvBwdRefIdeal := by
  intro m g m' g' _ hagree
  refine ⟨_, _, _, _, Cert.ConvBwdIdeal.Value.kernel_run m g, θ_run_mono (Cert.ConvBwdRefIdeal.Value.lines_run m' g') fun r hr c => ?_⟩
  obtain ⟨hu, hw, hb, hv, hrest⟩ := hr c
  obtain ⟨h0, h1, h2, h3, h4, h5⟩ := hagree c
  rw [h0, h1, h4] at hu
  rw [h0, h1, h3] at hw
  rw [h0, h1] at hb
  rw [h2] at hv
  exact ⟨hu, hw, hb, hv, hrest⟩

/-- The reference runs and leaves its arguments alone. -/
theorem conv_reference : Cert.quiescent_ConvBwdRefIdeal := by
  intro m g _
  run_from Cert.ConvBwdRefIdeal.Value.run m g
  · simp
  · exact sem_eq_zero_of_no_sems (show Cert.ConvBwdRefIdeal.sig.nSem + Cert.ConvBwdRefIdeal.sig.nDmaSem = 0 from rfl) _

end Cert.Proof

end
-- ==== Proof.NormForward.lean ====
/- A row normalised, weighted and modulated. -/
module

public import Idealize.ShloMosaic.Lib.IdealHost
public import proofs.«01_k».proof.Proof.Norms

@[expose] public section

noncomputable section

namespace Cert.NormForward

open Idealize.ShloMosaic Cert.Norms
open scoped BigOperators

/-- One over a row's length. -/
abbrev over : EReal := ((1 / 2048 : ℝ) : EReal)

/-- An entry of the row `x` normalised, weighted by `g`, scaled by one plus `s` and shifted by `t`. -/
def modulated {n : ℕ} (v : EReal) (x g t s : Fin n → EReal) (l : Fin n) : EReal := x l * rate v x * g l * (1 + s l) + t l

end Cert.NormForward

end
-- ==== Proof.ResidForward.lean ====
/- The residual sum, its norm and modulation before the MLP, forward: the kernel computes the reference. -/
module

public import proofs.«01_k».proof.Defs
public import proofs.«01_k».proof.Proof.Gen.ResidFwd.Frame
public import proofs.«01_k».proof.Proof.Gen.ResidFwdIdeal.Frame
public import proofs.«01_k».proof.Proof.Gen.ResidFwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.NormForward

@[expose] public section

set_option maxRecDepth 16384

noncomputable section

open Idealize.ShloMosaic Idealize.ShloMosaic.TcCoe Idealize.SL.Sem
open Idealize.ShloMosaic.Pipeline (Dat)
open scoped BigOperators

namespace Cert.ResidFwdIdeal.Value

open Cert.ResidFwdIdeal Cert.ResidFwdIdeal.Gen

variable (m : (ℓ : Loc nD τ sig) → Buf (Elt Ideal) ℓ)

open Cert.Norms Cert.NormForward

/-- The sum, from the arguments. -/
def resid (x y : FVec Ideal S8192x2048 .f32) (a : FVec Ideal S1x2048 .f32) : FVec Ideal S8192x2048 .f32 := fun i =>
  x i + a (ix2 0 (i 1)) * y i

/-- The sum modulated. -/
def modulate (x y : FVec Ideal S8192x2048 .f32) (a g t s : FVec Ideal S1x2048 .f32) : FVec Ideal S8192x2048 .bf16 := fun i =>
  modulated over (fun l => x (ix2 (i 0) l) + a (ix2 0 l) * y (ix2 (i 0) l)) (fun l => g (ix2 0 l)) (fun l => t (ix2 0 l)) (fun l => s (ix2 0 l)) (i 1)

/-- Which block each window shows at point `t`. -/
theorem at_point : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- A block of the sum, from the blocks of the arguments. -/
theorem sum_at (x y : Vec Ideal S256x2048 .f32) (a : Vec Ideal S1x2048 .f32) (i : Fin 256) (c : Fin 2048) :
    k0_pay1 (F := Ideal) x y a (ix2 i c) = x (ix2 i c) + a (ix2 0 c) * y (ix2 i c) := by
  pointwise [k0_pay1]

/-- A block of the second result. -/
theorem tile_at (x y : Vec Ideal S256x2048 .f32) (a g t s : Vec Ideal S1x2048 .f32) (i : Fin 256) (c : Fin 2048) :
    k0_pay2 (F := Ideal) x y a g t s (ix2 i c)
      = modulated over (fun l => x (ix2 i l) + a (ix2 0 l) * y (ix2 i l)) (fun l => g (ix2 0 l)) (fun l => t (ix2 0 l)) (fun l => s (ix2 0 l)) c := by
  pointwise [k0_pay2, sum_at, modulated, rate, power]
  rw [Scalars.inv2048]

/-- Row `a` of the blocks at point `t`. -/
def at_row (t : Fin cfg0.N) (a : Fin 256) : Fin 8192 := ⟨t.val * 256 + a.val, by have := t.isLt; have : cfg0.N = 32 := rfl; omega⟩

theorem block_0 (c : Dev nD) (t : Fin cfg0.N) (a : Fin 256) (k : Fin 2048) : iblk m c 0 t (ix2 a k) = (m ((c : Thread nD τ).loc main_arg0)) (ix2 (at_row t a) k) := by
  unfold at_row
  blk_point [iblk, V, at_point t]

theorem block_1 (c : Dev nD) (t : Fin cfg0.N) (a : Fin 256) (k : Fin 2048) : iblk m c 1 t (ix2 a k) = (m ((c : Thread nD τ).loc main_arg1)) (ix2 (at_row t a) k) := by
  unfold at_row
  blk_point [iblk, V, at_point t]

theorem block_2 (c : Dev nD) (t : Fin cfg0.N) (k : Fin 2048) : iblk m c 2 t (ix2 0 k) = (m ((c : Thread nD τ).loc main_arg2)) (ix2 0 k) := by
  blk_point [iblk, V, at_point t]

theorem block_3 (c : Dev nD) (t : Fin cfg0.N) (k : Fin 2048) : iblk m c 3 t (ix2 0 k) = (m ((c : Thread nD τ).loc main_arg3)) (ix2 0 k) := by
  blk_point [iblk, V, at_point t]

theorem block_4 (c : Dev nD) (t : Fin cfg0.N) (k : Fin 2048) : iblk m c 4 t (ix2 0 k) = (m ((c : Thread nD τ).loc main_arg4)) (ix2 0 k) := by
  blk_point [iblk, V, at_point t]

theorem block_5 (c : Dev nD) (t : Fin cfg0.N) (k : Fin 2048) : iblk m c 5 t (ix2 0 k) = (m ((c : Thread nD τ).loc main_arg5)) (ix2 0 k) := by
  blk_point [iblk, V, at_point t]

theorem out_index_6 (t : Fin cfg0.N) (y : S256x2048.Idx) :
    ((View.whole main_v0_0).slice (win0_6.rect t)).emb y = (ix2 (at_row t (y 0)) (y 1) : S8192x2048.Idx) := by
  unfold at_row
  blk_point [at_point t]

theorem out_index_7 (t : Fin cfg0.N) (y : S256x2048.Idx) :
    ((View.whole main_v0_1).slice (win0_7.rect t)).emb y = (ix2 (at_row t (y 0)) (y 1) : S8192x2048.Idx) := by
  unfold at_row
  blk_point [at_point t]

/-- A row of the sum. -/
def sumRow (x y a : Fin 2048 → EReal) (l : Fin 2048) : EReal := x l + a l * y l

/-- A block's rows are the array's. -/
theorem tile_all (c : Dev nD) (t : Fin cfg0.N) (a : Fin 256) (k : Fin 2048) :
    modulated over (sumRow (fun l => iblk m c 0 t (ix2 a l)) (fun l => iblk m c 1 t (ix2 a l)) (fun l => iblk m c 2 t (ix2 0 l))) (fun l => iblk m c 3 t (ix2 0 l)) (fun l => iblk m c 4 t (ix2 0 l)) (fun l => iblk m c 5 t (ix2 0 l)) k
      = modulated over (sumRow (fun l => m ((c : Thread nD τ).loc main_arg0) (ix2 (at_row t a) l)) (fun l => m ((c : Thread nD τ).loc main_arg1) (ix2 (at_row t a) l)) (fun l => m ((c : Thread nD τ).loc main_arg2) (ix2 0 l))) (fun l => m ((c : Thread nD τ).loc main_arg3) (ix2 0 l)) (fun l => m ((c : Thread nD τ).loc main_arg4) (ix2 0 l)) (fun l => m ((c : Thread nD τ).loc main_arg5) (ix2 0 l)) k := by
  simp only [block_0, block_1, block_2, block_3, block_4, block_5]

/-- The first array after the run. -/
theorem final_x (c : Dev nD) : (dats m 0 c).arrAt 6 (cfgs 0).N
    = resid (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold resid out0_6
  frame_out
  refine Eq.trans (congrArg _ (eq_ix2 y)) ((sum_at _ _ _ _ _).trans ?_)
  rw [out_index_6]
  erw [block_0 m c t (y 0) (y 1), block_1 m c t (y 0) (y 1), block_2 m c t (y 1)]
  rfl

/-- The second array after the run. -/
theorem final_h (c : Dev nD) : (dats m 0 c).arrAt 7 (cfgs 0).N
    = modulate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold modulate out0_7
  frame_out
  refine Eq.trans (congrArg _ (eq_ix2 y)) ((tile_at _ _ _ _ _ _ _ _).trans ?_)
  rw [out_index_7]
  exact tile_all m c t (y 0) (y 1)

end Cert.ResidFwdIdeal.Value

namespace Cert.Proof

open Idealize.ShloMosaic Idealize.SL.Sem Cert.Norms Cert.NormForward

/-- The kernel and the reference agree. -/
theorem mlpf_algebraic : Cert.algebraic_ResidFwdIdeal_ResidFwdRefIdeal := by
  pair_intro
  · run_from Cert.ResidFwdIdeal.Gen.run_main m g
  · run_from Cert.ResidFwdRefIdeal.Value.run m' g'
    · rw [Cert.ResidFwdIdeal.Value.final_x]; funext j
      pointwise [Cert.ResidFwdIdeal.Value.resid]
    · rw [Cert.ResidFwdIdeal.Value.final_h]; funext j
      pointwise [Cert.ResidFwdIdeal.Value.modulate, modulated, rate, power]
      rw [Scalars.n2048, Ideal.div_coe (by norm_num)]

/-- The reference runs and leaves its arguments alone. -/
theorem mlpf_reference : Cert.quiescent_ResidFwdRefIdeal := by
  intro m g _
  run_from Cert.ResidFwdRefIdeal.Value.run m g
  · simp
  · exact sem_eq_zero_of_no_sems (show Cert.ResidFwdRefIdeal.sig.nSem + Cert.ResidFwdRefIdeal.sig.nDmaSem = 0 from rfl) _

end Cert.Proof

end
-- ==== Proof.MixForward.lean ====
/- The norm and modulation before the token mixing, forward: the kernel computes the reference. -/
module

public import proofs.«01_k».proof.Defs
public import proofs.«01_k».proof.Proof.Gen.MixFwd.Frame
public import proofs.«01_k».proof.Proof.Gen.MixFwdIdeal.Frame
public import proofs.«01_k».proof.Proof.Gen.MixFwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.NormForward

@[expose] public section

set_option maxRecDepth 16384

noncomputable section

open Idealize.ShloMosaic Idealize.ShloMosaic.TcCoe Idealize.SL.Sem
open Idealize.ShloMosaic.Pipeline (Dat)
open scoped BigOperators

namespace Cert.MixFwdIdeal.Value

open Cert.MixFwdIdeal Cert.MixFwdIdeal.Gen

variable (m : (ℓ : Loc nD τ sig) → Buf (Elt Ideal) ℓ)

open Cert.Norms Cert.NormForward

/-- The result, from the arguments. -/
def modulate (x : FVec Ideal S8192x2048 .f32) (g t s : FVec Ideal S1x2048 .f32) : FVec Ideal S8192x2048 .bf16 := fun i =>
  modulated over (fun l => x (ix2 (i 0) l)) (fun l => g (ix2 0 l)) (fun l => t (ix2 0 l)) (fun l => s (ix2 0 l)) (i 1)

/-- Which block each window shows at point `t`. -/
theorem at_point : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- A block of the result, from the blocks of the arguments. -/
theorem tile_at (x : Vec Ideal S256x2048 .f32) (g t s : Vec Ideal S1x2048 .f32) (i : Fin 256) (c : Fin 2048) :
    k0_pay1 (F := Ideal) x g t s (ix2 i c)
      = modulated over (fun l => x (ix2 i l)) (fun l => g (ix2 0 l)) (fun l => t (ix2 0 l)) (fun l => s (ix2 0 l)) c := by
  pointwise [k0_pay1, modulated, rate, power]
  rw [Scalars.inv2048]

/-- Row `a` of the blocks at point `t`. -/
def at_row (t : Fin cfg0.N) (a : Fin 256) : Fin 8192 := ⟨t.val * 256 + a.val, by have := t.isLt; have : cfg0.N = 32 := rfl; omega⟩

theorem block_0 (c : Dev nD) (t : Fin cfg0.N) (a : Fin 256) (k : Fin 2048) : iblk m c 0 t (ix2 a k) = (m ((c : Thread nD τ).loc main_arg0)) (ix2 (at_row t a) k) := by
  unfold at_row
  blk_point [iblk, V, at_point t]

theorem block_1 (c : Dev nD) (t : Fin cfg0.N) (k : Fin 2048) : iblk m c 1 t (ix2 0 k) = (m ((c : Thread nD τ).loc main_arg1)) (ix2 0 k) := by
  blk_point [iblk, V, at_point t]

theorem block_2 (c : Dev nD) (t : Fin cfg0.N) (k : Fin 2048) : iblk m c 2 t (ix2 0 k) = (m ((c : Thread nD τ).loc main_arg2)) (ix2 0 k) := by
  blk_point [iblk, V, at_point t]

theorem block_3 (c : Dev nD) (t : Fin cfg0.N) (k : Fin 2048) : iblk m c 3 t (ix2 0 k) = (m ((c : Thread nD τ).loc main_arg3)) (ix2 0 k) := by
  blk_point [iblk, V, at_point t]

theorem out_index_4 (t : Fin cfg0.N) (y : S256x2048.Idx) :
    ((View.whole main_v0).slice (win0_4.rect t)).emb y = (ix2 (at_row t (y 0)) (y 1) : S8192x2048.Idx) := by
  unfold at_row
  blk_point [at_point t]

/-- A block's rows are the array's. -/
theorem tile_all (c : Dev nD) (t : Fin cfg0.N) (a : Fin 256) (k : Fin 2048) :
    modulated over (fun l => iblk m c 0 t (ix2 a l)) (fun l => iblk m c 1 t (ix2 0 l)) (fun l => iblk m c 2 t (ix2 0 l)) (fun l => iblk m c 3 t (ix2 0 l)) k
      = modulated over (fun l => m ((c : Thread nD τ).loc main_arg0) (ix2 (at_row t a) l)) (fun l => m ((c : Thread nD τ).loc main_arg1) (ix2 0 l)) (fun l => m ((c : Thread nD τ).loc main_arg2) (ix2 0 l)) (fun l => m ((c : Thread nD τ).loc main_arg3) (ix2 0 l)) k := by
  simp only [block_0, block_1, block_2, block_3]

/-- The array after the run. -/
theorem final (c : Dev nD) : (dats m 0 c).arrAt 4 (cfgs 0).N
    = modulate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold modulate out0_4
  frame_out
  refine Eq.trans (congrArg _ (eq_ix2 y)) ((tile_at _ _ _ _ _ _).trans ?_)
  rw [out_index_4]
  exact tile_all m c t (y 0) (y 1)

end Cert.MixFwdIdeal.Value

namespace Cert.Proof

open Idealize.ShloMosaic Idealize.SL.Sem Cert.Norms Cert.NormForward

/-- The kernel and the reference agree. -/
theorem mixf_algebraic : Cert.algebraic_MixFwdIdeal_MixFwdRefIdeal := by
  pair_intro
  · run_from Cert.MixFwdIdeal.Gen.run_main m g
  · run_from Cert.MixFwdRefIdeal.Value.run m' g'
    rw [Cert.MixFwdIdeal.Value.final]; funext j
    pointwise [Cert.MixFwdIdeal.Value.modulate, modulated, rate, power]
    rw [Scalars.n2048, Ideal.div_coe (by norm_num)]

/-- The reference runs and leaves its arguments alone. -/
theorem mixf_reference : Cert.quiescent_MixFwdRefIdeal := by
  intro m g _
  run_from Cert.MixFwdRefIdeal.Value.run m g
  · simp
  · exact sem_eq_zero_of_no_sems (show Cert.MixFwdRefIdeal.sig.nSem + Cert.MixFwdRefIdeal.sig.nDmaSem = 0 from rfl) _

end Cert.Proof

end
-- ==== Proof.PostForward.lean ====
/- The head norm and output gate, forward: the kernel computes the reference. -/
module

public import proofs.«01_k».proof.Defs
public import proofs.«01_k».proof.Proof.Gen.PostFwd.Frame
public import proofs.«01_k».proof.Proof.Gen.PostFwdIdeal.Frame
public import proofs.«01_k».proof.Proof.Gen.PostFwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.PostHost

@[expose] public section

set_option maxRecDepth 16384

noncomputable section

open Idealize.ShloMosaic Idealize.ShloMosaic.TcCoe Idealize.SL.Sem
open Idealize.ShloMosaic.Pipeline (Dat)
open scoped BigOperators

namespace Cert.PostFwdIdeal.Value

open Cert.PostFwdIdeal Cert.PostFwdIdeal.Gen

variable (m : (ℓ : Loc nD τ sig) → Buf (Elt Ideal) ℓ)

open Cert.Norms Cert.HeadNorm
open Cert.PostBwdIdeal.Value (rX rO rG)

/-- A head's entry normalised, weighted and gated. -/
def gated (x o g : Fin 1024 → EReal) (h : Fin 4) (l : Fin 256) : EReal :=
  Ideal.logistic (o (lane h l)) * (x (lane h l) * headRate x h * g (lane h l))

section spec
variable (h : FVec Ideal S2x8192x1024 .f32) (p : FVec Ideal S8192x5120 .f32) (g : FVec Ideal S4x256 .f32)

/-- The result, from the arguments. -/
def arr : FVec Ideal S8192x1024 .bf16 := fun i => gated (rX h (i 0)) (rO p (i 0)) (rG g) (head (i 1)) (place (i 1))
end spec

/-- Which block each window shows at point `t`. -/
theorem at_point : ∀ t : Fin cfg0.N, win0_0.index t = ![0, t.val, 0] ∧ win0_1.index t = ![1, t.val, 0] ∧ win0_2.index t = ![t.val, 3]
    ∧ win0_3.index t = ![0, 0] ∧ win0_4.index t = ![t.val, 0] :=
  (by decide +kernel : ∀ t : Fin grid0.N, _)

section block
variable (a b : Vec Ideal S1x256x1024 .f32) (o : Vec Ideal S256x1024 .f32) (g : Vec Ideal S1x1024 .f32)

/-- A row of the two scans' sum in a block. -/
def sumRow (i : Fin 256) (c : Fin 1024) : EReal := a (ix3 0 i c) + b (ix3 0 i c)

theorem g_at (c : Fin 1024) : k0_pay2 (F := Ideal) g (ix2 0 c) = g (ix2 0 c) := by pointwise [k0_pay2]
theorem x_at (i : Fin 256) (c : Fin 1024) : k0_pay3 (F := Ideal) a b (ix2 i c) = sumRow a b i c := by pointwise [k0_pay3, sumRow]

theorem head0_at (i l : Fin 256) : k0_pay4 (F := Ideal) a b o g (ix2 i l)
    = gated (sumRow a b i) (fun k => o (ix2 i k)) (fun k => g (ix2 0 k)) 0 l := by
  pointwise [k0_pay4, gated, headRate, rate, power, lane0, g_at, x_at]
  rw [inv256]

theorem head1_at (i l : Fin 256) : k0_pay5 (F := Ideal) a b o g (ix2 i l)
    = gated (sumRow a b i) (fun k => o (ix2 i k)) (fun k => g (ix2 0 k)) 1 l := by
  pointwise [k0_pay5, gated, headRate, rate, power, lane1, g_at, x_at]
  rw [inv256]

/-- A head's tile from its slices of the sum, the gates and the weights. -/
def headTile (x o : FVec Ideal S256x256 .f32) (w : FVec Ideal S1x256 .f32) : FVec Ideal S256x256 .f32 :=
  mulf (logistic o) (mulf (mulf x (broadcastTo S256x256 (rsqrt (addf (mulf
    (shapeCast S256x1 (multiReduction .add [1] S256 (mulf x x) 0x00000000#32 reduces_S256x256_S256 (.inl rfl) rfl) shapeCasts_S256_S256x1)
    (broadcast S256x1 (Scalar.ofBits .f32 0x3B800000#32))) (broadcast S256x1 (Scalar.ofBits .f32 0x358637BD#32))))
    broadcasts_S256x1_S256x256)) (broadcastTo S256x256 w broadcasts_S1x256_S256x256))

/-- Four heads' tiles side by side. -/
def pack (p q r s : FVec Ideal S256x256 .f32) : FVec Ideal S256x1024 .bf16 :=
  truncf .bf16 (concatenate S256x1024 1 [⟨S256x256, p⟩, ⟨S256x256, q⟩, ⟨S256x256, r⟩, ⟨S256x256, s⟩]
    concatenates_S256x256_S256x256_S256x256_S256x256_S256x1024_d1) bitsLt_bf16_f32

theorem tile_text (w : FVec Ideal S1x1024 .f32) (x : FVec Ideal S256x1024 .f32) (p q : FVec Ideal S256x256 .f32) :
    k0_pay1 (F := Ideal) o w x p q (k0_pay6 o)
      = pack p q
        (headTile (extractStridedSlice S256x256 ![0, 512] x slices_S256x1024_o0_512_S256x256)
          (extractStridedSlice S256x256 ![0, 512] o slices_S256x1024_o0_512_S256x256)
          (extractStridedSlice S1x256 ![0, 512] w slices_S1x1024_o0_512_S1x256))
        (headTile (extractStridedSlice S256x256 ![0, 768] x slices_S256x1024_o0_768_S256x256)
          (extractStridedSlice S256x256 ![0, 768] o slices_S256x1024_o0_768_S256x256)
          (extractStridedSlice S1x256 ![0, 768] w slices_S1x1024_o0_768_S1x256)) := rfl

/-- What the four tiles put side by side read at an entry. -/
theorem pack_at (p q r s : FVec Ideal S256x256 .f32) (i : Fin 256) (c : Fin 1024) (f : Fin 4 → Fin 256 → EReal)
    (hp : ∀ l, p (ix2 i l) = f 0 l) (hq : ∀ l, q (ix2 i l) = f 1 l) (hr : ∀ l, r (ix2 i l) = f 2 l)
    (hs : ∀ l, s (ix2 i l) = f 3 l) : pack p q r s (ix2 i c) = f (head c) (place c) := by
  by_cases h0 : c.val < 256
  · have eh : head c = 0 := Fin.ext (show c.val / 256 = 0 by omega)
    have ep : place c = ⟨c.val, h0⟩ := Fin.ext (show c.val % 256 = c.val by omega)
    rw [eh, ep, ← hp]
    pointwise [pack]
    simp only [h0, dite_true]
  by_cases h1 : c.val < 512
  · have eh : head c = 1 := Fin.ext (show c.val / 256 = 1 by omega)
    have ep : place c = ⟨c.val - 256, by omega⟩ := Fin.ext (show c.val % 256 = c.val - 256 by omega)
    rw [eh, ep, ← hq]
    pointwise [pack]
    simp only [show c.val - 256 < 256 by omega, h0, dite_true, dite_false]
  by_cases h2 : c.val < 768
  · have eh : head c = 2 := Fin.ext (show c.val / 256 = 2 by omega)
    have ep : place c = ⟨c.val - 512, by omega⟩ := Fin.ext (show c.val % 256 = c.val - 512 by omega)
    rw [eh, ep, ← hr]
    pointwise [pack]
    simp only [show ¬ c.val - 256 < 256 by omega, show c.val - 256 - 256 < 256 by omega, h0, dite_true, dite_false]
    exact congrArg (fun l => r (ix2 i l)) (Fin.ext (show c.val - 256 - 256 = c.val - 512 by omega))
  · have eh : head c = 3 := Fin.ext (show c.val / 256 = 3 by omega)
    have ep : place c = ⟨c.val - 768, by omega⟩ := Fin.ext (show c.val % 256 = c.val - 768 by omega)
    rw [eh, ep, ← hs]
    pointwise [pack]
    simp only [show ¬ c.val - 256 < 256 by omega, show ¬ c.val - 256 - 256 < 256 by omega, h0, dite_false]
    exact congrArg (fun l => s (ix2 i l)) (Fin.ext (show c.val - 256 - 256 - 256 = c.val - 768 by omega))

theorem tile_at (i : Fin 256) (c : Fin 1024) :
    k0_pay1 (F := Ideal) o (k0_pay2 g) (k0_pay3 a b) (k0_pay4 a b o g) (k0_pay5 a b o g) (k0_pay6 o) (ix2 i c)
      = gated (sumRow a b i) (fun k => o (ix2 i k)) (fun k => g (ix2 0 k)) (head c) (place c) := by
  rw [tile_text]
  refine pack_at _ _ _ _ i c _ (head0_at a b o g i) (head1_at a b o g i) ?_ ?_
  · intro l
    pointwise [headTile, gated, headRate, rate, power, lane2, g_at, x_at]
    rw [inv256]
  · intro l
    pointwise [headTile, gated, headRate, rate, power, lane3, g_at, x_at]
    rw [inv256]

end block

/-- Row `a` of the blocks at point `t`. -/
def at_row (t : Fin cfg0.N) (a : Fin 256) : Fin 8192 := ⟨t.val * 256 + a.val, by have := t.isLt; have : cfg0.N = 32 := rfl; omega⟩

theorem block_x (c : Dev nD) (t : Fin cfg0.N) (a : Fin 256) :
    sumRow (iblk m c 0 t) (iblk m c 1 t) a = rX (m ((c : Thread nD τ).loc main_arg0)) (at_row t a) := by
  funext k; unfold sumRow rX at_row
  blk_point [iblk, V, at_point t]

theorem block_o (c : Dev nD) (t : Fin cfg0.N) (a : Fin 256) :
    (fun k => iblk m c 2 t (ix2 a k)) = rO (m ((c : Thread nD τ).loc main_arg1)) (at_row t a) := by
  funext k; unfold rO at_row
  blk_point [iblk, V, at_point t]

theorem block_g (c : Dev nD) (t : Fin cfg0.N) :
    (fun k => iblk m c 3 t (ix2 0 k)) = rG (m ((c : Thread nD τ).loc main_arg2)) := by
  funext k; unfold rG
  unfold head place
  blk_point [iblk, V, at_point t]

theorem out_index (t : Fin cfg0.N) (y : S256x1024.Idx) :
    ((View.whole main_v1).slice (win0_4.rect t)).emb y = (ix2 (at_row t (y 0)) (y 1) : S8192x1024.Idx) := by
  unfold at_row
  blk_point [at_point t]

/-- The array after the run. -/
theorem final (c : Dev nD) : (dats m 0 c).arrAt 4 (cfgs 0).N
    = arr (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  frame_out
  refine Eq.trans (congrArg _ (eq_ix2 y)) ((tile_at _ _ _ _ _ _).trans ?_)
  rw [out_index]
  erw [block_x m c t (y 0), block_o m c t (y 0), block_g m c t]
  rfl

end Cert.PostFwdIdeal.Value

namespace Cert.Proof

open Idealize.ShloMosaic Idealize.SL.Sem Cert.Norms Cert.HeadNorm

/-- The reference's stages together are the specification. -/
theorem postf_text (h : FVec Ideal Cert.PostBwdRefIdeal.S2x8192x1024 .f32) (p : FVec Ideal Cert.PostBwdRefIdeal.S8192x5120 .f32)
    (g : FVec Ideal Cert.PostBwdRefIdeal.S4x256 .f32) :
    hFlat (mulf (hGates p) (mulf (hUnit (hX h)) (hG g))) = Cert.PostFwdIdeal.Value.arr h p g := by
  funext j
  obtain ⟨i, c, rfl⟩ : ∃ (i : Fin 8192) (c : Fin 1024), j = ix2 i c := ⟨j 0, j 1, eq_ix2 j⟩
  rw [hFlat_at]
  show hGates p (ix3 i (head c) (place c)) * (hUnit (hX h) (ix3 i (head c) (place c)) * hG g (ix3 i (head c) (place c))) = _
  rw [hGates_at, hUnit_at, hG_at]
  simp only [hX_at]
  rfl

/-- The kernel and the reference agree. -/
theorem postf_algebraic : Cert.algebraic_PostFwdIdeal_PostFwdRefIdeal := by
  pair_intro
  · run_from Cert.PostFwdIdeal.Gen.run_main m g
  · run_from Cert.PostFwdRefIdeal.Value.run m' g'
    rw [Cert.PostFwdIdeal.Value.final]
    exact postf_text _ _ _

/-- The reference runs and leaves its arguments alone. -/
theorem postf_reference : Cert.quiescent_PostFwdRefIdeal := by
  intro m g _
  run_from Cert.PostFwdRefIdeal.Value.run m g
  · simp
  · exact sem_eq_zero_of_no_sems (show Cert.PostFwdRefIdeal.sig.nSem + Cert.PostFwdRefIdeal.sig.nDmaSem = 0 from rfl) _

end Cert.Proof

end
-- ==== Proof.AdaForward.lean ====
/- The conditioning product, forward: the kernel computes the reference. -/
module

public import proofs.«01_k».proof.Defs
public import proofs.«01_k».proof.Proof.Gen.AdaFwd.Frame
public import proofs.«01_k».proof.Proof.Gen.AdaFwdIdeal.Frame
public import proofs.«01_k».proof.Proof.Gen.AdaFwdRefIdeal.Run
public import Idealize.ShloMosaic.Lib.Pipeline.ValueKit
public import Idealize.ShloMosaic.Lib.Claim
public import Idealize.ShloMosaic.Lib.IdealHost
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.AdaFwdIdeal.Value

open Cert.AdaFwdIdeal Cert.AdaFwdIdeal.Gen

variable (m : (ℓ : Loc nD τ sig) → Buf (Elt Ideal) ℓ)

/-- The product of the gated condition with the weights, plus the bias. -/
def cond (c : FVec Ideal S8x2048 .f32) (w : FVec Ideal S2048x1536 .f32) (b : FVec Ideal S1x1536 .f32) : FVec Ideal S8x1536 .f32 := fun i =>
  (∑ k : Fin 2048, c (ix2 (i 0) k) * Ideal.logistic (c (ix2 (i 0) k)) * w (ix2 k (i 1))) + b (ix2 0 (i 1))

/-- Which block each window shows at point `t`. -/
theorem at_point : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- A block of the result, from the blocks of the arguments. -/
theorem block (c : Vec Ideal S8x2048 .f32) (w : Vec Ideal S2048x512 .f32) (b : Vec Ideal S1x512 .f32) (j : S8x512.Idx) :
    k0_pay1 (F := Ideal) c w b j = (∑ k : Fin 2048, c (ix2 (j 0) k) * Ideal.logistic (c (ix2 (j 0) k)) * w (ix2 k (j 1))) + b (ix2 0 (j 1)) := by
  pointwise [k0_pay1]

/-- The array after the run. -/
theorem final (c : Dev nD) : (dats m 0 c).arrAt 3 (cfgs 0).N
    = cond (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold cond out0_3
  frame_out
  rw [block]
  blk_point [iblk, V, at_point t]

end Cert.AdaFwdIdeal.Value

namespace Cert.Proof

open Idealize.ShloMosaic Idealize.SL.Sem

/-- The kernel and the reference agree. -/
theorem adaf_algebraic : Cert.algebraic_AdaFwdIdeal_AdaFwdRefIdeal := by
  pair_intro
  · run_from Cert.AdaFwdIdeal.Gen.run_main m g
  · run_from Cert.AdaFwdRefIdeal.Value.run m' g'
    rw [Cert.AdaFwdIdeal.Value.final]; funext j
    pointwise [Cert.AdaFwdIdeal.Value.cond, Ideal.logistic]

/-- The reference runs and leaves its arguments alone. -/
theorem adaf_reference : Cert.quiescent_AdaFwdRefIdeal := by
  intro m g _
  run_from Cert.AdaFwdRefIdeal.Value.run m g
  · simp
  · exact sem_eq_zero_of_no_sems (show Cert.AdaFwdRefIdeal.sig.nSem + Cert.AdaFwdRefIdeal.sig.nDmaSem = 0 from rfl) _

end Cert.Proof

end
-- ==== Proof.Ff2Agree.lean ====
/- The second MLP product with the squared relu on its left operand: four accumulated tiles against one product. -/
module

public import proofs.«01_k».proof.Defs
public import proofs.«01_k».proof.Proof.Gen.Ff2.Frame
public import proofs.«01_k».proof.Proof.Gen.Ff2Ideal.Frame
public import proofs.«01_k».proof.Proof.Gen.Ff2RefIdeal.Run
public import Idealize.ShloMosaic.Lib.Pipeline.ValueKit
public import Idealize.ShloMosaic.Lib.Claim
public import Idealize.ShloMosaic.Lib.IdealHost
public import proofs.«01_k».proof.Proof.Scalars
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Ff2Ideal.Value

open Cert.Ff2Ideal Cert.Ff2Ideal.Gen

variable (m : (ℓ : Loc nD τ sig) → Buf (Elt Ideal) ℓ)

/-- The product's entry: the squared relu's row against the weight's column. -/
def product (u : FVec Ideal S8192x8192 .f32) (w : FVec Ideal S8192x2048 .f32) : FVec Ideal S8192x2048 .f32 := fun i =>
  ∑ k : Fin 8192, max (u (ix2 (i 0) k)) 0 * max (u (ix2 (i 0) k)) 0 * w (ix2 k (i 1))

/-- Which block each window shows at point `t`. -/
theorem at_point : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The accumulator starts at zero. -/
theorem start (j : S1024x1024.Idx) : k0_pay1 (F := Ideal) j = 0 := by pointwise [k0_pay1]

/-- One tile of the sum added. -/
theorem block (a : Vec Ideal S1024x2048 .bf16) (acc : Vec Ideal S1024x1024 .f32) (b : Vec Ideal S2048x1024 .bf16) (j : S1024x1024.Idx) :
    k0_pay2 (F := Ideal) a acc b j = acc j + ∑ k : Fin 2048, max (a (ix2 (j 0) k)) 0 * max (a (ix2 (j 0) k)) 0 * b (ix2 k (j 1)) := by
  pointwise [k0_pay2]

/-- What is written back is the accumulator. -/
theorem written (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out

/-- The array after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, written m c t (by omega) h3,
    Pipeline.eq_sum_fin_of_reset_step_apply_of_flush (fun n h => (outsAt0 m c n h).2) 4 (fun _ => 0) _
    (fun t h j => by rw [outsAt0_A m c t h (by omega)]; frame_out; rw [block, start])
    (fun t h j => by
      by_cases h' : t.val % 4 = 3
      · rw [outsAt0_C m c t h h']; frame_out; rw [block, read_unread_whole]
      · rw [outsAt0_B m c t h h']; frame_out; rw [block, read_unread_whole])
    t ((flush0_2 t).mp hf) _, zero_add]
  unfold product
  refine Fin.sum_mul_add_congr fun s k hl => ?_
  blk_point [iblk, V, at_point t, at_point ⟨_, Pipeline.run_point_lt_of_flush t ((flush0_2 t).mp hf) s⟩]

end Cert.Ff2Ideal.Value

namespace Cert.Proof

open Idealize.ShloMosaic Idealize.SL.Sem

/-- The kernel and the reference agree. -/
theorem ff2_algebraic : Cert.algebraic_Ff2Ideal_Ff2RefIdeal := by
  pair_intro
  · run_from Cert.Ff2Ideal.Gen.run_main m g
  · run_from Cert.Ff2RefIdeal.Value.run m' g'
    rw [Cert.Ff2Ideal.Value.final]; funext j
    pointwise [Cert.Ff2Ideal.Value.product]

/-- The reference runs and leaves its arguments alone. -/
theorem ff2_reference : Cert.quiescent_Ff2RefIdeal := by
  intro m g _
  run_from Cert.Ff2RefIdeal.Value.run m g
  · simp
  · exact sem_eq_zero_of_no_sems (show Cert.Ff2RefIdeal.sig.nSem + Cert.Ff2RefIdeal.sig.nDmaSem = 0 from rfl) _

end Cert.Proof

end
-- ==== Proof.Dh2Agree.lean ====
/- The gradient at the MLP's input: four accumulated tiles against the weight laid out by columns, against one product. -/
module

public import proofs.«01_k».proof.Defs
public import proofs.«01_k».proof.Proof.Gen.Dh2.Frame
public import proofs.«01_k».proof.Proof.Gen.Dh2Ideal.Frame
public import proofs.«01_k».proof.Proof.Gen.Dh2RefIdeal.Run
public import Idealize.ShloMosaic.Lib.Pipeline.ValueKit
public import Idealize.ShloMosaic.Lib.Claim
public import Idealize.ShloMosaic.Lib.IdealHost
public import proofs.«01_k».proof.Proof.Scalars
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Dh2Ideal.Value

open Cert.Dh2Ideal Cert.Dh2Ideal.Gen

variable (m : (ℓ : Loc nD τ sig) → Buf (Elt Ideal) ℓ)

/-- The gradient's entry: the cotangent's row against the weight's row. -/
def product (w : FVec Ideal S2048x8192 .f32) (d : FVec Ideal S8192x8192 .f32) : FVec Ideal S8192x2048 .f32 := fun i =>
  ∑ k : Fin 8192, d (ix2 (i 0) k) * w (ix2 (i 1) k)

/-- The weight as the kernel is handed it: cut into eight groups of columns, each turned over. -/
def turned (w : FVec Ideal S2048x8192 .f32) : FVec Ideal S8192x2048 .bf16 :=
  shapeCast S8192x2048 (transpose S8x1024x2048 [0, 2, 1] (transpose S8x2048x1024 [1, 0, 2] (shapeCast S2048x8x1024 (truncf .bf16 w bitsLt_bf16_f32) shapeCasts_S2048x8192_S2048x8x1024) transposes_S2048x8x1024_S8x2048x1024_1_0_2) transposes_S8x2048x1024_S8x1024x2048_0_2_1) shapeCasts_S8x1024x2048_S8192x2048

/-- Altogether the weight is turned over. -/
theorem turned_at (w : FVec Ideal S2048x8192 .f32) (k : Fin 8192) (j : Fin 2048) : turned w (ix2 k j) = w (ix2 j k) := by
  pointwise [turned]

/-- Which block each window shows at point `t`. -/
theorem at_point : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The accumulator starts at zero. -/
theorem start (j : S1024x1024.Idx) : k0_pay1 (F := Ideal) j = 0 := by pointwise [k0_pay1]

/-- One tile of the sum added. -/
theorem block (a : Vec Ideal S1024x2048 .bf16) (acc : Vec Ideal S1024x1024 .f32) (b : Vec Ideal S2048x1024 .bf16) (j : S1024x1024.Idx) :
    k0_pay2 (F := Ideal) a acc b j = acc j + ∑ k : Fin 2048, a (ix2 (j 0) k) * b (ix2 k (j 1)) := by
  pointwise [k0_pay2]

/-- What is written back is the accumulator. -/
theorem written (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out

/-- The host's text of the weight. -/
theorem w_text (c : Dev nD) : V m c main_v4 = turned (m ((c : Thread nD τ).loc main_arg1)) := by
  simp only [V, hostOps0, List.flatten_cons, List.flatten_nil, List.append_nil, List.cons_append, List.nil_append, StableHlo.after_cons, StableHlo.after_nil]
  after_results_simp
  after_results_loop
  rfl

/-- The weight's block at point `t`. -/
theorem b_block (c : Dev nD) (t : Fin cfg0.N) (k : Fin 2048) (j : Fin 1024) :
    iblk m c 1 t (ix2 k j) = turned (m ((c : Thread nD τ).loc main_arg1)) (ix2 ⟨t.val % 4 * 2048 + k.val, by omega⟩ ⟨t.val / 4 % 2 * 1024 + j.val, by omega⟩) := by
  rw [← w_text m c]
  blk_point [iblk, at_point t]

/-- The array after the run. -/
theorem final (c : Dev nD) : (dats m 0 c).arrAt 2 (cfgs 0).N
    = product (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, written m c t (by omega) h3,
    Pipeline.eq_sum_fin_of_reset_step_apply_of_flush (fun n h => (outsAt0 m c n h).2) 4 (fun _ => 0) _
    (fun t h j => by rw [outsAt0_A m c t h (by omega)]; frame_out; rw [block, start])
    (fun t h j => by
      by_cases h' : t.val % 4 = 3
      · rw [outsAt0_C m c t h h']; frame_out; rw [block, read_unread_whole]
      · rw [outsAt0_B m c t h h']; frame_out; rw [block, read_unread_whole])
    t ((flush0_2 t).mp hf) _, zero_add]
  unfold product
  refine Fin.sum_mul_add_congr fun s k hl => ?_
  refine congrArg₂ (· * ·) ?_ ((b_block m c _ _ _).trans ((turned_at _ _ _).trans ?_))
  · blk_point [iblk, V, at_point t, at_point ⟨_, Pipeline.run_point_lt_of_flush t ((flush0_2 t).mp hf) s⟩]
  · blk_point [at_point t, at_point ⟨_, Pipeline.run_point_lt_of_flush t ((flush0_2 t).mp hf) s⟩]

end Cert.Dh2Ideal.Value

namespace Cert.Proof

open Idealize.ShloMosaic Idealize.SL.Sem

/-- The kernel and the reference agree. -/
theorem dh2_algebraic : Cert.algebraic_Dh2Ideal_Dh2RefIdeal := by
  pair_intro
  · run_from Cert.Dh2Ideal.Gen.run_main m g
  · run_from Cert.Dh2RefIdeal.Value.run m' g'
    rw [Cert.Dh2Ideal.Value.final]; funext j
    pointwise [Cert.Dh2Ideal.Value.product]

/-- The reference runs and leaves its arguments alone. -/
theorem dh2_reference : Cert.quiescent_Dh2RefIdeal := by
  intro m g _
  run_from Cert.Dh2RefIdeal.Value.run m g
  · simp
  · exact sem_eq_zero_of_no_sems (show Cert.Dh2RefIdeal.sig.nSem + Cert.Dh2RefIdeal.sig.nDmaSem = 0 from rfl) _

end Cert.Proof

end
-- ==== Proof.AdamAgree.lean ====
/- The optimiser's update of one weight: the five parts added, the two averages and the step. -/
module

public import proofs.«01_k».proof.Defs
public import proofs.«01_k».proof.Proof.Gen.Adam.Frame
public import proofs.«01_k».proof.Proof.Gen.AdamIdeal.Frame
public import proofs.«01_k».proof.Proof.Gen.AdamRefIdeal.Run
public import Idealize.ShloMosaic.Lib.Pipeline.ValueKit
public import Idealize.ShloMosaic.Lib.Claim
public import Idealize.ShloMosaic.Lib.IdealHost
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.AdamIdeal.Value

open Cert.AdamIdeal Cert.AdamIdeal.Gen

variable (m : (ℓ : Loc nD τ sig) → Buf (Elt Ideal) ℓ)

/-- The five parts of the gradient added. -/
def total (a b d e f : EReal) : EReal := a + b + d + e + f

/-- The first average, moved towards the gradient. -/
def mean (a b d e f x : EReal) : EReal := Ideal.ofBits .f32 0x3F666666#32 * x + Ideal.ofBits .f32 0x3DCCCCCD#32 * total a b d e f

/-- The second average, moved towards the gradient's square. -/
def square (a b d e f y : EReal) : EReal :=
  Ideal.ofBits .f32 0x3F7FBE77#32 * y + Ideal.ofBits .f32 0x3A83126F#32 * (total a b d e f * total a b d e f)

/-- The step of the weight. -/
def step (a b d e f w x y : EReal) : EReal :=
  Ideal.ofBits .f32 0xBA83126F#32 * (Ideal.div (Ideal.div (mean a b d e f x) (Ideal.ofBits .f32 0x3F26BD02#32))
      (Ideal.sqrt (Ideal.div (square a b d e f y) (Ideal.ofBits .f32 0x3C231ACC#32)) + Ideal.ofBits .f32 0x322BCC77#32)
    + Ideal.ofBits .f32 0x3C23D70A#32 * w)

/-- The four arrays, from the arguments. -/
def totalArr (a b d e f : FVec Ideal S1024x2048 .bf16) : FVec Ideal S1024x2048 .f32 := fun i => total (a i) (b i) (d i) (e i) (f i)
def stepArr (a b d e f : FVec Ideal S1024x2048 .bf16) (w x y : FVec Ideal S1024x2048 .f32) : FVec Ideal S1024x2048 .f32 := fun i =>
  step (a i) (b i) (d i) (e i) (f i) (w i) (x i) (y i)
def meanArr (a b d e f : FVec Ideal S1024x2048 .bf16) (x : FVec Ideal S1024x2048 .f32) : FVec Ideal S1024x2048 .f32 := fun i =>
  mean (a i) (b i) (d i) (e i) (f i) (x i)
def squareArr (a b d e f : FVec Ideal S1024x2048 .bf16) (y : FVec Ideal S1024x2048 .f32) : FVec Ideal S1024x2048 .f32 := fun i =>
  square (a i) (b i) (d i) (e i) (f i) (y i)

/-- Every window shows the same rows at point `t`. -/
theorem at_point : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

section
variable (a b d e f : Vec Ideal S256x2048 .bf16) (w x y : Vec Ideal S256x2048 .f32) (i : S256x2048.Idx)

theorem total_at : k0_pay2 (F := Ideal) a b d e f i = total (a i) (b i) (d i) (e i) (f i) := by
  pointwise [k0_pay2, total]

theorem mean_at : k0_pay3 (F := Ideal) a b d e f x i = mean (a i) (b i) (d i) (e i) (f i) (x i) := by
  pointwise [k0_pay3, total_at, mean]

theorem square_at : k0_pay4 (F := Ideal) a b d e f y i = square (a i) (b i) (d i) (e i) (f i) (y i) := by
  pointwise [k0_pay4, total_at, square]

theorem step_at : k0_pay1 (F := Ideal) (k0_pay5 (F := Ideal) a b d e f x) (k0_pay6 (F := Ideal) a b d e f y) w i
    = step (a i) (b i) (d i) (e i) (f i) (w i) (x i) (y i) := by
  pointwise [k0_pay1, k0_pay5, k0_pay6, mean_at, square_at, step]

end

/-- Output 0's array after the run. -/
theorem final_8 (c : Dev nD) : (dats m 0 c).arrAt 8 (cfgs 0).N
    = totalArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  unfold totalArr out0_8
  frame_out
  rw [total_at]
  blk_point [iblk, V, at_point t]

/-- Output 1's array after the run. -/
theorem final_9 (c : Dev nD) : (dats m 0 c).arrAt 9 (cfgs 0).N
    = stepArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  unfold stepArr out0_9
  frame_out
  rw [step_at]
  blk_point [iblk, V, at_point t]

/-- Output 2's array after the run. -/
theorem final_10 (c : Dev nD) : (dats m 0 c).arrAt 10 (cfgs 0).N
    = meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t hf y => ?_
  blk_simp
  rw [after0_10]
  unfold meanArr out0_10
  frame_out
  rw [mean_at]
  blk_point [iblk, V, at_point t]

/-- Output 3's array after the run. -/
theorem final_11 (c : Dev nD) : (dats m 0 c).arrAt 11 (cfgs 0).N
    = squareArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 11 _ (by decide +kernel) fun t hf y => ?_
  blk_simp
  rw [after0_11]
  unfold squareArr out0_11
  frame_out
  rw [square_at]
  blk_point [iblk, V, at_point t]

/-- The kernel runs, leaves the four arrays, and leaves its arguments alone. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = totalArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = stepArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_2) = meanArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v0_3) = squareArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (θ_run_and (run_main m g) (unchanged m g)) fun r hr c => ?_
  have hu := hr.2
  replace hr := hr.1
  exact ⟨((hr c).1 8).trans (final_8 m c), ((hr c).1 9).trans (final_9 m c), ((hr c).1 10).trans (final_10 m c), ((hr c).1 11).trans (final_11 m c), hu c⟩

end Cert.AdamIdeal.Value

namespace Cert.AdamRefIdeal.Value

open Cert.AdamRefIdeal Cert.AdamRefIdeal.Gen
open Cert.AdamIdeal.Value (totalArr stepArr meanArr squareArr total step mean square)

variable (m : (ℓ : Loc nD τ sig) → Buf (Elt Ideal) ℓ)

/-- The reference's lines leave the same four arrays. -/
theorem lines_run (g : Dev nD → PrngReg) :
    θ_run (defs (F := Ideal)) (onTc (τ := τ) (main (F := Ideal))) ⟨m, fun _ => 0, g⟩ (fun r => ∀ c : Dev nD,
      r.2.mem ((c.tc : Thread nD τ).loc main_v8) = totalArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = stepArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v13) = meanArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v19) = squareArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (run m g) fun r hr c => ?_
  obtain ⟨a8, a9, a10, a11, hrest⟩ := hr c
  refine ⟨a8.trans (funext fun j => ?_), a9.trans (funext fun j => ?_), a10.trans (funext fun j => ?_), a11.trans (funext fun j => ?_), hrest⟩
  · pointwise [totalArr, total]
  · pointwise [stepArr, step, mean, square, total]
  · pointwise [meanArr, mean, total]
  · pointwise [squareArr, square, total]

end Cert.AdamRefIdeal.Value

namespace Cert.Proof

open Idealize.ShloMosaic Idealize.SL.Sem Cert.AdamIdeal.Value

/-- The kernel and the reference agree. -/
theorem adam_algebraic : Cert.algebraic_AdamIdeal_AdamRefIdeal := by
  intro m g m' g' _ hagree
  refine ⟨_, _, _, _, kernel_run m g, θ_run_mono (Cert.AdamRefIdeal.Value.lines_run m' g') fun r hr c => ?_⟩
  obtain ⟨a8, a9, a10, a11, hrest⟩ := hr c
  obtain ⟨h0, h1, h2, h3, h4, h5, h6, h7⟩ := hagree c
  rw [h0, h1, h2, h3, h4] at a8
  rw [h0, h1, h2, h3, h4, h5, h6, h7] at a9
  rw [h0, h1, h2, h3, h4, h6] at a10
  rw [h0, h1, h2, h3, h4, h7] at a11
  exact ⟨a8, a9, a10, a11, hrest⟩

/-- The reference runs and leaves its arguments alone. -/
theorem adam_reference : Cert.quiescent_AdamRefIdeal := by
  intro m g _
  run_from Cert.AdamRefIdeal.Value.run m g
  · simp
  · exact sem_eq_zero_of_no_sems (show Cert.AdamRefIdeal.sig.nSem + Cert.AdamRefIdeal.sig.nDmaSem = 0 from rfl) _

end Cert.Proof

end
-- ==== Proof.ChipSumAgree.lean ====
/- The sums of two chips' shares that are sent on: each a slot of one array and its half's slot of the other, added. -/
module

public import proofs.«01_k».proof.Defs
public import proofs.«01_k».proof.Proof.Gen.ChipSum.Frame
public import proofs.«01_k».proof.Proof.Gen.ChipSumIdeal.Frame
public import proofs.«01_k».proof.Proof.Gen.ChipSumRefIdeal.Run
public import Idealize.ShloMosaic.Lib.Pipeline.ValueKit
public import Idealize.ShloMosaic.Lib.Claim
public import Idealize.ShloMosaic.Lib.IdealHost

@[expose] public section

set_option maxRecDepth 16384

noncomputable section

open Idealize.ShloMosaic Idealize.ShloMosaic.TcCoe Idealize.SL.Sem
open Idealize.ShloMosaic.Pipeline (Dat)
open scoped BigOperators

namespace Cert.ChipSum.Value

open Cert.ChipSum Cert.ChipSum.Gen

/-- The slots sent on, as the table's contents. -/
def slots : pre0.Contents (Elt Bits) := fun | ⟨0, _⟩ => fun x => lit0 (S3.rowMajor x) | ⟨_ + 1, h⟩ => absurd h (by simp)

theorem tbl_eq (m : (ℓ : Loc nD τ sig) → Buf (Elt Bits) ℓ) : tbl m = slots := by
  funext j x
  match j with
  | ⟨0, _⟩ => rfl

/-- Every block they name lies inside its array. -/
theorem inside (m : (ℓ : Loc nD τ sig) → Buf (Elt Bits) ℓ) : Ok m := by
  unfold Ok; rw [tbl_eq m]; decide +kernel

end Cert.ChipSum.Value

namespace Cert.ChipSumIdeal.Value

open Cert.ChipSumIdeal Cert.ChipSumIdeal.Gen

variable (m : (ℓ : Loc nD τ sig) → Buf (Elt Ideal) ℓ)

/-- The slots sent on, as the table's contents. -/
def slots : pre0.Contents (Elt Ideal) := fun | ⟨0, _⟩ => fun x => lit0 (S3.rowMajor x) | ⟨_ + 1, h⟩ => absurd h (by simp)

theorem tbl_eq : tbl m = slots := by
  funext j x
  match j with
  | ⟨0, _⟩ => rfl

theorem slots_inside : ok0 (F := Ideal) slots := by decide +kernel

theorem inside : Ok m := by unfold Ok; rw [tbl_eq m]; exact slots_inside

/-- The slot of place `a`. -/
def slot (a : ℕ) : ℕ := if a = 0 then 4 else if a = 1 then 2 else 6

theorem slot_lt (a : ℕ) : slot a < 8 := by unfold slot; split_ifs <;> omega

/-- The sums. -/
def sums (x : FVec Ideal S8x1024x2048 .bf16) (y : FVec Ideal S4x1024x2048 .bf16) : FVec Ideal S3x1024x2048 .bf16 := fun i =>
  x (ix3 ⟨slot (i 0).val, slot_lt _⟩ (i 1) (i 2)) + y (ix3 ⟨slot (i 0).val / 2, by have := slot_lt (i 0).val; omega⟩ (i 1) (i 2))

theorem at_slots : ∀ i : grid0.Coords, cc0_transform_0 (F := Ideal) k0_off1_inb numel1_S1 slots i = ![slot (i 0).val, (i 1).val, 0]
    ∧ cc0_transform_1 (F := Ideal) k0_off1_inb numel1_S1 slots i = ![slot (i 0).val / 2, (i 1).val, 0]
    ∧ cc0_transform_2 i = ![(i 0).val, (i 1).val, 0] := by decide +kernel

theorem sum_at (x y : Vec Ideal S1x512x2048 .bf16) (i : S1x512x2048.Idx) : k0_pay1 (F := Ideal) x y i = x i + y i := by
  pointwise [k0_pay1]

/-- What the body leaves in its output's buffer. -/
theorem out_eq (c : Dev nD) (i : grid0.Coords) (arg3 : Memref sig .tc .vmem S1x512x2048 .bf16) (h3 : arg3.IsWhole) (arg4 : Memref sig .tc .vmem S1x512x2048 .bf16) (h4 : arg4.IsWhole)
    (arg5 : Memref sig .tc .vmem S1x512x2048 .bf16) (h5 : arg5.IsWhole) (x y : Vec Ideal S1x512x2048 .bf16) (s : TbBuf0 (F := Ideal) c tbM0_0) :
    out0_A_2 c i arg3 h3 arg4 h4 arg5 h5 x y s = fun j => x j + y j := by
  unfold out0_A_2 kernelRun0_A
  dsimp only
  frame_out
  exact funext fun j => sum_at x y j

/-- An entry of either argument, by the place of the sum. -/
theorem entry_at (x : FVec Ideal S8x1024x2048 .bf16) (p : S8x1024x2048.Idx) (q : S3x1024x2048.Idx)
    (h0 : (p 0).val = slot (q 0).val) (h1 : (p 1).val = (q 1).val) (h2 : (p 2).val = (q 2).val) :
    x p = x (ix3 ⟨slot (q 0).val, slot_lt _⟩ (q 1) (q 2)) :=
  congrArg x (funext fun a => Fin.ext (by fin_cases a; exacts [h0, h1, h2]))

theorem half_at (x : FVec Ideal S4x1024x2048 .bf16) (p : S4x1024x2048.Idx) (q : S3x1024x2048.Idx)
    (h0 : (p 0).val = slot (q 0).val / 2) (h1 : (p 1).val = (q 1).val) (h2 : (p 2).val = (q 2).val) :
    x p = x (ix3 ⟨slot (q 0).val / 2, by have := slot_lt (q 0).val; omega⟩ (q 1) (q 2)) :=
  congrArg x (funext fun a => Fin.ext (by fin_cases a; exacts [h0, h1, h2]))

/-- A block's place, axis by axis: with the block's first coordinate its slot. -/
theorem placed {f g p q z : Fin 3 → ℕ} {s a b : ℕ} (hf : f = ![s, b, 0]) (hg : g = ![a, b, 0])
    (hp : ∀ k, p k = f k * S1x512x2048.size k + z k) (hq : ∀ k, q k = g k * S1x512x2048.size k + z k) (hz : z 0 < 1) :
    p 0 = s ∧ q 0 = a ∧ p 1 = q 1 ∧ p 2 = q 2 := by
  subst hf hg
  refine ⟨(hp 0).trans ?_, (hq 0).trans ?_, (hp 1).trans (hq 1).symm, (hp 2).trans (hq 2).symm⟩
  · show s * 1 + z 0 = s; omega
  · show a * 1 + z 0 = a; omega

theorem final (hO : Ok m) (c : Dev nD) : (dats m hO 0 c).arrAt 2 (cfgM m hO).N
    = sums (m ((c : Thread nD τ).loc main_arg0)) (m ((c : Thread nD τ).loc main_arg1)) := by
  refine (dats m hO 0 c).arrAt_eq_of_covers 2 _ (by exact (by decide +kernel : ((cfg0 (F := Ideal) ⟨slots, slots_inside⟩).win 2).Covers)) fun t hf y => ?_
  blk_simp
  rw [after0_2]
  unfold outsAt0
  refine (congrFun (out_eq c _ _ _ _ _ _ _ _ _ _) y).trans ?_
  have e0 : cc0_transform_0 (F := Ideal) k0_off1_inb numel1_S1 (tbl m) (grid0.coords t) = _ := (congrArg (fun p => cc0_transform_0 (F := Ideal) k0_off1_inb numel1_S1 p (grid0.coords t)) (tbl_eq m)).trans (at_slots (grid0.coords t)).1
  have e1 : cc0_transform_1 (F := Ideal) k0_off1_inb numel1_S1 (tbl m) (grid0.coords t) = _ := (congrArg (fun p => cc0_transform_1 (F := Ideal) k0_off1_inb numel1_S1 p (grid0.coords t)) (tbl_eq m)).trans (at_slots (grid0.coords t)).2.1
  have hz : (y (0 : Fin 3)).val < 1 := (y (0 : Fin 3)).isLt
  have q2 : ∀ a : Fin 3, ((((cfgM m hO).win 2).blk t).view.emb y a).val = cc0_transform_2 (grid0.coords t) a * S1x512x2048.size a + (y a).val :=
    fun a => ValueKit.view_emb_slice_whole_unit_val _ _ _ _ _ _
  have p0 : ∀ a : Fin 3, ((((cfgM m hO).win 0).blk t).view.emb y a).val = cc0_transform_0 (F := Ideal) k0_off1_inb numel1_S1 (tbl m) (grid0.coords t) a * S1x512x2048.size a + (y a).val :=
    fun a => ValueKit.view_emb_slice_whole_unit_val _ _ _ _ _ _
  have p1 : ∀ a : Fin 3, ((((cfgM m hO).win 1).blk t).view.emb y a).val = cc0_transform_1 (F := Ideal) k0_off1_inb numel1_S1 (tbl m) (grid0.coords t) a * S1x512x2048.size a + (y a).val :=
    fun a => ValueKit.view_emb_slice_whole_unit_val _ _ _ _ _ _
  unfold sums iblk
  refine congrArg₂ (· + ·) ?_ ?_
  · show V m c main_arg0 _ = m _ _
    rw [V_main_arg0]
    obtain ⟨h0, k0, h1, h2⟩ := placed e0 (at_slots (grid0.coords t)).2.2 p0 q2 hz
    exact entry_at _ _ _ (h0.trans (congrArg slot k0.symm)) h1 h2
  · show V m c main_arg1 _ = m _ _
    rw [V_main_arg1]
    obtain ⟨h0, k0, h1, h2⟩ := placed e1 (at_slots (grid0.coords t)).2.2 p1 q2 hz
    exact half_at _ _ _ (h0.trans (congrArg (fun n => slot n / 2) k0.symm)) h1 h2

/-- The run. -/
theorem kernel_run (g : Dev nD → PrngReg) : θ_run defs (onTc (τ := τ) (main (F := Ideal))) ⟨m, fun _ => 0, g⟩ fun r => ∀ c : Dev nD,
    r.2.mem ((c.tc : Thread nD τ).loc main_v0) = sums (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m g (inside m)) (unchanged m g (inside m))) fun r hr c =>
    ⟨((hr.1 c).1 2).trans (final m (inside m) c), hr.2 c⟩

end Cert.ChipSumIdeal.Value

namespace Cert.ChipSumRefIdeal.Value

open Cert.ChipSumRefIdeal Cert.ChipSumIdeal.Value

/-- Three slots one after another, at an entry. -/
theorem three_at (p q r : FVec Ideal S1x1024x2048 .bf16)
    (h : Shape.Concatenates [S1x1024x2048, S1x1024x2048, S1x1024x2048] S3x1024x2048 0) (i : S3x1024x2048.Idx) :
    concatenate S3x1024x2048 0 [⟨S1x1024x2048, p⟩, ⟨S1x1024x2048, q⟩, ⟨S1x1024x2048, r⟩] h i
      = (![p, q, r] : Fin 3 → FVec Ideal S1x1024x2048 .bf16) (i 0) (ix3 0 (i 1) (i 2)) := by
  refine concatenate_ofFn_unit_apply (t := S3x1024x2048) (s₁ := S1x1024x2048) 0 (N := 3) ![p, q, r] h rfl rfl i (i 0) rfl _ fun b hb => ?_
  fin_cases b
  · exact absurd rfl hb
  · rfl
  · rfl

/-- One sum of the reference, of slot `u` of one array and slot `v` of the other. -/
theorem line_at (x : FVec Ideal S8x1024x2048 .bf16) (y : FVec Ideal S4x1024x2048 .bf16) (u v : ℕ) (hu) (hv) (i : S3x1024x2048.Idx)
    (hs : slot (i 0).val = u) (hd : u / 2 = v) :
    broadcastInDim S1x1024x2048 ![1, 2] Gen.bcast_S1024x2048_S1x1024x2048_1_2 (truncf (F := Ideal) .bf16 (addf (extf .f32 (shapeCast S1024x2048 (extractStridedSlice S1x1024x2048 ![u, 0, 0] x hu) Gen.shapeCasts_S1x1024x2048_S1024x2048) Gen.bitsLt_bf16_f32)
      (extf .f32 (shapeCast S1024x2048 (extractStridedSlice S1x1024x2048 ![v, 0, 0] y hv) Gen.shapeCasts_S1x1024x2048_S1024x2048) Gen.bitsLt_bf16_f32)) Gen.bitsLt_bf16_f32) (ix3 0 (i 1) (i 2))
      = sums x y i := by
  subst hs hd
  unfold sums
  pointwise []

end Cert.ChipSumRefIdeal.Value

namespace Cert.Proof

open Cert.ChipSumIdeal Cert.ChipSumIdeal.Value

theorem chip_algebraic : Cert.algebraic_ChipSumIdeal_ChipSumRefIdeal := by
  intro m g m' g' _ h
  refine ⟨_, kernel_run m g, θ_run_mono (Cert.ChipSumRefIdeal.Value.run m' g') fun r hr c => ?_⟩
  refine ⟨(hr c).1.trans ?_, (hr c).2⟩
  rw [(h c).1, (h c).2]
  funext i
  refine (Cert.ChipSumRefIdeal.Value.three_at _ _ _ _ i).trans ?_
  obtain h | h | h : (i 0) = (0 : Fin 3) ∨ (i 0) = (1 : Fin 3) ∨ (i 0) = (2 : Fin 3) := (by decide : ∀ a : Fin 3, a = 0 ∨ a = 1 ∨ a = 2) (i 0)
  · rw [h]
    exact Cert.ChipSumRefIdeal.Value.line_at _ _ 4 2 _ _ i (by rw [h]; rfl) rfl
  · rw [h]
    exact Cert.ChipSumRefIdeal.Value.line_at _ _ 2 1 _ _ i (by rw [h]; rfl) rfl
  · rw [h]
    exact Cert.ChipSumRefIdeal.Value.line_at _ _ 6 3 _ _ i (by rw [h]; rfl) rfl

/-- The reference runs and leaves its arguments alone. -/
theorem chip_reference : Cert.quiescent_ChipSumRefIdeal := by
  intro m g _
  run_from Cert.ChipSumRefIdeal.Value.run m g
  · simp
  · exact sem_eq_zero_of_no_sems (show Cert.ChipSumRefIdeal.sig.nSem + Cert.ChipSumRefIdeal.sig.nDmaSem = 0 from rfl) _

end Cert.Proof

end
-- ==== Proof.PrepRows.lean ====
/- One row of the up-projections, their head norms and the rotary embedding, written over extended reals: the
   heads of 192 entries, and the padded heads of 256 lanes of which the last 64 are zero. -/
module

public import proofs.«01_k».proof.Proof.Norms

@[expose] public section

noncomputable section

namespace Cert.Prep

open Idealize.ShloMosaic Cert.Norms
open scoped BigOperators

/-- A row normalised and weighted. -/
def scaled {n : ℕ} (v : EReal) (x g : Fin n → EReal) (l : Fin n) : EReal := x l * rate v x * g l

/-- The normalised row times a matrix. -/
def latent {n k : ℕ} (v : EReal) (x g : Fin n → EReal) (w : Fin n → Fin k → EReal) (j : Fin k) : EReal := ∑ l, scaled v x g l * w l j

/-- The rotary embedding of a head's last 64 entries, by the angles' cosines and sines. -/
def rotated (u : Fin 192 → EReal) (cs sn : Fin 32 → EReal) (d : Fin 192) : EReal :=
  if h : d.val < 128 then u d
  else if h' : d.val < 160 then u d * cs ⟨d.val - 128, by omega⟩ - u ⟨d.val + 32, by omega⟩ * sn ⟨d.val - 128, by omega⟩
  else u ⟨d.val - 32, by omega⟩ * sn ⟨d.val - 160, by omega⟩ + u d * cs ⟨d.val - 160, by omega⟩

/-- A head of 192 entries in 256 lanes. -/
def padded (u : Fin 192 → EReal) (d : Fin 256) : EReal := if h : d.val < 192 then u ⟨d.val, h⟩ else 0

/-- The keys' head before its norm: its own 128 entries, then the 64 that all heads share. -/
def joined (u : Fin 128 → EReal) (s : Fin 64 → EReal) (d : Fin 192) : EReal :=
  if h : d.val < 128 then u ⟨d.val, h⟩ else s ⟨d.val - 128, by omega⟩

/-- The shared entries in 128 lanes. -/
def wide (s : Fin 64 → EReal) (t : Fin 128) : EReal := if h : t.val < 64 then s ⟨t.val, h⟩ else 0

/-- The matrix that turns two halves of 32 lanes into each other, the second with its sign changed. -/
def turner (k t : Fin 128) : EReal :=
  if k.val = t.val + 32 ∧ t.val < 32 then -1 else if k.val + 32 = t.val ∧ t.val < 64 then 1 else 0

/-- The rotary embedding over 128 lanes, by that matrix. -/
def lanes (u cs sn : Fin 128 → EReal) (t : Fin 128) : EReal := u t * cs t + (∑ k, u k * turner k t) * sn t

theorem turned_first (u : Fin 128 → EReal) (t : Fin 128) (h : t.val < 32) : ∑ k, u k * turner k t = -u ⟨t.val + 32, by omega⟩ := by
  rw [Finset.sum_eq_single (⟨t.val + 32, by omega⟩ : Fin 128)]
  · rw [turner, if_pos ⟨rfl, h⟩, mul_neg, mul_one]
  · intro k _ hk
    have hk' : ¬k.val = t.val + 32 := fun e => hk (Fin.ext e)
    rw [turner, if_neg (fun e => hk' e.1), if_neg (by omega), mul_zero]
  · exact fun e => absurd (Finset.mem_univ _) e

theorem turned_second (u : Fin 128 → EReal) (t : Fin 128) (h : 32 ≤ t.val) (h' : t.val < 64) :
    ∑ k, u k * turner k t = u ⟨t.val - 32, by omega⟩ := by
  rw [Finset.sum_eq_single (⟨t.val - 32, by omega⟩ : Fin 128)]
  · rw [turner, if_neg (by omega), if_pos ⟨by show t.val - 32 + 32 = t.val; omega, h'⟩, mul_one]
  · intro k _ hk
    have hk' : ¬k.val = t.val - 32 := fun e => hk (Fin.ext e)
    rw [turner, if_neg (by omega), if_neg (by omega), mul_zero]
  · exact fun e => absurd (Finset.mem_univ _) e

theorem turned_rest (u : Fin 128 → EReal) (t : Fin 128) (h : 64 ≤ t.val) : ∑ k, u k * turner k t = 0 :=
  Finset.sum_eq_zero fun k _ => by rw [turner, if_neg (by omega), if_neg (by omega), mul_zero]

/-- The lanes of a padded head, embedded. -/
theorem lanes_eq (f : Fin 192 → EReal) (u c s : Fin 128 → EReal) (cs sn : Fin 32 → EReal)
    (hu : ∀ t : Fin 128, u t = if h : t.val < 64 then f ⟨128 + t.val, by omega⟩ else 0)
    (hc : ∀ t : Fin 128, t.val < 64 → c t = cs ⟨t.val % 32, by omega⟩) (hs : ∀ t : Fin 128, t.val < 64 → s t = sn ⟨t.val % 32, by omega⟩)
    (t : Fin 128) : lanes u c s t = padded (rotated f cs sn) ⟨128 + t.val, by omega⟩ := by
  unfold lanes padded
  by_cases h : t.val < 32
  · rw [turned_first u t h, hc t (by omega), hs t (by omega), hu, hu, dif_pos (by omega), dif_pos (by show t.val + 32 < 64; omega), dif_pos (by show 128 + t.val < 192; omega)]
    unfold rotated
    rw [dif_neg (by show ¬128 + t.val < 128; omega), dif_pos (by show 128 + t.val < 160; omega), EReal.neg_mul, sub_eq_add_neg]
    congr 5 <;> (dsimp only; omega)
  · by_cases h' : t.val < 64
    · rw [turned_second u t (by omega) h', hc t h', hs t h', hu, hu, dif_pos h', dif_pos (by show t.val - 32 < 64; omega), dif_pos (by show 128 + t.val < 192; omega)]
      unfold rotated
      rw [dif_neg (by show ¬128 + t.val < 128; omega), dif_neg (by show ¬128 + t.val < 160; omega), add_comm]
      congr 4 <;> (dsimp only; omega)
    · rw [turned_rest u t (by omega), hu, dif_neg h', zero_mul, zero_mul, zero_add, dif_neg (by show ¬128 + t.val < 192; omega)]

/-- A sum over padded lanes is the sum over the head. -/
theorem sum_padded (f : Fin 192 → EReal) : ∑ d, padded f d = ∑ d, f d := by
  refine (Fin.sum_univ_add (a := 192) (b := 64) (fun d => padded f d)).trans ?_
  have h0 : ∑ i : Fin 64, padded f (Fin.natAdd 192 i) = 0 :=
    Finset.sum_eq_zero fun i _ => by rw [padded, dif_neg (by show ¬192 + i.val < 192; omega)]
  rw [h0, add_zero]
  refine Finset.sum_congr rfl fun i _ => ?_
  rw [padded, dif_pos (show (Fin.castAdd 64 i).val < 192 from i.isLt)]
  rfl

/-- A sum over the joined head: its own part's and the shared part's, of which the other lanes are zero. -/
theorem sum_joined (u : Fin 128 → EReal) (s : Fin 64 → EReal) :
    (∑ k, u k * u k) + ∑ t, wide s t * wide s t = ∑ d, joined u s d * joined u s d := by
  refine Eq.trans ?_ (Fin.sum_univ_add (a := 128) (b := 64) (fun d => joined u s d * joined u s d)).symm
  refine congrArg₂ (· + ·) (Finset.sum_congr rfl fun i _ => ?_) ?_
  · rw [joined, dif_pos (show (Fin.castAdd 64 i).val < 128 from i.isLt)]; rfl
  · refine (Fin.sum_univ_add (a := 64) (b := 64) (fun t => wide s t * wide s t)).trans ?_
    have h0 : ∑ i : Fin 64, wide s (Fin.natAdd 64 i) * wide s (Fin.natAdd 64 i) = 0 :=
      Finset.sum_eq_zero fun i _ => by rw [wide, dif_neg (by show ¬64 + i.val < 64; omega), mul_zero]
    rw [h0, add_zero]
    refine Finset.sum_congr rfl fun i _ => ?_
    rw [wide, dif_pos (show (Fin.castAdd 64 i).val < 64 from i.isLt), joined, dif_neg (by show ¬128 + i.val < 128; omega)]
    refine congrArg₂ (· * ·) (congrArg s (Fin.ext ?_)) (congrArg s (Fin.ext ?_)) <;> (show i.val = 128 + i.val - 128; omega)

/-- The factor of a padded head is the head's. -/
theorem rate_padded (v : EReal) (f : Fin 192 → EReal) : rate v (padded f) = rate v f := by
  unfold rate power
  rw [← sum_padded fun d => f d * f d]
  refine congrArg (fun z => Ideal.rsqrt (z * v + _)) (Finset.sum_congr rfl fun d _ => ?_)
  unfold padded
  split <;> simp

/-- A padded head normalised. -/
theorem scaled_padded (v : EReal) (f g : Fin 192 → EReal) (d : Fin 256) : scaled v (padded f) (padded g) d = padded (scaled v f g) d := by
  unfold scaled
  rw [rate_padded]
  unfold padded
  split <;> simp

/-- A matrix with padded heads of columns multiplies to a padded head. -/
theorem latent_padded {n : ℕ} (v : EReal) (x g : Fin n → EReal) (w : Fin n → Fin 192 → EReal) (d : Fin 256) :
    ∑ l, scaled v x g l * padded (w l) d = padded (latent v x g w) d := by
  unfold padded latent
  split <;> simp

end Cert.Prep

end
-- ==== Proof.PrepTiles.lean ====
/- The block of rows that one step of the up-projections makes, its sixteen pieces by head. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepRows

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.Norms Cert.Prep

theorem r192_name : Named.named (F := Ideal) κ (φ := .f32) "r192" 0x3BAAAAAB#32 = ((192⁻¹ : ℝ) : EReal) :=
  IdealRules.named_const.ideal_named_scalar _ _ _ _ rfl

theorem qs_name : Named.named (F := Ideal) κ (φ := .f32) "qs" 0x3DD53B95#32 = (((Real.sqrt 192)⁻¹ * (Real.log 2)⁻¹ : ℝ) : EReal) :=
  IdealRules.named_const.ideal_named_scalar _ _ _ _ rfl

/-- The word of 1/512. -/
theorem inv512 : Ideal.ofBits .f32 0x3B000000#32 = ((1 / 512 : ℝ) : EReal) := by
  simp [Ideal.ofBits, Ideal.ieee, -EReal.coe_mul]; norm_num

/-- The word of 1/256. -/
theorem inv256 : Ideal.ofBits .f32 0x3B800000#32 = ((1 / 256 : ℝ) : EReal) := by
  simp [Ideal.ofBits, Ideal.ieee, -EReal.coe_mul]; norm_num

theorem head_fits : ∀ h : Fin 8, S256x2048.Slices ![0, 256 * h.val] S256x256 := by decide +kernel
theorem key_fits : ∀ h : Fin 8, S256x2048.Slices ![0, 128 * h.val] S256x128 := by decide +kernel

/-- The matrix of the rotary embedding. -/
def turnM : FVec Ideal S128x128 .f32 :=
  k0_pay14 (iota .tc S128x128 32 [0] iota_S128x128_d0_w32) (iota .tc S128x128 32 [1] iota_S128x128_d1_w32) (k0_pay12 (F := Ideal)) k0_pay13

section heads
variable (x : FVec Ideal S256x2048 .f32) (g : FVec Ideal S1x256 .f32) (s : FVec Ideal S256x128 .f32) (c n : FVec Ideal S256x128 .f32)

/-- The rotary embedding of 128 lanes. -/
def turnV (u : FVec Ideal S256x128 .f32) : FVec Ideal S256x128 .f32 :=
  addf (mulf u c) (mulf (matmul dot_S256x128_S128x128_S256x128_1_0_0_1_n_n (some .fp32) u turnM (constant S256x128 .f32 0x00000000#32)) n)

/-- A head of the queries. -/
def headV (h : Fin 8) : FVec Ideal S256x256 .f32 := extractStridedSlice S256x256 ![0, 256 * h.val] x (head_fits h)

/-- The same normalised. -/
def normV (h : Fin 8) : FVec Ideal S256x256 .f32 :=
  mulf (mulf (headV x h) (broadcastTo S256x256 (rsqrt (addf (mulf (shapeCast S256x1 (multiReduction .add [1] S256 (mulf (headV x h) (headV x h)) 0x00000000#32 reduces_S256x256_S256 (.inl rfl) rfl) shapeCasts_S256_S256x1) (broadcast S256x1 (Named.named κ "r192" 0x3BAAAAAB#32))) (broadcast S256x1 (Scalar.ofBits .f32 0x358637BD#32)))) broadcasts_S256x1_S256x256)) (broadcastTo S256x256 g broadcasts_S1x256_S256x256)

/-- The queries' sixteen pieces. -/
def pieceQ (k : Fin 16) : FVec Ideal S256x128 .f32 :=
  if k.val % 2 = 0 then extractStridedSlice S256x128 ![0, 0] (normV x g ⟨k.val / 2, by omega⟩) slices_S256x256_o0_0_S256x128
  else turnV c n (extractStridedSlice S256x128 ![0, 128] (normV x g ⟨k.val / 2, by omega⟩) slices_S256x256_o0_128_S256x128)

/-- A head of the keys, its own part. -/
def keyV (h : Fin 8) : FVec Ideal S256x128 .f32 := extractStridedSlice S256x128 ![0, 128 * h.val] x (key_fits h)

/-- Its factor, the shared part counted. -/
def rateV (h : Fin 8) : FVec Ideal S256x1 .f32 :=
  rsqrt (addf (mulf (addf (shapeCast S256x1 (multiReduction .add [1] S256 (mulf (keyV x h) (keyV x h)) 0x00000000#32 reduces_S256x128_S256 (.inl rfl) rfl) shapeCasts_S256_S256x1) (shapeCast S256x1 (multiReduction .add [1] S256 (mulf s s) 0x00000000#32 reduces_S256x128_S256 (.inl rfl) rfl) shapeCasts_S256_S256x1)) (broadcast S256x1 (Named.named κ "r192" 0x3BAAAAAB#32))) (broadcast S256x1 (Scalar.ofBits .f32 0x358637BD#32)))

/-- The keys' sixteen pieces. -/
def pieceK (k : Fin 16) : FVec Ideal S256x128 .f32 :=
  if k.val % 2 = 0 then mulf (mulf (keyV x ⟨k.val / 2, by omega⟩) (broadcastTo S256x128 (rateV x s ⟨k.val / 2, by omega⟩) broadcasts_S256x1_S256x128)) (broadcastTo S256x128 (extractStridedSlice S1x128 ![0, 0] g slices_S1x256_o0_0_S1x128) broadcasts_S1x128_S256x128)
  else turnV c n (mulf (mulf s (broadcastTo S256x128 (rateV x s ⟨k.val / 2, by omega⟩) broadcasts_S256x1_S256x128)) (broadcastTo S256x128 (extractStridedSlice S1x128 ![0, 128] g slices_S1x256_o0_128_S1x128) broadcasts_S1x128_S256x128))

end heads

/-- Sixteen pieces side by side. -/
def rowV (f : Fin 16 → FVec Ideal S256x128 .f32) : FVec Ideal S256x2048 .f32 :=
  concatenate S256x2048 1 (List.ofFn fun k : Fin 16 => (⟨S256x128, f k⟩ : (s : Shape) × (s.Idx → Ideal .f32))) concatenates_S256x128_S256x128_S256x128_S256x128_S256x128_S256x128_S256x128_S256x128_S256x128_S256x128_S256x128_S256x128_S256x128_S256x128_S256x128_S256x128_S256x2048_d1

/-! The blocks are read as they are. -/

theorem read3 (x : Vec Ideal S256x512 .f32) : k0_pay3 (F := Ideal) x = x := funext fun j => by pointwise [k0_pay3]
theorem read4 (x : Vec Ideal S256x256 .f32) : k0_pay4 (F := Ideal) x = x := funext fun j => by pointwise [k0_pay4]
theorem read5 (x : Vec Ideal S256x128 .f32) : k0_pay5 (F := Ideal) x = x := funext fun j => by pointwise [k0_pay5]
theorem read6 (x : Vec Ideal S256x1 .f32) : k0_pay6 (F := Ideal) x = x := funext fun j => by pointwise [k0_pay6]
theorem read7 (x : Vec Ideal S1x256 .f32) : k0_pay7 (F := Ideal) x = x := funext fun j => by pointwise [k0_pay7]
theorem read8 (x : Vec Ideal S1x256 .f32) : k0_pay8 (F := Ideal) x = x := funext fun j => by pointwise [k0_pay8]
theorem read9 (x : Vec Ideal S512x2048 .bf16) : k0_pay9 (F := Ideal) x = x := funext fun j => by pointwise [k0_pay9]
theorem read10 (x : Vec Ideal S256x2048 .bf16) : k0_pay10 (F := Ideal) x = x := funext fun j => by pointwise [k0_pay10]
theorem read11 (x : Vec Ideal S1x128 .f32) : k0_pay11 (F := Ideal) x = x := funext fun j => by pointwise [k0_pay11]

section block
variable (x0 : Vec Ideal S256x512 .f32) (x1 : Vec Ideal S256x256 .f32) (x2 : Vec Ideal S256x128 .f32) (x3 : Vec Ideal S256x1 .f32) (x4 : Vec Ideal S1x512 .f32) (x5 : Vec Ideal S1x256 .f32) (x6 : Vec Ideal S1x256 .f32) (x7 : Vec Ideal S1x256 .f32) (x8 : Vec Ideal S512x2048 .bf16) (x9 : Vec Ideal S256x2048 .bf16) (x10 : Vec Ideal S1x128 .f32)

/-- The queries' block. -/
theorem q_text (y : S256x2048.Idx) : out0_11 (F := Ideal) x0 x1 x2 x3 x4 x5 x6 x7 x8 x9 x10 y
    = (truncf .bf16 (mulf (rowV (pieceQ (k0_pay18 x0 x4 x8) x6 (k0_pay16 x3 x10) (k0_pay17 x3 x10))) (broadcast S256x2048 (Named.named κ "qs" 0x3DD53B95#32))) bitsLt_bf16_f32 : FVec Ideal S256x2048 .bf16) y := by
  unfold_out out0_11
  frame_out
  simp only [read3, read4, read5, read6, read7, read8, read9, read10, read11]
  rfl

/-- The keys' block. -/
theorem k_text (y : S256x2048.Idx) : out0_12 (F := Ideal) x0 x1 x2 x3 x4 x5 x6 x7 x8 x9 x10 y
    = (truncf .bf16 (rowV (pieceK (k0_pay19 x1 x5 x9) x7 x2 (k0_pay16 x3 x10) (k0_pay17 x3 x10))) bitsLt_bf16_f32 : FVec Ideal S256x2048 .bf16) y := by
  unfold_out out0_12
  frame_out
  simp only [read3, read4, read5, read6, read7, read8, read9, read10, read11]
  rfl

/-- The values' block. -/
theorem v_text (y : S256x1024.Idx) : out0_13 (F := Ideal) x0 x1 x2 x3 x4 x5 x6 x7 x8 x9 x10 y
    = (truncf .bf16 (extractStridedSlice S256x1024 ![0, 1024] (k0_pay19 x1 x5 x9) slices_S256x2048_o0_1024_S256x1024) bitsLt_bf16_f32 : FVec Ideal S256x1024 .bf16) y := by
  unfold_out out0_13
  frame_out
  simp only [read3, read4, read5, read6, read7, read8, read9, read10, read11]
  rfl

end block

end Cert.PrepFwdIdeal.Value

end
-- ==== Proof.PrepEntries.lean ====
/- The entries of the block of rows that one step of the up-projections makes. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepTiles

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.Norms Cert.Prep

/-- The rotary matrix's masks. -/
theorem mask_first : ∀ k t : Fin 128, IntOp.andi (IntOp.cmpi .eq (BitVec.ofNat 32 k.val) (IntOp.addi (BitVec.ofNat 32 t.val) 32#32)) (IntOp.cmpi .slt (BitVec.ofNat 32 t.val) 32#32)
    = if k.val = t.val + 32 ∧ t.val < 32 then 1#1 else 0#1 := by
  decide +kernel

theorem mask_second : ∀ k t : Fin 128, IntOp.andi (IntOp.andi (IntOp.cmpi .eq (BitVec.ofNat 32 k.val) (IntOp.subi (BitVec.ofNat 32 t.val) 32#32)) (IntOp.cmpi .sge (BitVec.ofNat 32 t.val) 32#32)) (IntOp.cmpi .slt (BitVec.ofNat 32 t.val) 64#32)
    = if k.val + 32 = t.val ∧ t.val < 64 then 1#1 else 0#1 := by
  decide +kernel

/-- The word of minus one. -/
theorem minus_one : Ideal.ofBits .f32 0xBF800000#32 = -1 := by
  have e : Ideal.ofBits .f32 0xBF800000#32 = ((-1 : ℝ) : EReal) := by
    simp [Ideal.ofBits, Ideal.ieee, -EReal.coe_mul]; norm_num
  rw [e, EReal.coe_neg, EReal.coe_one]

theorem turnM_at (k t : Fin 128) : turnM (ix2 k t) = turner k t := by
  pointwise [turnM, k0_pay12, k0_pay13, k0_pay14]
  rw [mask_first, mask_second, minus_one]
  unfold turner Scalar.select
  by_cases h : k.val = t.val + 32 ∧ t.val < 32
  · rw [if_pos h, if_pos h, if_neg (show ¬(k.val + 32 = t.val ∧ t.val < 64) by omega)]
    simp
  · rw [if_neg h, if_neg h]
    by_cases h' : k.val + 32 = t.val ∧ t.val < 64
    · rw [if_pos h', if_pos h']; simp
    · rw [if_neg h', if_neg h']; simp

section heads
variable (x : FVec Ideal S256x2048 .f32) (g : FVec Ideal S1x256 .f32) (s : FVec Ideal S256x128 .f32) (c n : FVec Ideal S256x128 .f32)

theorem turnV_at (u : FVec Ideal S256x128 .f32) (a : Fin 256) (t : Fin 128) :
    turnV c n u (ix2 a t) = lanes (fun t => u (ix2 a t)) (fun t => c (ix2 a t)) (fun t => n (ix2 a t)) t := by
  pointwise [turnV]
  unfold lanes
  simp only [turnM_at]

theorem headV_at (h : Fin 8) (a d : Fin 256) : headV x h (ix2 a d) = x (ix2 a ⟨256 * h.val + d.val, by omega⟩) := by
  pointwise [headV]

theorem normV_at (h : Fin 8) (a d : Fin 256) : normV x g h (ix2 a d)
    = scaled ((192⁻¹ : ℝ) : EReal) (fun d => x (ix2 a ⟨256 * h.val + d.val, by omega⟩)) (fun d => g (ix2 0 d)) d := by
  pointwise [normV, r192_name]
  simp only [headV_at]
  rfl

theorem keyV_at (h : Fin 8) (a : Fin 256) (d : Fin 128) : keyV x h (ix2 a d) = x (ix2 a ⟨128 * h.val + d.val, by omega⟩) := by
  pointwise [keyV]

theorem rateV_at (h : Fin 8) (a : Fin 256) : rateV x s h (ix2 a 0)
    = Ideal.rsqrt ((∑ k : Fin 128, x (ix2 a ⟨128 * h.val + k.val, by omega⟩) * x (ix2 a ⟨128 * h.val + k.val, by omega⟩) + ∑ t : Fin 128, s (ix2 a t) * s (ix2 a t)) * ((192⁻¹ : ℝ) : EReal) + Ideal.ofBits .f32 0x358637BD#32) := by
  pointwise [rateV, r192_name]
  simp only [keyV_at]

/-- The piece of the row at a column. -/
theorem rowV_at (f : Fin 16 → FVec Ideal S256x128 .f32) (k : Fin 16) (a : Fin 256) (t : Fin 128) :
    rowV f (ix2 a ⟨128 * k.val + t.val, by omega⟩) = f k (ix2 a t) := by
  refine concatenate_ofFn_apply (t := S256x2048) 1 f _ rfl 128 rfl (ix2 a ⟨128 * k.val + t.val, by omega⟩) k ?_ (ix2 a t) ?_ ?_
  · show (128 * k.val + t.val) / 128 = k.val; omega
  · show t.val = (128 * k.val + t.val) % 128; omega
  · intro b hb
    match b with
    | ⟨0, _⟩ => rfl
    | ⟨1, _⟩ => exact absurd rfl hb

theorem pieceQ_even (h : Fin 8) (a : Fin 256) (t : Fin 128) : pieceQ x g c n ⟨2 * h.val, by omega⟩ (ix2 a t)
    = scaled ((192⁻¹ : ℝ) : EReal) (fun d => x (ix2 a ⟨256 * h.val + d.val, by omega⟩)) (fun d => g (ix2 0 d)) ⟨t.val, by omega⟩ := by
  unfold pieceQ
  rw [if_pos (by show 2 * h.val % 2 = 0; omega), show (⟨(⟨2 * h.val, by omega⟩ : Fin 16).val / 2, by omega⟩ : Fin 8) = h from Fin.ext (by show 2 * h.val / 2 = h.val; omega), ← normV_at]
  pointwise []

theorem pieceQ_odd (h : Fin 8) (a : Fin 256) (t : Fin 128) : pieceQ x g c n ⟨2 * h.val + 1, by omega⟩ (ix2 a t)
    = lanes (fun t => scaled ((192⁻¹ : ℝ) : EReal) (fun d => x (ix2 a ⟨256 * h.val + d.val, by omega⟩)) (fun d => g (ix2 0 d)) ⟨128 + t.val, by omega⟩)
      (fun t => c (ix2 a t)) (fun t => n (ix2 a t)) t := by
  unfold pieceQ
  rw [if_neg (by show ¬(2 * h.val + 1) % 2 = 0; omega), show (⟨(⟨2 * h.val + 1, by omega⟩ : Fin 16).val / 2, by omega⟩ : Fin 8) = h from Fin.ext (by show (2 * h.val + 1) / 2 = h.val; omega), turnV_at]
  refine congrArg (fun u => lanes u _ _ t) (funext fun t => ?_)
  rw [← normV_at]
  pointwise []

theorem pieceK_even (h : Fin 8) (a : Fin 256) (t : Fin 128) : pieceK x g s c n ⟨2 * h.val, by omega⟩ (ix2 a t)
    = x (ix2 a ⟨128 * h.val + t.val, by omega⟩) * rateV x s h (ix2 a 0) * g (ix2 0 ⟨t.val, by omega⟩) := by
  unfold pieceK
  rw [if_pos (by show 2 * h.val % 2 = 0; omega), show (⟨(⟨2 * h.val, by omega⟩ : Fin 16).val / 2, by omega⟩ : Fin 8) = h from Fin.ext (by show 2 * h.val / 2 = h.val; omega), ← keyV_at x h a t]
  pointwise []

theorem pieceK_odd (h : Fin 8) (a : Fin 256) (t : Fin 128) : pieceK x g s c n ⟨2 * h.val + 1, by omega⟩ (ix2 a t)
    = lanes (fun t => s (ix2 a t) * rateV x s h (ix2 a 0) * g (ix2 0 ⟨128 + t.val, by omega⟩)) (fun t => c (ix2 a t)) (fun t => n (ix2 a t)) t := by
  unfold pieceK
  rw [if_neg (by show ¬(2 * h.val + 1) % 2 = 0; omega), show (⟨(⟨2 * h.val + 1, by omega⟩ : Fin 16).val / 2, by omega⟩ : Fin 8) = h from Fin.ext (by show (2 * h.val + 1) / 2 = h.val; omega), turnV_at]
  refine congrArg (fun u => lanes u _ _ t) (funext fun t => ?_)
  pointwise []

end heads

/-- The queries' product. -/
theorem q_product (x : Vec Ideal S256x512 .f32) (g : Vec Ideal S1x512 .f32) (w : Vec Ideal S512x2048 .bf16) (a : Fin 256) (j : Fin 2048) :
    k0_pay18 (F := Ideal) x g w (ix2 a j) = latent ((1 / 512 : ℝ) : EReal) (fun l => x (ix2 a l)) (fun l => g (ix2 0 l)) (fun l j => w (ix2 l j)) j := by
  pointwise [k0_pay18, latent, scaled, rate, power]
  rw [inv512]

/-- The keys' and values' product. -/
theorem kv_product (x : Vec Ideal S256x256 .f32) (g : Vec Ideal S1x256 .f32) (w : Vec Ideal S256x2048 .bf16) (a : Fin 256) (j : Fin 2048) :
    k0_pay19 (F := Ideal) x g w (ix2 a j) = latent ((1 / 256 : ℝ) : EReal) (fun l => x (ix2 a l)) (fun l => g (ix2 0 l)) (fun l j => w (ix2 l j)) j := by
  pointwise [k0_pay19, latent, scaled, rate, power]
  rw [inv256]

/-- The angles' cosines and sines. -/
theorem cos_at (p : Vec Ideal S256x1 .f32) (f : Vec Ideal S1x128 .f32) (a : Fin 256) (t : Fin 128) : k0_pay16 (F := Ideal) p f (ix2 a t) = Ideal.cos (p (ix2 a 0) * f (ix2 0 t)) := by
  pointwise [k0_pay16, k0_pay15]

theorem sin_at (p : Vec Ideal S256x1 .f32) (f : Vec Ideal S1x128 .f32) (a : Fin 256) (t : Fin 128) : k0_pay17 (F := Ideal) p f (ix2 a t) = Ideal.sin (p (ix2 a 0) * f (ix2 0 t)) := by
  pointwise [k0_pay17, k0_pay15]

end Cert.PrepFwdIdeal.Value

end
-- ==== Proof.PrepHeads.lean ====
/- The blocks of the up-projections, by head, from what the operands hold. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepEntries

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.Norms Cert.Prep

section tiles
variable (x : FVec Ideal S256x2048 .f32) (g : FVec Ideal S1x256 .f32) (s : FVec Ideal S256x128 .f32) (c n : FVec Ideal S256x128 .f32)
variable (a : Fin 256) (h : Fin 8) (gg : Fin 192 → EReal) (cs sn : Fin 32 → EReal)

/-- Two pieces of a head: its first 128 lanes and its last. -/
theorem rowV_head (f : Fin 16 → FVec Ideal S256x128 .f32) (v : Fin 256 → EReal)
    (he : ∀ t : Fin 128, f ⟨2 * h.val, by omega⟩ (ix2 a t) = v ⟨t.val, by omega⟩)
    (ho : ∀ t : Fin 128, f ⟨2 * h.val + 1, by omega⟩ (ix2 a t) = v ⟨128 + t.val, by omega⟩) (d : Fin 256) :
    rowV f (ix2 a ⟨256 * h.val + d.val, by omega⟩) = v d := by
  by_cases hd : d.val < 128
  · refine Eq.trans (congrArg (fun z => rowV f (ix2 a z)) (Fin.ext ?_)) ((rowV_at f ⟨2 * h.val, by omega⟩ a ⟨d.val, hd⟩).trans (he ⟨d.val, hd⟩))
    show 256 * h.val + d.val = 128 * (2 * h.val) + d.val; omega
  · refine Eq.trans (congrArg (fun z => rowV f (ix2 a z)) (Fin.ext ?_)) ((rowV_at f ⟨2 * h.val + 1, by omega⟩ a ⟨d.val - 128, by omega⟩).trans ((ho ⟨d.val - 128, by omega⟩).trans (congrArg v (Fin.ext ?_))))
    · show 256 * h.val + d.val = 128 * (2 * h.val + 1) + (d.val - 128); omega
    · show 128 + (d.val - 128) = d.val; omega

/-- A head's first 128 entries are not embedded. -/
theorem padded_first (f : Fin 192 → EReal) (t : Fin 128) : padded (rotated f cs sn) ⟨t.val, by omega⟩ = f ⟨t.val, by omega⟩ := by
  unfold padded rotated
  rw [dif_pos (show t.val < 192 by omega), dif_pos (show t.val < 128 from t.isLt)]

/-- A head of the queries' block. -/
theorem tileQ (f : Fin 192 → EReal) (hx : ∀ d : Fin 256, x (ix2 a ⟨256 * h.val + d.val, by omega⟩) = padded f d)
    (hg : ∀ d : Fin 256, g (ix2 0 d) = padded gg d) (hc : ∀ t : Fin 128, t.val < 64 → c (ix2 a t) = cs ⟨t.val % 32, by omega⟩)
    (hn : ∀ t : Fin 128, t.val < 64 → n (ix2 a t) = sn ⟨t.val % 32, by omega⟩) (d : Fin 256) :
    rowV (pieceQ x g c n) (ix2 a ⟨256 * h.val + d.val, by omega⟩) = padded (rotated (scaled ((192⁻¹ : ℝ) : EReal) f gg) cs sn) d := by
  have hs : ∀ d, scaled ((192⁻¹ : ℝ) : EReal) (fun d : Fin 256 => x (ix2 a ⟨256 * h.val + d.val, by omega⟩)) (fun d => g (ix2 0 d)) d
      = padded (scaled ((192⁻¹ : ℝ) : EReal) f gg) d := fun d => by
    rw [funext hx, funext hg]; exact scaled_padded _ f gg d
  refine rowV_head a h _ _ (fun t => ?_) (fun t => ?_) d
  · rw [pieceQ_even, hs, padded_first]
    unfold padded
    rw [dif_pos (show t.val < 192 by omega)]
  · rw [pieceQ_odd]
    refine lanes_eq (scaled ((192⁻¹ : ℝ) : EReal) f gg) _ _ _ cs sn (fun t => ?_) hc hn t
    rw [hs]
    unfold padded
    by_cases ht : t.val < 64
    · rw [dif_pos ht, dif_pos (show 128 + t.val < 192 by omega)]
    · rw [dif_neg ht, dif_neg (show ¬128 + t.val < 192 by omega)]

/-- A head of the keys' block. -/
theorem tileK (u : Fin 128 → EReal) (w : Fin 64 → EReal) (hx : ∀ d : Fin 128, x (ix2 a ⟨128 * h.val + d.val, by omega⟩) = u d)
    (hs : ∀ t : Fin 128, s (ix2 a t) = wide w t)
    (hg : ∀ d : Fin 256, g (ix2 0 d) = padded gg d) (hc : ∀ t : Fin 128, t.val < 64 → c (ix2 a t) = cs ⟨t.val % 32, by omega⟩)
    (hn : ∀ t : Fin 128, t.val < 64 → n (ix2 a t) = sn ⟨t.val % 32, by omega⟩) (d : Fin 256) :
    rowV (pieceK x g s c n) (ix2 a ⟨256 * h.val + d.val, by omega⟩) = padded (rotated (scaled ((192⁻¹ : ℝ) : EReal) (joined u w) gg) cs sn) d := by
  have hr : rateV x s h (ix2 a 0) = rate ((192⁻¹ : ℝ) : EReal) (joined u w) := by
    rw [rateV_at]
    simp only [hx, hs]
    rw [sum_joined]
    rfl
  refine rowV_head a h _ _ (fun t => ?_) (fun t => ?_) d
  · rw [pieceK_even, hr, hx, hg, padded_first]
    unfold padded scaled joined
    rw [dif_pos (show t.val < 192 by omega), dif_pos (show t.val < 128 from t.isLt)]
  · rw [pieceK_odd]
    refine lanes_eq (scaled ((192⁻¹ : ℝ) : EReal) (joined u w) gg) _ _ _ cs sn (fun t => ?_) hc hn t
    rw [hs, hr, hg]
    by_cases ht : t.val < 64
    · unfold padded wide scaled
      rw [dif_pos ht, dif_pos ht, dif_pos (show 128 + t.val < 192 by omega)]
      refine congrArg (fun z => z * _ * _) ?_
      unfold joined
      rw [dif_neg (show ¬128 + t.val < 128 by omega)]
      exact congrArg w (Fin.ext (show t.val = 128 + t.val - 128 by omega))
    · rw [dif_neg ht, wide, dif_neg ht, zero_mul, zero_mul]

end tiles

end Cert.PrepFwdIdeal.Value

end
-- ==== Proof.PrepSpec.lean ====
/- The heads of queries, keys and values from the arguments, and the host lines that prepare the operands. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepRows

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.Norms Cert.Prep

section spec
variable (a0 : FVec Ideal S8192x512 .f32) (a1 : FVec Ideal S8192x256 .f32) (a2 : FVec Ideal S8192x64 .f32) (a3 : IVec S8192 32) (a4 : FVec Ideal S1x512 .f32) (a5 : FVec Ideal S1x256 .f32) (a6 a7 : FVec Ideal S1x192 .f32) (a8 : FVec Ideal S512x1536 .f32) (a9 : FVec Ideal S256x2048 .f32)

/-- The 32 frequencies. -/
def halfV : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- A row's position. -/
def place (r : Fin 8192) : EReal := (sitofp .f32 a3 : FVec Ideal S8192 .f32) (ix1 r)

/-- A row's angles. -/
def angle (r : Fin 8192) (i : Fin 32) : EReal := place a3 r * halfV (ix1 i)

/-- A head of the queries before its norm. -/
def headQ (r : Fin 8192) (h : Fin 8) : Fin 192 → EReal :=
  latent ((1 / 512 : ℝ) : EReal) (fun l => a0 (ix2 r l)) (fun l => a4 (ix2 0 l)) (fun l d => a8 (ix2 l ⟨192 * h.val + d.val, by omega⟩))

/-- The keys' and values' latent product. -/
def lowKV (r : Fin 8192) : Fin 2048 → EReal :=
  latent ((1 / 256 : ℝ) : EReal) (fun l => a1 (ix2 r l)) (fun l => a5 (ix2 0 l)) (fun l d => a9 (ix2 l d))

/-- A head of the keys before its norm. -/
def headK (r : Fin 8192) (h : Fin 8) : Fin 192 → EReal :=
  joined (fun d => lowKV a1 a5 a9 r ⟨256 * h.val + d.val, by omega⟩) (fun t => a2 (ix2 r t))

/-- A head normalised and embedded. -/
def finish (f : Fin 192 → EReal) (g : FVec Ideal S1x192 .f32) (r : Fin 8192) : Fin 192 → EReal :=
  rotated (scaled ((192⁻¹ : ℝ) : EReal) f (fun d => g (ix2 0 d))) (fun i => Ideal.cos (angle a3 r i)) (fun i => Ideal.sin (angle a3 r i))

/-- The queries. -/
def queries : FVec Ideal S8192x2048 .bf16 := fun i =>
  padded (finish a3 (headQ a0 a4 a8 (i 0) ⟨(i 1).val / 256, by have : (i 1).val < 2048 := (i 1).isLt; omega⟩) a6 (i 0)) ⟨(i 1).val % 256, by omega⟩
    * (((Real.sqrt 192)⁻¹ * (Real.log 2)⁻¹ : ℝ) : EReal)

/-- The keys. -/
def keys : FVec Ideal S8192x2048 .bf16 := fun i =>
  padded (finish a3 (headK a1 a2 a5 a9 (i 0) ⟨(i 1).val / 256, by have : (i 1).val < 2048 := (i 1).isLt; omega⟩) a7 (i 0)) ⟨(i 1).val % 256, by omega⟩

/-- The values. -/
def values : FVec Ideal S8192x1024 .bf16 := fun i =>
  lowKV a1 a5 a9 (i 0) ⟨256 * ((i 1).val / 128) + 128 + (i 1).val % 128, by have : (i 1).val < 1024 := (i 1).isLt; omega⟩

/-- The three row operands side by side, as the host lays them out. -/
def projV : FVec Ideal S8192x5120 .f32 :=
  pad S8192x5120 ![0, 4096] ![0, 128] ![0, 0] (concatenate S8192x896 1 [⟨S8192x512, a0⟩, ⟨S8192x256, a1⟩, ⟨S8192x128, pad S8192x128 ![0, 0] ![0, 64] ![0, 0] a2 (sitofp .f32 (constantI S_ 32 0#32)) pads_S8192x64_S8192x128_000_0640 h_S_⟩] concatenates_S8192x512_S8192x256_S8192x128_S8192x896_d1) (sitofp .f32 (constantI S_ 32 0#32)) pads_S8192x896_S8192x5120_000_40961280 h_S_

def placeV : FVec Ideal S8192x1 .f32 := shapeCast S8192x1 (sitofp .f32 a3 : FVec Ideal S8192 .f32) shapeCasts_S8192_S8192x1

def freqV : FVec Ideal S1x128 .f32 :=
  pad S1x128 ![0, 0] ![0, 64] ![0, 0] (shapeCast S1x64 (concatenate S64 0 [⟨S32, halfV⟩, ⟨S32, halfV⟩] concatenates_S32_S32_S64_d0) shapeCasts_S64_S1x64) (sitofp .f32 (constantI S_ 32 0#32)) pads_S1x64_S1x128_000_0640 h_S_

def gainV : FVec Ideal S1x256 .f32 := pad S1x256 ![0, 0] ![0, 64] ![0, 0] a6 (sitofp .f32 (constantI S_ 32 0#32)) pads_S1x192_S1x256_000_0640 h_S_

def weightQ : FVec Ideal S512x2048 .bf16 :=
  shapeCast S512x2048 (pad S512x8x256 ![0, 0, 0] ![0, 0, 64] ![0, 0, 0] (shapeCast S512x8x192 (truncf .bf16 a8 bitsLt_bf16_f32) shapeCasts_S512x1536_S512x8x192) (sitofp .bf16 (constantI S_ 32 0#32)) pads_S512x8x192_S512x8x256_000_000_0640 h_S_) shapeCasts_S512x8x256_S512x2048

def weightKV : FVec Ideal S256x2048 .bf16 :=
  shapeCast S256x2048 (transpose S256x2x8x128 [0, 2, 1, 3] (shapeCast S256x8x2x128 (truncf .bf16 a9 bitsLt_bf16_f32) shapeCasts_S256x2048_S256x8x2x128) transposes_S256x8x2x128_S256x2x8x128_0_2_1_3) shapeCasts_S256x2x8x128_S256x2048

/-- The word zero converted. -/
theorem zero_f32 : FloatOps.sitofp (F := Ideal) .f32 (0#32) = (0 : EReal) := by
  show (((0#32 : BitVec 32).toInt : ℝ) : EReal) = 0
  simp

theorem zero_bf16 : FloatOps.sitofp (F := Ideal) .bf16 (0#32) = (0 : EReal) := by
  show (((0#32 : BitVec 32).toInt : ℝ) : EReal) = 0
  simp

theorem proj_q (r : Fin 8192) (k : Fin 512) : projV a0 a1 a2 (ix2 r ⟨4096 + k.val, by omega⟩) = a0 (ix2 r k) := by
  pointwise [projV]
  rw [dif_pos (by omega)]

theorem proj_kv (r : Fin 8192) (k : Fin 256) : projV a0 a1 a2 (ix2 r ⟨4608 + k.val, by omega⟩) = a1 (ix2 r k) := by
  pointwise [projV]
  rw [dif_pos (by omega), dif_neg (by omega), dif_pos (by omega)]
  exact congrArg (fun z => a1 (ix2 r z)) (Fin.ext (show 4608 + k.val - 4096 - 512 = k.val by omega))

theorem proj_pe (r : Fin 8192) (k : Fin 128) : projV a0 a1 a2 (ix2 r ⟨4864 + k.val, by omega⟩) = wide (fun t => a2 (ix2 r t)) k := by
  pointwise [projV, wide]
  rw [dif_pos (by omega), dif_neg (by omega), dif_neg (by omega)]
  refine dite_congr (propext ⟨fun _ => by omega, fun _ => by omega⟩) (fun h => ?_) fun _ => zero_f32
  exact congrArg (fun z => a2 (ix2 r z)) (Fin.ext (show 4864 + k.val - 4096 - 512 - 256 = k.val by omega))

theorem place_at (r : Fin 8192) : placeV a3 (ix2 r 0) = place a3 r := by
  pointwise [placeV, place]

theorem freq_at (t : Fin 128) (h : t.val < 64) : freqV (ix2 0 t) = halfV (ix1 ⟨t.val % 32, by omega⟩) := by
  pointwise [freqV]
  rw [dif_pos h]
  by_cases h' : t.val < 32
  · rw [dif_pos h']
    exact congrArg (fun z => halfV (ix1 z)) (Fin.ext (show t.val = t.val % 32 by omega))
  · rw [dif_neg h']
    exact congrArg (fun z => halfV (ix1 z)) (Fin.ext (show t.val - 32 = t.val % 32 by omega))

theorem gain_at (d : Fin 256) : gainV a6 (ix2 0 d) = padded (fun d => a6 (ix2 0 d)) d := by
  pointwise [gainV, padded]
  rw [zero_f32]

theorem weightQ_at (l : Fin 512) (h : Fin 8) (d : Fin 256) : weightQ a8 (ix2 l ⟨256 * h.val + d.val, by omega⟩) = padded (fun d => a8 (ix2 l ⟨192 * h.val + d.val, by omega⟩)) d := by
  pointwise [weightQ, padded]
  rw [zero_bf16]
  refine dite_congr rfl (fun _ => ?_) fun _ => rfl
  exact congrArg (fun z => a8 (ix2 l z)) (Fin.ext (show h.val * 192 + d.val = 192 * h.val + d.val by omega))

theorem weightK_at (l : Fin 256) (h : Fin 8) (d : Fin 128) : weightKV a9 (ix2 l ⟨128 * h.val + d.val, by omega⟩) = a9 (ix2 l ⟨256 * h.val + d.val, by omega⟩) := by
  pointwise [weightKV]
  exact congrArg (fun z => a9 (ix2 l z)) (Fin.ext (show h.val * 256 + (128 * h.val + d.val) / 1024 * 128 + d.val = 256 * h.val + d.val by omega))

theorem weightV_at (l : Fin 256) (j : Fin 1024) : weightKV a9 (ix2 l ⟨1024 + j.val, by omega⟩) = a9 (ix2 l ⟨256 * (j.val / 128) + 128 + j.val % 128, by omega⟩) := by
  pointwise [weightKV]
  exact congrArg (fun z => a9 (ix2 l z)) (Fin.ext (show (1024 + j.val) / 128 % 8 * 256 + (1024 + j.val) / 1024 * 128 + (1024 + j.val) % 128 = 256 * (j.val / 128) + 128 + j.val % 128 by omega))

end spec

end Cert.PrepFwdIdeal.Value

end
-- ==== Proof.PrepForward.lean ====
/- The up-projections, forward: what the kernel leaves in its three results. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepHeads
public import proofs.«01_k».proof.Proof.PrepSpec

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.Norms Cert.Prep

variable (m : (ℓ : Loc nD τ sig) → Buf (Elt Ideal) ℓ)

/-- Which block each window shows at point `t`. -/
theorem at_point : ∀ t : Fin cfg0.N, win0_0.index t = ![t.val, 8] ∧ win0_1.index t = ![t.val, 18] ∧ win0_2.index t = ![t.val, 38]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] ∧ win0_12.index t = ![t.val, 0] ∧ win0_13.index t = ![t.val, 0] :=
  (by decide +kernel : ∀ t : Fin grid0.N, _)

/-- Row `a` of the blocks at point `t`. -/
def at_row (t : Fin cfg0.N) (a : Fin 256) : Fin 8192 := ⟨t.val * 256 + a.val, by have := t.isLt; have : cfg0.N = 32 := rfl; omega⟩

/-! The host's lines for each operand. -/

theorem proj_text (c : Dev nD) : V m c main_v2 = projV (m ((c : Thread nD τ).loc main_arg0)) (m ((c : Thread nD τ).loc main_arg1)) (m ((c : Thread nD τ).loc main_arg2)) := by
  rfl

theorem place_text (c : Dev nD) : V m c main_v4 = placeV (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

theorem freq_text (c : Dev nD) : V m c main_v13 = freqV := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

theorem gainQ_text (c : Dev nD) : V m c main_v22 = gainV (m ((c : Thread nD τ).loc main_arg6)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

theorem gainK_text (c : Dev nD) : V m c main_v23 = gainV (m ((c : Thread nD τ).loc main_arg7)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

theorem weightQ_text (c : Dev nD) : V m c main_v17 = weightQ (m ((c : Thread nD τ).loc main_arg8)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

theorem weightKV_text (c : Dev nD) : V m c main_v21 = weightKV (m ((c : Thread nD τ).loc main_arg9)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.after_cons, StableHlo.after_nil]
  after_results_simp
  after_results_loop
  rfl

/-! The operands' blocks at point `t`. -/

theorem block_0 (c : Dev nD) (t : Fin cfg0.N) (a : Fin 256) (k : Fin 512) : iblk m c 0 t (ix2 a k) = (m ((c : Thread nD τ).loc main_arg0)) (ix2 (at_row t a) k) := by
  rw [← proj_q (m ((c : Thread nD τ).loc main_arg0)) (m ((c : Thread nD τ).loc main_arg1)) (m ((c : Thread nD τ).loc main_arg2))]
  rw [← proj_text m c]
  unfold at_row
  blk_point [iblk, at_point t]

theorem block_1 (c : Dev nD) (t : Fin cfg0.N) (a : Fin 256) (k : Fin 256) : iblk m c 1 t (ix2 a k) = (m ((c : Thread nD τ).loc main_arg1)) (ix2 (at_row t a) k) := by
  rw [← proj_kv (m ((c : Thread nD τ).loc main_arg0)) (m ((c : Thread nD τ).loc main_arg1)) (m ((c : Thread nD τ).loc main_arg2))]
  rw [← proj_text m c]
  unfold at_row
  blk_point [iblk, at_point t]

theorem block_2 (c : Dev nD) (t : Fin cfg0.N) (a : Fin 256) (k : Fin 128) : iblk m c 2 t (ix2 a k) = wide (fun s => (m ((c : Thread nD τ).loc main_arg2)) (ix2 (at_row t a) s)) k := by
  rw [← proj_pe (m ((c : Thread nD τ).loc main_arg0)) (m ((c : Thread nD τ).loc main_arg1)) (m ((c : Thread nD τ).loc main_arg2))]
  rw [← proj_text m c]
  unfold at_row
  blk_point [iblk, at_point t]

theorem block_3 (c : Dev nD) (t : Fin cfg0.N) (a : Fin 256) : iblk m c 3 t (ix2 a 0) = place (m ((c : Thread nD τ).loc main_arg3)) (at_row t a) := by
  rw [← place_at (m ((c : Thread nD τ).loc main_arg3))]
  rw [← place_text m c]
  unfold at_row
  blk_point [iblk, at_point t]

theorem block_4 (c : Dev nD) (t : Fin cfg0.N) (k : Fin 512) : iblk m c 4 t (ix2 0 k) = (m ((c : Thread nD τ).loc main_arg4)) (ix2 0 k) := by
  blk_point [iblk, V, at_point t]

theorem block_5 (c : Dev nD) (t : Fin cfg0.N) (k : Fin 256) : iblk m c 5 t (ix2 0 k) = (m ((c : Thread nD τ).loc main_arg5)) (ix2 0 k) := by
  blk_point [iblk, V, at_point t]

theorem block_6 (c : Dev nD) (t : Fin cfg0.N) (d : Fin 256) : iblk m c 6 t (ix2 0 d) = padded (fun d => (m ((c : Thread nD τ).loc main_arg6)) (ix2 0 d)) d := by
  rw [← gain_at (m ((c : Thread nD τ).loc main_arg6))]
  rw [← gainQ_text m c]
  blk_point [iblk, at_point t]

theorem block_7 (c : Dev nD) (t : Fin cfg0.N) (d : Fin 256) : iblk m c 7 t (ix2 0 d) = padded (fun d => (m ((c : Thread nD τ).loc main_arg7)) (ix2 0 d)) d := by
  rw [← gain_at (m ((c : Thread nD τ).loc main_arg7))]
  rw [← gainK_text m c]
  blk_point [iblk, at_point t]

theorem block_8 (c : Dev nD) (t : Fin cfg0.N) (l : Fin 512) (j : Fin 2048) : iblk m c 8 t (ix2 l j) = weightQ (m ((c : Thread nD τ).loc main_arg8)) (ix2 l j) := by
  rw [← weightQ_text m c]
  blk_point [iblk, at_point t]

theorem block_9 (c : Dev nD) (t : Fin cfg0.N) (l : Fin 256) (j : Fin 2048) : iblk m c 9 t (ix2 l j) = weightKV (m ((c : Thread nD τ).loc main_arg9)) (ix2 l j) := by
  rw [← weightKV_text m c]
  blk_point [iblk, at_point t]

theorem block_10 (c : Dev nD) (t : Fin cfg0.N) (k : Fin 128) : iblk m c 10 t (ix2 0 k) = freqV (ix2 0 k) := by
  rw [← freq_text m c]
  blk_point [iblk, at_point t]

theorem out_index_11 (t : Fin cfg0.N) (y : S256x2048.Idx) :
    ((View.whole main_v24_0).slice (win0_11.rect t)).emb y = (ix2 (at_row t (y 0)) (y 1) : S8192x2048.Idx) := by
  unfold at_row
  blk_point [at_point t]

theorem out_index_12 (t : Fin cfg0.N) (y : S256x2048.Idx) :
    ((View.whole main_v24_1).slice (win0_12.rect t)).emb y = (ix2 (at_row t (y 0)) (y 1) : S8192x2048.Idx) := by
  unfold at_row
  blk_point [at_point t]

theorem out_index_13 (t : Fin cfg0.N) (y : S256x1024.Idx) :
    ((View.whole main_v24_2).slice (win0_13.rect t)).emb y = (ix2 (at_row t (y 0)) (y 1) : S8192x1024.Idx) := by
  unfold at_row
  blk_point [at_point t]

/-! What the operands' blocks make at point `t`. -/

theorem cos_block (c : Dev nD) (t : Fin cfg0.N) (a : Fin 256) (s : Fin 128) (h : s.val < 64) :
    k0_pay16 (F := Ideal) (iblk m c 3 t) (iblk m c 10 t) (ix2 a s) = Ideal.cos (angle (m ((c : Thread nD τ).loc main_arg3)) (at_row t a) ⟨s.val % 32, by omega⟩) := by
  rw [cos_at, block_3, block_10, freq_at s h]; rfl

theorem sin_block (c : Dev nD) (t : Fin cfg0.N) (a : Fin 256) (s : Fin 128) (h : s.val < 64) :
    k0_pay17 (F := Ideal) (iblk m c 3 t) (iblk m c 10 t) (ix2 a s) = Ideal.sin (angle (m ((c : Thread nD τ).loc main_arg3)) (at_row t a) ⟨s.val % 32, by omega⟩) := by
  rw [sin_at, block_3, block_10, freq_at s h]; rfl

theorem q_block (c : Dev nD) (t : Fin cfg0.N) (a : Fin 256) (h : Fin 8) (d : Fin 256) :
    k0_pay18 (F := Ideal) (iblk m c 0 t) (iblk m c 4 t) (iblk m c 8 t) (ix2 a ⟨256 * h.val + d.val, by omega⟩)
      = padded (headQ (m ((c : Thread nD τ).loc main_arg0)) (m ((c : Thread nD τ).loc main_arg4)) (m ((c : Thread nD τ).loc main_arg8)) (at_row t a) h) d := by
  rw [q_product]
  unfold headQ
  rw [← latent_padded]
  unfold latent
  simp only [block_0, block_4, block_8, weightQ_at]

theorem kv_block (c : Dev nD) (t : Fin cfg0.N) (a : Fin 256) (j j' : Fin 2048)
    (hw : ∀ l, weightKV (m ((c : Thread nD τ).loc main_arg9)) (ix2 l j) = (m ((c : Thread nD τ).loc main_arg9)) (ix2 l j')) :
    k0_pay19 (F := Ideal) (iblk m c 1 t) (iblk m c 5 t) (iblk m c 9 t) (ix2 a j) = lowKV (m ((c : Thread nD τ).loc main_arg1)) (m ((c : Thread nD τ).loc main_arg5)) (m ((c : Thread nD τ).loc main_arg9)) (at_row t a) j' := by
  rw [kv_product]
  unfold lowKV latent
  simp only [block_1, block_5, block_9, hw]

theorem entry_q (c : Dev nD) (t : Fin cfg0.N) (a : Fin 256) (j : Fin 2048) :
    (truncf .bf16 (mulf (rowV (pieceQ (k0_pay18 (F := Ideal) (iblk m c 0 t) (iblk m c 4 t) (iblk m c 8 t)) (iblk m c 6 t) (k0_pay16 (F := Ideal) (iblk m c 3 t) (iblk m c 10 t)) (k0_pay17 (F := Ideal) (iblk m c 3 t) (iblk m c 10 t)))) (broadcast S256x2048 (Named.named κ "qs" 0x3DD53B95#32))) bitsLt_bf16_f32 : FVec Ideal S256x2048 .bf16) (ix2 a j)
      = queries (m ((c : Thread nD τ).loc main_arg0)) (m ((c : Thread nD τ).loc main_arg3)) (m ((c : Thread nD τ).loc main_arg4)) (m ((c : Thread nD τ).loc main_arg6)) (m ((c : Thread nD τ).loc main_arg8)) (ix2 (at_row t a) j) := by
  have e := tileQ (k0_pay18 (F := Ideal) (iblk m c 0 t) (iblk m c 4 t) (iblk m c 8 t)) (iblk m c 6 t) (k0_pay16 (F := Ideal) (iblk m c 3 t) (iblk m c 10 t)) (k0_pay17 (F := Ideal) (iblk m c 3 t) (iblk m c 10 t))
    a ⟨j.val / 256, by omega⟩ (fun d => (m ((c : Thread nD τ).loc main_arg6)) (ix2 0 d)) (fun i => Ideal.cos (angle (m ((c : Thread nD τ).loc main_arg3)) (at_row t a) i)) (fun i => Ideal.sin (angle (m ((c : Thread nD τ).loc main_arg3)) (at_row t a) i))
    (headQ (m ((c : Thread nD τ).loc main_arg0)) (m ((c : Thread nD τ).loc main_arg4)) (m ((c : Thread nD τ).loc main_arg8)) (at_row t a) ⟨j.val / 256, by omega⟩) (fun d => q_block m c t _ _ d) (fun d => block_6 m c t d)
    (fun s h => cos_block m c t _ s h) (fun s h => sin_block m c t _ s h) ⟨j.val % 256, by omega⟩
  have ej : (⟨256 * (j.val / 256) + j.val % 256, by omega⟩ : Fin 2048) = j := Fin.ext (by show 256 * (j.val / 256) + j.val % 256 = j.val; omega)
  refine Eq.trans ?_ (congrArg₂ (· * ·) e qs_name)
  show _ = rowV _ (ix2 a (⟨256 * (j.val / 256) + j.val % 256, by omega⟩ : Fin 2048)) * _
  rw [ej]
  pointwise []

/-- The queries after the run. -/
theorem final_q (c : Dev nD) : (dats m 0 c).arrAt 11 (cfgs 0).N = queries (m ((c : Thread nD τ).loc main_arg0)) (m ((c : Thread nD τ).loc main_arg3)) (m ((c : Thread nD τ).loc main_arg4)) (m ((c : Thread nD τ).loc main_arg6)) (m ((c : Thread nD τ).loc main_arg8)) := by
  refine (dats m 0 c).arrAt_eq_of_covers 11 _ (by decide +kernel) fun t hf y => ?_
  blk_simp
  rw [after0_11, q_text]
  refine (congrArg _ (eq_ix2 y)).trans ?_
  rw [out_index_11]
  exact entry_q m c t (y 0) (y 1)

theorem entry_k (c : Dev nD) (t : Fin cfg0.N) (a : Fin 256) (j : Fin 2048) :
    (truncf .bf16 (rowV (pieceK (k0_pay19 (F := Ideal) (iblk m c 1 t) (iblk m c 5 t) (iblk m c 9 t)) (iblk m c 7 t) (iblk m c 2 t) (k0_pay16 (F := Ideal) (iblk m c 3 t) (iblk m c 10 t)) (k0_pay17 (F := Ideal) (iblk m c 3 t) (iblk m c 10 t)))) bitsLt_bf16_f32 : FVec Ideal S256x2048 .bf16) (ix2 a j)
      = keys (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (ix2 (at_row t a) j) := by
  have e := tileK (k0_pay19 (F := Ideal) (iblk m c 1 t) (iblk m c 5 t) (iblk m c 9 t)) (iblk m c 7 t) (iblk m c 2 t) (k0_pay16 (F := Ideal) (iblk m c 3 t) (iblk m c 10 t)) (k0_pay17 (F := Ideal) (iblk m c 3 t) (iblk m c 10 t))
    a ⟨j.val / 256, by omega⟩ (fun d => (m ((c : Thread nD τ).loc main_arg7)) (ix2 0 d)) (fun i => Ideal.cos (angle (m ((c : Thread nD τ).loc main_arg3)) (at_row t a) i)) (fun i => Ideal.sin (angle (m ((c : Thread nD τ).loc main_arg3)) (at_row t a) i))
    (fun d => lowKV (m ((c : Thread nD τ).loc main_arg1)) (m ((c : Thread nD τ).loc main_arg5)) (m ((c : Thread nD τ).loc main_arg9)) (at_row t a) ⟨256 * (j.val / 256) + d.val, by omega⟩) (fun s => (m ((c : Thread nD τ).loc main_arg2)) (ix2 (at_row t a) s))
    (fun d => kv_block m c t _ _ _ fun l => weightK_at _ l ⟨j.val / 256, by omega⟩ d) (fun s => block_2 m c t _ s) (fun d => block_7 m c t d)
    (fun s h => cos_block m c t _ s h) (fun s h => sin_block m c t _ s h) ⟨j.val % 256, by omega⟩
  have ej : (⟨256 * (j.val / 256) + j.val % 256, by omega⟩ : Fin 2048) = j := Fin.ext (by show 256 * (j.val / 256) + j.val % 256 = j.val; omega)
  refine Eq.trans ?_ (e)
  show _ = rowV _ (ix2 a (⟨256 * (j.val / 256) + j.val % 256, by omega⟩ : Fin 2048))
  rw [ej]
  pointwise []

/-- The keys after the run. -/
theorem final_k (c : Dev nD) : (dats m 0 c).arrAt 12 (cfgs 0).N = keys (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) := by
  refine (dats m 0 c).arrAt_eq_of_covers 12 _ (by decide +kernel) fun t hf y => ?_
  blk_simp
  rw [after0_12, k_text]
  refine (congrArg _ (eq_ix2 y)).trans ?_
  rw [out_index_12]
  exact entry_k m c t (y 0) (y 1)

/-- The values after the run. -/
theorem final_v (c : Dev nD) : (dats m 0 c).arrAt 13 (cfgs 0).N = values (m ((c : Thread nD τ).loc main_arg1)) (m ((c : Thread nD τ).loc main_arg5)) (m ((c : Thread nD τ).loc main_arg9)) := by
  refine (dats m 0 c).arrAt_eq_of_covers 13 _ (by decide +kernel) fun t hf y => ?_
  blk_simp
  rw [after0_13, v_text, out_index_13]
  have hy : (y 1).val < 1024 := (y 1).isLt
  have e := kv_block m c t (y 0) (⟨1024 + (y 1).val, by omega⟩ : Fin 2048) _ fun l => weightV_at _ l (y 1)
  refine Eq.trans ?_ e
  refine (congrArg _ (eq_ix2 y)).trans ?_
  pointwise []

end Cert.PrepFwdIdeal.Value

end
-- ==== Proof.PrepHost.lean ====
/- The up-projections, forward: the reference's lines, read at an entry. -/
module

public import proofs.«01_k».proof.Defs
public import proofs.«01_k».proof.Proof.Gen.PrepFwd.Frame
public import proofs.«01_k».proof.Proof.Gen.PrepFwdIdeal.Frame
public import proofs.«01_k».proof.Proof.Gen.PrepFwdRefIdeal.Run
public import Idealize.ShloMosaic.Lib.Pipeline.ValueKit
public import Idealize.ShloMosaic.Lib.Claim
public import Idealize.ShloMosaic.Lib.IdealHost
public import proofs.«01_k».proof.Proof.Scalars
public import proofs.«01_k».proof.Proof.PrepSpec

@[expose] public section

set_option maxRecDepth 16384

noncomputable section

open Idealize.ShloMosaic Idealize.ShloMosaic.TcCoe Idealize.SL.Sem
open Idealize.ShloMosaic.Pipeline (Dat)
open scoped BigOperators

namespace Cert.PrepFwdRefIdeal.Value

open Cert.PrepFwdRefIdeal Cert.PrepFwdRefIdeal.Gen Cert.Norms Cert.Prep
open Cert.PrepFwdIdeal.Value (halfV place angle headQ lowKV headK finish queries keys values zero_f32)

/-- The words of the widths. -/
theorem n512 : Ideal.ofBits .f32 0x44000000#32 = ((512 : ℝ) : EReal) := by
  simp [Ideal.ofBits, Ideal.ieee, -EReal.coe_mul]; norm_num

theorem n256 : Ideal.ofBits .f32 0x43800000#32 = ((256 : ℝ) : EReal) := by
  simp [Ideal.ofBits, Ideal.ieee, -EReal.coe_mul]; norm_num

theorem n192 : Ideal.ofBits .f32 0x43400000#32 = ((192 : ℝ) : EReal) := by
  simp [Ideal.ofBits, Ideal.ieee, -EReal.coe_mul]; norm_num

theorem sqrt_real : Ideal.sqrt ((192 : ℝ) : EReal) = ((Real.sqrt 192 : ℝ) : EReal) := by
  show (if (192 : ℝ) < 0 then (⊥ : EReal) else ((Real.sqrt 192 : ℝ) : EReal)) = _
  rw [if_neg (by norm_num)]

theorem log_real : Ideal.log ((2 : ℝ) : EReal) = ((Real.log 2 : ℝ) : EReal) := by
  show (if (2 : ℝ) ≤ 0 then (⊥ : EReal) else ((Real.log 2 : ℝ) : EReal)) = _
  rw [if_neg (by norm_num)]

section host
variable (a0 : FVec Ideal S8192x512 .f32) (a1 : FVec Ideal S8192x256 .f32) (a2 : FVec Ideal S8192x64 .f32) (a3 : IVec S8192 32) (a4 : FVec Ideal S1x512 .f32) (a5 : FVec Ideal S1x256 .f32) (a6 a7 : FVec Ideal S1x192 .f32) (a8 : FVec Ideal S512x1536 .f32) (a9 : FVec Ideal S256x2048 .f32)

/-- The latent rows normalised and weighted. -/
def hScaledQ : FVec Ideal S8192x512 .f32 :=
  mulf (mulf a0 (broadcastInDim S8192x512 ![0, 1] bcast_S8192x1_S8192x512_0_1 (Host.rsqrt (addf (Host.divf (broadcastInDim S8192x1 ![0] bcast_S8192_S8192x1_0 (Host.reduceAdd (mulf a0 a0) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 a4)

theorem hScaledQ_at (r : Fin 8192) (l : Fin 512) : hScaledQ a0 a4 (ix2 r l) = scaled ((1 / 512 : ℝ) : EReal) (fun l => a0 (ix2 r l)) (fun l => a4 (ix2 0 l)) l := by
  pointwise [hScaledQ, scaled, rate]
  rw [n512, Ideal.div_coe (by norm_num)]
  rfl

/-- The latent product. -/
def hProdQ : FVec Ideal S8192x1536 .f32 := Host.dotGeneral dot_S8192x512_S512x1536_S8192x1536_1_0_0_1_n_n none (hScaledQ a0 a4) a8

theorem hProdQ_at (r : Fin 8192) (j : Fin 1536) : hProdQ a0 a4 a8 (ix2 r j)
    = latent ((1 / 512 : ℝ) : EReal) (fun l => a0 (ix2 r l)) (fun l => a4 (ix2 0 l)) (fun l d => a8 (ix2 l d)) j := by
  pointwise [hProdQ, latent, hScaledQ_at]

/-- The latent rows normalised and weighted. -/
def hScaledKV : FVec Ideal S8192x256 .f32 :=
  mulf (mulf a1 (broadcastInDim S8192x256 ![0, 1] bcast_S8192x1_S8192x256_0_1 (Host.rsqrt (addf (Host.divf (broadcastInDim S8192x1 ![0] bcast_S8192_S8192x1_0 (Host.reduceAdd (mulf a1 a1) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 a5)

theorem hScaledKV_at (r : Fin 8192) (l : Fin 256) : hScaledKV a1 a5 (ix2 r l) = scaled ((1 / 256 : ℝ) : EReal) (fun l => a1 (ix2 r l)) (fun l => a5 (ix2 0 l)) l := by
  pointwise [hScaledKV, scaled, rate]
  rw [n256, Ideal.div_coe (by norm_num)]
  rfl

/-- The latent product. -/
def hProdKV : FVec Ideal S8192x2048 .f32 := Host.dotGeneral dot_S8192x256_S256x2048_S8192x2048_1_0_0_1_n_n none (hScaledKV a1 a5) a9

theorem hProdKV_at (r : Fin 8192) (j : Fin 2048) : hProdKV a1 a5 a9 (ix2 r j)
    = latent ((1 / 256 : ℝ) : EReal) (fun l => a1 (ix2 r l)) (fun l => a5 (ix2 0 l)) (fun l d => a9 (ix2 l d)) j := by
  pointwise [hProdKV, latent, hScaledKV_at]

/-- The queries by head. -/
def hHeadsQ : FVec Ideal S8192x8x192 .f32 := shapeCast _ (hProdQ a0 a4 a8) shapeCasts_S8192x1536_S8192x8x192

theorem hHeadsQ_at (r : Fin 8192) (h : Fin 8) (d : Fin 192) : hHeadsQ a0 a4 a8 (ix3 r h d) = headQ a0 a4 a8 r h d := by
  pointwise [hHeadsQ, headQ, hProdQ_at, latent]
  refine Finset.sum_congr rfl fun l _ => congrArg (_ * ·) (congrArg (fun z => a8 (ix2 l z)) (Fin.ext (show h.val * 192 + d.val = 192 * h.val + d.val by omega)))

/-- The keys and values by head. -/
def hHeadsKV : FVec Ideal S8192x8x256 .f32 := shapeCast _ (hProdKV a1 a5 a9) shapeCasts_S8192x2048_S8192x8x256

theorem hHeadsKV_at (r : Fin 8192) (h : Fin 8) (d : Fin 256) : hHeadsKV a1 a5 a9 (ix3 r h d) = lowKV a1 a5 a9 r ⟨256 * h.val + d.val, by omega⟩ := by
  pointwise [hHeadsKV, lowKV, hProdKV_at, latent]
  refine Finset.sum_congr rfl fun l _ => congrArg (_ * ·) (congrArg (fun z => a9 (ix2 l z)) (Fin.ext (show h.val * 256 + d.val = 256 * h.val + d.val by omega)))

/-- The keys by head, with the shared entries. -/
def hHeadsK : FVec Ideal S8192x8x192 .f32 :=
  concatenate S8192x8x192 2 [⟨S8192x8x128, (extractStridedSlice S8192x8x128 ![0, 0, 0] (hHeadsKV a1 a5 a9) slices_S8192x8x256_S8192x8x128_0_0_0)⟩, ⟨S8192x8x64, (broadcastInDim S8192x8x64 ![0, 1, 2] bcast_S8192x1x64_S8192x8x64_0_1_2 (broadcastInDim S8192x1x64 ![0, 2] bcast_S8192x64_S8192x1x64_0_2 a2))⟩] concatenates_S8192x8x128_S8192x8x64_S8192x8x192_d2

theorem hHeadsK_at (r : Fin 8192) (h : Fin 8) (d : Fin 192) : hHeadsK a1 a2 a5 a9 (ix3 r h d) = headK a1 a2 a5 a9 r h d := by
  pointwise [hHeadsK, headK, joined, hHeadsKV_at]

/-- The values. -/
def hValues : FVec Ideal S8192x1024 .bf16 :=
  truncf .bf16 (shapeCast S8192x1024 (extractStridedSlice S8192x8x128 ![0, 0, 128] (hHeadsKV a1 a5 a9) slices_S8192x8x256_S8192x8x128_0_0_128) shapeCasts_S8192x8x128_S8192x1024) bitsLt_bf16_f32

theorem hValues_at (r : Fin 8192) (j : Fin 1024) : hValues a1 a5 a9 (ix2 r j) = lowKV a1 a5 a9 r ⟨256 * (j.val / 128) + 128 + j.val % 128, by omega⟩ := by
  pointwise [hValues, hHeadsKV_at]
  exact congrArg (lowKV a1 a5 a9 r) (Fin.ext (show 256 * (j.val / 128) + (128 + j.val % 128) = 256 * (j.val / 128) + 128 + j.val % 128 by omega))

section heads
variable (x : FVec Ideal S8192x8x192 .f32) (g : FVec Ideal S1x192 .f32)

/-- The heads normalised and weighted. -/
def hNorm : FVec Ideal S8192x8x192 .f32 :=
  mulf (mulf x (broadcastInDim S8192x8x192 ![0, 1, 2] bcast_S8192x8x1_S8192x8x192_0_1_2 (Host.rsqrt (addf (Host.divf (broadcastInDim S8192x8x1 ![0, 1] bcast_S8192x8_S8192x8x1_0_1 (Host.reduceAdd (mulf x x) (constant S_ .f32 0x00000000#32) reducesTo_S8192x8x192_S8192x8_d2 h_S_)) (broadcastInDim S8192x8x1 ![] bcast_S_S8192x8x1 (constant S_ .f32 0x43400000#32))) (broadcastInDim S8192x8x1 ![] bcast_S_S8192x8x1 (constant S_ .f32 0x358637BD#32)))))) (broadcastInDim S8192x8x192 ![0, 1, 2] bcast_S1x1x192_S8192x8x192_0_1_2 (broadcastInDim S1x1x192 ![1, 2] bcast_S1x192_S1x1x192_1_2 g))

theorem hNorm_at (r : Fin 8192) (h : Fin 8) (d : Fin 192) : hNorm x g (ix3 r h d) = scaled ((192⁻¹ : ℝ) : EReal) (fun d => x (ix3 r h d)) (fun d => g (ix2 0 d)) d := by
  pointwise [hNorm, scaled, rate]
  rw [n192, Ideal.div_coe (by norm_num), one_div]
  rfl

/-- The angles. -/
def hAngle : FVec Ideal S8192x32 .f32 :=
  mulf (broadcastInDim S8192x32 ![0, 1] bcast_S8192x1_S8192x32_0_1 (broadcastInDim S8192x1 ![0] bcast_S8192_S8192x1_0 (sitofp .f32 a3))) (broadcastInDim S8192x32 ![0, 1] bcast_S1x32_S8192x32_0_1 (broadcastInDim S1x32 ![1] bcast_S32_S1x32_1 halfV))

theorem hAngle_at (r : Fin 8192) (i : Fin 32) : hAngle a3 (ix2 r i) = angle a3 r i := by
  pointwise [hAngle, angle, place]

/-- An array over rows and half lanes, for each head. -/
def hSpread (u : FVec Ideal S8192x32 .f32) : FVec Ideal S8192x8x32 .f32 :=
  broadcastInDim S8192x8x32 ![0, 1, 2] bcast_S8192x1x32_S8192x8x32_0_1_2 (broadcastInDim S8192x1x32 ![0, 2] bcast_S8192x32_S8192x1x32_0_2 u)

theorem hSpread_at (u : FVec Ideal S8192x32 .f32) (r : Fin 8192) (h : Fin 8) (i : Fin 32) : hSpread u (ix3 r h i) = u (ix2 r i) := by
  pointwise [hSpread]

theorem hCos_at (r : Fin 8192) (h : Fin 8) (i : Fin 32) : hSpread (Host.cos (hAngle a3)) (ix3 r h i) = Ideal.cos (angle a3 r i) := by
  rw [hSpread_at, ← hAngle_at]; pointwise []

theorem hSin_at (r : Fin 8192) (h : Fin 8) (i : Fin 32) : hSpread (Host.sin (hAngle a3)) (ix3 r h i) = Ideal.sin (angle a3 r i) := by
  rw [hSpread_at, ← hAngle_at]; pointwise []

/-- The halves of the last 64 entries. -/
def hFirst : FVec Ideal S8192x8x32 .f32 :=
  extractStridedSlice S8192x8x32 ![0, 0, 0] (extractStridedSlice S8192x8x64 ![0, 0, 128] x slices_S8192x8x192_S8192x8x64_0_0_128) slices_S8192x8x64_S8192x8x32_0_0_0

def hSecond : FVec Ideal S8192x8x32 .f32 :=
  extractStridedSlice S8192x8x32 ![0, 0, 32] (extractStridedSlice S8192x8x64 ![0, 0, 128] x slices_S8192x8x192_S8192x8x64_0_0_128) slices_S8192x8x64_S8192x8x32_0_0_32

theorem hFirst_at (r : Fin 8192) (h : Fin 8) (i : Fin 32) : hFirst x (ix3 r h i) = x (ix3 r h ⟨128 + i.val, by omega⟩) := by
  pointwise [hFirst]

theorem hSecond_at (r : Fin 8192) (h : Fin 8) (i : Fin 32) : hSecond x (ix3 r h i) = x (ix3 r h ⟨160 + i.val, by omega⟩) := by
  pointwise [hSecond]
  exact congrArg (fun z => x (ix3 r h z)) (Fin.ext (show 128 + (32 + i.val) = 160 + i.val by omega))

/-- The heads embedded. -/
def hTurned (cs sn : FVec Ideal S8192x8x32 .f32) : FVec Ideal S8192x8x192 .f32 :=
  concatenate S8192x8x192 2 [⟨S8192x8x128, (extractStridedSlice S8192x8x128 ![0, 0, 0] x slices_S8192x8x192_S8192x8x128_0_0_0)⟩, ⟨S8192x8x64, (concatenate S8192x8x64 2 [⟨S8192x8x32, (subf (mulf (hFirst x) cs) (mulf (hSecond x) sn))⟩, ⟨S8192x8x32, (addf (mulf (hFirst x) sn) (mulf (hSecond x) cs))⟩] concatenates_S8192x8x32_S8192x8x32_S8192x8x64_d2)⟩] concatenates_S8192x8x128_S8192x8x64_S8192x8x192_d2

theorem hTurned_at (cs sn : FVec Ideal S8192x8x32 .f32) (r : Fin 8192) (h : Fin 8) (d : Fin 192) :
    hTurned x cs sn (ix3 r h d) = rotated (fun d => x (ix3 r h d)) (fun i => cs (ix3 r h i)) (fun i => sn (ix3 r h i)) d := by
  pointwise [hTurned, rotated, hFirst_at, hSecond_at]
  refine dite_congr rfl (fun _ => rfl) fun h1 => ?_
  have h1' : ¬d.val < 128 := h1
  refine dite_congr (propext ⟨fun _ => by omega, fun _ => by omega⟩) (fun h2 => ?_) fun h2 => ?_
  · have e1 : (⟨128 + (d.val - 128), by omega⟩ : Fin 192) = d := Fin.ext (show 128 + (d.val - 128) = d.val by omega)
    have e2 : (⟨160 + (d.val - 128), by omega⟩ : Fin 192) = ⟨d.val + 32, by omega⟩ := Fin.ext (show 160 + (d.val - 128) = d.val + 32 by omega)
    rw [e1, e2]
  · have e1 : (⟨160 + (d.val - 128 - 32), by omega⟩ : Fin 192) = d := Fin.ext (show 160 + (d.val - 128 - 32) = d.val by omega)
    have e2 : (⟨128 + (d.val - 128 - 32), by omega⟩ : Fin 192) = ⟨d.val - 32, by omega⟩ := Fin.ext (show 128 + (d.val - 128 - 32) = d.val - 32 by omega)
    have e3 : (⟨d.val - 128 - 32, by omega⟩ : Fin 32) = ⟨d.val - 160, by omega⟩ := Fin.ext (show d.val - 128 - 32 = d.val - 160 by omega)
    rw [e1, e2, e3]

/-- The heads normalised and embedded. -/
def hFinish : FVec Ideal S8192x8x192 .f32 := hTurned (hNorm x g) (hSpread (Host.cos (hAngle a3))) (hSpread (Host.sin (hAngle a3)))

theorem hFinish_at (r : Fin 8192) (h : Fin 8) (d : Fin 192) : hFinish a3 x g (ix3 r h d) = finish a3 (fun d => x (ix3 r h d)) g r d := by
  unfold hFinish finish
  rw [hTurned_at]
  simp only [hNorm_at, hCos_at, hSin_at]

/-- The heads in 256 lanes, side by side. -/
def hFlat : FVec Ideal S8192x2048 .bf16 :=
  truncf .bf16 (shapeCast S8192x2048 (pad S8192x8x256 ![0, 0, 0] ![0, 0, 64] ![0, 0, 0] x (sitofp .f32 (constantI S_ 32 0#32)) pads_S8192x8x192_S8192x8x256_000_000_0640 h_S_) shapeCasts_S8192x8x256_S8192x2048) bitsLt_bf16_f32

theorem hFlat_at (r : Fin 8192) (j : Fin 2048) : hFlat x (ix2 r j) = padded (fun d => x (ix3 r ⟨j.val / 256, by omega⟩ d)) ⟨j.val % 256, by omega⟩ := by
  pointwise [hFlat, padded]
  rw [zero_f32]
  exact dite_congr (propext ⟨fun e => e.2, fun e => ⟨by omega, e⟩⟩) (fun _ => rfl) fun _ => rfl

/-- The queries' scale. -/
def hScale : FVec Ideal S8192x8x192 .f32 :=
  Host.divf (Host.divf x (broadcastInDim S8192x8x192 ![] bcast_S_S8192x8x192 (Host.sqrt (constant S_ .f32 0x43400000#32)))) (broadcastInDim S8192x8x192 ![] bcast_S_S8192x8x192 (Host.log (constant S_ .f32 0x40000000#32)))

theorem hScale_at (r : Fin 8192) (h : Fin 8) (d : Fin 192) : hScale x (ix3 r h d) = x (ix3 r h d) * (((Real.sqrt 192)⁻¹ * (Real.log 2)⁻¹ : ℝ) : EReal) := by
  pointwise [hScale]
  rw [n192, Scalars.two, sqrt_real, log_real]
  have s0 : Real.sqrt 192 ≠ 0 := (Real.sqrt_pos.2 (by norm_num)).ne'
  have l0 : Real.log 2 ≠ 0 := (Real.log_pos (by norm_num)).ne'
  rw [Ideal.div_coe s0, Ideal.div_coe l0, mul_assoc, ← EReal.coe_mul, one_div, one_div]

end heads

/-- The reference's queries, keys and values. -/
theorem hQueries_at (r : Fin 8192) (j : Fin 2048) : hFlat (hScale (hFinish a3 (hHeadsQ a0 a4 a8) a6)) (ix2 r j) = queries a0 a3 a4 a6 a8 (ix2 r j) := by
  rw [hFlat_at]
  show padded _ _ = padded (finish a3 (headQ a0 a4 a8 r ⟨j.val / 256, by omega⟩) a6 r) ⟨j.val % 256, by omega⟩ * _
  simp only [hScale_at, hFinish_at, hHeadsQ_at]
  unfold padded
  split_ifs
  · rfl
  · exact (zero_mul _).symm

theorem hQueries_eq : hFlat (hScale (hFinish a3 (hHeadsQ a0 a4 a8) a6)) = queries a0 a3 a4 a6 a8 := by
  funext i
  exact (congrArg _ (eq_ix2 i)).trans ((hQueries_at a0 a3 a4 a6 a8 (i 0) (i 1)).trans (congrArg _ (eq_ix2 i).symm))

theorem hKeys_at (r : Fin 8192) (j : Fin 2048) : hFlat (hFinish a3 (hHeadsK a1 a2 a5 a9) a7) (ix2 r j) = keys a1 a2 a3 a5 a7 a9 (ix2 r j) := by
  rw [hFlat_at]
  show padded _ _ = padded (finish a3 (headK a1 a2 a5 a9 r ⟨j.val / 256, by omega⟩) a7 r) ⟨j.val % 256, by omega⟩
  simp only [hFinish_at, hHeadsK_at]

theorem hKeys_eq : hFlat (hFinish a3 (hHeadsK a1 a2 a5 a9) a7) = keys a1 a2 a3 a5 a7 a9 := by
  funext i
  exact (congrArg _ (eq_ix2 i)).trans ((hKeys_at a1 a2 a3 a5 a7 a9 (i 0) (i 1)).trans (congrArg _ (eq_ix2 i).symm))

theorem hValues_eq : hValues a1 a5 a9 = values a1 a5 a9 := by
  funext i
  exact (congrArg _ (eq_ix2 i)).trans (hValues_at a1 a5 a9 (i 0) (i 1))

end host

variable (m : (ℓ : Loc nD τ sig) → Buf (Elt Ideal) ℓ)

theorem queries_text (c : Dev nD) : res_main_v133 m c = hFlat (hScale (hFinish (m ((c : Thread nD τ).loc main_arg3)) (hHeadsQ (m ((c : Thread nD τ).loc main_arg0)) (m ((c : Thread nD τ).loc main_arg4)) (m ((c : Thread nD τ).loc main_arg8))) (m ((c : Thread nD τ).loc main_arg6)))) := by
  unfold res_main_v133 hFlat hScale hFinish hTurned hFirst hSecond hNorm hSpread hAngle hHeadsQ hProdQ hScaledQ halfV
  rfl

theorem keys_text (c : Dev nD) : res_main_v134 m c = hFlat (hFinish (m ((c : Thread nD τ).loc main_arg3)) (hHeadsK (m ((c : Thread nD τ).loc main_arg1)) (m ((c : Thread nD τ).loc main_arg2)) (m ((c : Thread nD τ).loc main_arg5)) (m ((c : Thread nD τ).loc main_arg9))) (m ((c : Thread nD τ).loc main_arg7))) := by
  unfold res_main_v134 hFlat hFinish hTurned hFirst hSecond hNorm hSpread hAngle hHeadsK hHeadsKV hProdKV hScaledKV halfV
  rfl

end Cert.PrepFwdRefIdeal.Value

end
-- ==== Proof.PrepAgree.lean ====
/- The up-projections, forward: the kernel computes the reference. -/
module

public import proofs.«01_k».proof.Defs
public import proofs.«01_k».proof.Proof.Gen.PrepFwd.Frame
public import proofs.«01_k».proof.Proof.Gen.PrepFwdIdeal.Frame
public import Idealize.ShloMosaic.Lib.Pipeline.ValueKit
public import Idealize.ShloMosaic.Lib.Claim
public import Idealize.ShloMosaic.Lib.IdealHost
public import proofs.«01_k».proof.Proof.Scalars
public import proofs.«01_k».proof.Proof.PrepForward
public import proofs.«01_k».proof.Proof.PrepHost

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen

variable (m : (ℓ : Loc nD τ sig) → Buf (Elt Ideal) ℓ)

/-- The kernel runs, leaves the three arrays, and leaves its arguments alone. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v24_0) = queries (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_v24_1) = keys (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9))
      ∧ r.2.mem ((c.tc : Thread nD τ).loc main_v24_2) = values (m ((c.tc : Thread nD τ).loc main_arg1)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (θ_run_and (run_main m g) (unchanged m g)) fun r hr c => ?_
  have hu := hr.2
  replace hr := hr.1
  exact ⟨((hr c).1 11).trans (final_q m c), ((hr c).1 12).trans (final_k m c), ((hr c).1 13).trans (final_v m c), hu c⟩

end Cert.PrepFwdIdeal.Value

namespace Cert.PrepFwdRefIdeal.Value

open Cert.PrepFwdRefIdeal Cert.PrepFwdRefIdeal.Gen
open Cert.PrepFwdIdeal.Value (queries keys values)

variable (m : (ℓ : Loc nD τ sig) → Buf (Elt Ideal) ℓ)

/-- The reference's lines leave the same three arrays. -/
theorem lines_run (g : Dev nD → PrngReg) :
    θ_run (defs (F := Ideal)) (onTc (τ := τ) (main (F := Ideal))) ⟨m, fun _ => 0, g⟩ (fun r => ∀ c : Dev nD,
      r.2.mem ((c.tc : Thread nD τ).loc main_v133) = queries (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_v134) = keys (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9))
      ∧ r.2.mem ((c.tc : Thread nD τ).loc main_v136) = values (m ((c.tc : Thread nD τ).loc main_arg1)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (run m g) fun r hr c => ?_
  obtain ⟨hq, hk, hv, hrest⟩ := hr c
  refine ⟨hq.trans ((queries_text m c).trans (hQueries_eq _ _ _ _ _)), hk.trans ((keys_text m c).trans (hKeys_eq _ _ _ _ _ _)), hv.trans ?_, hrest⟩
  rw [← hValues_eq]
  unfold hValues hHeadsKV hProdKV hScaledKV
  rfl

end Cert.PrepFwdRefIdeal.Value

namespace Cert.Proof

open Idealize.ShloMosaic Idealize.SL.Sem
open Cert.PrepFwdIdeal.Value

/-- The kernel and the reference agree. -/
theorem prepf_algebraic : Cert.algebraic_PrepFwdIdeal_PrepFwdRefIdeal := by
  intro m g m' g' _ hagree
  refine ⟨_, _, _, kernel_run m g, θ_run_mono (Cert.PrepFwdRefIdeal.Value.lines_run m' g') fun r hr c => ?_⟩
  obtain ⟨aq, ak, av, hrest⟩ := hr c
  obtain ⟨h0, h1, h2, h3, h4, h5, h6, h7, h8, h9⟩ := hagree c
  rw [h0, h3, h4, h6, h8] at aq
  rw [h1, h2, h3, h5, h7, h9] at ak
  rw [h1, h5, h9] at av
  exact ⟨aq, ak, av, hrest⟩

/-- The reference runs and leaves its arguments alone. -/
theorem prepf_reference : Cert.quiescent_PrepFwdRefIdeal := by
  intro m g _
  run_from Cert.PrepFwdRefIdeal.Value.run m g
  · simp
  · exact sem_eq_zero_of_no_sems (show Cert.PrepFwdRefIdeal.sig.nSem + Cert.PrepFwdRefIdeal.sig.nDmaSem = 0 from rfl) _

end Cert.Proof

end
-- ==== Proof.lean ====
/- Everything claimed, put together from the modules of each call. -/
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.LossAgree
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.Pre_attn_finite
public import proofs.«01_k».proof.Proof.AttnAgree
public import proofs.«01_k».proof.Proof.AttnBody
public import proofs.«01_k».proof.Proof.AttnFrame
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.Pre_fwd_finite
public import proofs.«01_k».proof.Proof.FwdAgree
public import proofs.«01_k».proof.Proof.Gen.Du
public import proofs.«01_k».proof.Proof.Gen.Du.Frame
public import proofs.«01_k».proof.Proof.Gen.DuIdeal
public import proofs.«01_k».proof.Proof.Gen.DuIdeal.Frame
public import proofs.«01_k».proof.Proof.Gen.DuIdeal.Value
public import proofs.«01_k».proof.Proof.Gen.DuRefIdeal
public import proofs.«01_k».proof.Proof.Gen.DuRefIdeal.Run
public import proofs.«01_k».proof.Proof.DuAgree
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.DwAgree
public import proofs.«01_k».proof.Proof.Gen.AdaBwd
public import proofs.«01_k».proof.Proof.Gen.AdaBwd.Frame
public import proofs.«01_k».proof.Proof.Gen.AdaBwdIdeal
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.AdaAgree
public import proofs.«01_k».proof.Proof.Gen.ResidBwd
public import proofs.«01_k».proof.Proof.Gen.ResidBwd.Frame
public import proofs.«01_k».proof.Proof.Gen.ResidBwdIdeal
public import proofs.«01_k».proof.Proof.Gen.ResidBwdIdeal.Frame
public import proofs.«01_k».proof.Proof.Gen.ResidBwdIdeal.Value
public import proofs.«01_k».proof.Proof.Gen.ResidBwdRefIdeal
public import proofs.«01_k».proof.Proof.Gen.ResidBwdRefIdeal.Run
public import proofs.«01_k».proof.Proof.ResidAgree
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.MixAgree
public import proofs.«01_k».proof.Proof.Gen.PostBwd
public import proofs.«01_k».proof.Proof.Gen.PostBwd.Frame
public import proofs.«01_k».proof.Proof.Gen.PostBwdIdeal
public import proofs.«01_k».proof.Proof.Gen.PostBwdIdeal.Frame
public import proofs.«01_k».proof.Proof.Gen.PostBwdIdeal.Value
public import proofs.«01_k».proof.Proof.Gen.PostBwdRefIdeal
public import proofs.«01_k».proof.Proof.Gen.PostBwdRefIdeal.Run
public import proofs.«01_k».proof.Proof.PostAgree
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdRefIdeal
public import proofs.«01_k».proof.Proof.Gen.ConvBwdRefIdeal.Run
public import proofs.«01_k».proof.Proof.ConvAgree
public import proofs.«01_k».proof.Proof.Gen.ResidFwd
public import proofs.«01_k».proof.Proof.Gen.ResidFwd.Frame
public import proofs.«01_k».proof.Proof.Gen.ResidFwdIdeal
public import proofs.«01_k».proof.Proof.Gen.ResidFwdIdeal.Frame
public import proofs.«01_k».proof.Proof.Gen.ResidFwdIdeal.Value
public import proofs.«01_k».proof.Proof.Gen.ResidFwdRefIdeal
public import proofs.«01_k».proof.Proof.Gen.ResidFwdRefIdeal.Run
public import proofs.«01_k».proof.Proof.ResidForward
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.MixForward
public import proofs.«01_k».proof.Proof.Gen.PostFwd
public import proofs.«01_k».proof.Proof.Gen.PostFwd.Frame
public import proofs.«01_k».proof.Proof.Gen.PostFwdIdeal
public import proofs.«01_k».proof.Proof.Gen.PostFwdIdeal.Frame
public import proofs.«01_k».proof.Proof.Gen.PostFwdIdeal.Value
public import proofs.«01_k».proof.Proof.Gen.PostFwdRefIdeal
public import proofs.«01_k».proof.Proof.Gen.PostFwdRefIdeal.Run
public import proofs.«01_k».proof.Proof.PostForward
public import proofs.«01_k».proof.Proof.Gen.AdaFwd
public import proofs.«01_k».proof.Proof.Gen.AdaFwd.Frame
public import proofs.«01_k».proof.Proof.Gen.AdaFwdIdeal
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.AdaForward
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.ConvForward
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Ff2Agree
public import proofs.«01_k».proof.Proof.Gen.Dh2
public import proofs.«01_k».proof.Proof.Gen.Dh2.Frame
public import proofs.«01_k».proof.Proof.Gen.Dh2Ideal
public import proofs.«01_k».proof.Proof.Gen.Dh2Ideal.Frame
public import proofs.«01_k».proof.Proof.Gen.Dh2Ideal.Value
public import proofs.«01_k».proof.Proof.Gen.Dh2RefIdeal
public import proofs.«01_k».proof.Proof.Gen.Dh2RefIdeal.Run
public import proofs.«01_k».proof.Proof.Dh2Agree
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.AdamAgree
public import proofs.«01_k».proof.Proof.Gen.ChipSum
public import proofs.«01_k».proof.Proof.Gen.ChipSum.Frame
public import proofs.«01_k».proof.Proof.Gen.ChipSumIdeal
public import proofs.«01_k».proof.Proof.Gen.ChipSumIdeal.Frame
public import proofs.«01_k».proof.Proof.Gen.ChipSumRefIdeal
public import proofs.«01_k».proof.Proof.Gen.ChipSumRefIdeal.Run
public import proofs.«01_k».proof.Proof.ChipSumAgree
public import proofs.«01_k».proof.Proof.Gen.PrepFwd
public import proofs.«01_k».proof.Proof.Gen.PrepFwd.Frame
public import proofs.«01_k».proof.Proof.Gen.PrepFwdIdeal
public import proofs.«01_k».proof.Proof.Gen.PrepFwdIdeal.Frame
public import proofs.«01_k».proof.Proof.Gen.PrepFwdRefIdeal
public import proofs.«01_k».proof.Proof.Gen.PrepFwdRefIdeal.Run
public import proofs.«01_k».proof.Proof.PrepAgree
public import proofs.«01_k».proof.Proof.Gen.MlstmFwd
public import proofs.«01_k».proof.Proof.Gen.MlstmFwd.Frame
public import proofs.«01_k».proof.Proof.Gen.MlstmFwdIdeal
public import proofs.«01_k».proof.Proof.Gen.MlstmFwdIdeal.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem claim : Cert.Claim := ⟨Cert.Loss.Gen.facts,
  Cert.LossIdeal.Gen.facts,
  Cert.LossRefIdeal.Gen.facts,
  Cert.AttnBwd.Gen.facts,
  Cert.AttnBwdIdeal.Gen.facts,
  Cert.AttnBwdRefIdeal.Gen.facts,
  Cert.AttnFwd.Gen.facts,
  Cert.AttnFwdIdeal.Gen.facts,
  Cert.AttnFwdRefIdeal.Gen.facts,
  Cert.Du.Gen.facts,
  Cert.DuIdeal.Gen.facts,
  Cert.DuRefIdeal.Gen.facts,
  Cert.Dw.Gen.facts,
  Cert.DwIdeal.Gen.facts,
  Cert.DwRefIdeal.Gen.facts,
  Cert.AdaBwd.Gen.facts,
  Cert.AdaBwdIdeal.Gen.facts,
  Cert.AdaBwdRefIdeal.Gen.facts,
  Cert.ResidBwd.Gen.facts,
  Cert.ResidBwdIdeal.Gen.facts,
  Cert.ResidBwdRefIdeal.Gen.facts,
  Cert.MixBwd.Gen.facts,
  Cert.MixBwdIdeal.Gen.facts,
  Cert.MixBwdRefIdeal.Gen.facts,
  Cert.PostBwd.Gen.facts,
  Cert.PostBwdIdeal.Gen.facts,
  Cert.PostBwdRefIdeal.Gen.facts,
  Cert.ConvBwd.Gen.facts,
  Cert.ConvBwdIdeal.Gen.facts,
  Cert.ConvBwdRefIdeal.Gen.facts,
  Cert.ResidFwd.Gen.facts,
  Cert.ResidFwdIdeal.Gen.facts,
  Cert.ResidFwdRefIdeal.Gen.facts,
  Cert.MixFwd.Gen.facts,
  Cert.MixFwdIdeal.Gen.facts,
  Cert.MixFwdRefIdeal.Gen.facts,
  Cert.PostFwd.Gen.facts,
  Cert.PostFwdIdeal.Gen.facts,
  Cert.PostFwdRefIdeal.Gen.facts,
  Cert.AdaFwd.Gen.facts,
  Cert.AdaFwdIdeal.Gen.facts,
  Cert.AdaFwdRefIdeal.Gen.facts,
  Cert.ConvFwd.Gen.facts,
  Cert.ConvFwdIdeal.Gen.facts,
  Cert.ConvFwdRefIdeal.Gen.facts,
  Cert.Ff2.Gen.facts,
  Cert.Ff2Ideal.Gen.facts,
  Cert.Ff2RefIdeal.Gen.facts,
  Cert.Dh2.Gen.facts,
  Cert.Dh2Ideal.Gen.facts,
  Cert.Dh2RefIdeal.Gen.facts,
  Cert.Adam.Gen.facts,
  Cert.AdamIdeal.Gen.facts,
  Cert.AdamRefIdeal.Gen.facts,
  Cert.ChipSum.Gen.facts,
  Cert.ChipSumIdeal.Gen.facts,
  Cert.ChipSumRefIdeal.Gen.facts,
  Cert.PrepFwd.Gen.facts,
  Cert.PrepFwdIdeal.Gen.facts,
  Cert.PrepFwdRefIdeal.Gen.facts,
  Cert.MlstmFwd.Gen.facts,
  Cert.MlstmFwdIdeal.Gen.facts,
  Cert.Pre_attn_finite.Gen.facts,
  Cert.Pre_fwd_finite.Gen.facts,
  fun m ρ _ => Cert.Loss.Gen.frame m ρ,
  fun m ρ _ => Cert.LossIdeal.Gen.frame m ρ,
  loss_reference,
  Cert.AttnPlain.frame,
  fun m ρ _ => Cert.AttnBwdIdeal.Body.frame m ρ,
  fun m ρ _ => Cert.AttnBwdIdeal.Body.frame m ρ,
  attn_reference,
  fun m ρ _ => attn_reference m ρ trivial,
  fun m ρ _ => Cert.AttnFwd.Gen.frame m ρ,
  fun m ρ _ => Cert.AttnFwdIdeal.Gen.frame m ρ,
  fun m ρ _ => Cert.AttnFwdIdeal.Gen.frame m ρ,
  fwd_reference,
  fun m ρ _ => fwd_reference m ρ trivial,
  fun m ρ _ => Cert.Du.Gen.frame m ρ,
  fun m ρ _ => Cert.DuIdeal.Gen.frame m ρ,
  du_reference,
  fun m ρ _ => Cert.Dw.Gen.frame m ρ,
  fun m ρ _ => Cert.DwIdeal.Gen.frame m ρ,
  dw_reference,
  fun m ρ _ => Cert.AdaBwd.Gen.frame m ρ,
  fun m ρ _ => Cert.AdaBwdIdeal.Gen.frame m ρ,
  ada_reference,
  fun m ρ _ => Cert.ResidBwd.Gen.frame m ρ,
  fun m ρ _ => Cert.ResidBwdIdeal.Gen.frame m ρ,
  resid_reference,
  fun m ρ _ => Cert.MixBwd.Gen.frame m ρ,
  fun m ρ _ => Cert.MixBwdIdeal.Gen.frame m ρ,
  mix_reference,
  fun m ρ _ => Cert.PostBwd.Gen.frame m ρ,
  fun m ρ _ => Cert.PostBwdIdeal.Gen.frame m ρ,
  post_reference,
  fun m ρ _ => Cert.ConvBwd.Gen.frame m ρ,
  fun m ρ _ => Cert.ConvBwdIdeal.Gen.frame m ρ,
  conv_reference,
  fun m ρ _ => Cert.ResidFwd.Gen.frame m ρ,
  fun m ρ _ => Cert.ResidFwdIdeal.Gen.frame m ρ,
  mlpf_reference,
  fun m ρ _ => Cert.MixFwd.Gen.frame m ρ,
  fun m ρ _ => Cert.MixFwdIdeal.Gen.frame m ρ,
  mixf_reference,
  fun m ρ _ => Cert.PostFwd.Gen.frame m ρ,
  fun m ρ _ => Cert.PostFwdIdeal.Gen.frame m ρ,
  postf_reference,
  fun m ρ _ => Cert.AdaFwd.Gen.frame m ρ,
  fun m ρ _ => Cert.AdaFwdIdeal.Gen.frame m ρ,
  adaf_reference,
  fun m ρ _ => Cert.ConvFwd.Gen.frame m ρ,
  fun m ρ _ => Cert.ConvFwdIdeal.Gen.frame m ρ,
  convf_reference,
  fun m ρ _ => Cert.Ff2.Gen.frame m ρ,
  fun m ρ _ => Cert.Ff2Ideal.Gen.frame m ρ,
  ff2_reference,
  fun m ρ _ => Cert.Dh2.Gen.frame m ρ,
  fun m ρ _ => Cert.Dh2Ideal.Gen.frame m ρ,
  dh2_reference,
  fun m ρ _ => Cert.Adam.Gen.frame m ρ,
  fun m ρ _ => Cert.AdamIdeal.Gen.frame m ρ,
  adam_reference,
  fun m ρ _ => Cert.ChipSum.Gen.frame m ρ (Cert.ChipSum.Value.inside m),
  fun m ρ _ => Cert.ChipSumIdeal.Gen.frame m ρ (Cert.ChipSumIdeal.Value.inside m),
  chip_reference,
  fun m ρ _ => Cert.PrepFwd.Gen.frame m ρ,
  fun m ρ _ => Cert.PrepFwdIdeal.Gen.frame m ρ,
  prepf_reference,
  fun m ρ _ => Cert.MlstmFwd.Gen.frame m ρ,
  fun m ρ _ => Cert.MlstmFwdIdeal.Gen.frame m ρ,
  trivial,
  loss_algebraic,
  IdealRules.named_const.statement Cert.AttnBwdIdeal.κ "ln2" .f32 0x3F317218#32 ((Real.log 2 : ℝ) : EReal) rfl,
  attn_algebraic,
  IdealRules.named_const.statement Cert.AttnFwdIdeal.κ "rln2" .f32 0x3FB8AA3B#32 (((Real.log 2)⁻¹ : ℝ) : EReal) rfl,
  fwd_algebraic,
  trivial,
  du_algebraic,
  trivial,
  dw_algebraic,
  trivial,
  ada_algebraic,
  trivial,
  resid_algebraic,
  trivial,
  mix_algebraic,
  trivial,
  post_algebraic,
  trivial,
  conv_algebraic,
  trivial,
  mlpf_algebraic,
  trivial,
  mixf_algebraic,
  trivial,
  postf_algebraic,
  trivial,
  adaf_algebraic,
  trivial,
  convf_algebraic,
  trivial,
  ff2_algebraic,
  trivial,
  dh2_algebraic,
  trivial,
  adam_algebraic,
  trivial,
  chip_algebraic,
  ⟨IdealRules.named_const.statement Cert.PrepFwdIdeal.κ "r192" .f32 0x3BAAAAAB#32 ((192⁻¹ : ℝ) : EReal) rfl,
  IdealRules.named_const.statement Cert.PrepFwdIdeal.κ "qs" .f32 0x3DD53B95#32 (((Real.sqrt 192)⁻¹ * (Real.log 2)⁻¹ : ℝ) : EReal) rfl⟩,
  prepf_algebraic,
  trivial⟩

end Cert.Proof

end
